-- ==== Defs.lean ====
def Pre_Dw [hPre_groups_fit : Cert.Pre_groups_fit.Facts] (m : (ℓ : Loc Cert.Dw.nD Cert.Dw.τ Cert.Dw.sig) → Buf (Elt Bits) ℓ) : Prop :=
  ∀ c : Dev Cert.Dw.nD,
    (Cert.Pre_groups_fit.fn (F := Bits) (m ((c.tc : Thread Cert.Dw.nD Cert.Dw.τ).loc Cert.Dw.main_arg0)) (m ((c.tc : Thread Cert.Dw.nD Cert.Dw.τ).loc Cert.Dw.main_arg1)) (m ((c.tc : Thread Cert.Dw.nD Cert.Dw.τ).loc Cert.Dw.main_arg2)) (m ((c.tc : Thread Cert.Dw.nD Cert.Dw.τ).loc Cert.Dw.main_arg3)) (m ((c.tc : Thread Cert.Dw.nD Cert.Dw.τ).loc Cert.Dw.main_arg4))) = (fun _ => 1#1)

def Pre_DwIdeal [hPre_groups_fit : Cert.Pre_groups_fit.Facts] (m : (ℓ : Loc Cert.DwIdeal.nD Cert.DwIdeal.τ Cert.DwIdeal.sig) → Buf (Elt Ideal) ℓ) : Prop :=
  ∀ c : Dev Cert.DwIdeal.nD,
    (Cert.Pre_groups_fit.fn (F := Ideal) (m ((c.tc : Thread Cert.DwIdeal.nD Cert.DwIdeal.τ).loc Cert.DwIdeal.main_arg0)) (m ((c.tc : Thread Cert.DwIdeal.nD Cert.DwIdeal.τ).loc Cert.DwIdeal.main_arg1)) (m ((c.tc : Thread Cert.DwIdeal.nD Cert.DwIdeal.τ).loc Cert.DwIdeal.main_arg2)) (m ((c.tc : Thread Cert.DwIdeal.nD Cert.DwIdeal.τ).loc Cert.DwIdeal.main_arg3)) (m ((c.tc : Thread Cert.DwIdeal.nD Cert.DwIdeal.τ).loc Cert.DwIdeal.main_arg4))) = (fun _ => 1#1)

def Pre_DwRefIdeal (m : (ℓ : Loc Cert.DwRefIdeal.nD Cert.DwRefIdeal.τ Cert.DwRefIdeal.sig) → Buf (Elt Ideal) ℓ) : Prop :=
  True

def Pre_DwRefIdeal_groups_fit [hPre_groups_fit : Cert.Pre_groups_fit.Facts] (m : (ℓ : Loc Cert.DwRefIdeal.nD Cert.DwRefIdeal.τ Cert.DwRefIdeal.sig) → Buf (Elt Ideal) ℓ) : Prop :=
  ∀ c : Dev Cert.DwRefIdeal.nD,
    (Cert.Pre_groups_fit.fn (F := Ideal) (m ((c.tc : Thread Cert.DwRefIdeal.nD Cert.DwRefIdeal.τ).loc Cert.DwRefIdeal.main_arg0)) (m ((c.tc : Thread Cert.DwRefIdeal.nD Cert.DwRefIdeal.τ).loc Cert.DwRefIdeal.main_arg1)) (m ((c.tc : Thread Cert.DwRefIdeal.nD Cert.DwRefIdeal.τ).loc Cert.DwRefIdeal.main_arg2)) (m ((c.tc : Thread Cert.DwRefIdeal.nD Cert.DwRefIdeal.τ).loc Cert.DwRefIdeal.main_arg3)) (m ((c.tc : Thread Cert.DwRefIdeal.nD Cert.DwRefIdeal.τ).loc Cert.DwRefIdeal.main_arg4))) = (fun _ => 1#1)

def Pre_Dx [hPre_dx_groups_fit : Cert.Pre_dx_groups_fit.Facts] (m : (ℓ : Loc Cert.Dx.nD Cert.Dx.τ Cert.Dx.sig) → Buf (Elt Bits) ℓ) : Prop :=
  ∀ c : Dev Cert.Dx.nD,
    (Cert.Pre_dx_groups_fit.fn (F := Bits) (m ((c.tc : Thread Cert.Dx.nD Cert.Dx.τ).loc Cert.Dx.main_arg0)) (m ((c.tc : Thread Cert.Dx.nD Cert.Dx.τ).loc Cert.Dx.main_arg1)) (m ((c.tc : Thread Cert.Dx.nD Cert.Dx.τ).loc Cert.Dx.main_arg2)) (m ((c.tc : Thread Cert.Dx.nD Cert.Dx.τ).loc Cert.Dx.main_arg3)) (m ((c.tc : Thread Cert.Dx.nD Cert.Dx.τ).loc Cert.Dx.main_arg4)) (m ((c.tc : Thread Cert.Dx.nD Cert.Dx.τ).loc Cert.Dx.main_arg5))) = (fun _ => 1#1)

def Pre_DxIdeal [hPre_dx_groups_fit : Cert.Pre_dx_groups_fit.Facts] (m : (ℓ : Loc Cert.DxIdeal.nD Cert.DxIdeal.τ Cert.DxIdeal.sig) → Buf (Elt Ideal) ℓ) : Prop :=
  ∀ c : Dev Cert.DxIdeal.nD,
    (Cert.Pre_dx_groups_fit.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5))) = (fun _ => 1#1)

def Pre_DxIdeal_groups_fill [hPre_groups_fill : Cert.Pre_groups_fill.Facts] (m : (ℓ : Loc Cert.DxIdeal.nD Cert.DxIdeal.τ Cert.DxIdeal.sig) → Buf (Elt Ideal) ℓ) : Prop :=
  ∀ c : Dev Cert.DxIdeal.nD,
    (Cert.Pre_groups_fill.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5))) = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_groups_fill [hPre_groups_fill : Cert.Pre_groups_fill.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_groups_fill.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5))) = (fun _ => 1#1)

def quiescent_Dw [hDw : Cert.Dw.Facts] [hPre_groups_fit : Cert.Pre_groups_fit.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3)
      ∧ r.2.mem ((c.tc : Thread Cert.Dw.nD Cert.Dw.τ).loc Cert.Dw.main_arg4) = m ((c.tc : Thread Cert.Dw.nD Cert.Dw.τ).loc Cert.Dw.main_arg4))
      ∧ r.2.sem = fun _ => 0)

def quiescent_DwIdeal [hDwIdeal : Cert.DwIdeal.Facts] [hPre_groups_fit : Cert.Pre_groups_fit.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4))
      ∧ r.2.sem = fun _ => 0)

def quiescent_DwRefIdeal_pre_groups_fit [hDwRefIdeal : Cert.DwRefIdeal.Facts] [hPre_groups_fit : Cert.Pre_groups_fit.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal_groups_fit m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4))
      ∧ r.2.sem = fun _ => 0)

def quiescent_Dx [hDx : Cert.Dx.Facts] [hPre_dx_groups_fit : Cert.Pre_dx_groups_fit.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5))
      ∧ r.2.sem = fun _ => 0)

def quiescent_DxIdeal [hDxIdeal : Cert.DxIdeal.Facts] [hPre_dx_groups_fit : Cert.Pre_dx_groups_fit.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ r.2.sem = fun _ => 0)

def quiescent_DxIdeal_pre_groups_fill [hDxIdeal : Cert.DxIdeal.Facts] [hPre_groups_fill : Cert.Pre_groups_fill.Facts] : Prop :=
  ∀ (m : (ℓ : Loc Cert.DxIdeal.nD Cert.DxIdeal.τ Cert.DxIdeal.sig) → Buf (Elt Ideal) ℓ) (g : Dev Cert.DxIdeal.nD → PrngReg), Pre_DxIdeal_groups_fill m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5))
      ∧ r.2.sem = fun _ => 0)

def quiescent_DxRefIdeal_pre_groups_fill [hDxRefIdeal : Cert.DxRefIdeal.Facts] [hPre_groups_fill : Cert.Pre_groups_fill.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_groups_fill m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5))
      ∧ r.2.sem = fun _ => 0)

def preserves_Dw_DwIdeal : Prop :=
  IdealRules.bf16_pair.Statement Cert.DwIdeal.S256x512 Cert.DwIdeal.S128x512
  ∧ IdealRules.bf16_pair.SelectZeroStatement Cert.DwIdeal.S128x512
  ∧ IdealRules.bf16_pair.Statement Cert.DwIdeal.S512x512 Cert.DwIdeal.S256x512
  ∧ IdealRules.bf16_pair.SelectZeroStatement Cert.DwIdeal.S256x512
  ∧ IdealRules.bf16_pair.Statement Cert.DwIdeal.S768x512 Cert.DwIdeal.S384x512
  ∧ IdealRules.bf16_pair.SelectZeroStatement Cert.DwIdeal.S384x512
  ∧ IdealRules.bf16_pair.Statement Cert.DwIdeal.S1024x512 Cert.DwIdeal.S512x512
  ∧ IdealRules.bf16_pair.SelectZeroStatement Cert.DwIdeal.S512x512
  ∧ IdealRules.bf16_pair.Statement Cert.DwIdeal.S1280x512 Cert.DwIdeal.S640x512
  ∧ IdealRules.bf16_pair.SelectZeroStatement Cert.DwIdeal.S640x512
  ∧ IdealRules.bf16_pair.Statement Cert.DwIdeal.S1536x512 Cert.DwIdeal.S768x512
  ∧ IdealRules.bf16_pair.SelectZeroStatement Cert.DwIdeal.S768x512
  ∧ IdealRules.bf16_pair.Statement Cert.DwIdeal.S1792x512 Cert.DwIdeal.S896x512
  ∧ IdealRules.bf16_pair.SelectZeroStatement Cert.DwIdeal.S896x512

def algebraic_DwIdeal_DwRefIdeal [hDwIdeal : Cert.DwIdeal.Facts] [hDwRefIdeal : Cert.DwRefIdeal.Facts] [hPre_groups_fit : Cert.Pre_groups_fit.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)
      ∧ m' ((c.tc : Thread Cert.DwRefIdeal.nD Cert.DwRefIdeal.τ).loc Cert.DwRefIdeal.main_arg4) = m ((c.tc : Thread Cert.DwIdeal.nD Cert.DwIdeal.τ).loc Cert.DwIdeal.main_arg4)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
          ∧ r.2.mem ((c.tc : Thread Cert.DwIdeal.nD Cert.DwIdeal.τ).loc Cert.DwIdeal.main_arg4) = m ((c.tc : Thread Cert.DwIdeal.nD Cert.DwIdeal.τ).loc Cert.DwIdeal.main_arg4))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v34) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3)
          ∧ r.2.mem ((c.tc : Thread Cert.DwRefIdeal.nD Cert.DwRefIdeal.τ).loc Cert.DwRefIdeal.main_arg4) = m' ((c.tc : Thread Cert.DwRefIdeal.nD Cert.DwRefIdeal.τ).loc Cert.DwRefIdeal.main_arg4))

def preserves_Dx_DxIdeal : Prop :=
  IdealRules.bf16_pair.BufferStatement Cert.DxIdeal.S256x2x256 Cert.DxIdeal.S256x1x256
  ∧ IdealRules.bf16_pair.PackStatement Cert.DxIdeal.S256x256
  ∧ IdealRules.bf16_pair.Statement Cert.DxIdeal.S256x2x256 Cert.DxIdeal.S256x1x256
  ∧ IdealRules.bf16_pair.Statement Cert.DxIdeal.S1x2x256 Cert.DxIdeal.S1x1x256
  ∧ IdealRules.bf16_pair.Statement Cert.DxIdeal.S16x256 Cert.DxIdeal.S8x256
  ∧ IdealRules.bf16_pair.Statement Cert.DxIdeal.S256x128 Cert.DxIdeal.S128x128

def algebraic_DxIdeal_DxRefIdeal_pre_groups_fill [hDxIdeal : Cert.DxIdeal.Facts] [hDxRefIdeal : Cert.DxRefIdeal.Facts] [hPre_groups_fill : Cert.Pre_groups_fill.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_groups_fill m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v0) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5))

def Claim : Prop :=
  ∃ (hDw : Cert.Dw.Facts) (hDwIdeal : Cert.DwIdeal.Facts) (hDwRefIdeal : Cert.DwRefIdeal.Facts) (hDx : Cert.Dx.Facts) (hDxIdeal : Cert.DxIdeal.Facts) (hDxRefIdeal : Cert.DxRefIdeal.Facts) (hPre_groups_fit : Cert.Pre_groups_fit.Facts) (hPre_dx_groups_fit : Cert.Pre_dx_groups_fit.Facts) (hPre_groups_fill : Cert.Pre_groups_fill.Facts),
    quiescent_Dw (hDw := hDw) (hPre_groups_fit := hPre_groups_fit)
    ∧ quiescent_DwIdeal (hDwIdeal := hDwIdeal) (hPre_groups_fit := hPre_groups_fit)
    ∧ quiescent_DwRefIdeal (hDwRefIdeal := hDwRefIdeal)
    ∧ quiescent_DwRefIdeal_pre_groups_fit (hDwRefIdeal := hDwRefIdeal) (hPre_groups_fit := hPre_groups_fit)
    ∧ quiescent_Dx (hDx := hDx) (hPre_dx_groups_fit := hPre_dx_groups_fit)
    ∧ quiescent_DxIdeal (hDxIdeal := hDxIdeal) (hPre_dx_groups_fit := hPre_dx_groups_fit)
    ∧ quiescent_DxIdeal_pre_groups_fill (hDxIdeal := hDxIdeal) (hPre_groups_fill := hPre_groups_fill)
    ∧ quiescent_DxRefIdeal (hDxRefIdeal := hDxRefIdeal)
    ∧ quiescent_DxRefIdeal_pre_groups_fill (hDxRefIdeal := hDxRefIdeal) (hPre_groups_fill := hPre_groups_fill)
    ∧ preserves_Dw_DwIdeal
    ∧ algebraic_DwIdeal_DwRefIdeal (hDwIdeal := hDwIdeal) (hDwRefIdeal := hDwRefIdeal) (hPre_groups_fit := hPre_groups_fit)
    ∧ preserves_Dx_DxIdeal
    ∧ algebraic_DxIdeal_DxRefIdeal_pre_groups_fill (hDxIdeal := hDxIdeal) (hDxRefIdeal := hDxRefIdeal) (hPre_groups_fill := hPre_groups_fill)
-- ==== Pre_dx_groups_fit.lean ====
abbrev S4 : Shape := ⟨1, ![4]⟩
abbrev S1792x4096 : Shape := ⟨2, ![1792, 4096]⟩
abbrev S4x4096x3584 : Shape := ⟨3, ![4, 4096, 3584]⟩
abbrev S4x256x448 : Shape := ⟨3, ![4, 256, 448]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4 32) (arg1 : IVec S_ 32) : IVec S4 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S4 32 := broadcastInDim S4 ![] bcast_S_S4 v2
  let v4 : IVec S4 32 := Host.remsi arg0 v3
  let c_1 : IVec S_ 32 := constantI S_ 32 0#32
  let v5 : IVec S4 32 := broadcastInDim S4 ![] bcast_S_S4 c_1
  let v6 : IVec S4 1 := cmpi .ne v4 v5
  let c_2 : IVec S_ 32 := constantI S_ 32 0#32
  let v7 : IVec S4 32 := broadcastInDim S4 ![] bcast_S_S4 c_2
  let v8 : IVec S4 1 := cmpi .slt v4 v7
  let c_3 : IVec S_ 32 := constantI S_ 32 0#32
  let v9 : IVec S_ 1 := cmpi .slt v2 c_3
  let v10 : IVec S4 1 := broadcastInDim S4 ![] bcast_S_S4 v9
  let v11 : IVec S4 1 := cmpi .ne v8 v10
  let v12 : IVec S4 1 := andi v11 v6
  let v13 : IVec S4 32 := broadcastInDim S4 ![] bcast_S_S4 v2
  let v14 : IVec S4 32 := addi v4 v13
  let v15 : IVec S4 32 := select v12 v14 v4
  v15

def fn {F : FTy → Type} [FloatOps F] (main_arg0 : IVec S4 32) (main_arg1 : FVec F S4 .f32) (main_arg2 : FVec F S4 .f32) (main_arg3 : FVec F S1792x4096 .bf16) (main_arg4 : IVec S4x4096x3584 8) (main_arg5 : FVec F S4x256x448 .fp8e4m3) : IVec S4 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 1792#32
  let main_v2 : IVec S4 32 := broadcastInDim S4 ![] bcast_S_S4 main_c_0
  let main_v3 : IVec S4 1 := cmpi .sle main_arg0 main_v2
  let main_v4 : IVec S4 1 := andi main_v1 main_v3
  let main_c_1 : IVec S_ 32 := constantI S_ 32 16#32
  let main_v5 : IVec S4 32 := fn_remainder (F := F) main_arg0 main_c_1
  let main_c_2 : IVec S_ 32 := constantI S_ 32 0#32
  let main_v6 : IVec S4 32 := broadcastInDim S4 ![] bcast_S_S4 main_c_2
  let main_v7 : IVec S4 1 := cmpi .eq main_v5 main_v6
  let main_v8 : IVec S4 1 := andi main_v4 main_v7
  let main_c_3 : IVec S_ 32 := constantI S_ 32 0#32
  let main_v9 : IVec S_ 32 := (fun x v => Host.reduce IntOp.addi x v reducesTo_S4_S_d0 h_S_) main_arg0 main_c_3
  let main_c_4 : IVec S_ 32 := constantI S_ 32 1792#32
  let main_v10 : IVec S_ 1 := cmpi .sle main_v9 main_c_4
  let main_v11 : IVec S4 1 := broadcastInDim S4 ![] bcast_S_S4 main_v10
  let main_v12 : IVec S4 1 := andi main_v8 main_v11
  main_v12
-- ==== Pre_groups_fill.lean ====
abbrev S4 : Shape := ⟨1, ![4]⟩
abbrev S1792x4096 : Shape := ⟨2, ![1792, 4096]⟩
abbrev S4x4096x3584 : Shape := ⟨3, ![4, 4096, 3584]⟩
abbrev S4x256x448 : Shape := ⟨3, ![4, 256, 448]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4 32) (arg1 : IVec S_ 32) : IVec S4 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S4 32 := broadcastInDim S4 ![] bcast_S_S4 v2
  let v4 : IVec S4 32 := Host.remsi arg0 v3
  let c_1 : IVec S_ 32 := constantI S_ 32 0#32
  let v5 : IVec S4 32 := broadcastInDim S4 ![] bcast_S_S4 c_1
  let v6 : IVec S4 1 := cmpi .ne v4 v5
  let c_2 : IVec S_ 32 := constantI S_ 32 0#32
  let v7 : IVec S4 32 := broadcastInDim S4 ![] bcast_S_S4 c_2
  let v8 : IVec S4 1 := cmpi .slt v4 v7
  let c_3 : IVec S_ 32 := constantI S_ 32 0#32
  let v9 : IVec S_ 1 := cmpi .slt v2 c_3
  let v10 : IVec S4 1 := broadcastInDim S4 ![] bcast_S_S4 v9
  let v11 : IVec S4 1 := cmpi .ne v8 v10
  let v12 : IVec S4 1 := andi v11 v6
  let v13 : IVec S4 32 := broadcastInDim S4 ![] bcast_S_S4 v2
  let v14 : IVec S4 32 := addi v4 v13
  let v15 : IVec S4 32 := select v12 v14 v4
  v15

def fn {F : FTy → Type} [FloatOps F] (main_arg0 : IVec S4 32) (main_arg1 : FVec F S4 .f32) (main_arg2 : FVec F S4 .f32) (main_arg3 : FVec F S1792x4096 .bf16) (main_arg4 : IVec S4x4096x3584 8) (main_arg5 : FVec F S4x256x448 .fp8e4m3) : IVec S4 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 1792#32
  let main_v2 : IVec S4 32 := broadcastInDim S4 ![] bcast_S_S4 main_c_0
  let main_v3 : IVec S4 1 := cmpi .sle main_arg0 main_v2
  let main_v4 : IVec S4 1 := andi main_v1 main_v3
  let main_c_1 : IVec S_ 32 := constantI S_ 32 16#32
  let main_v5 : IVec S4 32 := fn_remainder (F := F) main_arg0 main_c_1
  let main_c_2 : IVec S_ 32 := constantI S_ 32 0#32
  let main_v6 : IVec S4 32 := broadcastInDim S4 ![] bcast_S_S4 main_c_2
  let main_v7 : IVec S4 1 := cmpi .eq main_v5 main_v6
  let main_v8 : IVec S4 1 := andi main_v4 main_v7
  let main_c_3 : IVec S_ 32 := constantI S_ 32 0#32
  let main_v9 : IVec S_ 32 := (fun x v => Host.reduce IntOp.addi x v reducesTo_S4_S_d0 h_S_) main_arg0 main_c_3
  let main_c_4 : IVec S_ 32 := constantI S_ 32 1792#32
  let main_v10 : IVec S_ 1 := cmpi .eq main_v9 main_c_4
  let main_v11 : IVec S4 1 := broadcastInDim S4 ![] bcast_S_S4 main_v10
  let main_v12 : IVec S4 1 := andi main_v8 main_v11
  main_v12
-- ==== Pre_groups_fit.lean ====
abbrev S4 : Shape := ⟨1, ![4]⟩
abbrev S1792x4096 : Shape := ⟨2, ![1792, 4096]⟩
abbrev S1792x7168 : Shape := ⟨2, ![1792, 7168]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4 32) (arg1 : IVec S_ 32) : IVec S4 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S4 32 := broadcastInDim S4 ![] bcast_S_S4 v2
  let v4 : IVec S4 32 := Host.remsi arg0 v3
  let c_1 : IVec S_ 32 := constantI S_ 32 0#32
  let v5 : IVec S4 32 := broadcastInDim S4 ![] bcast_S_S4 c_1
  let v6 : IVec S4 1 := cmpi .ne v4 v5
  let c_2 : IVec S_ 32 := constantI S_ 32 0#32
  let v7 : IVec S4 32 := broadcastInDim S4 ![] bcast_S_S4 c_2
  let v8 : IVec S4 1 := cmpi .slt v4 v7
  let c_3 : IVec S_ 32 := constantI S_ 32 0#32
  let v9 : IVec S_ 1 := cmpi .slt v2 c_3
  let v10 : IVec S4 1 := broadcastInDim S4 ![] bcast_S_S4 v9
  let v11 : IVec S4 1 := cmpi .ne v8 v10
  let v12 : IVec S4 1 := andi v11 v6
  let v13 : IVec S4 32 := broadcastInDim S4 ![] bcast_S_S4 v2
  let v14 : IVec S4 32 := addi v4 v13
  let v15 : IVec S4 32 := select v12 v14 v4
  v15

def fn {F : FTy → Type} [FloatOps F] (main_arg0 : IVec S4 32) (main_arg1 : FVec F S4 .f32) (main_arg2 : FVec F S4 .f32) (main_arg3 : FVec F S1792x4096 .bf16) (main_arg4 : FVec F S1792x7168 .bf16) : IVec S4 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 1792#32
  let main_v2 : IVec S4 32 := broadcastInDim S4 ![] bcast_S_S4 main_c_0
  let main_v3 : IVec S4 1 := cmpi .sle main_arg0 main_v2
  let main_v4 : IVec S4 1 := andi main_v1 main_v3
  let main_c_1 : IVec S_ 32 := constantI S_ 32 16#32
  let main_v5 : IVec S4 32 := fn_remainder (F := F) main_arg0 main_c_1
  let main_c_2 : IVec S_ 32 := constantI S_ 32 0#32
  let main_v6 : IVec S4 32 := broadcastInDim S4 ![] bcast_S_S4 main_c_2
  let main_v7 : IVec S4 1 := cmpi .eq main_v5 main_v6
  let main_v8 : IVec S4 1 := andi main_v4 main_v7
  let main_c_3 : IVec S_ 32 := constantI S_ 32 0#32
  let main_v9 : IVec S_ 32 := (fun x v => Host.reduce IntOp.addi x v reducesTo_S4_S_d0 h_S_) main_arg0 main_c_3
  let main_c_4 : IVec S_ 32 := constantI S_ 32 1792#32
  let main_v10 : IVec S_ 1 := cmpi .sle main_v9 main_c_4
  let main_v11 : IVec S4 1 := broadcastInDim S4 ![] bcast_S_S4 main_v10
  let main_v12 : IVec S4 1 := andi main_v8 main_v11
  main_v12
-- ==== Dw.lean ====
abbrev S4 : Shape := ⟨1, ![4]⟩
abbrev S1792x4096 : Shape := ⟨2, ![1792, 4096]⟩
abbrev S1792x7168 : Shape := ⟨2, ![1792, 7168]⟩
abbrev S4x4096x7168 : Shape := ⟨3, ![4, 4096, 7168]⟩
abbrev S1792x512 : Shape := ⟨2, ![1792, 512]⟩
abbrev S1x512x3584 : Shape := ⟨3, ![1, 512, 3584]⟩
abbrev S1 : Shape := ⟨1, ![1]⟩
abbrev S128x512 : Shape := ⟨2, ![128, 512]⟩
abbrev S256x512 : Shape := ⟨2, ![256, 512]⟩
abbrev S256x3584 : Shape := ⟨2, ![256, 3584]⟩
abbrev S512x3584 : Shape := ⟨2, ![512, 3584]⟩
abbrev S512x512 : Shape := ⟨2, ![512, 512]⟩
abbrev S384x512 : Shape := ⟨2, ![384, 512]⟩
abbrev S768x512 : Shape := ⟨2, ![768, 512]⟩
abbrev S768x3584 : Shape := ⟨2, ![768, 3584]⟩
abbrev S1024x512 : Shape := ⟨2, ![1024, 512]⟩
abbrev S1024x3584 : Shape := ⟨2, ![1024, 3584]⟩
abbrev S640x512 : Shape := ⟨2, ![640, 512]⟩
abbrev S1280x512 : Shape := ⟨2, ![1280, 512]⟩
abbrev S1280x3584 : Shape := ⟨2, ![1280, 3584]⟩
abbrev S1536x512 : Shape := ⟨2, ![1536, 512]⟩
abbrev S1536x3584 : Shape := ⟨2, ![1536, 3584]⟩
abbrev S896x512 : Shape := ⟨2, ![896, 512]⟩
abbrev S1792x3584 : Shape := ⟨2, ![1792, 3584]⟩

abbrev nBuf : Space → Nat
  | .hbm => 6
  | .vmem => 5
  | .smem => 3
  | _ => 0

abbrev bufTy : (tb : Table) → Fin (tcTables nBuf tb) → BufTy
  | .hbm, ⟨0, _⟩ => ⟨S4, .i32⟩
  | .hbm, ⟨1, _⟩ => ⟨S4, .f32⟩
  | .hbm, ⟨2, _⟩ => ⟨S4, .f32⟩
  | .hbm, ⟨3, _⟩ => ⟨S1792x4096, .bf16⟩
  | .hbm, ⟨4, _⟩ => ⟨S1792x7168, .bf16⟩
  | .hbm, ⟨5, _⟩ => ⟨S4x4096x7168, .f32⟩
  | .local _ .vmem, ⟨0, _⟩ => ⟨S1792x512, .bf16⟩
  | .local _ .vmem, ⟨1, _⟩ => ⟨S1792x512, .bf16⟩
  | .local _ .vmem, ⟨2, _⟩ => ⟨S1792x7168, .bf16⟩
  | .local _ .vmem, ⟨3, _⟩ => ⟨S1x512x3584, .f32⟩
  | .local _ .vmem, ⟨4, _⟩ => ⟨S1x512x3584, .f32⟩
  | .local _ .smem, ⟨0, _⟩ => ⟨S4, .i32⟩
  | .local _ .smem, ⟨1, _⟩ => ⟨S4, .f32⟩
  | .local _ .smem, ⟨2, _⟩ => ⟨S4, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [BitOps F]

abbrev grid0 : Pipeline.Grid := ⟨3, ![8, 4, 2], ![false, false, false]⟩

def k0_off1 (i : grid0.Coords) : Fin 1 → Nat :=
  let arg1 : BitVec 32 := BitVec.ofNat 32 (i 1).val
  let v0 : Index := Scalar.indexCast arg1
  ![v0.toNat]
def k0_mult1 (i : grid0.Coords) : BitVec 32 :=
  let arg2 : BitVec 32 := BitVec.ofNat 32 (i 2).val
  let c3584_i32 : BitVec 32 := 3584#32
  let v29 : BitVec 32 := Scalar.muli arg2 c3584_i32
  v29
def k0_mult2 (i : grid0.Coords) (v3 : BitVec 32) (v7 : BitVec 32) (v11 : BitVec 32) (v15 : BitVec 32) : BitVec 32 :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c1536_i32_26 : BitVec 32 := 1536#32
  let v69 : BitVec 32 := Scalar.minsi v17 c1536_i32_26
  v69
def k0_cond2 (v1 : BitVec 32) : BitVec 1 :=
  let c0_i32_12 : BitVec 32 := 0#32
  let v34 : BitVec 1 := Scalar.cmpi .sgt v1 c0_i32_12
  let c256_i32 : BitVec 32 := 256#32
  let v35 : BitVec 1 := Scalar.cmpi .sle v1 c256_i32
  let v36 : BitVec 1 := Scalar.andi v34 v35
  let v37 : BitVec 32 := Scalar.extui v36
  let c0_i32_13 : BitVec 32 := 0#32
  let v38 : BitVec 1 := Scalar.cmpi .ne v37 c0_i32_13
  v38

def k0_off2 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c1536_i32_26 : BitVec 32 := 1536#32
  let v69 : BitVec 32 := Scalar.minsi v17 c1536_i32_26
  let v70 : BitVec 32 := v69
  let v76 : Index := Scalar.indexCast v70
  let c0_28 : Index := 0#32
  ![v76.toNat, 0]
def k0_off3 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c1536_i32_26 : BitVec 32 := 1536#32
  let v69 : BitVec 32 := Scalar.minsi v17 c1536_i32_26
  let v70 : BitVec 32 := v69
  let v87 : Index := Scalar.indexCast v70
  let arg2 : BitVec 32 := BitVec.ofNat 32 (i 2).val
  let c3584_i32 : BitVec 32 := 3584#32
  let v29 : BitVec 32 := Scalar.muli arg2 c3584_i32
  let v30 : BitVec 32 := v29
  let v88 : Index := Scalar.indexCast v30
  ![v87.toNat, v88.toNat]
def k0_mult3 (i : grid0.Coords) (v3 : BitVec 32) (v7 : BitVec 32) (v11 : BitVec 32) (v15 : BitVec 32) : BitVec 32 :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c1280_i32_26 : BitVec 32 := 1280#32
  let v69 : BitVec 32 := Scalar.minsi v17 c1280_i32_26
  v69
def k0_cond3 (v1 : BitVec 32) : BitVec 1 :=
  let c256_i32_14 : BitVec 32 := 256#32
  let v39 : BitVec 1 := Scalar.cmpi .sgt v1 c256_i32_14
  let c512_i32 : BitVec 32 := 512#32
  let v40 : BitVec 1 := Scalar.cmpi .sle v1 c512_i32
  let v41 : BitVec 1 := Scalar.andi v39 v40
  let v42 : BitVec 32 := Scalar.extui v41
  let c0_i32_15 : BitVec 32 := 0#32
  let v43 : BitVec 1 := Scalar.cmpi .ne v42 c0_i32_15
  v43

def k0_off4 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c1280_i32_26 : BitVec 32 := 1280#32
  let v69 : BitVec 32 := Scalar.minsi v17 c1280_i32_26
  let v70 : BitVec 32 := v69
  let v76 : Index := Scalar.indexCast v70
  let c0_28 : Index := 0#32
  ![v76.toNat, 0]
def k0_off5 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c1280_i32_26 : BitVec 32 := 1280#32
  let v69 : BitVec 32 := Scalar.minsi v17 c1280_i32_26
  let v70 : BitVec 32 := v69
  let v87 : Index := Scalar.indexCast v70
  let arg2 : BitVec 32 := BitVec.ofNat 32 (i 2).val
  let c3584_i32 : BitVec 32 := 3584#32
  let v29 : BitVec 32 := Scalar.muli arg2 c3584_i32
  let v30 : BitVec 32 := v29
  let v88 : Index := Scalar.indexCast v30
  ![v87.toNat, v88.toNat]
def k0_mult4 (i : grid0.Coords) (v3 : BitVec 32) (v7 : BitVec 32) (v11 : BitVec 32) (v15 : BitVec 32) : BitVec 32 :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c1024_i32_26 : BitVec 32 := 1024#32
  let v69 : BitVec 32 := Scalar.minsi v17 c1024_i32_26
  v69
def k0_cond4 (v1 : BitVec 32) : BitVec 1 :=
  let c512_i32_16 : BitVec 32 := 512#32
  let v44 : BitVec 1 := Scalar.cmpi .sgt v1 c512_i32_16
  let c768_i32 : BitVec 32 := 768#32
  let v45 : BitVec 1 := Scalar.cmpi .sle v1 c768_i32
  let v46 : BitVec 1 := Scalar.andi v44 v45
  let v47 : BitVec 32 := Scalar.extui v46
  let c0_i32_17 : BitVec 32 := 0#32
  let v48 : BitVec 1 := Scalar.cmpi .ne v47 c0_i32_17
  v48

def k0_off6 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c1024_i32_26 : BitVec 32 := 1024#32
  let v69 : BitVec 32 := Scalar.minsi v17 c1024_i32_26
  let v70 : BitVec 32 := v69
  let v76 : Index := Scalar.indexCast v70
  let c0_28 : Index := 0#32
  ![v76.toNat, 0]
def k0_off7 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c1024_i32_26 : BitVec 32 := 1024#32
  let v69 : BitVec 32 := Scalar.minsi v17 c1024_i32_26
  let v70 : BitVec 32 := v69
  let v87 : Index := Scalar.indexCast v70
  let arg2 : BitVec 32 := BitVec.ofNat 32 (i 2).val
  let c3584_i32 : BitVec 32 := 3584#32
  let v29 : BitVec 32 := Scalar.muli arg2 c3584_i32
  let v30 : BitVec 32 := v29
  let v88 : Index := Scalar.indexCast v30
  ![v87.toNat, v88.toNat]
def k0_mult5 (i : grid0.Coords) (v3 : BitVec 32) (v7 : BitVec 32) (v11 : BitVec 32) (v15 : BitVec 32) : BitVec 32 :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c768_i32_26 : BitVec 32 := 768#32
  let v69 : BitVec 32 := Scalar.minsi v17 c768_i32_26
  v69
def k0_cond5 (v1 : BitVec 32) : BitVec 1 :=
  let c768_i32_18 : BitVec 32 := 768#32
  let v49 : BitVec 1 := Scalar.cmpi .sgt v1 c768_i32_18
  let c1024_i32 : BitVec 32 := 1024#32
  let v50 : BitVec 1 := Scalar.cmpi .sle v1 c1024_i32
  let v51 : BitVec 1 := Scalar.andi v49 v50
  let v52 : BitVec 32 := Scalar.extui v51
  let c0_i32_19 : BitVec 32 := 0#32
  let v53 : BitVec 1 := Scalar.cmpi .ne v52 c0_i32_19
  v53

def k0_off8 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c768_i32_26 : BitVec 32 := 768#32
  let v69 : BitVec 32 := Scalar.minsi v17 c768_i32_26
  let v70 : BitVec 32 := v69
  let v76 : Index := Scalar.indexCast v70
  let c0_28 : Index := 0#32
  ![v76.toNat, 0]
def k0_off9 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c768_i32_26 : BitVec 32 := 768#32
  let v69 : BitVec 32 := Scalar.minsi v17 c768_i32_26
  let v70 : BitVec 32 := v69
  let v87 : Index := Scalar.indexCast v70
  let arg2 : BitVec 32 := BitVec.ofNat 32 (i 2).val
  let c3584_i32 : BitVec 32 := 3584#32
  let v29 : BitVec 32 := Scalar.muli arg2 c3584_i32
  let v30 : BitVec 32 := v29
  let v88 : Index := Scalar.indexCast v30
  ![v87.toNat, v88.toNat]
def k0_mult6 (i : grid0.Coords) (v3 : BitVec 32) (v7 : BitVec 32) (v11 : BitVec 32) (v15 : BitVec 32) : BitVec 32 :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c512_i32_26 : BitVec 32 := 512#32
  let v69 : BitVec 32 := Scalar.minsi v17 c512_i32_26
  v69
def k0_cond6 (v1 : BitVec 32) : BitVec 1 :=
  let c1024_i32_20 : BitVec 32 := 1024#32
  let v54 : BitVec 1 := Scalar.cmpi .sgt v1 c1024_i32_20
  let c1280_i32 : BitVec 32 := 1280#32
  let v55 : BitVec 1 := Scalar.cmpi .sle v1 c1280_i32
  let v56 : BitVec 1 := Scalar.andi v54 v55
  let v57 : BitVec 32 := Scalar.extui v56
  let c0_i32_21 : BitVec 32 := 0#32
  let v58 : BitVec 1 := Scalar.cmpi .ne v57 c0_i32_21
  v58

def k0_off10 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c512_i32_26 : BitVec 32 := 512#32
  let v69 : BitVec 32 := Scalar.minsi v17 c512_i32_26
  let v70 : BitVec 32 := v69
  let v76 : Index := Scalar.indexCast v70
  let c0_28 : Index := 0#32
  ![v76.toNat, 0]
def k0_off11 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c512_i32_26 : BitVec 32 := 512#32
  let v69 : BitVec 32 := Scalar.minsi v17 c512_i32_26
  let v70 : BitVec 32 := v69
  let v87 : Index := Scalar.indexCast v70
  let arg2 : BitVec 32 := BitVec.ofNat 32 (i 2).val
  let c3584_i32 : BitVec 32 := 3584#32
  let v29 : BitVec 32 := Scalar.muli arg2 c3584_i32
  let v30 : BitVec 32 := v29
  let v88 : Index := Scalar.indexCast v30
  ![v87.toNat, v88.toNat]
def k0_mult7 (i : grid0.Coords) (v3 : BitVec 32) (v7 : BitVec 32) (v11 : BitVec 32) (v15 : BitVec 32) : BitVec 32 :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c256_i32_26 : BitVec 32 := 256#32
  let v69 : BitVec 32 := Scalar.minsi v17 c256_i32_26
  v69
def k0_cond7 (v1 : BitVec 32) : BitVec 1 :=
  let c1280_i32_22 : BitVec 32 := 1280#32
  let v59 : BitVec 1 := Scalar.cmpi .sgt v1 c1280_i32_22
  let c1536_i32 : BitVec 32 := 1536#32
  let v60 : BitVec 1 := Scalar.cmpi .sle v1 c1536_i32
  let v61 : BitVec 1 := Scalar.andi v59 v60
  let v62 : BitVec 32 := Scalar.extui v61
  let c0_i32_23 : BitVec 32 := 0#32
  let v63 : BitVec 1 := Scalar.cmpi .ne v62 c0_i32_23
  v63

def k0_off12 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c256_i32_26 : BitVec 32 := 256#32
  let v69 : BitVec 32 := Scalar.minsi v17 c256_i32_26
  let v70 : BitVec 32 := v69
  let v76 : Index := Scalar.indexCast v70
  let c0_28 : Index := 0#32
  ![v76.toNat, 0]
def k0_off13 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c256_i32_26 : BitVec 32 := 256#32
  let v69 : BitVec 32 := Scalar.minsi v17 c256_i32_26
  let v70 : BitVec 32 := v69
  let v87 : Index := Scalar.indexCast v70
  let arg2 : BitVec 32 := BitVec.ofNat 32 (i 2).val
  let c3584_i32 : BitVec 32 := 3584#32
  let v29 : BitVec 32 := Scalar.muli arg2 c3584_i32
  let v30 : BitVec 32 := v29
  let v88 : Index := Scalar.indexCast v30
  ![v87.toNat, v88.toNat]
def k0_mult8 (i : grid0.Coords) (v3 : BitVec 32) (v7 : BitVec 32) (v11 : BitVec 32) (v15 : BitVec 32) : BitVec 32 :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_26 : BitVec 32 := 0#32
  let v69 : BitVec 32 := Scalar.minsi v17 c0_i32_26
  v69
def k0_cond8 (v1 : BitVec 32) : BitVec 1 :=
  let c1536_i32_24 : BitVec 32 := 1536#32
  let v64 : BitVec 1 := Scalar.cmpi .sgt v1 c1536_i32_24
  let c1792_i32 : BitVec 32 := 1792#32
  let v65 : BitVec 1 := Scalar.cmpi .sle v1 c1792_i32
  let v66 : BitVec 1 := Scalar.andi v64 v65
  let v67 : BitVec 32 := Scalar.extui v66
  let c0_i32_25 : BitVec 32 := 0#32
  let v68 : BitVec 1 := Scalar.cmpi .ne v67 c0_i32_25
  v68

def k0_off14 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_26 : BitVec 32 := 0#32
  let v69 : BitVec 32 := Scalar.minsi v17 c0_i32_26
  let v70 : BitVec 32 := v69
  let v76 : Index := Scalar.indexCast v70
  let c0_28 : Index := 0#32
  ![v76.toNat, 0]
def k0_off15 (i : grid0.Coords) (v3 : BitVec 32) (v7 : BitVec 32) (v11 : BitVec 32) (v15 : BitVec 32) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_26 : BitVec 32 := 0#32
  let v69 : BitVec 32 := Scalar.minsi v17 c0_i32_26
  let v70 : BitVec 32 := v69
  let v87 : Index := Scalar.indexCast v70
  let arg2 : BitVec 32 := BitVec.ofNat 32 (i 2).val
  let c3584_i32 : BitVec 32 := 3584#32
  let v29 : BitVec 32 := Scalar.muli arg2 c3584_i32
  let v30 : BitVec 32 := v29
  let v88 : Index := Scalar.indexCast v30
  ![v87.toNat, v88.toNat]

def k0_chk1 (i : grid0.Coords) (v1 : BitVec 32) (v3 : BitVec 32) (v7 : BitVec 32) (v11 : BitVec 32) (v15 : BitVec 32) : Prop :=
  (∀ (k0_h2 : k0_cond2 v1 = 1#1), 16 ∣ (k0_mult2 i v3 v7 v11 v15).toNat) ∧
  (∀ (k0_h2 : k0_cond2 v1 = 1#1), ∀ a, (k0_off2 i v3 v7 v11 v15) a + S256x512.size a ≤ S1792x512.size a) ∧
  (∀ (k0_h2 : k0_cond2 v1 = 1#1), ∀ a, (k0_off3 i v3 v7 v11 v15) a + S256x3584.size a ≤ S1792x7168.size a) ∧
  (∀ (k0_h3 : k0_cond3 v1 = 1#1), 16 ∣ (k0_mult3 i v3 v7 v11 v15).toNat) ∧
  (∀ (k0_h3 : k0_cond3 v1 = 1#1), ∀ a, (k0_off4 i v3 v7 v11 v15) a + S512x512.size a ≤ S1792x512.size a) ∧
  (∀ (k0_h3 : k0_cond3 v1 = 1#1), ∀ a, (k0_off5 i v3 v7 v11 v15) a + S512x3584.size a ≤ S1792x7168.size a) ∧
  (∀ (k0_h4 : k0_cond4 v1 = 1#1), 16 ∣ (k0_mult4 i v3 v7 v11 v15).toNat) ∧
  (∀ (k0_h4 : k0_cond4 v1 = 1#1), ∀ a, (k0_off6 i v3 v7 v11 v15) a + S768x512.size a ≤ S1792x512.size a) ∧
  (∀ (k0_h4 : k0_cond4 v1 = 1#1), ∀ a, (k0_off7 i v3 v7 v11 v15) a + S768x3584.size a ≤ S1792x7168.size a) ∧
  (∀ (k0_h5 : k0_cond5 v1 = 1#1), 16 ∣ (k0_mult5 i v3 v7 v11 v15).toNat) ∧
  (∀ (k0_h5 : k0_cond5 v1 = 1#1), ∀ a, (k0_off8 i v3 v7 v11 v15) a + S1024x512.size a ≤ S1792x512.size a) ∧
  (∀ (k0_h5 : k0_cond5 v1 = 1#1), ∀ a, (k0_off9 i v3 v7 v11 v15) a + S1024x3584.size a ≤ S1792x7168.size a) ∧
  (∀ (k0_h6 : k0_cond6 v1 = 1#1), 16 ∣ (k0_mult6 i v3 v7 v11 v15).toNat) ∧
  (∀ (k0_h6 : k0_cond6 v1 = 1#1), ∀ a, (k0_off10 i v3 v7 v11 v15) a + S1280x512.size a ≤ S1792x512.size a) ∧
  (∀ (k0_h6 : k0_cond6 v1 = 1#1), ∀ a, (k0_off11 i v3 v7 v11 v15) a + S1280x3584.size a ≤ S1792x7168.size a) ∧
  (∀ (k0_h7 : k0_cond7 v1 = 1#1), 16 ∣ (k0_mult7 i v3 v7 v11 v15).toNat) ∧
  (∀ (k0_h7 : k0_cond7 v1 = 1#1), ∀ a, (k0_off12 i v3 v7 v11 v15) a + S1536x512.size a ≤ S1792x512.size a) ∧
  (∀ (k0_h7 : k0_cond7 v1 = 1#1), ∀ a, (k0_off13 i v3 v7 v11 v15) a + S1536x3584.size a ≤ S1792x7168.size a) ∧
  (∀ (k0_h8 : k0_cond8 v1 = 1#1), 16 ∣ (k0_mult8 i v3 v7 v11 v15).toNat) ∧
  (∀ (k0_h8 : k0_cond8 v1 = 1#1), ∀ a, (k0_off14 i v3 v7 v11 v15) a + S1792x512.size a ≤ S1792x512.size a) ∧
  (∀ (k0_h8 : k0_cond8 v1 = 1#1), ∀ a, (k0_off15 i v3 v7 v11 v15) a + S1792x3584.size a ≤ S1792x7168.size a)
theorem k0_mult2_dvd : ∀ (i : grid0.Coords) (v1 : BitVec 32) (v3 : BitVec 32) (v7 : BitVec 32) (v11 : BitVec 32) (v15 : BitVec 32) (k0_hw1 : k0_chk1 i v1 v3 v7 v11 v15), ∀ (k0_h2 : k0_cond2 v1 = 1#1), 16 ∣ (k0_mult2 i v3 v7 v11 v15).toNat := fun i v1 v3 v7 v11 v15 k0_hw1 k0_h2 => k0_hw1.1 k0_h2
theorem k0_off2_inb : ∀ (i : grid0.Coords) (v1 : BitVec 32) (v3 : BitVec 32) (v7 : BitVec 32) (v11 : BitVec 32) (v15 : BitVec 32) (k0_hw1 : k0_chk1 i v1 v3 v7 v11 v15), ∀ (k0_h2 : k0_cond2 v1 = 1#1), ∀ a, (k0_off2 i v3 v7 v11 v15) a + S256x512.size a ≤ S1792x512.size a := fun i v1 v3 v7 v11 v15 k0_hw1 k0_h2 => k0_hw1.2.1 k0_h2
theorem k0_off3_inb : ∀ (i : grid0.Coords) (v1 : BitVec 32) (v3 : BitVec 32) (v7 : BitVec 32) (v11 : BitVec 32) (v15 : BitVec 32) (k0_hw1 : k0_chk1 i v1 v3 v7 v11 v15), ∀ (k0_h2 : k0_cond2 v1 = 1#1), ∀ a, (k0_off3 i v3 v7 v11 v15) a + S256x3584.size a ≤ S1792x7168.size a := fun i v1 v3 v7 v11 v15 k0_hw1 k0_h2 => k0_hw1.2.2.1 k0_h2
theorem k0_mult3_dvd : ∀ (i : grid0.Coords) (v1 : BitVec 32) (v3 : BitVec 32) (v7 : BitVec 32) (v11 : BitVec 32) (v15 : BitVec 32) (k0_hw1 : k0_chk1 i v1 v3 v7 v11 v15), ∀ (k0_h3 : k0_cond3 v1 = 1#1), 16 ∣ (k0_mult3 i v3 v7 v11 v15).toNat := fun i v1 v3 v7 v11 v15 k0_hw1 k0_h3 => k0_hw1.2.2.2.1 k0_h3
theorem k0_off4_inb : ∀ (i : grid0.Coords) (v1 : BitVec 32) (v3 : BitVec 32) (v7 : BitVec 32) (v11 : BitVec 32) (v15 : BitVec 32) (k0_hw1 : k0_chk1 i v1 v3 v7 v11 v15), ∀ (k0_h3 : k0_cond3 v1 = 1#1), ∀ a, (k0_off4 i v3 v7 v11 v15) a + S512x512.size a ≤ S1792x512.size a := fun i v1 v3 v7 v11 v15 k0_hw1 k0_h3 => k0_hw1.2.2.2.2.1 k0_h3
theorem k0_off5_inb : ∀ (i : grid0.Coords) (v1 : BitVec 32) (v3 : BitVec 32) (v7 : BitVec 32) (v11 : BitVec 32) (v15 : BitVec 32) (k0_hw1 : k0_chk1 i v1 v3 v7 v11 v15), ∀ (k0_h3 : k0_cond3 v1 = 1#1), ∀ a, (k0_off5 i v3 v7 v11 v15) a + S512x3584.size a ≤ S1792x7168.size a := fun i v1 v3 v7 v11 v15 k0_hw1 k0_h3 => k0_hw1.2.2.2.2.2.1 k0_h3
theorem k0_mult4_dvd : ∀ (i : grid0.Coords) (v1 : BitVec 32) (v3 : BitVec 32) (v7 : BitVec 32) (v11 : BitVec 32) (v15 : BitVec 32) (k0_hw1 : k0_chk1 i v1 v3 v7 v11 v15), ∀ (k0_h4 : k0_cond4 v1 = 1#1), 16 ∣ (k0_mult4 i v3 v7 v11 v15).toNat := fun i v1 v3 v7 v11 v15 k0_hw1 k0_h4 => k0_hw1.2.2.2.2.2.2.1 k0_h4
theorem k0_off6_inb : ∀ (i : grid0.Coords) (v1 : BitVec 32) (v3 : BitVec 32) (v7 : BitVec 32) (v11 : BitVec 32) (v15 : BitVec 32) (k0_hw1 : k0_chk1 i v1 v3 v7 v11 v15), ∀ (k0_h4 : k0_cond4 v1 = 1#1), ∀ a, (k0_off6 i v3 v7 v11 v15) a + S768x512.size a ≤ S1792x512.size a := fun i v1 v3 v7 v11 v15 k0_hw1 k0_h4 => k0_hw1.2.2.2.2.2.2.2.1 k0_h4
theorem k0_off7_inb : ∀ (i : grid0.Coords) (v1 : BitVec 32) (v3 : BitVec 32) (v7 : BitVec 32) (v11 : BitVec 32) (v15 : BitVec 32) (k0_hw1 : k0_chk1 i v1 v3 v7 v11 v15), ∀ (k0_h4 : k0_cond4 v1 = 1#1), ∀ a, (k0_off7 i v3 v7 v11 v15) a + S768x3584.size a ≤ S1792x7168.size a := fun i v1 v3 v7 v11 v15 k0_hw1 k0_h4 => k0_hw1.2.2.2.2.2.2.2.2.1 k0_h4
theorem k0_mult5_dvd : ∀ (i : grid0.Coords) (v1 : BitVec 32) (v3 : BitVec 32) (v7 : BitVec 32) (v11 : BitVec 32) (v15 : BitVec 32) (k0_hw1 : k0_chk1 i v1 v3 v7 v11 v15), ∀ (k0_h5 : k0_cond5 v1 = 1#1), 16 ∣ (k0_mult5 i v3 v7 v11 v15).toNat := fun i v1 v3 v7 v11 v15 k0_hw1 k0_h5 => k0_hw1.2.2.2.2.2.2.2.2.2.1 k0_h5
theorem k0_off8_inb : ∀ (i : grid0.Coords) (v1 : BitVec 32) (v3 : BitVec 32) (v7 : BitVec 32) (v11 : BitVec 32) (v15 : BitVec 32) (k0_hw1 : k0_chk1 i v1 v3 v7 v11 v15), ∀ (k0_h5 : k0_cond5 v1 = 1#1), ∀ a, (k0_off8 i v3 v7 v11 v15) a + S1024x512.size a ≤ S1792x512.size a := fun i v1 v3 v7 v11 v15 k0_hw1 k0_h5 => k0_hw1.2.2.2.2.2.2.2.2.2.2.1 k0_h5
theorem k0_off9_inb : ∀ (i : grid0.Coords) (v1 : BitVec 32) (v3 : BitVec 32) (v7 : BitVec 32) (v11 : BitVec 32) (v15 : BitVec 32) (k0_hw1 : k0_chk1 i v1 v3 v7 v11 v15), ∀ (k0_h5 : k0_cond5 v1 = 1#1), ∀ a, (k0_off9 i v3 v7 v11 v15) a + S1024x3584.size a ≤ S1792x7168.size a := fun i v1 v3 v7 v11 v15 k0_hw1 k0_h5 => k0_hw1.2.2.2.2.2.2.2.2.2.2.2.1 k0_h5
theorem k0_mult6_dvd : ∀ (i : grid0.Coords) (v1 : BitVec 32) (v3 : BitVec 32) (v7 : BitVec 32) (v11 : BitVec 32) (v15 : BitVec 32) (k0_hw1 : k0_chk1 i v1 v3 v7 v11 v15), ∀ (k0_h6 : k0_cond6 v1 = 1#1), 16 ∣ (k0_mult6 i v3 v7 v11 v15).toNat := fun i v1 v3 v7 v11 v15 k0_hw1 k0_h6 => k0_hw1.2.2.2.2.2.2.2.2.2.2.2.2.1 k0_h6
theorem k0_off10_inb : ∀ (i : grid0.Coords) (v1 : BitVec 32) (v3 : BitVec 32) (v7 : BitVec 32) (v11 : BitVec 32) (v15 : BitVec 32) (k0_hw1 : k0_chk1 i v1 v3 v7 v11 v15), ∀ (k0_h6 : k0_cond6 v1 = 1#1), ∀ a, (k0_off10 i v3 v7 v11 v15) a + S1280x512.size a ≤ S1792x512.size a := fun i v1 v3 v7 v11 v15 k0_hw1 k0_h6 => k0_hw1.2.2.2.2.2.2.2.2.2.2.2.2.2.1 k0_h6
theorem k0_off11_inb : ∀ (i : grid0.Coords) (v1 : BitVec 32) (v3 : BitVec 32) (v7 : BitVec 32) (v11 : BitVec 32) (v15 : BitVec 32) (k0_hw1 : k0_chk1 i v1 v3 v7 v11 v15), ∀ (k0_h6 : k0_cond6 v1 = 1#1), ∀ a, (k0_off11 i v3 v7 v11 v15) a + S1280x3584.size a ≤ S1792x7168.size a := fun i v1 v3 v7 v11 v15 k0_hw1 k0_h6 => k0_hw1.2.2.2.2.2.2.2.2.2.2.2.2.2.2.1 k0_h6
theorem k0_mult7_dvd : ∀ (i : grid0.Coords) (v1 : BitVec 32) (v3 : BitVec 32) (v7 : BitVec 32) (v11 : BitVec 32) (v15 : BitVec 32) (k0_hw1 : k0_chk1 i v1 v3 v7 v11 v15), ∀ (k0_h7 : k0_cond7 v1 = 1#1), 16 ∣ (k0_mult7 i v3 v7 v11 v15).toNat := fun i v1 v3 v7 v11 v15 k0_hw1 k0_h7 => k0_hw1.2.2.2.2.2.2.2.2.2.2.2.2.2.2.2.1 k0_h7
theorem k0_off12_inb : ∀ (i : grid0.Coords) (v1 : BitVec 32) (v3 : BitVec 32) (v7 : BitVec 32) (v11 : BitVec 32) (v15 : BitVec 32) (k0_hw1 : k0_chk1 i v1 v3 v7 v11 v15), ∀ (k0_h7 : k0_cond7 v1 = 1#1), ∀ a, (k0_off12 i v3 v7 v11 v15) a + S1536x512.size a ≤ S1792x512.size a := fun i v1 v3 v7 v11 v15 k0_hw1 k0_h7 => k0_hw1.2.2.2.2.2.2.2.2.2.2.2.2.2.2.2.2.1 k0_h7
theorem k0_off13_inb : ∀ (i : grid0.Coords) (v1 : BitVec 32) (v3 : BitVec 32) (v7 : BitVec 32) (v11 : BitVec 32) (v15 : BitVec 32) (k0_hw1 : k0_chk1 i v1 v3 v7 v11 v15), ∀ (k0_h7 : k0_cond7 v1 = 1#1), ∀ a, (k0_off13 i v3 v7 v11 v15) a + S1536x3584.size a ≤ S1792x7168.size a := fun i v1 v3 v7 v11 v15 k0_hw1 k0_h7 => k0_hw1.2.2.2.2.2.2.2.2.2.2.2.2.2.2.2.2.2.1 k0_h7
theorem k0_mult8_dvd : ∀ (i : grid0.Coords) (v1 : BitVec 32) (v3 : BitVec 32) (v7 : BitVec 32) (v11 : BitVec 32) (v15 : BitVec 32) (k0_hw1 : k0_chk1 i v1 v3 v7 v11 v15), ∀ (k0_h8 : k0_cond8 v1 = 1#1), 16 ∣ (k0_mult8 i v3 v7 v11 v15).toNat := fun i v1 v3 v7 v11 v15 k0_hw1 k0_h8 => k0_hw1.2.2.2.2.2.2.2.2.2.2.2.2.2.2.2.2.2.2.1 k0_h8
theorem k0_off14_inb : ∀ (i : grid0.Coords) (v1 : BitVec 32) (v3 : BitVec 32) (v7 : BitVec 32) (v11 : BitVec 32) (v15 : BitVec 32) (k0_hw1 : k0_chk1 i v1 v3 v7 v11 v15), ∀ (k0_h8 : k0_cond8 v1 = 1#1), ∀ a, (k0_off14 i v3 v7 v11 v15) a + S1792x512.size a ≤ S1792x512.size a := fun i v1 v3 v7 v11 v15 k0_hw1 k0_h8 => k0_hw1.2.2.2.2.2.2.2.2.2.2.2.2.2.2.2.2.2.2.2.1 k0_h8
theorem k0_off15_inb : ∀ (i : grid0.Coords) (v1 : BitVec 32) (v3 : BitVec 32) (v7 : BitVec 32) (v11 : BitVec 32) (v15 : BitVec 32) (k0_hw1 : k0_chk1 i v1 v3 v7 v11 v15), ∀ (k0_h8 : k0_cond8 v1 = 1#1), ∀ a, (k0_off15 i v3 v7 v11 v15) a + S1792x3584.size a ≤ S1792x7168.size a := fun i v1 v3 v7 v11 v15 k0_hw1 k0_h8 => k0_hw1.2.2.2.2.2.2.2.2.2.2.2.2.2.2.2.2.2.2.2.2 k0_h8

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1792x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1792x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DwIdeal.lean ====
variable {F : FTy → Type} [FloatOps F]
-- ==== DwRefIdeal.lean ====
abbrev S4 : Shape := ⟨1, ![4]⟩
abbrev S1792x4096 : Shape := ⟨2, ![1792, 4096]⟩
abbrev S1792x7168 : Shape := ⟨2, ![1792, 7168]⟩
abbrev S1792 : Shape := ⟨1, ![1792]⟩
abbrev S_ : Shape := ⟨0, ![]⟩
abbrev S1x4 : Shape := ⟨2, ![1, 4]⟩
abbrev S1792x1 : Shape := ⟨2, ![1792, 1]⟩
abbrev S1792x4 : Shape := ⟨2, ![1792, 4]⟩
abbrev S1x1792 : Shape := ⟨2, ![1, 1792]⟩
abbrev S4x1 : Shape := ⟨2, ![4, 1]⟩
abbrev S4x1792 : Shape := ⟨2, ![4, 1792]⟩
abbrev S4x1792x1 : Shape := ⟨3, ![4, 1792, 1]⟩
abbrev S1x1792x4096 : Shape := ⟨3, ![1, 1792, 4096]⟩
abbrev S4x1792x4096 : Shape := ⟨3, ![4, 1792, 4096]⟩
abbrev S4x4096x7168 : Shape := ⟨3, ![4, 4096, 7168]⟩
abbrev S4x1x1 : Shape := ⟨3, ![4, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S4, .i32⟩
  | .hbm, ⟨1, _⟩ => ⟨S4, .f32⟩
  | .hbm, ⟨2, _⟩ => ⟨S4, .f32⟩
  | .hbm, ⟨3, _⟩ => ⟨S1792x4096, .bf16⟩
  | .hbm, ⟨4, _⟩ => ⟨S1792x7168, .bf16⟩
  | .hbm, ⟨5, _⟩ => ⟨S1792, .i32⟩
  | .hbm, ⟨6, _⟩ => ⟨S_, .i32⟩
  | .hbm, ⟨7, _⟩ => ⟨S_, .i32⟩
  | .hbm, ⟨8, _⟩ => ⟨S4, .i32⟩
  | .hbm, ⟨9, _⟩ => ⟨S1x4, .i32⟩
  | .hbm, ⟨10, _⟩ => ⟨S1792x1, .i32⟩
  | .hbm, ⟨11, _⟩ => ⟨S1792x4, .i32⟩
  | .hbm, ⟨12, _⟩ => ⟨S1792x4, .i32⟩
  | .hbm, ⟨13, _⟩ => ⟨S1792x4, .i1⟩
  | .hbm, ⟨14, _⟩ => ⟨S1792x4, .i32⟩
  | .hbm, ⟨15, _⟩ => ⟨S_, .i32⟩
  | .hbm, ⟨16, _⟩ => ⟨S1792, .i32⟩
  | .hbm, ⟨17, _⟩ => ⟨S1x1792, .i32⟩
  | .hbm, ⟨18, _⟩ => ⟨S4, .i32⟩
  | .hbm, ⟨19, _⟩ => ⟨S4x1, .i32⟩
  | .hbm, ⟨20, _⟩ => ⟨S4x1792, .i32⟩
  | .hbm, ⟨21, _⟩ => ⟨S4x1792, .i32⟩
  | .hbm, ⟨22, _⟩ => ⟨S4x1792, .i1⟩
  | .hbm, ⟨23, _⟩ => ⟨S4x1792x1, .i1⟩
  | .hbm, ⟨24, _⟩ => ⟨S1x1792x4096, .bf16⟩
  | .hbm, ⟨25, _⟩ => ⟨S_, .bf16⟩
  | .hbm, ⟨26, _⟩ => ⟨S4x1792x4096, .i1⟩
  | .hbm, ⟨27, _⟩ => ⟨S4x1792x4096, .bf16⟩
  | .hbm, ⟨28, _⟩ => ⟨S4x1792x4096, .bf16⟩
  | .hbm, ⟨29, _⟩ => ⟨S4x1792x4096, .bf16⟩
  | .hbm, ⟨30, _⟩ => ⟨S4x4096x7168, .f32⟩
  | .hbm, ⟨31, _⟩ => ⟨S_, .f32⟩
  | .hbm, ⟨32, _⟩ => ⟨S4, .f32⟩
  | .hbm, ⟨33, _⟩ => ⟨S4, .i1⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S4x1x1, .f32⟩
  | .hbm, ⟨42, _⟩ => ⟨S4x4096x7168, .f32⟩
  | .hbm, ⟨43, _⟩ => ⟨S4x4096x7168, .f32⟩
  | .hbm, ⟨44, _⟩ => ⟨S_, .f32⟩
  | .hbm, ⟨45, _⟩ => ⟨S4, .f32⟩
  | .hbm, ⟨46, _⟩ => ⟨S4, .i1⟩
  | .hbm, ⟨47, _⟩ => ⟨S_, .f32⟩
  | .hbm, ⟨48, _⟩ => ⟨S4, .f32⟩
  | .hbm, ⟨49, _⟩ => ⟨S4, .f32⟩
  | .hbm, ⟨50, _⟩ => ⟨S_, .f32⟩
  | .hbm, ⟨51, _⟩ => ⟨S_, .f32⟩
  | .hbm, ⟨52, _⟩ => ⟨S4, .f32⟩
  | .hbm, ⟨53, _⟩ => ⟨S4, .f32⟩
  | .hbm, ⟨54, _⟩ => ⟨S4x1x1, .f32⟩
  | .hbm, ⟨55, _⟩ => ⟨S4x4096x7168, .f32⟩
  | .hbm, ⟨56, _⟩ => ⟨S4x4096x7168, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_c : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_call2_v0 : Ref sig .tc := ⟨.hbm, 38, rfl⟩
abbrev main_call2_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_call3_v0 : Ref sig .tc := ⟨.hbm, 51, rfl⟩
abbrev main_call3_v1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Dx.lean ====
abbrev S4 : Shape := ⟨1, ![4]⟩
abbrev S1792x4096 : Shape := ⟨2, ![1792, 4096]⟩
abbrev S4x4096x3584 : Shape := ⟨3, ![4, 4096, 3584]⟩
abbrev S4x256x448 : Shape := ⟨3, ![4, 256, 448]⟩
abbrev S1792x7168 : Shape := ⟨2, ![1792, 7168]⟩
abbrev S1x4096x256 : Shape := ⟨3, ![1, 4096, 256]⟩
abbrev S1x256x448 : Shape := ⟨3, ![1, 256, 448]⟩
abbrev S1792x512 : Shape := ⟨2, ![1792, 512]⟩
abbrev S4096x256 : Shape := ⟨2, ![4096, 256]⟩
abbrev S256x256 : Shape := ⟨2, ![256, 256]⟩
abbrev S1 : Shape := ⟨1, ![1]⟩
abbrev S448x256 : Shape := ⟨2, ![448, 256]⟩
abbrev S256x448 : Shape := ⟨2, ![256, 448]⟩
abbrev S1x256x256 : Shape := ⟨3, ![1, 256, 256]⟩
abbrev S64x256 : Shape := ⟨2, ![64, 256]⟩
abbrev S1x256 : Shape := ⟨2, ![1, 256]⟩
abbrev S8x256 : Shape := ⟨2, ![8, 256]⟩
abbrev S16x256 : Shape := ⟨2, ![16, 256]⟩
abbrev S256x128 : Shape := ⟨2, ![256, 128]⟩
abbrev S256x4096 : Shape := ⟨2, ![256, 4096]⟩
abbrev S128x128 : Shape := ⟨2, ![128, 128]⟩
abbrev S256x128x1 : Shape := ⟨3, ![256, 128, 1]⟩

abbrev nBuf : Space → Nat
  | .hbm => 7
  | .vmem => 10
  | .smem => 3
  | _ => 0

abbrev bufTy : (tb : Table) → Fin (tcTables nBuf tb) → BufTy
  | .hbm, ⟨0, _⟩ => ⟨S4, .i32⟩
  | .hbm, ⟨1, _⟩ => ⟨S4, .f32⟩
  | .hbm, ⟨2, _⟩ => ⟨S4, .f32⟩
  | .hbm, ⟨3, _⟩ => ⟨S1792x4096, .bf16⟩
  | .hbm, ⟨4, _⟩ => ⟨S4x4096x3584, .i8⟩
  | .hbm, ⟨5, _⟩ => ⟨S4x256x448, .fp8e4m3⟩
  | .hbm, ⟨6, _⟩ => ⟨S1792x7168, .bf16⟩
  | .local _ .vmem, ⟨0, _⟩ => ⟨S1792x4096, .bf16⟩
  | .local _ .vmem, ⟨1, _⟩ => ⟨S1x4096x256, .i8⟩
  | .local _ .vmem, ⟨2, _⟩ => ⟨S1x4096x256, .i8⟩
  | .local _ .vmem, ⟨3, _⟩ => ⟨S1x256x448, .fp8e4m3⟩
  | .local _ .vmem, ⟨4, _⟩ => ⟨S1x256x448, .fp8e4m3⟩
  | .local _ .vmem, ⟨5, _⟩ => ⟨S1792x512, .bf16⟩
  | .local _ .vmem, ⟨6, _⟩ => ⟨S1792x512, .bf16⟩
  | .local _ .vmem, ⟨7, _⟩ => ⟨S4096x256, .bf16⟩
  | .local _ .vmem, ⟨8, _⟩ => ⟨S4096x256, .bf16⟩
  | .local _ .vmem, ⟨9, _⟩ => ⟨S256x256, .i32⟩
  | .local _ .smem, ⟨0, _⟩ => ⟨S4, .i32⟩
  | .local _ .smem, ⟨1, _⟩ => ⟨S4, .f32⟩
  | .local _ .smem, ⟨2, _⟩ => ⟨S4, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [BitOps F]

abbrev grid0 : Pipeline.Grid := ⟨2, ![14, 4], ![false, false]⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32_15 : BitVec 32 := 0#32
  let c16_i32 : BitVec 32 := 16#32
  let v44 : BitVec 32 := Scalar.addi c0_i32_15 c16_i32
  let c1_i32_16 : BitVec 32 := 1#32
  ⟨c0_i32_15, v44, c1_i32_16⟩
def k0_mult1 (k0_t1 : Fin k0_t1_loop.trips) : BitVec 32 :=
  let c0_i32_15 : BitVec 32 := 0#32
  let c1_i32_16 : BitVec 32 := 1#32
  let arg12 : BitVec 32 := Scf.iv c0_i32_15 c1_i32_16 k0_t1
  let c256_i32_29 : BitVec 32 := 256#32
  let v66 : BitVec 32 := Scalar.muli arg12 c256_i32_29
  v66
def k0_off2 (k0_t1 : Fin k0_t1_loop.trips) : Fin 3 → Nat :=
  let c0_30 : Index := 0#32
  let c0_i32_15 : BitVec 32 := 0#32
  let c1_i32_16 : BitVec 32 := 1#32
  let arg12 : BitVec 32 := Scf.iv c0_i32_15 c1_i32_16 k0_t1
  let c256_i32_29 : BitVec 32 := 256#32
  let v66 : BitVec 32 := Scalar.muli arg12 c256_i32_29
  let v67 : BitVec 32 := v66
  let v68 : Index := Scalar.indexCast v67
  let c0_31 : Index := 0#32
  ![0, v68.toNat, 0]
def k0_off3 (k0_t1 : Fin k0_t1_loop.trips) (c0_i32_35 : BitVec 32) : Fin 2 → Nat :=
  let c0_i32_15 : BitVec 32 := 0#32
  let c1_i32_16 : BitVec 32 := 1#32
  let arg12 : BitVec 32 := Scf.iv c0_i32_15 c1_i32_16 k0_t1
  let c16_i32_34 : BitVec 32 := 16#32
  let v92 : BitVec 32 := Scalar.muli arg12 c16_i32_34
  let v93 : BitVec 32 := Scalar.addi v92 c0_i32_35
  let v94 : Index := Scalar.indexCast v93
  let c0_36 : Index := 0#32
  ![v94.toNat, 0]
def k0_off4 (k0_t1 : Fin k0_t1_loop.trips) (c0_i32_37 : BitVec 32) : Fin 2 → Nat :=
  let c0_i32_15 : BitVec 32 := 0#32
  let c1_i32_16 : BitVec 32 := 1#32
  let arg12 : BitVec 32 := Scf.iv c0_i32_15 c1_i32_16 k0_t1
  let c256_i32_29 : BitVec 32 := 256#32
  let v66 : BitVec 32 := Scalar.muli arg12 c256_i32_29
  let v67 : BitVec 32 := v66
  let v98 : BitVec 32 := Scalar.addi v67 c0_i32_37
  let v101 : Index := Scalar.indexCast v98
  let c0_38 : Index := 0#32
  ![v101.toNat, 0]
def k0_off5 (i : grid0.Coords) : Fin 1 → Nat :=
  let arg1 : BitVec 32 := BitVec.ofNat 32 (i 1).val
  let v45 : Index := Scalar.indexCast arg1
  ![v45.toNat]
@[reducible] def k0_t2_loop (v1 : BitVec 32) : Scf.Loop 32 :=
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_27 : BitVec 32 := 1#32
  ⟨c0_i32_24, v63, c1_i32_27⟩
def k0_cond1 (v1 : BitVec 32) : BitVec 1 :=
  let c0_i32_5 : BitVec 32 := 0#32
  let v18 : BitVec 1 := Scalar.cmpi .sgt v1 c0_i32_5
  let v19 : BitVec 32 := Scalar.extui v18
  let c0_i32_6 : BitVec 32 := 0#32
  let v20 : BitVec 1 := Scalar.cmpi .ne v19 c0_i32_6
  v20

def k0_mult2 (i : grid0.Coords) (v1 : BitVec 32) (v3 : BitVec 32) (v7 : BitVec 32) (v11 : BitVec 32) (v15 : BitVec 32) (k0_t2 : Fin (k0_t2_loop v1).trips) : BitVec 32 :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c1_i32_27 : BitVec 32 := 1#32
  let arg12 : BitVec 32 := Scf.iv c0_i32_24 c1_i32_27 k0_t2
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  v68

def k0_off6 (i : grid0.Coords) (v1 : BitVec 32) (v3 : BitVec 32) (v7 : BitVec 32) (v11 : BitVec 32) (v15 : BitVec 32) (k0_t2 : Fin (k0_t2_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c1_i32_27 : BitVec 32 := 1#32
  let arg12 : BitVec 32 := Scf.iv c0_i32_24 c1_i32_27 k0_t2
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v70 : Index := Scalar.indexCast v69
  let c0_30 : Index := 0#32
  ![v70.toNat, 0]
def k0_off7 (i : grid0.Coords) (v1 : BitVec 32) (v3 : BitVec 32) (v7 : BitVec 32) (v11 : BitVec 32) (v15 : BitVec 32) (k0_t2 : Fin (k0_t2_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c1_i32_27 : BitVec 32 := 1#32
  let arg12 : BitVec 32 := Scf.iv c0_i32_24 c1_i32_27 k0_t2
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v114 : Index := Scalar.indexCast v69
  let c0_45 : Index := 0#32
  ![v114.toNat, 0]
def k0_off8 (i : grid0.Coords) (v1 : BitVec 32) (v3 : BitVec 32) (v7 : BitVec 32) (v11 : BitVec 32) (v15 : BitVec 32) (k0_t2 : Fin (k0_t2_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c1_i32_27 : BitVec 32 := 1#32
  let arg12 : BitVec 32 := Scf.iv c0_i32_24 c1_i32_27 k0_t2
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v151 : Index := Scalar.indexCast v69
  let c128 : Index := 128#32
  ![v151.toNat, 128]
def k0_off9 (i : grid0.Coords) (v1 : BitVec 32) (v3 : BitVec 32) (v7 : BitVec 32) (v11 : BitVec 32) (v15 : BitVec 32) (k0_t2 : Fin (k0_t2_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c1_i32_27 : BitVec 32 := 1#32
  let arg12 : BitVec 32 := Scf.iv c0_i32_24 c1_i32_27 k0_t2
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v188 : Index := Scalar.indexCast v69
  let c256 : Index := 256#32
  ![v188.toNat, 256]
def k0_off10 (i : grid0.Coords) (v1 : BitVec 32) (v3 : BitVec 32) (v7 : BitVec 32) (v11 : BitVec 32) (v15 : BitVec 32) (k0_t2 : Fin (k0_t2_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c1_i32_27 : BitVec 32 := 1#32
  let arg12 : BitVec 32 := Scf.iv c0_i32_24 c1_i32_27 k0_t2
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v225 : Index := Scalar.indexCast v69
  let c384 : Index := 384#32
  ![v225.toNat, 384]
@[reducible] def k0_t3_loop (v1 : BitVec 32) : Scf.Loop 32 :=
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let v60 : BitVec 32 := Scalar.addi c0_i32_24 v59
  let c1_i32_28 : BitVec 32 := 1#32
  ⟨v63, v60, c1_i32_28⟩

def k0_chk1 (v1 : BitVec 32) : Prop :=
  (∀ (k0_h1 : k0_cond1 v1 = 1#1), (k0_t2_loop v1).OK) ∧
  (∀ (k0_h1 : k0_cond1 v1 = 1#1), (k0_t3_loop v1).OK)
theorem k0_t2_ok : ∀ (v1 : BitVec 32) (k0_hw1 : k0_chk1 v1), ∀ (k0_h1 : k0_cond1 v1 = 1#1), (k0_t2_loop v1).OK := fun v1 k0_hw1 k0_h1 => k0_hw1.1 k0_h1
theorem k0_t3_ok : ∀ (v1 : BitVec 32) (k0_hw1 : k0_chk1 v1), ∀ (k0_h1 : k0_cond1 v1 = 1#1), (k0_t3_loop v1).OK := fun v1 k0_hw1 k0_h1 => k0_hw1.2 k0_h1

def k0_mult3 (i : grid0.Coords) (v1 : BitVec 32) (v3 : BitVec 32) (v7 : BitVec 32) (v11 : BitVec 32) (v15 : BitVec 32) (k0_t3 : Fin (k0_t3_loop v1).trips) : BitVec 32 :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg12 : BitVec 32 := Scf.iv v63 c1_i32_28 k0_t3
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  v68
def k0_off11 (i : grid0.Coords) (v1 : BitVec 32) (v3 : BitVec 32) (v7 : BitVec 32) (v11 : BitVec 32) (v15 : BitVec 32) (k0_t3 : Fin (k0_t3_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg12 : BitVec 32 := Scf.iv v63 c1_i32_28 k0_t3
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v70 : Index := Scalar.indexCast v69
  let c0_30 : Index := 0#32
  ![v70.toNat, 0]
def k0_off12 (i : grid0.Coords) (v1 : BitVec 32) (v3 : BitVec 32) (v7 : BitVec 32) (v11 : BitVec 32) (v15 : BitVec 32) (k0_t3 : Fin (k0_t3_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg12 : BitVec 32 := Scf.iv v63 c1_i32_28 k0_t3
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v114 : Index := Scalar.indexCast v69
  let c0_45 : Index := 0#32
  ![v114.toNat, 0]
def k0_off13 (i : grid0.Coords) (v1 : BitVec 32) (v3 : BitVec 32) (v7 : BitVec 32) (v11 : BitVec 32) (v15 : BitVec 32) (k0_t3 : Fin (k0_t3_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg12 : BitVec 32 := Scf.iv v63 c1_i32_28 k0_t3
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v151 : Index := Scalar.indexCast v69
  let c128 : Index := 128#32
  ![v151.toNat, 128]
def k0_off14 (i : grid0.Coords) (v1 : BitVec 32) (v3 : BitVec 32) (v7 : BitVec 32) (v11 : BitVec 32) (v15 : BitVec 32) (k0_t3 : Fin (k0_t3_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg12 : BitVec 32 := Scf.iv v63 c1_i32_28 k0_t3
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v188 : Index := Scalar.indexCast v69
  let c256 : Index := 256#32
  ![v188.toNat, 256]
def k0_off15 (i : grid0.Coords) (v1 : BitVec 32) (v3 : BitVec 32) (v7 : BitVec 32) (v11 : BitVec 32) (v15 : BitVec 32) (k0_t3 : Fin (k0_t3_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg12 : BitVec 32 := Scf.iv v63 c1_i32_28 k0_t3
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v225 : Index := Scalar.indexCast v69
  let c384 : Index := 384#32
  ![v225.toNat, 384]

def k0_chk2 (i : grid0.Coords) (v1 : BitVec 32) (v3 : BitVec 32) (v7 : BitVec 32) (v11 : BitVec 32) (v15 : BitVec 32) : Prop :=
  (∀ k0_t2 : Fin (k0_t2_loop v1).trips, ∀ (k0_h1 : k0_cond1 v1 = 1#1), 16 ∣ (k0_mult2 i v1 v3 v7 v11 v15 k0_t2).toNat) ∧
  (∀ k0_t2 : Fin (k0_t2_loop v1).trips, ∀ (k0_h1 : k0_cond1 v1 = 1#1), ∀ a, (k0_off6 i v1 v3 v7 v11 v15 k0_t2) a + S256x4096.size a ≤ S1792x4096.size a) ∧
  (∀ k0_t2 : Fin (k0_t2_loop v1).trips, ∀ (k0_h1 : k0_cond1 v1 = 1#1), ∀ a, (k0_off7 i v1 v3 v7 v11 v15 k0_t2) a + S256x128.size a ≤ S1792x512.size a) ∧
  (∀ k0_t2 : Fin (k0_t2_loop v1).trips, ∀ (k0_h1 : k0_cond1 v1 = 1#1), ∀ (hinb : ∀ a, (k0_off7 i v1 v3 v7 v11 v15 k0_t2) a + S256x128.size a ≤ S1792x512.size a), (Rect.unit (s := S1792x512) (k0_off7 i v1 v3 v7 v11 v15 k0_t2) S256x128.size hinb).PackedRows (EltTy.packing .bf16)) ∧
  (∀ k0_t2 : Fin (k0_t2_loop v1).trips, ∀ (k0_h1 : k0_cond1 v1 = 1#1), ∀ a, (k0_off8 i v1 v3 v7 v11 v15 k0_t2) a + S256x128.size a ≤ S1792x512.size a) ∧
  (∀ k0_t2 : Fin (k0_t2_loop v1).trips, ∀ (k0_h1 : k0_cond1 v1 = 1#1), ∀ (hinb : ∀ a, (k0_off8 i v1 v3 v7 v11 v15 k0_t2) a + S256x128.size a ≤ S1792x512.size a), (Rect.unit (s := S1792x512) (k0_off8 i v1 v3 v7 v11 v15 k0_t2) S256x128.size hinb).PackedRows (EltTy.packing .bf16)) ∧
  (∀ k0_t2 : Fin (k0_t2_loop v1).trips, ∀ (k0_h1 : k0_cond1 v1 = 1#1), ∀ a, (k0_off9 i v1 v3 v7 v11 v15 k0_t2) a + S256x128.size a ≤ S1792x512.size a) ∧
  (∀ k0_t2 : Fin (k0_t2_loop v1).trips, ∀ (k0_h1 : k0_cond1 v1 = 1#1), ∀ (hinb : ∀ a, (k0_off9 i v1 v3 v7 v11 v15 k0_t2) a + S256x128.size a ≤ S1792x512.size a), (Rect.unit (s := S1792x512) (k0_off9 i v1 v3 v7 v11 v15 k0_t2) S256x128.size hinb).PackedRows (EltTy.packing .bf16)) ∧
  (∀ k0_t2 : Fin (k0_t2_loop v1).trips, ∀ (k0_h1 : k0_cond1 v1 = 1#1), ∀ a, (k0_off10 i v1 v3 v7 v11 v15 k0_t2) a + S256x128.size a ≤ S1792x512.size a) ∧
  (∀ k0_t2 : Fin (k0_t2_loop v1).trips, ∀ (k0_h1 : k0_cond1 v1 = 1#1), ∀ (hinb : ∀ a, (k0_off10 i v1 v3 v7 v11 v15 k0_t2) a + S256x128.size a ≤ S1792x512.size a), (Rect.unit (s := S1792x512) (k0_off10 i v1 v3 v7 v11 v15 k0_t2) S256x128.size hinb).PackedRows (EltTy.packing .bf16)) ∧
  (∀ k0_t3 : Fin (k0_t3_loop v1).trips, ∀ (k0_h1 : k0_cond1 v1 = 1#1), 16 ∣ (k0_mult3 i v1 v3 v7 v11 v15 k0_t3).toNat) ∧
  (∀ k0_t3 : Fin (k0_t3_loop v1).trips, ∀ (k0_h1 : k0_cond1 v1 = 1#1), ∀ a, (k0_off11 i v1 v3 v7 v11 v15 k0_t3) a + S256x4096.size a ≤ S1792x4096.size a) ∧
  (∀ k0_t3 : Fin (k0_t3_loop v1).trips, ∀ (k0_h1 : k0_cond1 v1 = 1#1), ∀ a, (k0_off12 i v1 v3 v7 v11 v15 k0_t3) a + S256x128.size a ≤ S1792x512.size a) ∧
  (∀ k0_t3 : Fin (k0_t3_loop v1).trips, ∀ (k0_h1 : k0_cond1 v1 = 1#1), ∀ (hinb : ∀ a, (k0_off12 i v1 v3 v7 v11 v15 k0_t3) a + S256x128.size a ≤ S1792x512.size a), (Rect.unit (s := S1792x512) (k0_off12 i v1 v3 v7 v11 v15 k0_t3) S256x128.size hinb).PackedRows (EltTy.packing .bf16)) ∧
  (∀ k0_t3 : Fin (k0_t3_loop v1).trips, ∀ (k0_h1 : k0_cond1 v1 = 1#1), ∀ a, (k0_off13 i v1 v3 v7 v11 v15 k0_t3) a + S256x128.size a ≤ S1792x512.size a) ∧
  (∀ k0_t3 : Fin (k0_t3_loop v1).trips, ∀ (k0_h1 : k0_cond1 v1 = 1#1), ∀ (hinb : ∀ a, (k0_off13 i v1 v3 v7 v11 v15 k0_t3) a + S256x128.size a ≤ S1792x512.size a), (Rect.unit (s := S1792x512) (k0_off13 i v1 v3 v7 v11 v15 k0_t3) S256x128.size hinb).PackedRows (EltTy.packing .bf16)) ∧
  (∀ k0_t3 : Fin (k0_t3_loop v1).trips, ∀ (k0_h1 : k0_cond1 v1 = 1#1), ∀ a, (k0_off14 i v1 v3 v7 v11 v15 k0_t3) a + S256x128.size a ≤ S1792x512.size a) ∧
  (∀ k0_t3 : Fin (k0_t3_loop v1).trips, ∀ (k0_h1 : k0_cond1 v1 = 1#1), ∀ (hinb : ∀ a, (k0_off14 i v1 v3 v7 v11 v15 k0_t3) a + S256x128.size a ≤ S1792x512.size a), (Rect.unit (s := S1792x512) (k0_off14 i v1 v3 v7 v11 v15 k0_t3) S256x128.size hinb).PackedRows (EltTy.packing .bf16)) ∧
  (∀ k0_t3 : Fin (k0_t3_loop v1).trips, ∀ (k0_h1 : k0_cond1 v1 = 1#1), ∀ a, (k0_off15 i v1 v3 v7 v11 v15 k0_t3) a + S256x128.size a ≤ S1792x512.size a) ∧
  (∀ k0_t3 : Fin (k0_t3_loop v1).trips, ∀ (k0_h1 : k0_cond1 v1 = 1#1), ∀ (hinb : ∀ a, (k0_off15 i v1 v3 v7 v11 v15 k0_t3) a + S256x128.size a ≤ S1792x512.size a), (Rect.unit (s := S1792x512) (k0_off15 i v1 v3 v7 v11 v15 k0_t3) S256x128.size hinb).PackedRows (EltTy.packing .bf16))
theorem k0_mult2_dvd : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), 16 ∣ (k0_mult2 i v1 v3 v7 v11 v15 k0_t2).toNat := fun i v1 v3 v7 v11 v15 k0_hw2 k0_t2 k0_h1 => k0_hw2.1 k0_t2 k0_h1
theorem k0_off6_inb : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), ∀ a, (k0_off6 i v1 v3 v7 v11 v15 k0_t2) a + S256x4096.size a ≤ S1792x4096.size a := fun i v1 v3 v7 v11 v15 k0_hw2 k0_t2 k0_h1 => k0_hw2.2.1 k0_t2 k0_h1
theorem k0_off7_inb : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), ∀ a, (k0_off7 i v1 v3 v7 v11 v15 k0_t2) a + S256x128.size a ≤ S1792x512.size a := fun i v1 v3 v7 v11 v15 k0_hw2 k0_t2 k0_h1 => k0_hw2.2.2.1 k0_t2 k0_h1
theorem k0_off7_packedbf16 : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), (Rect.unit (s := S1792x512) (k0_off7 i v1 v3 v7 v11 v15 k0_t2) S256x128.size (k0_off7_inb i v1 v3 v7 v11 v15 k0_hw2 k0_t2 k0_h1)).PackedRows (EltTy.packing .bf16) := fun i v1 v3 v7 v11 v15 k0_hw2 k0_t2 k0_h1 => k0_hw2.2.2.2.1 k0_t2 k0_h1 (k0_off7_inb i v1 v3 v7 v11 v15 k0_hw2 k0_t2 k0_h1)
theorem k0_off8_inb : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), ∀ a, (k0_off8 i v1 v3 v7 v11 v15 k0_t2) a + S256x128.size a ≤ S1792x512.size a := fun i v1 v3 v7 v11 v15 k0_hw2 k0_t2 k0_h1 => k0_hw2.2.2.2.2.1 k0_t2 k0_h1
theorem k0_off8_packedbf16 : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), (Rect.unit (s := S1792x512) (k0_off8 i v1 v3 v7 v11 v15 k0_t2) S256x128.size (k0_off8_inb i v1 v3 v7 v11 v15 k0_hw2 k0_t2 k0_h1)).PackedRows (EltTy.packing .bf16) := fun i v1 v3 v7 v11 v15 k0_hw2 k0_t2 k0_h1 => k0_hw2.2.2.2.2.2.1 k0_t2 k0_h1 (k0_off8_inb i v1 v3 v7 v11 v15 k0_hw2 k0_t2 k0_h1)
theorem k0_off9_inb : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), ∀ a, (k0_off9 i v1 v3 v7 v11 v15 k0_t2) a + S256x128.size a ≤ S1792x512.size a := fun i v1 v3 v7 v11 v15 k0_hw2 k0_t2 k0_h1 => k0_hw2.2.2.2.2.2.2.1 k0_t2 k0_h1
theorem k0_off9_packedbf16 : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), (Rect.unit (s := S1792x512) (k0_off9 i v1 v3 v7 v11 v15 k0_t2) S256x128.size (k0_off9_inb i v1 v3 v7 v11 v15 k0_hw2 k0_t2 k0_h1)).PackedRows (EltTy.packing .bf16) := fun i v1 v3 v7 v11 v15 k0_hw2 k0_t2 k0_h1 => k0_hw2.2.2.2.2.2.2.2.1 k0_t2 k0_h1 (k0_off9_inb i v1 v3 v7 v11 v15 k0_hw2 k0_t2 k0_h1)
theorem k0_off10_inb : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), ∀ a, (k0_off10 i v1 v3 v7 v11 v15 k0_t2) a + S256x128.size a ≤ S1792x512.size a := fun i v1 v3 v7 v11 v15 k0_hw2 k0_t2 k0_h1 => k0_hw2.2.2.2.2.2.2.2.2.1 k0_t2 k0_h1
theorem k0_off10_packedbf16 : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), (Rect.unit (s := S1792x512) (k0_off10 i v1 v3 v7 v11 v15 k0_t2) S256x128.size (k0_off10_inb i v1 v3 v7 v11 v15 k0_hw2 k0_t2 k0_h1)).PackedRows (EltTy.packing .bf16) := fun i v1 v3 v7 v11 v15 k0_hw2 k0_t2 k0_h1 => k0_hw2.2.2.2.2.2.2.2.2.2.1 k0_t2 k0_h1 (k0_off10_inb i v1 v3 v7 v11 v15 k0_hw2 k0_t2 k0_h1)
theorem k0_mult3_dvd : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), 16 ∣ (k0_mult3 i v1 v3 v7 v11 v15 k0_t3).toNat := fun i v1 v3 v7 v11 v15 k0_hw2 k0_t3 k0_h1 => k0_hw2.2.2.2.2.2.2.2.2.2.2.1 k0_t3 k0_h1
theorem k0_off11_inb : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), ∀ a, (k0_off11 i v1 v3 v7 v11 v15 k0_t3) a + S256x4096.size a ≤ S1792x4096.size a := fun i v1 v3 v7 v11 v15 k0_hw2 k0_t3 k0_h1 => k0_hw2.2.2.2.2.2.2.2.2.2.2.2.1 k0_t3 k0_h1
theorem k0_off12_inb : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), ∀ a, (k0_off12 i v1 v3 v7 v11 v15 k0_t3) a + S256x128.size a ≤ S1792x512.size a := fun i v1 v3 v7 v11 v15 k0_hw2 k0_t3 k0_h1 => k0_hw2.2.2.2.2.2.2.2.2.2.2.2.2.1 k0_t3 k0_h1
theorem k0_off12_packedbf16 : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), (Rect.unit (s := S1792x512) (k0_off12 i v1 v3 v7 v11 v15 k0_t3) S256x128.size (k0_off12_inb i v1 v3 v7 v11 v15 k0_hw2 k0_t3 k0_h1)).PackedRows (EltTy.packing .bf16) := fun i v1 v3 v7 v11 v15 k0_hw2 k0_t3 k0_h1 => k0_hw2.2.2.2.2.2.2.2.2.2.2.2.2.2.1 k0_t3 k0_h1 (k0_off12_inb i v1 v3 v7 v11 v15 k0_hw2 k0_t3 k0_h1)
theorem k0_off13_inb : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), ∀ a, (k0_off13 i v1 v3 v7 v11 v15 k0_t3) a + S256x128.size a ≤ S1792x512.size a := fun i v1 v3 v7 v11 v15 k0_hw2 k0_t3 k0_h1 => k0_hw2.2.2.2.2.2.2.2.2.2.2.2.2.2.2.1 k0_t3 k0_h1
theorem k0_off13_packedbf16 : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), (Rect.unit (s := S1792x512) (k0_off13 i v1 v3 v7 v11 v15 k0_t3) S256x128.size (k0_off13_inb i v1 v3 v7 v11 v15 k0_hw2 k0_t3 k0_h1)).PackedRows (EltTy.packing .bf16) := fun i v1 v3 v7 v11 v15 k0_hw2 k0_t3 k0_h1 => k0_hw2.2.2.2.2.2.2.2.2.2.2.2.2.2.2.2.1 k0_t3 k0_h1 (k0_off13_inb i v1 v3 v7 v11 v15 k0_hw2 k0_t3 k0_h1)
theorem k0_off14_inb : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), ∀ a, (k0_off14 i v1 v3 v7 v11 v15 k0_t3) a + S256x128.size a ≤ S1792x512.size a := fun i v1 v3 v7 v11 v15 k0_hw2 k0_t3 k0_h1 => k0_hw2.2.2.2.2.2.2.2.2.2.2.2.2.2.2.2.2.1 k0_t3 k0_h1
theorem k0_off14_packedbf16 : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), (Rect.unit (s := S1792x512) (k0_off14 i v1 v3 v7 v11 v15 k0_t3) S256x128.size (k0_off14_inb i v1 v3 v7 v11 v15 k0_hw2 k0_t3 k0_h1)).PackedRows (EltTy.packing .bf16) := fun i v1 v3 v7 v11 v15 k0_hw2 k0_t3 k0_h1 => k0_hw2.2.2.2.2.2.2.2.2.2.2.2.2.2.2.2.2.2.1 k0_t3 k0_h1 (k0_off14_inb i v1 v3 v7 v11 v15 k0_hw2 k0_t3 k0_h1)
theorem k0_off15_inb : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), ∀ a, (k0_off15 i v1 v3 v7 v11 v15 k0_t3) a + S256x128.size a ≤ S1792x512.size a := fun i v1 v3 v7 v11 v15 k0_hw2 k0_t3 k0_h1 => k0_hw2.2.2.2.2.2.2.2.2.2.2.2.2.2.2.2.2.2.2.1 k0_t3 k0_h1
theorem k0_off15_packedbf16 : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), (Rect.unit (s := S1792x512) (k0_off15 i v1 v3 v7 v11 v15 k0_t3) S256x128.size (k0_off15_inb i v1 v3 v7 v11 v15 k0_hw2 k0_t3 k0_h1)).PackedRows (EltTy.packing .bf16) := fun i v1 v3 v7 v11 v15 k0_hw2 k0_t3 k0_h1 => k0_hw2.2.2.2.2.2.2.2.2.2.2.2.2.2.2.2.2.2.2.2 k0_t3 k0_h1 (k0_off15_inb i v1 v3 v7 v11 v15 k0_hw2 k0_t3 k0_h1)

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1792x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x448 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1792x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DxIdeal.lean ====
abbrev S4 : Shape := ⟨1, ![4]⟩
abbrev S1792x4096 : Shape := ⟨2, ![1792, 4096]⟩
abbrev S4x4096x3584 : Shape := ⟨3, ![4, 4096, 3584]⟩
abbrev S4x256x448 : Shape := ⟨3, ![4, 256, 448]⟩
abbrev S1792x7168 : Shape := ⟨2, ![1792, 7168]⟩
abbrev S1x4096x256 : Shape := ⟨3, ![1, 4096, 256]⟩
abbrev S1x256x448 : Shape := ⟨3, ![1, 256, 448]⟩
abbrev S1792x512 : Shape := ⟨2, ![1792, 512]⟩
abbrev S4096x256 : Shape := ⟨2, ![4096, 256]⟩
abbrev S256x256 : Shape := ⟨2, ![256, 256]⟩
abbrev S256x2x256 : Shape := ⟨3, ![256, 2, 256]⟩
abbrev S256x1x256 : Shape := ⟨3, ![256, 1, 256]⟩
abbrev S1 : Shape := ⟨1, ![1]⟩
abbrev S448x256 : Shape := ⟨2, ![448, 256]⟩
abbrev S256x448 : Shape := ⟨2, ![256, 448]⟩
abbrev S1x256x256 : Shape := ⟨3, ![1, 256, 256]⟩
abbrev S64x256 : Shape := ⟨2, ![64, 256]⟩
abbrev S1x256 : Shape := ⟨2, ![1, 256]⟩
abbrev S1x2x256 : Shape := ⟨3, ![1, 2, 256]⟩
abbrev S1x1x256 : Shape := ⟨3, ![1, 1, 256]⟩
abbrev S8x256 : Shape := ⟨2, ![8, 256]⟩
abbrev S16x256 : Shape := ⟨2, ![16, 256]⟩
abbrev S256x128 : Shape := ⟨2, ![256, 128]⟩
abbrev S256x4096 : Shape := ⟨2, ![256, 4096]⟩
abbrev S128x128 : Shape := ⟨2, ![128, 128]⟩
abbrev S256x128x1 : Shape := ⟨3, ![256, 128, 1]⟩

abbrev nBuf : Space → Nat
  | .hbm => 7
  | .vmem => 10
  | .smem => 3
  | _ => 0

abbrev bufTy : (tb : Table) → Fin (tcTables nBuf tb) → BufTy
  | .hbm, ⟨0, _⟩ => ⟨S4, .i32⟩
  | .hbm, ⟨1, _⟩ => ⟨S4, .f32⟩
  | .hbm, ⟨2, _⟩ => ⟨S4, .f32⟩
  | .hbm, ⟨3, _⟩ => ⟨S1792x4096, .bf16⟩
  | .hbm, ⟨4, _⟩ => ⟨S4x4096x3584, .i8⟩
  | .hbm, ⟨5, _⟩ => ⟨S4x256x448, .fp8e4m3⟩
  | .hbm, ⟨6, _⟩ => ⟨S1792x7168, .bf16⟩
  | .local _ .vmem, ⟨0, _⟩ => ⟨S1792x4096, .bf16⟩
  | .local _ .vmem, ⟨1, _⟩ => ⟨S1x4096x256, .i8⟩
  | .local _ .vmem, ⟨2, _⟩ => ⟨S1x4096x256, .i8⟩
  | .local _ .vmem, ⟨3, _⟩ => ⟨S1x256x448, .fp8e4m3⟩
  | .local _ .vmem, ⟨4, _⟩ => ⟨S1x256x448, .fp8e4m3⟩
  | .local _ .vmem, ⟨5, _⟩ => ⟨S1792x512, .bf16⟩
  | .local _ .vmem, ⟨6, _⟩ => ⟨S1792x512, .bf16⟩
  | .local _ .vmem, ⟨7, _⟩ => ⟨S4096x256, .bf16⟩
  | .local _ .vmem, ⟨8, _⟩ => ⟨S4096x256, .bf16⟩
  | .local _ .vmem, ⟨9, _⟩ => ⟨S256x2x256, .bf16⟩
  | .local _ .smem, ⟨0, _⟩ => ⟨S4, .i32⟩
  | .local _ .smem, ⟨1, _⟩ => ⟨S4, .f32⟩
  | .local _ .smem, ⟨2, _⟩ => ⟨S4, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![14, 4], ![false, false]⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32_15 : BitVec 32 := 0#32
  let c16_i32 : BitVec 32 := 16#32
  let v44 : BitVec 32 := Scalar.addi c0_i32_15 c16_i32
  let c1_i32_16 : BitVec 32 := 1#32
  ⟨c0_i32_15, v44, c1_i32_16⟩
def k0_mult1 (k0_t1 : Fin k0_t1_loop.trips) : BitVec 32 :=
  let c0_i32_15 : BitVec 32 := 0#32
  let c1_i32_16 : BitVec 32 := 1#32
  let arg12 : BitVec 32 := Scf.iv c0_i32_15 c1_i32_16 k0_t1
  let c256_i32_29 : BitVec 32 := 256#32
  let v66 : BitVec 32 := Scalar.muli arg12 c256_i32_29
  v66
def k0_off2 (k0_t1 : Fin k0_t1_loop.trips) : Fin 3 → Nat :=
  let c0_30 : Index := 0#32
  let c0_i32_15 : BitVec 32 := 0#32
  let c1_i32_16 : BitVec 32 := 1#32
  let arg12 : BitVec 32 := Scf.iv c0_i32_15 c1_i32_16 k0_t1
  let c256_i32_29 : BitVec 32 := 256#32
  let v66 : BitVec 32 := Scalar.muli arg12 c256_i32_29
  let v67 : BitVec 32 := v66
  let v68 : Index := Scalar.indexCast v67
  let c0_31 : Index := 0#32
  ![0, v68.toNat, 0]
def k0_off3 (k0_t1 : Fin k0_t1_loop.trips) (c0_i32_35 : BitVec 32) : Fin 3 → Nat :=
  let c0_i32_15 : BitVec 32 := 0#32
  let c1_i32_16 : BitVec 32 := 1#32
  let arg12 : BitVec 32 := Scf.iv c0_i32_15 c1_i32_16 k0_t1
  let c16_i32_34 : BitVec 32 := 16#32
  let v92 : BitVec 32 := Scalar.muli arg12 c16_i32_34
  let v93 : BitVec 32 := Scalar.addi v92 c0_i32_35
  let v94 : Index := Scalar.indexCast v93
  let c0_36 : Index := 0#32
  ![v94.toNat, 0, 0]
def k0_off4 (k0_t1 : Fin k0_t1_loop.trips) (c0_i32_37 : BitVec 32) : Fin 2 → Nat :=
  let c0_i32_15 : BitVec 32 := 0#32
  let c1_i32_16 : BitVec 32 := 1#32
  let arg12 : BitVec 32 := Scf.iv c0_i32_15 c1_i32_16 k0_t1
  let c256_i32_29 : BitVec 32 := 256#32
  let v66 : BitVec 32 := Scalar.muli arg12 c256_i32_29
  let v67 : BitVec 32 := v66
  let v98 : BitVec 32 := Scalar.addi v67 c0_i32_37
  let v101 : Index := Scalar.indexCast v98
  let c0_38 : Index := 0#32
  ![v101.toNat, 0]
def k0_off5 (i : grid0.Coords) : Fin 1 → Nat :=
  let arg1 : BitVec 32 := BitVec.ofNat 32 (i 1).val
  let v45 : Index := Scalar.indexCast arg1
  ![v45.toNat]
@[reducible] def k0_t2_loop (v1 : BitVec 32) : Scf.Loop 32 :=
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_27 : BitVec 32 := 1#32
  ⟨c0_i32_24, v63, c1_i32_27⟩
def k0_cond1 (v1 : BitVec 32) : BitVec 1 :=
  let c0_i32_5 : BitVec 32 := 0#32
  let v18 : BitVec 1 := Scalar.cmpi .sgt v1 c0_i32_5
  let v19 : BitVec 32 := Scalar.extui v18
  let c0_i32_6 : BitVec 32 := 0#32
  let v20 : BitVec 1 := Scalar.cmpi .ne v19 c0_i32_6
  v20

def k0_mult2 (i : grid0.Coords) (v1 : BitVec 32) (v3 : BitVec 32) (v7 : BitVec 32) (v11 : BitVec 32) (v15 : BitVec 32) (k0_t2 : Fin (k0_t2_loop v1).trips) : BitVec 32 :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c1_i32_27 : BitVec 32 := 1#32
  let arg12 : BitVec 32 := Scf.iv c0_i32_24 c1_i32_27 k0_t2
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  v68

def k0_off6 (i : grid0.Coords) (v1 : BitVec 32) (v3 : BitVec 32) (v7 : BitVec 32) (v11 : BitVec 32) (v15 : BitVec 32) (k0_t2 : Fin (k0_t2_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c1_i32_27 : BitVec 32 := 1#32
  let arg12 : BitVec 32 := Scf.iv c0_i32_24 c1_i32_27 k0_t2
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v70 : Index := Scalar.indexCast v69
  let c0_30 : Index := 0#32
  ![v70.toNat, 0]
def k0_off7 (i : grid0.Coords) (v1 : BitVec 32) (v3 : BitVec 32) (v7 : BitVec 32) (v11 : BitVec 32) (v15 : BitVec 32) (k0_t2 : Fin (k0_t2_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c1_i32_27 : BitVec 32 := 1#32
  let arg12 : BitVec 32 := Scf.iv c0_i32_24 c1_i32_27 k0_t2
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v114 : Index := Scalar.indexCast v69
  let c0_45 : Index := 0#32
  ![v114.toNat, 0]
def k0_off8 (i : grid0.Coords) (v1 : BitVec 32) (v3 : BitVec 32) (v7 : BitVec 32) (v11 : BitVec 32) (v15 : BitVec 32) (k0_t2 : Fin (k0_t2_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c1_i32_27 : BitVec 32 := 1#32
  let arg12 : BitVec 32 := Scf.iv c0_i32_24 c1_i32_27 k0_t2
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v151 : Index := Scalar.indexCast v69
  let c128 : Index := 128#32
  ![v151.toNat, 128]
def k0_off9 (i : grid0.Coords) (v1 : BitVec 32) (v3 : BitVec 32) (v7 : BitVec 32) (v11 : BitVec 32) (v15 : BitVec 32) (k0_t2 : Fin (k0_t2_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c1_i32_27 : BitVec 32 := 1#32
  let arg12 : BitVec 32 := Scf.iv c0_i32_24 c1_i32_27 k0_t2
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v188 : Index := Scalar.indexCast v69
  let c256 : Index := 256#32
  ![v188.toNat, 256]
def k0_off10 (i : grid0.Coords) (v1 : BitVec 32) (v3 : BitVec 32) (v7 : BitVec 32) (v11 : BitVec 32) (v15 : BitVec 32) (k0_t2 : Fin (k0_t2_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c1_i32_27 : BitVec 32 := 1#32
  let arg12 : BitVec 32 := Scf.iv c0_i32_24 c1_i32_27 k0_t2
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v225 : Index := Scalar.indexCast v69
  let c384 : Index := 384#32
  ![v225.toNat, 384]
@[reducible] def k0_t3_loop (v1 : BitVec 32) : Scf.Loop 32 :=
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let v60 : BitVec 32 := Scalar.addi c0_i32_24 v59
  let c1_i32_28 : BitVec 32 := 1#32
  ⟨v63, v60, c1_i32_28⟩

def k0_chk1 (v1 : BitVec 32) : Prop :=
  (∀ (k0_h1 : k0_cond1 v1 = 1#1), (k0_t2_loop v1).OK) ∧
  (∀ (k0_h1 : k0_cond1 v1 = 1#1), (k0_t3_loop v1).OK)
theorem k0_t2_ok : ∀ (v1 : BitVec 32) (k0_hw1 : k0_chk1 v1), ∀ (k0_h1 : k0_cond1 v1 = 1#1), (k0_t2_loop v1).OK := fun v1 k0_hw1 k0_h1 => k0_hw1.1 k0_h1
theorem k0_t3_ok : ∀ (v1 : BitVec 32) (k0_hw1 : k0_chk1 v1), ∀ (k0_h1 : k0_cond1 v1 = 1#1), (k0_t3_loop v1).OK := fun v1 k0_hw1 k0_h1 => k0_hw1.2 k0_h1

def k0_mult3 (i : grid0.Coords) (v1 : BitVec 32) (v3 : BitVec 32) (v7 : BitVec 32) (v11 : BitVec 32) (v15 : BitVec 32) (k0_t3 : Fin (k0_t3_loop v1).trips) : BitVec 32 :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg12 : BitVec 32 := Scf.iv v63 c1_i32_28 k0_t3
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  v68
def k0_off11 (i : grid0.Coords) (v1 : BitVec 32) (v3 : BitVec 32) (v7 : BitVec 32) (v11 : BitVec 32) (v15 : BitVec 32) (k0_t3 : Fin (k0_t3_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg12 : BitVec 32 := Scf.iv v63 c1_i32_28 k0_t3
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v70 : Index := Scalar.indexCast v69
  let c0_30 : Index := 0#32
  ![v70.toNat, 0]
def k0_off12 (i : grid0.Coords) (v1 : BitVec 32) (v3 : BitVec 32) (v7 : BitVec 32) (v11 : BitVec 32) (v15 : BitVec 32) (k0_t3 : Fin (k0_t3_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg12 : BitVec 32 := Scf.iv v63 c1_i32_28 k0_t3
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v114 : Index := Scalar.indexCast v69
  let c0_45 : Index := 0#32
  ![v114.toNat, 0]
def k0_off13 (i : grid0.Coords) (v1 : BitVec 32) (v3 : BitVec 32) (v7 : BitVec 32) (v11 : BitVec 32) (v15 : BitVec 32) (k0_t3 : Fin (k0_t3_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg12 : BitVec 32 := Scf.iv v63 c1_i32_28 k0_t3
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v151 : Index := Scalar.indexCast v69
  let c128 : Index := 128#32
  ![v151.toNat, 128]
def k0_off14 (i : grid0.Coords) (v1 : BitVec 32) (v3 : BitVec 32) (v7 : BitVec 32) (v11 : BitVec 32) (v15 : BitVec 32) (k0_t3 : Fin (k0_t3_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg12 : BitVec 32 := Scf.iv v63 c1_i32_28 k0_t3
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v188 : Index := Scalar.indexCast v69
  let c256 : Index := 256#32
  ![v188.toNat, 256]
def k0_off15 (i : grid0.Coords) (v1 : BitVec 32) (v3 : BitVec 32) (v7 : BitVec 32) (v11 : BitVec 32) (v15 : BitVec 32) (k0_t3 : Fin (k0_t3_loop v1).trips) : Fin 2 → Nat :=
  let c0_i32_1 : BitVec 32 := 0#32
  let arg1 : BitVec 32 := BitVec.ofNat 32 (i 1).val
  let c0_i32 : BitVec 32 := 0#32
  let v2 : BitVec 1 := Scalar.cmpi .sgt arg1 c0_i32
  let c0_i32_0 : BitVec 32 := 0#32
  let v4 : BitVec 32 := Scalar.select v2 v3 c0_i32_0
  let v5 : BitVec 32 := Scalar.addi c0_i32_1 v4
  let c1_i32 : BitVec 32 := 1#32
  let v6 : BitVec 1 := Scalar.cmpi .sgt arg1 c1_i32
  let c0_i32_2 : BitVec 32 := 0#32
  let v8 : BitVec 32 := Scalar.select v6 v7 c0_i32_2
  let v9 : BitVec 32 := Scalar.addi v5 v8
  let c2_i32 : BitVec 32 := 2#32
  let v10 : BitVec 1 := Scalar.cmpi .sgt arg1 c2_i32
  let c0_i32_3 : BitVec 32 := 0#32
  let v12 : BitVec 32 := Scalar.select v10 v11 c0_i32_3
  let v13 : BitVec 32 := Scalar.addi v9 v12
  let c3_i32 : BitVec 32 := 3#32
  let v14 : BitVec 1 := Scalar.cmpi .sgt arg1 c3_i32
  let c0_i32_4 : BitVec 32 := 0#32
  let v16 : BitVec 32 := Scalar.select v14 v15 c0_i32_4
  let v17 : BitVec 32 := Scalar.addi v13 v16
  let c0_i32_24 : BitVec 32 := 0#32
  let c255_i32 : BitVec 32 := 255#32
  let v57 : BitVec 32 := Scalar.addi v1 c255_i32
  let c256_i32 : BitVec 32 := 256#32
  let v58 : BitVec 32 := Scalar.divsi v57 c256_i32
  let v59 : BitVec 32 := Scalar.subi v58 c0_i32_24
  let c1_i32_26 : BitVec 32 := 1#32
  let v61 : BitVec 32 := Scalar.divsi v59 c1_i32_26
  let v62 : BitVec 32 := Scalar.muli v61 c1_i32_26
  let v63 : BitVec 32 := Scalar.addi c0_i32_24 v62
  let c1_i32_28 : BitVec 32 := 1#32
  let arg12 : BitVec 32 := Scf.iv v63 c1_i32_28 k0_t3
  let c256_i32_29 : BitVec 32 := 256#32
  let v66 : BitVec 32 := Scalar.muli arg12 c256_i32_29
  let v67 : BitVec 32 := Scalar.addi v17 v66
  let c1536_i32 : BitVec 32 := 1536#32
  let v68 : BitVec 32 := Scalar.minsi v67 c1536_i32
  let v69 : BitVec 32 := v68
  let v225 : Index := Scalar.indexCast v69
  let c384 : Index := 384#32
  ![v225.toNat, 384]

def k0_chk2 (i : grid0.Coords) (v1 : BitVec 32) (v3 : BitVec 32) (v7 : BitVec 32) (v11 : BitVec 32) (v15 : BitVec 32) : Prop :=
  (∀ k0_t2 : Fin (k0_t2_loop v1).trips, ∀ (k0_h1 : k0_cond1 v1 = 1#1), 16 ∣ (k0_mult2 i v1 v3 v7 v11 v15 k0_t2).toNat) ∧
  (∀ k0_t2 : Fin (k0_t2_loop v1).trips, ∀ (k0_h1 : k0_cond1 v1 = 1#1), ∀ a, (k0_off6 i v1 v3 v7 v11 v15 k0_t2) a + S256x4096.size a ≤ S1792x4096.size a) ∧
  (∀ k0_t2 : Fin (k0_t2_loop v1).trips, ∀ (k0_h1 : k0_cond1 v1 = 1#1), ∀ a, (k0_off7 i v1 v3 v7 v11 v15 k0_t2) a + S256x128.size a ≤ S1792x512.size a) ∧
  (∀ k0_t2 : Fin (k0_t2_loop v1).trips, ∀ (k0_h1 : k0_cond1 v1 = 1#1), ∀ (hinb : ∀ a, (k0_off7 i v1 v3 v7 v11 v15 k0_t2) a + S256x128.size a ≤ S1792x512.size a), (Rect.unit (s := S1792x512) (k0_off7 i v1 v3 v7 v11 v15 k0_t2) S256x128.size hinb).PackedRows (EltTy.packing .bf16)) ∧
  (∀ k0_t2 : Fin (k0_t2_loop v1).trips, ∀ (k0_h1 : k0_cond1 v1 = 1#1), ∀ a, (k0_off8 i v1 v3 v7 v11 v15 k0_t2) a + S256x128.size a ≤ S1792x512.size a) ∧
  (∀ k0_t2 : Fin (k0_t2_loop v1).trips, ∀ (k0_h1 : k0_cond1 v1 = 1#1), ∀ (hinb : ∀ a, (k0_off8 i v1 v3 v7 v11 v15 k0_t2) a + S256x128.size a ≤ S1792x512.size a), (Rect.unit (s := S1792x512) (k0_off8 i v1 v3 v7 v11 v15 k0_t2) S256x128.size hinb).PackedRows (EltTy.packing .bf16)) ∧
  (∀ k0_t2 : Fin (k0_t2_loop v1).trips, ∀ (k0_h1 : k0_cond1 v1 = 1#1), ∀ a, (k0_off9 i v1 v3 v7 v11 v15 k0_t2) a + S256x128.size a ≤ S1792x512.size a) ∧
  (∀ k0_t2 : Fin (k0_t2_loop v1).trips, ∀ (k0_h1 : k0_cond1 v1 = 1#1), ∀ (hinb : ∀ a, (k0_off9 i v1 v3 v7 v11 v15 k0_t2) a + S256x128.size a ≤ S1792x512.size a), (Rect.unit (s := S1792x512) (k0_off9 i v1 v3 v7 v11 v15 k0_t2) S256x128.size hinb).PackedRows (EltTy.packing .bf16)) ∧
  (∀ k0_t2 : Fin (k0_t2_loop v1).trips, ∀ (k0_h1 : k0_cond1 v1 = 1#1), ∀ a, (k0_off10 i v1 v3 v7 v11 v15 k0_t2) a + S256x128.size a ≤ S1792x512.size a) ∧
  (∀ k0_t2 : Fin (k0_t2_loop v1).trips, ∀ (k0_h1 : k0_cond1 v1 = 1#1), ∀ (hinb : ∀ a, (k0_off10 i v1 v3 v7 v11 v15 k0_t2) a + S256x128.size a ≤ S1792x512.size a), (Rect.unit (s := S1792x512) (k0_off10 i v1 v3 v7 v11 v15 k0_t2) S256x128.size hinb).PackedRows (EltTy.packing .bf16)) ∧
  (∀ k0_t3 : Fin (k0_t3_loop v1).trips, ∀ (k0_h1 : k0_cond1 v1 = 1#1), 16 ∣ (k0_mult3 i v1 v3 v7 v11 v15 k0_t3).toNat) ∧
  (∀ k0_t3 : Fin (k0_t3_loop v1).trips, ∀ (k0_h1 : k0_cond1 v1 = 1#1), ∀ a, (k0_off11 i v1 v3 v7 v11 v15 k0_t3) a + S256x4096.size a ≤ S1792x4096.size a) ∧
  (∀ k0_t3 : Fin (k0_t3_loop v1).trips, ∀ (k0_h1 : k0_cond1 v1 = 1#1), ∀ a, (k0_off12 i v1 v3 v7 v11 v15 k0_t3) a + S256x128.size a ≤ S1792x512.size a) ∧
  (∀ k0_t3 : Fin (k0_t3_loop v1).trips, ∀ (k0_h1 : k0_cond1 v1 = 1#1), ∀ (hinb : ∀ a, (k0_off12 i v1 v3 v7 v11 v15 k0_t3) a + S256x128.size a ≤ S1792x512.size a), (Rect.unit (s := S1792x512) (k0_off12 i v1 v3 v7 v11 v15 k0_t3) S256x128.size hinb).PackedRows (EltTy.packing .bf16)) ∧
  (∀ k0_t3 : Fin (k0_t3_loop v1).trips, ∀ (k0_h1 : k0_cond1 v1 = 1#1), ∀ a, (k0_off13 i v1 v3 v7 v11 v15 k0_t3) a + S256x128.size a ≤ S1792x512.size a) ∧
  (∀ k0_t3 : Fin (k0_t3_loop v1).trips, ∀ (k0_h1 : k0_cond1 v1 = 1#1), ∀ (hinb : ∀ a, (k0_off13 i v1 v3 v7 v11 v15 k0_t3) a + S256x128.size a ≤ S1792x512.size a), (Rect.unit (s := S1792x512) (k0_off13 i v1 v3 v7 v11 v15 k0_t3) S256x128.size hinb).PackedRows (EltTy.packing .bf16)) ∧
  (∀ k0_t3 : Fin (k0_t3_loop v1).trips, ∀ (k0_h1 : k0_cond1 v1 = 1#1), ∀ a, (k0_off14 i v1 v3 v7 v11 v15 k0_t3) a + S256x128.size a ≤ S1792x512.size a) ∧
  (∀ k0_t3 : Fin (k0_t3_loop v1).trips, ∀ (k0_h1 : k0_cond1 v1 = 1#1), ∀ (hinb : ∀ a, (k0_off14 i v1 v3 v7 v11 v15 k0_t3) a + S256x128.size a ≤ S1792x512.size a), (Rect.unit (s := S1792x512) (k0_off14 i v1 v3 v7 v11 v15 k0_t3) S256x128.size hinb).PackedRows (EltTy.packing .bf16)) ∧
  (∀ k0_t3 : Fin (k0_t3_loop v1).trips, ∀ (k0_h1 : k0_cond1 v1 = 1#1), ∀ a, (k0_off15 i v1 v3 v7 v11 v15 k0_t3) a + S256x128.size a ≤ S1792x512.size a) ∧
  (∀ k0_t3 : Fin (k0_t3_loop v1).trips, ∀ (k0_h1 : k0_cond1 v1 = 1#1), ∀ (hinb : ∀ a, (k0_off15 i v1 v3 v7 v11 v15 k0_t3) a + S256x128.size a ≤ S1792x512.size a), (Rect.unit (s := S1792x512) (k0_off15 i v1 v3 v7 v11 v15 k0_t3) S256x128.size hinb).PackedRows (EltTy.packing .bf16))
theorem k0_mult2_dvd : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), 16 ∣ (k0_mult2 i v1 v3 v7 v11 v15 k0_t2).toNat := fun i v1 v3 v7 v11 v15 k0_hw2 k0_t2 k0_h1 => k0_hw2.1 k0_t2 k0_h1
theorem k0_off6_inb : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), ∀ a, (k0_off6 i v1 v3 v7 v11 v15 k0_t2) a + S256x4096.size a ≤ S1792x4096.size a := fun i v1 v3 v7 v11 v15 k0_hw2 k0_t2 k0_h1 => k0_hw2.2.1 k0_t2 k0_h1
theorem k0_off7_inb : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), ∀ a, (k0_off7 i v1 v3 v7 v11 v15 k0_t2) a + S256x128.size a ≤ S1792x512.size a := fun i v1 v3 v7 v11 v15 k0_hw2 k0_t2 k0_h1 => k0_hw2.2.2.1 k0_t2 k0_h1
theorem k0_off7_packedbf16 : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), (Rect.unit (s := S1792x512) (k0_off7 i v1 v3 v7 v11 v15 k0_t2) S256x128.size (k0_off7_inb i v1 v3 v7 v11 v15 k0_hw2 k0_t2 k0_h1)).PackedRows (EltTy.packing .bf16) := fun i v1 v3 v7 v11 v15 k0_hw2 k0_t2 k0_h1 => k0_hw2.2.2.2.1 k0_t2 k0_h1 (k0_off7_inb i v1 v3 v7 v11 v15 k0_hw2 k0_t2 k0_h1)
theorem k0_off8_inb : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), ∀ a, (k0_off8 i v1 v3 v7 v11 v15 k0_t2) a + S256x128.size a ≤ S1792x512.size a := fun i v1 v3 v7 v11 v15 k0_hw2 k0_t2 k0_h1 => k0_hw2.2.2.2.2.1 k0_t2 k0_h1
theorem k0_off8_packedbf16 : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), (Rect.unit (s := S1792x512) (k0_off8 i v1 v3 v7 v11 v15 k0_t2) S256x128.size (k0_off8_inb i v1 v3 v7 v11 v15 k0_hw2 k0_t2 k0_h1)).PackedRows (EltTy.packing .bf16) := fun i v1 v3 v7 v11 v15 k0_hw2 k0_t2 k0_h1 => k0_hw2.2.2.2.2.2.1 k0_t2 k0_h1 (k0_off8_inb i v1 v3 v7 v11 v15 k0_hw2 k0_t2 k0_h1)
theorem k0_off9_inb : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), ∀ a, (k0_off9 i v1 v3 v7 v11 v15 k0_t2) a + S256x128.size a ≤ S1792x512.size a := fun i v1 v3 v7 v11 v15 k0_hw2 k0_t2 k0_h1 => k0_hw2.2.2.2.2.2.2.1 k0_t2 k0_h1
theorem k0_off9_packedbf16 : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), (Rect.unit (s := S1792x512) (k0_off9 i v1 v3 v7 v11 v15 k0_t2) S256x128.size (k0_off9_inb i v1 v3 v7 v11 v15 k0_hw2 k0_t2 k0_h1)).PackedRows (EltTy.packing .bf16) := fun i v1 v3 v7 v11 v15 k0_hw2 k0_t2 k0_h1 => k0_hw2.2.2.2.2.2.2.2.1 k0_t2 k0_h1 (k0_off9_inb i v1 v3 v7 v11 v15 k0_hw2 k0_t2 k0_h1)
theorem k0_off10_inb : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), ∀ a, (k0_off10 i v1 v3 v7 v11 v15 k0_t2) a + S256x128.size a ≤ S1792x512.size a := fun i v1 v3 v7 v11 v15 k0_hw2 k0_t2 k0_h1 => k0_hw2.2.2.2.2.2.2.2.2.1 k0_t2 k0_h1
theorem k0_off10_packedbf16 : ∀ (i : grid0.Coords) (v1 : BitVec 32) (v3 : BitVec 32) (v7 : BitVec 32) (v11 : BitVec 32) (v15 : BitVec 32) (k0_hw2 : k0_chk2 i v1 v3 v7 v11 v15) (k0_t2 : Fin (k0_t2_loop v1).trips), ∀ (k0_h1 : k0_cond1 v1 = 1#1), (Rect.unit (s := S1792x512) (k0_off10 i v1 v3 v7 v11 v15 k0_t2) S256x128.size (k0_off10_inb i v1 v3 v7 v11 v15 k0_hw2 k0_t2 k0_h1)).PackedRows (EltTy.packing .bf16) := fun i v1 v3 v7 v11 v15 k0_hw2 k0_t2 k0_h1 => k0_hw2.2.2.2.2.2.2.2.2.2.1 k0_t2 k0_h1 (k0_off10_inb i v1 v3 v7 v11 v15 k0_hw2 k0_t2 k0_h1)
theorem k0_mult3_dvd : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), 16 ∣ (k0_mult3 i v1 v3 v7 v11 v15 k0_t3).toNat := fun i v1 v3 v7 v11 v15 k0_hw2 k0_t3 k0_h1 => k0_hw2.2.2.2.2.2.2.2.2.2.2.1 k0_t3 k0_h1
theorem k0_off11_inb : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), ∀ a, (k0_off11 i v1 v3 v7 v11 v15 k0_t3) a + S256x4096.size a ≤ S1792x4096.size a := fun i v1 v3 v7 v11 v15 k0_hw2 k0_t3 k0_h1 => k0_hw2.2.2.2.2.2.2.2.2.2.2.2.1 k0_t3 k0_h1
theorem k0_off12_inb : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), ∀ a, (k0_off12 i v1 v3 v7 v11 v15 k0_t3) a + S256x128.size a ≤ S1792x512.size a := fun i v1 v3 v7 v11 v15 k0_hw2 k0_t3 k0_h1 => k0_hw2.2.2.2.2.2.2.2.2.2.2.2.2.1 k0_t3 k0_h1
theorem k0_off12_packedbf16 : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), (Rect.unit (s := S1792x512) (k0_off12 i v1 v3 v7 v11 v15 k0_t3) S256x128.size (k0_off12_inb i v1 v3 v7 v11 v15 k0_hw2 k0_t3 k0_h1)).PackedRows (EltTy.packing .bf16) := fun i v1 v3 v7 v11 v15 k0_hw2 k0_t3 k0_h1 => k0_hw2.2.2.2.2.2.2.2.2.2.2.2.2.2.1 k0_t3 k0_h1 (k0_off12_inb i v1 v3 v7 v11 v15 k0_hw2 k0_t3 k0_h1)
theorem k0_off13_inb : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), ∀ a, (k0_off13 i v1 v3 v7 v11 v15 k0_t3) a + S256x128.size a ≤ S1792x512.size a := fun i v1 v3 v7 v11 v15 k0_hw2 k0_t3 k0_h1 => k0_hw2.2.2.2.2.2.2.2.2.2.2.2.2.2.2.1 k0_t3 k0_h1
theorem k0_off13_packedbf16 : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), (Rect.unit (s := S1792x512) (k0_off13 i v1 v3 v7 v11 v15 k0_t3) S256x128.size (k0_off13_inb i v1 v3 v7 v11 v15 k0_hw2 k0_t3 k0_h1)).PackedRows (EltTy.packing .bf16) := fun i v1 v3 v7 v11 v15 k0_hw2 k0_t3 k0_h1 => k0_hw2.2.2.2.2.2.2.2.2.2.2.2.2.2.2.2.1 k0_t3 k0_h1 (k0_off13_inb i v1 v3 v7 v11 v15 k0_hw2 k0_t3 k0_h1)
theorem k0_off14_inb : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), ∀ a, (k0_off14 i v1 v3 v7 v11 v15 k0_t3) a + S256x128.size a ≤ S1792x512.size a := fun i v1 v3 v7 v11 v15 k0_hw2 k0_t3 k0_h1 => k0_hw2.2.2.2.2.2.2.2.2.2.2.2.2.2.2.2.2.1 k0_t3 k0_h1
theorem k0_off14_packedbf16 : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), (Rect.unit (s := S1792x512) (k0_off14 i v1 v3 v7 v11 v15 k0_t3) S256x128.size (k0_off14_inb i v1 v3 v7 v11 v15 k0_hw2 k0_t3 k0_h1)).PackedRows (EltTy.packing .bf16) := fun i v1 v3 v7 v11 v15 k0_hw2 k0_t3 k0_h1 => k0_hw2.2.2.2.2.2.2.2.2.2.2.2.2.2.2.2.2.2.1 k0_t3 k0_h1 (k0_off14_inb i v1 v3 v7 v11 v15 k0_hw2 k0_t3 k0_h1)
theorem k0_off15_inb : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), ∀ a, (k0_off15 i v1 v3 v7 v11 v15 k0_t3) a + S256x128.size a ≤ S1792x512.size a := fun i v1 v3 v7 v11 v15 k0_hw2 k0_t3 k0_h1 => k0_hw2.2.2.2.2.2.2.2.2.2.2.2.2.2.2.2.2.2.2.1 k0_t3 k0_h1
theorem k0_off15_packedbf16 : ∀ (i : grid0.Coords) (v1 : BitVec 32) (v3 : BitVec 32) (v7 : BitVec 32) (v11 : BitVec 32) (v15 : BitVec 32) (k0_hw2 : k0_chk2 i v1 v3 v7 v11 v15) (k0_t3 : Fin (k0_t3_loop v1).trips), ∀ (k0_h1 : k0_cond1 v1 = 1#1), (Rect.unit (s := S1792x512) (k0_off15 i v1 v3 v7 v11 v15 k0_t3) S256x128.size (k0_off15_inb i v1 v3 v7 v11 v15 k0_hw2 k0_t3 k0_h1)).PackedRows (EltTy.packing .bf16) := fun i v1 v3 v7 v11 v15 k0_hw2 k0_t3 k0_h1 => k0_hw2.2.2.2.2.2.2.2.2.2.2.2.2.2.2.2.2.2.2.2 k0_t3 k0_h1 (k0_off15_inb i v1 v3 v7 v11 v15 k0_hw2 k0_t3 k0_h1)

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1792x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x448 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1792x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DxRefIdeal.lean ====
abbrev S4 : Shape := ⟨1, ![4]⟩
abbrev S1792x4096 : Shape := ⟨2, ![1792, 4096]⟩
abbrev S4x4096x3584 : Shape := ⟨3, ![4, 4096, 3584]⟩
abbrev S4x256x448 : Shape := ⟨3, ![4, 256, 448]⟩
abbrev S1792x7168 : Shape := ⟨2, ![1792, 7168]⟩
abbrev S1792x1 : Shape := ⟨2, ![1792, 1]⟩
abbrev S1792x3584 : Shape := ⟨2, ![1792, 3584]⟩
abbrev S1 : Shape := ⟨1, ![1]⟩
abbrev S1x4096x3584 : Shape := ⟨3, ![1, 4096, 3584]⟩
abbrev S4096x3584 : Shape := ⟨2, ![4096, 3584]⟩
abbrev S1x256x448 : Shape := ⟨3, ![1, 256, 448]⟩
abbrev S256x448 : Shape := ⟨2, ![256, 448]⟩
abbrev S256x16x448x8 : Shape := ⟨4, ![256, 16, 448, 8]⟩
abbrev S256x1x448x1 : Shape := ⟨4, ![256, 1, 448, 1]⟩
abbrev S1792x3584x1 : Shape := ⟨3, ![1792, 3584, 1]⟩
abbrev S1792x3584x2 : Shape := ⟨3, ![1792, 3584, 2]⟩

abbrev nBuf : Space → Nat
  | .hbm => 7
  | .vmem => 4
  | .smem => 3
  | _ => 0

abbrev bufTy : (tb : Table) → Fin (tcTables nBuf tb) → BufTy
  | .hbm, ⟨0, _⟩ => ⟨S4, .i32⟩
  | .hbm, ⟨1, _⟩ => ⟨S4, .f32⟩
  | .hbm, ⟨2, _⟩ => ⟨S4, .f32⟩
  | .hbm, ⟨3, _⟩ => ⟨S1792x4096, .bf16⟩
  | .hbm, ⟨4, _⟩ => ⟨S4x4096x3584, .i8⟩
  | .hbm, ⟨5, _⟩ => ⟨S4x256x448, .fp8e4m3⟩
  | .hbm, ⟨6, _⟩ => ⟨S1792x7168, .bf16⟩
  | .local _ .vmem, ⟨0, _⟩ => ⟨S1792x4096, .bf16⟩
  | .local _ .vmem, ⟨1, _⟩ => ⟨S4x4096x3584, .i8⟩
  | .local _ .vmem, ⟨2, _⟩ => ⟨S4x256x448, .fp8e4m3⟩
  | .local _ .vmem, ⟨3, _⟩ => ⟨S1792x7168, .bf16⟩
  | .local _ .smem, ⟨0, _⟩ => ⟨S4, .i32⟩
  | .local _ .smem, ⟨1, _⟩ => ⟨S4, .f32⟩
  | .local _ .smem, ⟨2, _⟩ => ⟨S4, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096x3584 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256x448 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.DwB.Body.lean ====
/- What one grid point of the weight-gradient kernel leaves in its result block: one lemma for each of the eight ways its branches
   can go (no rows for the expert, or a block of 256, 512, … 1792 rows). -/
module

public import proofs.«01_k».proof.Proof.Gen.Dw.Launch
public import proofs.«01_k».proof.Proof.Gen.Dw.Skeleton
public import proofs.«01_k».proof.Proof.Gen.Dw.Points
public import proofs.«01_k».proof.Proof.Gen.Dw.Frame
public import Idealize.ShloMosaic.Lib.Pipeline.FrameBody
public import Idealize.ShloMosaic.Lib.Ring
public import Idealize.ShloMosaic.Lib.Pipeline.ValueKit
public import Idealize.ShloMosaic.Lib.Tactic

@[expose] public section

set_option maxRecDepth 16384

noncomputable section

namespace Cert.Dw.Hand

open Cert.Dw Cert.Dw.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- The word of a four-word scalar array held at `x0` that a load at `off` reads. -/
abbrev wd {e : EltTy} (M : Memref sig .tc .smem S4 e) (h : M.IsWhole) (x0 : Vec F S4 e) (off : Fin 1 → Nat) (inb : ∀ a, off a + S1.size a ≤ S4.size a) : Elt F e :=
  M.view.readAt (Elt F) (Rect.unit (s := S4) off S1.size inb).toLoadRect (h.unread x0) (Shape.Idx.first (numel1_S1.symm ▸ Nat.one_pos))

/-- The first row of the point's expert, as the kernel sums it from the four sizes. -/
def startW (i : grid0.Coords) (v3 v7 v11 v15 : BitVec 32) : BitVec 32 :=
  Scalar.addi (Scalar.addi (Scalar.addi (Scalar.addi 0#32
    (Scalar.select (Scalar.cmpi .sgt (BitVec.ofNat 32 (i 1).val) 0#32) v3 0#32))
    (Scalar.select (Scalar.cmpi .sgt (BitVec.ofNat 32 (i 1).val) 1#32) v7 0#32))
    (Scalar.select (Scalar.cmpi .sgt (BitVec.ofNat 32 (i 1).val) 2#32) v11 0#32))
    (Scalar.select (Scalar.cmpi .sgt (BitVec.ofNat 32 (i 1).val) 3#32) v15 0#32)

/-- The condition of the branch for an expert without rows. -/
abbrev condZ (v1 : BitVec 32) : BitVec 1 := Scalar.cmpi .ne (Scalar.extui (Scalar.cmpi .eq v1 0#32)) 0#32

/-- A block read back after one store of the whole block is the value stored. -/
theorem read_store_whole (M : Memref sig .tc .vmem S1x512x3584 .f32) (f : M.view.ty.Contents (Elt F)) (w : Vec F S1x512x3584 .f32) :
    M.view.read (Elt F) (M.view.writes (Elt F) f [⟨Rect.unit (s := S1x512x3584) ![0, 0, 0] S1x512x3584.size inb_S1x512x3584_S1x512x3584_0_0_0, w⟩]) = w := by
  rw [View.read_writes_eq_canon _ _ _ (View.cover_of_tiledL _ S1x512x3584.size (by sl_kernel_rfl))]
  exact View.canon_cons_unit_lit _ _ _ (by decide)

set_option maxHeartbeats 2000000 in
/-- The body at a point of an expert without rows: the block is zero. -/
theorem run_0 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : condZ (wd arg3 harg3 x0 (k0_off1 i) (k0_off1_inb i)) = 1#1)
    (h2 : ¬ k0_cond2 (wd arg3 harg3 x0 (k0_off1 i) (k0_off1_inb i)) = 1#1)
    (h3 : ¬ k0_cond3 (wd arg3 harg3 x0 (k0_off1 i) (k0_off1_inb i)) = 1#1)
    (h4 : ¬ k0_cond4 (wd arg3 harg3 x0 (k0_off1 i) (k0_off1_inb i)) = 1#1)
    (h5 : ¬ k0_cond5 (wd arg3 harg3 x0 (k0_off1 i) (k0_off1_inb i)) = 1#1)
    (h6 : ¬ k0_cond6 (wd arg3 harg3 x0 (k0_off1 i) (k0_off1_inb i)) = 1#1)
    (h7 : ¬ k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay4 (F := F))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 256 rows (and more than 0): the block is the product over 256 rows, masked and scaled. -/
theorem run_256 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : k0_cond2 (wd arg3 harg3 x0 (k0_off1 i) (k0_off1_inb i)) = 1#1)
    (h3 : ¬ k0_cond3 (wd arg3 harg3 x0 (k0_off1 i) (k0_off1_inb i)) = 1#1)
    (h4 : ¬ k0_cond4 (wd arg3 harg3 x0 (k0_off1 i) (k0_off1_inb i)) = 1#1)
    (h5 : ¬ k0_cond5 (wd arg3 harg3 x0 (k0_off1 i) (k0_off1_inb i)) = 1#1)
    (h6 : ¬ k0_cond6 (wd arg3 harg3 x0 (k0_off1 i) (k0_off1_inb i)) = 1#1)
    (h7 : ¬ k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay5 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off2 i (wd arg3 harg3 x0 ![0] inb_S4_S1_0) (wd arg3 harg3 x0 ![1] inb_S4_S1_1) (wd arg3 harg3 x0 ![2] inb_S4_S1_2) (wd arg3 harg3 x0 ![3] inb_S4_S1_3)) S256x512.size (k0_off2_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h2)).toLoadRect (harg6.unread x3))
              (arg7.view.readAt (Elt F) (Rect.unit (s := S1792x7168) (k0_off3 i (wd arg3 harg3 x0 ![0] inb_S4_S1_0) (wd arg3 harg3 x0 ![1] inb_S4_S1_1) (wd arg3 harg3 x0 ![2] inb_S4_S1_2) (wd arg3 harg3 x0 ![3] inb_S4_S1_3)) S256x3584.size (k0_off3_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h2)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 512 rows (and more than 256): the block is the product over 512 rows, masked and scaled. -/
theorem run_512 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : ¬ k0_cond2 (wd arg3 harg3 x0 (k0_off1 i) (k0_off1_inb i)) = 1#1)
    (h3 : k0_cond3 (wd arg3 harg3 x0 (k0_off1 i) (k0_off1_inb i)) = 1#1)
    (h4 : ¬ k0_cond4 (wd arg3 harg3 x0 (k0_off1 i) (k0_off1_inb i)) = 1#1)
    (h5 : ¬ k0_cond5 (wd arg3 harg3 x0 (k0_off1 i) (k0_off1_inb i)) = 1#1)
    (h6 : ¬ k0_cond6 (wd arg3 harg3 x0 (k0_off1 i) (k0_off1_inb i)) = 1#1)
    (h7 : ¬ k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay6 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off4 i (wd arg3 harg3 x0 ![0] inb_S4_S1_0) (wd arg3 harg3 x0 ![1] inb_S4_S1_1) (wd arg3 harg3 x0 ![2] inb_S4_S1_2) (wd arg3 harg3 x0 ![3] inb_S4_S1_3)) S512x512.size (k0_off4_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h3)).toLoadRect (harg6.unread x3))
              (arg7.view.readAt (Elt F) (Rect.unit (s := S1792x7168) (k0_off5 i (wd arg3 harg3 x0 ![0] inb_S4_S1_0) (wd arg3 harg3 x0 ![1] inb_S4_S1_1) (wd arg3 harg3 x0 ![2] inb_S4_S1_2) (wd arg3 harg3 x0 ![3] inb_S4_S1_3)) S512x3584.size (k0_off5_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h3)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 768 rows (and more than 512): the block is the product over 768 rows, masked and scaled. -/
theorem run_768 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : ¬ k0_cond2 (wd arg3 harg3 x0 (k0_off1 i) (k0_off1_inb i)) = 1#1)
    (h3 : ¬ k0_cond3 (wd arg3 harg3 x0 (k0_off1 i) (k0_off1_inb i)) = 1#1)
    (h4 : k0_cond4 (wd arg3 harg3 x0 (k0_off1 i) (k0_off1_inb i)) = 1#1)
    (h5 : ¬ k0_cond5 (wd arg3 harg3 x0 (k0_off1 i) (k0_off1_inb i)) = 1#1)
    (h6 : ¬ k0_cond6 (wd arg3 harg3 x0 (k0_off1 i) (k0_off1_inb i)) = 1#1)
    (h7 : ¬ k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay7 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off6 i (wd arg3 harg3 x0 ![0] inb_S4_S1_0) (wd arg3 harg3 x0 ![1] inb_S4_S1_1) (wd arg3 harg3 x0 ![2] inb_S4_S1_2) (wd arg3 harg3 x0 ![3] inb_S4_S1_3)) S768x512.size (k0_off6_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h4)).toLoadRect (harg6.unread x3))
              (arg7.view.readAt (Elt F) (Rect.unit (s := S1792x7168) (k0_off7 i (wd arg3 harg3 x0 ![0] inb_S4_S1_0) (wd arg3 harg3 x0 ![1] inb_S4_S1_1) (wd arg3 harg3 x0 ![2] inb_S4_S1_2) (wd arg3 harg3 x0 ![3] inb_S4_S1_3)) S768x3584.size (k0_off7_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h4)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 1024 rows (and more than 768): the block is the product over 1024 rows, masked and scaled. -/
theorem run_1024 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : ¬ k0_cond2 (wd arg3 harg3 x0 (k0_off1 i) (k0_off1_inb i)) = 1#1)
    (h3 : ¬ k0_cond3 (wd arg3 harg3 x0 (k0_off1 i) (k0_off1_inb i)) = 1#1)
    (h4 : ¬ k0_cond4 (wd arg3 harg3 x0 (k0_off1 i) (k0_off1_inb i)) = 1#1)
    (h5 : k0_cond5 (wd arg3 harg3 x0 (k0_off1 i) (k0_off1_inb i)) = 1#1)
    (h6 : ¬ k0_cond6 (wd arg3 harg3 x0 (k0_off1 i) (k0_off1_inb i)) = 1#1)
    (h7 : ¬ k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay8 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off8 i (wd arg3 harg3 x0 ![0] inb_S4_S1_0) (wd arg3 harg3 x0 ![1] inb_S4_S1_1) (wd arg3 harg3 x0 ![2] inb_S4_S1_2) (wd arg3 harg3 x0 ![3] inb_S4_S1_3)) S1024x512.size (k0_off8_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h5)).toLoadRect (harg6.unread x3))
              (arg7.view.readAt (Elt F) (Rect.unit (s := S1792x7168) (k0_off9 i (wd arg3 harg3 x0 ![0] inb_S4_S1_0) (wd arg3 harg3 x0 ![1] inb_S4_S1_1) (wd arg3 harg3 x0 ![2] inb_S4_S1_2) (wd arg3 harg3 x0 ![3] inb_S4_S1_3)) S1024x3584.size (k0_off9_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h5)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 1280 rows (and more than 1024): the block is the product over 1280 rows, masked and scaled. -/
theorem run_1280 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : ¬ k0_cond2 (wd arg3 harg3 x0 (k0_off1 i) (k0_off1_inb i)) = 1#1)
    (h3 : ¬ k0_cond3 (wd arg3 harg3 x0 (k0_off1 i) (k0_off1_inb i)) = 1#1)
    (h4 : ¬ k0_cond4 (wd arg3 harg3 x0 (k0_off1 i) (k0_off1_inb i)) = 1#1)
    (h5 : ¬ k0_cond5 (wd arg3 harg3 x0 (k0_off1 i) (k0_off1_inb i)) = 1#1)
    (h6 : k0_cond6 (wd arg3 harg3 x0 (k0_off1 i) (k0_off1_inb i)) = 1#1)
    (h7 : ¬ k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay9 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off10 i (wd arg3 harg3 x0 ![0] inb_S4_S1_0) (wd arg3 harg3 x0 ![1] inb_S4_S1_1) (wd arg3 harg3 x0 ![2] inb_S4_S1_2) (wd arg3 harg3 x0 ![3] inb_S4_S1_3)) S1280x512.size (k0_off10_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h6)).toLoadRect (harg6.unread x3))
              (arg7.view.readAt (Elt F) (Rect.unit (s := S1792x7168) (k0_off11 i (wd arg3 harg3 x0 ![0] inb_S4_S1_0) (wd arg3 harg3 x0 ![1] inb_S4_S1_1) (wd arg3 harg3 x0 ![2] inb_S4_S1_2) (wd arg3 harg3 x0 ![3] inb_S4_S1_3)) S1280x3584.size (k0_off11_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h6)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 1536 rows (and more than 1280): the block is the product over 1536 rows, masked and scaled. -/
theorem run_1536 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : ¬ k0_cond2 (wd arg3 harg3 x0 (k0_off1 i) (k0_off1_inb i)) = 1#1)
    (h3 : ¬ k0_cond3 (wd arg3 harg3 x0 (k0_off1 i) (k0_off1_inb i)) = 1#1)
    (h4 : ¬ k0_cond4 (wd arg3 harg3 x0 (k0_off1 i) (k0_off1_inb i)) = 1#1)
    (h5 : ¬ k0_cond5 (wd arg3 harg3 x0 (k0_off1 i) (k0_off1_inb i)) = 1#1)
    (h6 : ¬ k0_cond6 (wd arg3 harg3 x0 (k0_off1 i) (k0_off1_inb i)) = 1#1)
    (h7 : k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay10 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off12 i (wd arg3 harg3 x0 ![0] inb_S4_S1_0) (wd arg3 harg3 x0 ![1] inb_S4_S1_1) (wd arg3 harg3 x0 ![2] inb_S4_S1_2) (wd arg3 harg3 x0 ![3] inb_S4_S1_3)) S1536x512.size (k0_off12_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h7)).toLoadRect (harg6.unread x3))
              (arg7.view.readAt (Elt F) (Rect.unit (s := S1792x7168) (k0_off13 i (wd arg3 harg3 x0 ![0] inb_S4_S1_0) (wd arg3 harg3 x0 ![1] inb_S4_S1_1) (wd arg3 harg3 x0 ![2] inb_S4_S1_2) (wd arg3 harg3 x0 ![3] inb_S4_S1_3)) S1536x3584.size (k0_off13_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h7)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 1792 rows (and more than 1536): the block is the product over 1792 rows, masked and scaled. -/
theorem run_1792 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : ¬ k0_cond2 (wd arg3 harg3 x0 (k0_off1 i) (k0_off1_inb i)) = 1#1)
    (h3 : ¬ k0_cond3 (wd arg3 harg3 x0 (k0_off1 i) (k0_off1_inb i)) = 1#1)
    (h4 : ¬ k0_cond4 (wd arg3 harg3 x0 (k0_off1 i) (k0_off1_inb i)) = 1#1)
    (h5 : ¬ k0_cond5 (wd arg3 harg3 x0 (k0_off1 i) (k0_off1_inb i)) = 1#1)
    (h6 : ¬ k0_cond6 (wd arg3 harg3 x0 (k0_off1 i) (k0_off1_inb i)) = 1#1)
    (h7 : ¬ k0_cond7 (wd arg3 harg3 x0 (k0_off1 i) (k0_off1_inb i)) = 1#1)
    (h8 : k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay1 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off14 i (wd arg3 harg3 x0 ![0] inb_S4_S1_0) (wd arg3 harg3 x0 ![1] inb_S4_S1_1) (wd arg3 harg3 x0 ![2] inb_S4_S1_2) (wd arg3 harg3 x0 ![3] inb_S4_S1_3)) S1792x512.size (k0_off14_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h8)).toLoadRect (harg6.unread x3))
              (arg7.view.readAt (Elt F) (Rect.unit (s := S1792x7168) (k0_off15 i (wd arg3 harg3 x0 ![0] inb_S4_S1_0) (wd arg3 harg3 x0 ![1] inb_S4_S1_1) (wd arg3 harg3 x0 ![2] inb_S4_S1_2) (wd arg3 harg3 x0 ![3] inb_S4_S1_3)) S1792x3584.size (k0_off15_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h8)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

end Cert.Dw.Hand

end
-- ==== Proof.Grp.Words.lean ====
/- The words of the four group sizes: what the precondition says of them, and the row numbers the kernel computes from them. -/
module

public import proofs.«01_k».proof.Proof.Gen.Pre_groups_fit
public import Idealize.ShloMosaic.Lib.Affine
public import Idealize.ShloMosaic.Lib.WordCmp
public import Idealize.ShloMosaic.Lib.StableHlo.Predicate
public import Idealize.ShloMosaic.Lib.Pointwise

@[expose] public section

noncomputable section

namespace Cert.Groups

open Idealize.ShloMosaic

/-- What the precondition says of the four group sizes: each a multiple of 16, together at most the 1792 rows there are. -/
structure Fits (s : Fin 4 → BitVec 32) : Prop where
  le : ∀ j, (s j).toNat ≤ 1792
  dvd : ∀ j, 16 ∣ (s j).toNat
  sum : (s 0).toNat + (s 1).toNat + (s 2).toNat + (s 3).toNat ≤ 1792

/-- The first row of group `e`: the sizes of the groups before it. -/
def startN (s : Fin 4 → BitVec 32) (e : Fin 4) : Nat :=
  (if 0 < e.val then (s 0).toNat else 0) + (if 1 < e.val then (s 1).toNat else 0) + (if 2 < e.val then (s 2).toNat else 0)

/-- A group's rows lie within the 1792 there are. -/
theorem startN_add_le {s : Fin 4 → BitVec 32} (h : Fits s) (e : Fin 4) : startN s e + (s e).toNat ≤ 1792 := by
  have := h.sum
  unfold startN
  fin_cases e <;> simp <;> omega

/-- A group's first row is a multiple of 16. -/
theorem dvd_startN {s : Fin 4 → BitVec 32} (h : Fits s) (e : Fin 4) : 16 ∣ startN s e := by
  have h0 := h.dvd 0; have h1 := h.dvd 1; have h2 := h.dvd 2
  unfold startN
  fin_cases e <;> simp <;> omega

/-- The first row of group `e` as a kernel sums it from the four sizes. -/
def startW (e : Nat) (v3 v7 v11 v15 : BitVec 32) : BitVec 32 :=
  Scalar.addi (Scalar.addi (Scalar.addi (Scalar.addi 0#32
    (Scalar.select (Scalar.cmpi .sgt (BitVec.ofNat 32 e) 0#32) v3 0#32))
    (Scalar.select (Scalar.cmpi .sgt (BitVec.ofNat 32 e) 1#32) v7 0#32))
    (Scalar.select (Scalar.cmpi .sgt (BitVec.ofNat 32 e) 2#32) v11 0#32))
    (Scalar.select (Scalar.cmpi .sgt (BitVec.ofNat 32 e) 3#32) v15 0#32)

/-- The summed word is the first row's number. -/
theorem startW_toNat {s : Fin 4 → BitVec 32} (h : Fits s) (e : Fin 4) : (startW e.val (s 0) (s 1) (s 2) (s 3)).toNat = startN s e := by
  have hs := h.sum
  unfold startN startW
  have a (k : Nat) (hk : k < 4) : Scalar.cmpi .sgt (BitVec.ofNat 32 e.val) (BitVec.ofNat 32 k) = if k < e.val then 1#1 else 0#1 := by
    have := e.isLt
    interval_cases k <;> fin_cases e <;> rfl
  rw [show (0#32 : BitVec 32) = BitVec.ofNat 32 0 from rfl, show (1#32 : BitVec 32) = BitVec.ofNat 32 1 from rfl,
    show (2#32 : BitVec 32) = BitVec.ofNat 32 2 from rfl, show (3#32 : BitVec 32) = BitVec.ofNat 32 3 from rfl,
    a 0 (by decide), a 1 (by decide), a 2 (by decide), a 3 (by decide)]
  simp only [Scalar.select, Scalar.addi, IntOp.addi]
  fin_cases e <;> simp [BitVec.toNat_add] <;> omega

/-- The smaller of two small words, as a number. -/
theorem minsi_toNat (x : BitVec 32) (b : Nat) (hx : x.toNat ≤ 1792) (hb : b ≤ 1792) :
    (Scalar.minsi x (BitVec.ofNat 32 b)).toNat = min x.toNat b := by
  have hb' : (BitVec.ofNat 32 b).toNat = b := by rw [BitVec.toNat_ofNat]; omega
  simp only [Scalar.minsi, IntOp.minsi]
  split
  · next h =>
    rw [BitVec.slt, decide_eq_true_eq, BitVec.toInt_eq_toNat_of_lt (by omega), BitVec.toInt_eq_toNat_of_lt (by omega), hb'] at h
    omega
  · next h =>
    rw [BitVec.slt, decide_eq_true_eq, BitVec.toInt_eq_toNat_of_lt (by omega), BitVec.toInt_eq_toNat_of_lt (by omega), hb'] at h
    omega

/-- A branch's condition `lo < size ≤ hi`, read as numbers. -/
theorem cond_iff (x : BitVec 32) (lo hi : Nat) (hx : x.toNat ≤ 1792) (hl : lo ≤ 1792) (hh : hi ≤ 1792) :
    Scalar.cmpi .ne (Scalar.extui (Scalar.andi (Scalar.cmpi .sgt x (BitVec.ofNat 32 lo)) (Scalar.cmpi .sle x (BitVec.ofNat 32 hi))) : BitVec 32) 0#32 = 1#1
      ↔ lo < x.toNat ∧ x.toNat ≤ hi := by
  have h1 : (BitVec.ofNat 32 lo).toNat = lo := by rw [BitVec.toNat_ofNat]; omega
  have h2 : (BitVec.ofNat 32 hi).toNat = hi := by rw [BitVec.toNat_ofNat]; omega
  have e1 : Scalar.cmpi .sgt x (BitVec.ofNat 32 lo) = BitVec.ofBool (decide (lo < x.toNat)) := by
    simp only [Scalar.cmpi, IntOp.cmpi, BitVec.slt]
    rw [BitVec.toInt_eq_toNat_of_lt (by omega), BitVec.toInt_eq_toNat_of_lt (by omega), h1]
    simp
  have e2 : Scalar.cmpi .sle x (BitVec.ofNat 32 hi) = BitVec.ofBool (decide (x.toNat ≤ hi)) := by
    simp only [Scalar.cmpi, IntOp.cmpi, BitVec.sle]
    rw [BitVec.toInt_eq_toNat_of_lt (by omega), BitVec.toInt_eq_toNat_of_lt (by omega), h2]
    simp
  rw [e1, e2]
  by_cases p : lo < x.toNat <;> by_cases q : x.toNat ≤ hi <;> simp only [p, q, decide_true, decide_false, and_true, and_false, true_iff, iff_true, false_iff, iff_false] <;> decide

/-- The condition `size = 0`, read as a number. -/
theorem condZ_iff (x : BitVec 32) : Scalar.cmpi .ne (Scalar.extui (Scalar.cmpi .eq x 0#32) : BitVec 32) 0#32 = 1#1 ↔ x.toNat = 0 := by
  by_cases h : x = 0#32
  · subst h; decide
  · have : Scalar.cmpi .eq x 0#32 = 0#1 := by
      simp only [Scalar.cmpi, IntOp.cmpi]
      rw [show (x == 0#32) = false from by simpa using h]; rfl
    rw [this]
    constructor
    · intro e; exact absurd e (by decide)
    · intro e; exact absurd (BitVec.eq_of_toNat_eq e) h

/-! ## The precondition -/

open Cert.Pre_groups_fit Cert.Pre_groups_fit.Gen

private theorem andi_ofBool (a b : Bool) : IntOp.andi (BitVec.ofBool a) (BitVec.ofBool b) = BitVec.ofBool (a && b) := by
  cases a <;> cases b <;> rfl
private theorem ofBool_eq_one (a : Bool) : BitVec.ofBool a = 1#1 ↔ a = true := by cases a <;> decide

/-- The kernel's remainder by sixteen of a word between 0 and 1792 is zero only at a multiple of 16. -/
theorem dvd_of_rem {F : FTy → Type} [FloatOps F] (s : IVec S4 32) (y : S4.Idx) (h : (s y).toNat ≤ 1792)
    (e : fn_remainder (F := F) s (constantI S_ 32 16#32) y = 0#32) : 16 ∣ (s y).toNat := by
  have hr : (IntOp.remsi .host (s y) 16#32).toNat = (s y).toNat % 16 :=
    IntOp.toNat_remsi .host (by omega) 16 (by decide) (by decide)
  have hsl : IntOp.cmpi .slt (IntOp.remsi .host (s y) 16#32) 0#32 = 0#1 := by
    simp only [IntOp.cmpi, BitVec.slt]
    rw [BitVec.toInt_eq_toNat_of_lt (by omega), hr]
    have : ¬ (((s y).toNat % 16 : Nat) : Int) < 0 := by omega
    rw [show (0#32 : BitVec 32).toInt = 0 from by decide, decide_eq_false this]; rfl
  have e' : ∀ D : BitVec 32, (if IntOp.cmpi .eq 16#32 0#32 = 1 then 1#32 else 16#32) = D →
      (if IntOp.andi (IntOp.cmpi .ne (IntOp.cmpi .slt (IntOp.remsi .host (s y) D) 0#32) (IntOp.cmpi .slt D 0#32)) (IntOp.cmpi .ne (IntOp.remsi .host (s y) D) 0#32) = 1
      then IntOp.addi (IntOp.remsi .host (s y) D) D else IntOp.remsi .host (s y) D) = 0#32 := fun D hD => by subst hD; exact e
  replace e' := e' 16#32 (by decide)
  rw [hsl, show IntOp.cmpi .slt (16#32) (0#32) = 0#1 from by decide, show IntOp.cmpi .ne (0#1) (0#1) = 0#1 from by decide, show ∀ b : BitVec 1, IntOp.andi 0#1 b = 0#1 from by decide, if_neg (by decide)] at e'
  exact (IntOp.remsi_eq_zero_iff .host (by omega) 16 (by decide) (by decide)).1 e'

/-- The sum of the four sizes as the precondition forms it. -/
theorem sum_words (s : IVec S4 32) (hs : ∀ j : Fin 4, (s (ix1 j)).toNat ≤ 1792) (j : S_.Idx) :
    (Host.reduce IntOp.addi s (constantI S_ 32 0#32) reducesTo_S4_S_d0 h_S_ j).toNat = ∑ k : Fin 4, (s (ix1 k)).toNat := by
  rw [Host.reduce_eq_fold]
  have hu : (Finset.univ.filter fun i : S4.Idx => reducesTo_S4_S_d0.drop i = j) = Finset.univ :=
    Finset.filter_true_of_mem fun i _ => funext fun a => a.elim0
  rw [hu]
  have hsum : ∑ i : S4.Idx, (s i).toNat = ∑ k : Fin 4, (s (ix1 k)).toNat := sum_idx1 (n0 := 4) fun i => (s i).toNat
  refine (StableHlo.Predicate.toNat_fold_addi _ _ ?_).trans hsum
  rw [hsum, Fin.sum_univ_four]
  have := hs 0; have := hs 1; have := hs 2; have := hs 3
  omega

/-- The precondition, decoded. -/
theorem fits_of_pre {F : FTy → Type} [FloatOps F] (s : IVec S4 32) (a b : FVec F S4 .f32) (p : FVec F S1792x4096 .bf16) (q : FVec F S1792x7168 .bf16)
    (h : fn s a b p q = fun _ => 1#1) : Fits fun j => s (ix1 j) := by
  have key : ∀ y : S4.Idx, ((s y).toNat ≤ 1792 ∧ fn_remainder (F := F) s (constantI S_ 32 16#32) y = 0#32)
      ∧ IntOp.cmpi .sle (Host.reduce IntOp.addi s (constantI S_ 32 0#32) reducesTo_S4_S_d0 h_S_ (fun a => a.elim0)) 1792#32 = 1#1 := by
    intro y
    have e : IntOp.andi (IntOp.andi (IntOp.andi (IntOp.cmpi .sge (s y) 0#32) (IntOp.cmpi .sle (s y) 1792#32))
        (IntOp.cmpi .eq (fn_remainder (F := F) s (constantI S_ 32 16#32) y) 0#32))
        (broadcastInDim S4 ![] bcast_S_S4 (fun j => IntOp.cmpi .sle (Host.reduce IntOp.addi s (constantI S_ 32 0#32) reducesTo_S4_S_d0 h_S_ j) 1792#32) y) = 1#1 := congrFun h y
    have hb : ∀ (f : S_.Idx → BitVec 1), broadcastInDim S4 ![] bcast_S_S4 f y = f (fun a => a.elim0) := fun f =>
      congrArg f (funext fun a => a.elim0)
    rw [hb] at e
    rw [IntOp.andi_eq_one, IntOp.andi_eq_one, IntOp.andi_eq_one, IntOp.cmpi_sge] at e
    obtain ⟨⟨⟨h0, h1⟩, h2⟩, h3⟩ := e
    refine ⟨⟨?_, ?_⟩, h3⟩
    · rw [IntOp.cmpi, ofBool_eq_one, BitVec.sle_iff_toInt_le] at h1
      have : (0#32 : BitVec 32).toInt = 0 := by decide
      have : (1792#32 : BitVec 32).toInt = 1792 := by decide
      have := BitVec.toInt_eq_toNat_cond (s y)
      split at this <;> omega
    · rw [IntOp.cmpi, ofBool_eq_one] at h2; simpa using h2
  have hle : ∀ j : Fin 4, (s (ix1 j)).toNat ≤ 1792 := fun j => (key (ix1 j)).1.1
  refine ⟨hle, fun j => dvd_of_rem s _ (hle j) (key (ix1 j)).1.2, ?_⟩
  have h3 := (key (ix1 0)).2
  have hs := sum_words s hle (fun a => a.elim0)
  rw [IntOp.cmpi, ofBool_eq_one, BitVec.sle_iff_toInt_le] at h3
  rw [Fin.sum_univ_four] at hs
  have := hle 0; have := hle 1; have := hle 2; have := hle 3
  rw [BitVec.toInt_eq_toNat_of_lt (by omega), hs, show (1792#32 : BitVec 32).toInt = 1792 from by decide] at h3
  omega

end Cert.Groups

end
-- ==== Proof.DwB.Spec.lean ====
/- The side condition a grid point assumes holds of any group sizes that fit, and what the point then leaves in its block. -/
module

public import proofs.«01_k».proof.Proof.DwB.Body
public import proofs.«01_k».proof.Proof.Grp.Words

@[expose] public section

set_option maxRecDepth 16384

noncomputable section

namespace Cert.Dw.Hand

open Cert.Dw Cert.Dw.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- A load of one word reads the array's word at its offset. -/
theorem wd_eq {e : EltTy} (M : Memref sig .tc .smem S4 e) (h : M.IsWhole) (x0 : Vec F S4 e) (off : Fin 1 → Nat) (inb : ∀ a, off a + S1.size a ≤ S4.size a) (j : Fin 4) (hj : off 0 = j.val) :
    wd M h x0 off inb = x0 (ix1 j) := by
  unfold wd
  rw [View.readAt_apply, h.read_unread]
  congr 1
  funext a
  match a with
  | ⟨0, _⟩ => exact Fin.ext (by show off 0 + 1 * 0 = j.val; omega)

/-- The number of a grid point's expert. -/
def ex (i : grid0.Coords) : Fin 4 := ⟨(i 1).val, (i 1).isLt⟩

/-- The number of a grid point's half of the columns. -/
theorem off1_val (i : grid0.Coords) : k0_off1 i 0 = (ex i).val := by
  show (BitVec.ofNat 32 (i 1).val).toNat = (i 1).val
  have : (i 1).val < 4 := (i 1).isLt
  rw [BitVec.toNat_ofNat]; omega

theorem col_val (i : grid0.Coords) : (Scalar.muli (BitVec.ofNat 32 (i 2).val) 3584#32).toNat = 3584 * (i 2).val := by
  have : (i 2).val < 2 := (i 2).isLt
  show (BitVec.ofNat 32 (i 2).val * 3584#32).toNat = _
  rw [BitVec.toNat_mul, BitVec.toNat_ofNat, show (3584#32 : BitVec 32).toNat = 3584 from by decide]; omega

variable {s : Fin 4 → BitVec 32}

theorem startW_le (hs : Groups.Fits s) (i : grid0.Coords) : (startW i (s 0) (s 1) (s 2) (s 3)).toNat = Groups.startN s (ex i) :=
  Groups.startW_toNat hs (ex i)

theorem startN_le (hs : Groups.Fits s) (e : Fin 4) : Groups.startN s e ≤ 1792 := by
  have := Groups.startN_add_le hs e; omega

/-- The first row of the block a point reads: its group's first row, moved up so that the block stays within the array. -/
theorem row_val (hs : Groups.Fits s) (i : grid0.Coords) (b : Nat) (hb : b ≤ 1792) :
    (Scalar.minsi (startW i (s 0) (s 1) (s 2) (s 3)) (BitVec.ofNat 32 b)).toNat = min (Groups.startN s (ex i)) b := by
  rw [Groups.minsi_toNat _ _ (by rw [startW_le hs]; exact startN_le hs _) hb, startW_le hs]

theorem row_dvd (hs : Groups.Fits s) (i : grid0.Coords) (b : Nat) (hb : b ≤ 1792) (hd : 16 ∣ b) :
    16 ∣ (Scalar.minsi (startW i (s 0) (s 1) (s 2) (s 3)) (BitVec.ofNat 32 b)).toNat := by
  rw [row_val hs i b hb]
  have := Groups.dvd_startN hs (ex i)
  rcases Nat.le_total (Groups.startN s (ex i)) b with h | h
  · rwa [Nat.min_eq_left h]
  · rwa [Nat.min_eq_right h]

/-- The condition a grid point assumes holds of sizes that fit. -/
theorem chk (hs : Groups.Fits s) (i : grid0.Coords) : k0_chk1 i (s (ex i)) (s 0) (s 1) (s 2) (s 3) := by
  unfold k0_chk1
  have h2 : (i 2).val < 2 := (i 2).isLt
  refine ⟨fun _ => row_dvd hs i 1536 (by decide) (by decide),
    fun _ a => ?_,
    fun _ a => ?_,
    fun _ => row_dvd hs i 1280 (by decide) (by decide),
    fun _ a => ?_,
    fun _ a => ?_,
    fun _ => row_dvd hs i 1024 (by decide) (by decide),
    fun _ a => ?_,
    fun _ a => ?_,
    fun _ => row_dvd hs i 768 (by decide) (by decide),
    fun _ a => ?_,
    fun _ a => ?_,
    fun _ => row_dvd hs i 512 (by decide) (by decide),
    fun _ a => ?_,
    fun _ a => ?_,
    fun _ => row_dvd hs i 256 (by decide) (by decide),
    fun _ a => ?_,
    fun _ a => ?_,
    fun _ => row_dvd hs i 0 (by decide) (by decide),
    fun _ a => ?_,
    fun _ a => ?_⟩
  · have r := row_val hs i 1536 (by decide)
    match a with
    | ⟨0, _⟩ => show (Scalar.minsi (startW i (s 0) (s 1) (s 2) (s 3)) (BitVec.ofNat 32 1536)).toNat + 256 ≤ 1792; omega
    | ⟨1, _⟩ => show (0#32 : BitVec 32).toNat + 512 ≤ 512; decide
  · have r := row_val hs i 1536 (by decide)
    match a with
    | ⟨0, _⟩ => show (Scalar.minsi (startW i (s 0) (s 1) (s 2) (s 3)) (BitVec.ofNat 32 1536)).toNat + 256 ≤ 1792; omega
    | ⟨1, _⟩ => show (Scalar.muli (BitVec.ofNat 32 (i 2).val) 3584#32).toNat + 3584 ≤ 7168; rw [col_val]; omega
  · have r := row_val hs i 1280 (by decide)
    match a with
    | ⟨0, _⟩ => show (Scalar.minsi (startW i (s 0) (s 1) (s 2) (s 3)) (BitVec.ofNat 32 1280)).toNat + 512 ≤ 1792; omega
    | ⟨1, _⟩ => show (0#32 : BitVec 32).toNat + 512 ≤ 512; decide
  · have r := row_val hs i 1280 (by decide)
    match a with
    | ⟨0, _⟩ => show (Scalar.minsi (startW i (s 0) (s 1) (s 2) (s 3)) (BitVec.ofNat 32 1280)).toNat + 512 ≤ 1792; omega
    | ⟨1, _⟩ => show (Scalar.muli (BitVec.ofNat 32 (i 2).val) 3584#32).toNat + 3584 ≤ 7168; rw [col_val]; omega
  · have r := row_val hs i 1024 (by decide)
    match a with
    | ⟨0, _⟩ => show (Scalar.minsi (startW i (s 0) (s 1) (s 2) (s 3)) (BitVec.ofNat 32 1024)).toNat + 768 ≤ 1792; omega
    | ⟨1, _⟩ => show (0#32 : BitVec 32).toNat + 512 ≤ 512; decide
  · have r := row_val hs i 1024 (by decide)
    match a with
    | ⟨0, _⟩ => show (Scalar.minsi (startW i (s 0) (s 1) (s 2) (s 3)) (BitVec.ofNat 32 1024)).toNat + 768 ≤ 1792; omega
    | ⟨1, _⟩ => show (Scalar.muli (BitVec.ofNat 32 (i 2).val) 3584#32).toNat + 3584 ≤ 7168; rw [col_val]; omega
  · have r := row_val hs i 768 (by decide)
    match a with
    | ⟨0, _⟩ => show (Scalar.minsi (startW i (s 0) (s 1) (s 2) (s 3)) (BitVec.ofNat 32 768)).toNat + 1024 ≤ 1792; omega
    | ⟨1, _⟩ => show (0#32 : BitVec 32).toNat + 512 ≤ 512; decide
  · have r := row_val hs i 768 (by decide)
    match a with
    | ⟨0, _⟩ => show (Scalar.minsi (startW i (s 0) (s 1) (s 2) (s 3)) (BitVec.ofNat 32 768)).toNat + 1024 ≤ 1792; omega
    | ⟨1, _⟩ => show (Scalar.muli (BitVec.ofNat 32 (i 2).val) 3584#32).toNat + 3584 ≤ 7168; rw [col_val]; omega
  · have r := row_val hs i 512 (by decide)
    match a with
    | ⟨0, _⟩ => show (Scalar.minsi (startW i (s 0) (s 1) (s 2) (s 3)) (BitVec.ofNat 32 512)).toNat + 1280 ≤ 1792; omega
    | ⟨1, _⟩ => show (0#32 : BitVec 32).toNat + 512 ≤ 512; decide
  · have r := row_val hs i 512 (by decide)
    match a with
    | ⟨0, _⟩ => show (Scalar.minsi (startW i (s 0) (s 1) (s 2) (s 3)) (BitVec.ofNat 32 512)).toNat + 1280 ≤ 1792; omega
    | ⟨1, _⟩ => show (Scalar.muli (BitVec.ofNat 32 (i 2).val) 3584#32).toNat + 3584 ≤ 7168; rw [col_val]; omega
  · have r := row_val hs i 256 (by decide)
    match a with
    | ⟨0, _⟩ => show (Scalar.minsi (startW i (s 0) (s 1) (s 2) (s 3)) (BitVec.ofNat 32 256)).toNat + 1536 ≤ 1792; omega
    | ⟨1, _⟩ => show (0#32 : BitVec 32).toNat + 512 ≤ 512; decide
  · have r := row_val hs i 256 (by decide)
    match a with
    | ⟨0, _⟩ => show (Scalar.minsi (startW i (s 0) (s 1) (s 2) (s 3)) (BitVec.ofNat 32 256)).toNat + 1536 ≤ 1792; omega
    | ⟨1, _⟩ => show (Scalar.muli (BitVec.ofNat 32 (i 2).val) 3584#32).toNat + 3584 ≤ 7168; rw [col_val]; omega
  · have r := row_val hs i 0 (by decide)
    match a with
    | ⟨0, _⟩ => show (Scalar.minsi (startW i (s 0) (s 1) (s 2) (s 3)) (BitVec.ofNat 32 0)).toNat + 1792 ≤ 1792; omega
    | ⟨1, _⟩ => show (0#32 : BitVec 32).toNat + 512 ≤ 512; decide
  · have r := row_val hs i 0 (by decide)
    match a with
    | ⟨0, _⟩ => show (Scalar.minsi (startW i (s 0) (s 1) (s 2) (s 3)) (BitVec.ofNat 32 0)).toNat + 1792 ≤ 1792; omega
    | ⟨1, _⟩ => show (Scalar.muli (BitVec.ofNat 32 (i 2).val) 3584#32).toNat + 3584 ≤ 7168; rw [col_val]; omega

/-! ## What a point leaves -/

/-- A block of `d` rows read from row `r` and column `q` on: its element at a row and column is the array's at the sums. -/
def IsBlock {n m d w : Nat} (e : EltTy) (r q : Nat) (x : Vec F ⟨2, ![n, m]⟩ e) (A : Vec F ⟨2, ![d, w]⟩ e) : Prop :=
  ∀ (y : (⟨2, ![d, w]⟩ : Shape).Idx) (j : (⟨2, ![n, m]⟩ : Shape).Idx), (j 0).val = r + (y 0).val → (j 1).val = q + (y 1).val → A y = x j

/-- A load of a rectangle at an offset reads such a block. -/
theorem isBlock_readAt {n m d w : Nat} {e : EltTy} (M : Memref sig .tc .vmem ⟨2, ![n, m]⟩ e) (h : M.IsWhole) (x : Vec F ⟨2, ![n, m]⟩ e) (off : Fin 2 → Nat)
    (inb : ∀ a, off a + (⟨2, ![d, w]⟩ : Shape).size a ≤ (⟨2, ![n, m]⟩ : Shape).size a) (r q : Nat) (hr : off 0 = r) (hq : off 1 = q) :
    IsBlock e r q x (M.view.readAt (Elt F) (Rect.unit (s := ⟨2, ![n, m]⟩) off (⟨2, ![d, w]⟩ : Shape).size inb).toLoadRect (h.unread x)) := by
  intro y j h0 h1
  rw [View.readAt_apply, h.read_unread]
  congr 1
  funext a
  match a with
  | ⟨0, _⟩ => exact Fin.ext (by show off 0 + 1 * (y 0).val = (j 0).val; omega)
  | ⟨1, _⟩ => exact Fin.ext (by show off 1 + 1 * (y 1).val = (j 1).val; omega)

/-- What a grid point leaves in its block, by its group's size: zero, or a product over a window of 256, 512, … 1792 rows. -/
def Desc (i : grid0.Coords) (x0 : Vec F S4 .i32) (x1 x2 : Vec F S4 .f32) (x3 : Vec F S1792x512 .bf16) (x4 : Vec F S1792x7168 .bf16) (out : Vec F S1x512x3584 .f32) : Prop :=
  let s : Fin 4 → BitVec 32 := fun j => x0 (ix1 j)
  let st := startW i (s 0) (s 1) (s 2) (s 3)
  let en := Scalar.addi st (s (ex i))
  let n := (s (ex i)).toNat
  let a := k0_pay2 (F := F) (x1 (ix1 (ex i)))
  let b := k0_pay3 (F := F) (x2 (ix1 (ex i)))
  (n = 0 → out = k0_pay4 (F := F))
  ∧ (0 < n → n ≤ 256 → ∃ A B, IsBlock .bf16 (min (Groups.startN s (ex i)) 1536) 0 x3 A ∧ IsBlock .bf16 (min (Groups.startN s (ex i)) 1536) (3584 * (i 2).val) x4 B
      ∧ out = k0_pay5 st en a b A B)
  ∧ (256 < n → n ≤ 512 → ∃ A B, IsBlock .bf16 (min (Groups.startN s (ex i)) 1280) 0 x3 A ∧ IsBlock .bf16 (min (Groups.startN s (ex i)) 1280) (3584 * (i 2).val) x4 B
      ∧ out = k0_pay6 st en a b A B)
  ∧ (512 < n → n ≤ 768 → ∃ A B, IsBlock .bf16 (min (Groups.startN s (ex i)) 1024) 0 x3 A ∧ IsBlock .bf16 (min (Groups.startN s (ex i)) 1024) (3584 * (i 2).val) x4 B
      ∧ out = k0_pay7 st en a b A B)
  ∧ (768 < n → n ≤ 1024 → ∃ A B, IsBlock .bf16 (min (Groups.startN s (ex i)) 768) 0 x3 A ∧ IsBlock .bf16 (min (Groups.startN s (ex i)) 768) (3584 * (i 2).val) x4 B
      ∧ out = k0_pay8 st en a b A B)
  ∧ (1024 < n → n ≤ 1280 → ∃ A B, IsBlock .bf16 (min (Groups.startN s (ex i)) 512) 0 x3 A ∧ IsBlock .bf16 (min (Groups.startN s (ex i)) 512) (3584 * (i 2).val) x4 B
      ∧ out = k0_pay9 st en a b A B)
  ∧ (1280 < n → n ≤ 1536 → ∃ A B, IsBlock .bf16 (min (Groups.startN s (ex i)) 256) 0 x3 A ∧ IsBlock .bf16 (min (Groups.startN s (ex i)) 256) (3584 * (i 2).val) x4 B
      ∧ out = k0_pay10 st en a b A B)
  ∧ (1536 < n → n ≤ 1792 → ∃ A B, IsBlock .bf16 (min (Groups.startN s (ex i)) 0) 0 x3 A ∧ IsBlock .bf16 (min (Groups.startN s (ex i)) 0) (3584 * (i 2).val) x4 B
      ∧ out = k0_pay1 st en a b A B)

/-- Of a group without rows the described block is zero. -/
theorem desc_0 (i : grid0.Coords) (x0 : Vec F S4 .i32) (x1 x2 : Vec F S4 .f32) (x3 : Vec F S1792x512 .bf16) (x4 : Vec F S1792x7168 .bf16) (h : (x0 (ix1 (ex i))).toNat = 0) : Desc i x0 x1 x2 x3 x4 (k0_pay4 (F := F)) := by
  refine ⟨fun _ => rfl, ?_, ?_, ?_, ?_, ?_, ?_, ?_⟩ <;> (intro (h0 : _ < (x0 (ix1 (ex i))).toNat) h1; omega)
/-- Of a group of more than 0 and at most 256 rows the described block is this product. -/
theorem desc_256 (i : grid0.Coords) (x0 : Vec F S4 .i32) (x1 x2 : Vec F S4 .f32) (x3 : Vec F S1792x512 .bf16) (x4 : Vec F S1792x7168 .bf16) (h : 0 < (x0 (ix1 (ex i))).toNat) (h' : (x0 (ix1 (ex i))).toNat ≤ 256)
    (A B) (hA : IsBlock .bf16 (min (Groups.startN (fun j => x0 (ix1 j)) (ex i)) 1536) 0 x3 A) (hB : IsBlock .bf16 (min (Groups.startN (fun j => x0 (ix1 j)) (ex i)) 1536) (3584 * (i 2).val) x4 B) :
    Desc i x0 x1 x2 x3 x4 (k0_pay5 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), fun _ _ => ⟨A, B, hA, hB, rfl⟩, ?_, ?_, ?_, ?_, ?_, ?_⟩ <;> (intro (h0 : _ < (x0 (ix1 (ex i))).toNat) (h1 : (x0 (ix1 (ex i))).toNat ≤ _); omega)
/-- Of a group of more than 256 and at most 512 rows the described block is this product. -/
theorem desc_512 (i : grid0.Coords) (x0 : Vec F S4 .i32) (x1 x2 : Vec F S4 .f32) (x3 : Vec F S1792x512 .bf16) (x4 : Vec F S1792x7168 .bf16) (h : 256 < (x0 (ix1 (ex i))).toNat) (h' : (x0 (ix1 (ex i))).toNat ≤ 512)
    (A B) (hA : IsBlock .bf16 (min (Groups.startN (fun j => x0 (ix1 j)) (ex i)) 1280) 0 x3 A) (hB : IsBlock .bf16 (min (Groups.startN (fun j => x0 (ix1 j)) (ex i)) 1280) (3584 * (i 2).val) x4 B) :
    Desc i x0 x1 x2 x3 x4 (k0_pay6 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), ?_, fun _ _ => ⟨A, B, hA, hB, rfl⟩, ?_, ?_, ?_, ?_, ?_⟩ <;> (intro (h0 : _ < (x0 (ix1 (ex i))).toNat) (h1 : (x0 (ix1 (ex i))).toNat ≤ _); omega)
/-- Of a group of more than 512 and at most 768 rows the described block is this product. -/
theorem desc_768 (i : grid0.Coords) (x0 : Vec F S4 .i32) (x1 x2 : Vec F S4 .f32) (x3 : Vec F S1792x512 .bf16) (x4 : Vec F S1792x7168 .bf16) (h : 512 < (x0 (ix1 (ex i))).toNat) (h' : (x0 (ix1 (ex i))).toNat ≤ 768)
    (A B) (hA : IsBlock .bf16 (min (Groups.startN (fun j => x0 (ix1 j)) (ex i)) 1024) 0 x3 A) (hB : IsBlock .bf16 (min (Groups.startN (fun j => x0 (ix1 j)) (ex i)) 1024) (3584 * (i 2).val) x4 B) :
    Desc i x0 x1 x2 x3 x4 (k0_pay7 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), ?_, ?_, fun _ _ => ⟨A, B, hA, hB, rfl⟩, ?_, ?_, ?_, ?_⟩ <;> (intro (h0 : _ < (x0 (ix1 (ex i))).toNat) (h1 : (x0 (ix1 (ex i))).toNat ≤ _); omega)
/-- Of a group of more than 768 and at most 1024 rows the described block is this product. -/
theorem desc_1024 (i : grid0.Coords) (x0 : Vec F S4 .i32) (x1 x2 : Vec F S4 .f32) (x3 : Vec F S1792x512 .bf16) (x4 : Vec F S1792x7168 .bf16) (h : 768 < (x0 (ix1 (ex i))).toNat) (h' : (x0 (ix1 (ex i))).toNat ≤ 1024)
    (A B) (hA : IsBlock .bf16 (min (Groups.startN (fun j => x0 (ix1 j)) (ex i)) 768) 0 x3 A) (hB : IsBlock .bf16 (min (Groups.startN (fun j => x0 (ix1 j)) (ex i)) 768) (3584 * (i 2).val) x4 B) :
    Desc i x0 x1 x2 x3 x4 (k0_pay8 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), ?_, ?_, ?_, fun _ _ => ⟨A, B, hA, hB, rfl⟩, ?_, ?_, ?_⟩ <;> (intro (h0 : _ < (x0 (ix1 (ex i))).toNat) (h1 : (x0 (ix1 (ex i))).toNat ≤ _); omega)
/-- Of a group of more than 1024 and at most 1280 rows the described block is this product. -/
theorem desc_1280 (i : grid0.Coords) (x0 : Vec F S4 .i32) (x1 x2 : Vec F S4 .f32) (x3 : Vec F S1792x512 .bf16) (x4 : Vec F S1792x7168 .bf16) (h : 1024 < (x0 (ix1 (ex i))).toNat) (h' : (x0 (ix1 (ex i))).toNat ≤ 1280)
    (A B) (hA : IsBlock .bf16 (min (Groups.startN (fun j => x0 (ix1 j)) (ex i)) 512) 0 x3 A) (hB : IsBlock .bf16 (min (Groups.startN (fun j => x0 (ix1 j)) (ex i)) 512) (3584 * (i 2).val) x4 B) :
    Desc i x0 x1 x2 x3 x4 (k0_pay9 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), ?_, ?_, ?_, ?_, fun _ _ => ⟨A, B, hA, hB, rfl⟩, ?_, ?_⟩ <;> (intro (h0 : _ < (x0 (ix1 (ex i))).toNat) (h1 : (x0 (ix1 (ex i))).toNat ≤ _); omega)
/-- Of a group of more than 1280 and at most 1536 rows the described block is this product. -/
theorem desc_1536 (i : grid0.Coords) (x0 : Vec F S4 .i32) (x1 x2 : Vec F S4 .f32) (x3 : Vec F S1792x512 .bf16) (x4 : Vec F S1792x7168 .bf16) (h : 1280 < (x0 (ix1 (ex i))).toNat) (h' : (x0 (ix1 (ex i))).toNat ≤ 1536)
    (A B) (hA : IsBlock .bf16 (min (Groups.startN (fun j => x0 (ix1 j)) (ex i)) 256) 0 x3 A) (hB : IsBlock .bf16 (min (Groups.startN (fun j => x0 (ix1 j)) (ex i)) 256) (3584 * (i 2).val) x4 B) :
    Desc i x0 x1 x2 x3 x4 (k0_pay10 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), ?_, ?_, ?_, ?_, ?_, fun _ _ => ⟨A, B, hA, hB, rfl⟩, ?_⟩ <;> (intro (h0 : _ < (x0 (ix1 (ex i))).toNat) (h1 : (x0 (ix1 (ex i))).toNat ≤ _); omega)
/-- Of a group of more than 1536 and at most 1792 rows the described block is this product. -/
theorem desc_1792 (i : grid0.Coords) (x0 : Vec F S4 .i32) (x1 x2 : Vec F S4 .f32) (x3 : Vec F S1792x512 .bf16) (x4 : Vec F S1792x7168 .bf16) (h : 1536 < (x0 (ix1 (ex i))).toNat) (h' : (x0 (ix1 (ex i))).toNat ≤ 1792)
    (A B) (hA : IsBlock .bf16 (min (Groups.startN (fun j => x0 (ix1 j)) (ex i)) 0) 0 x3 A) (hB : IsBlock .bf16 (min (Groups.startN (fun j => x0 (ix1 j)) (ex i)) 0) (3584 * (i 2).val) x4 B) :
    Desc i x0 x1 x2 x3 x4 (k0_pay1 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), ?_, ?_, ?_, ?_, ?_, ?_, fun _ _ => ⟨A, B, hA, hB, rfl⟩⟩ <;> (intro (h0 : _ < (x0 (ix1 (ex i))).toNat) (h1 : (x0 (ix1 (ex i))).toNat ≤ _); omega)

/-- The eight ways the branches go, by the size. -/
theorem cases8 (v : BitVec 32) (hle : v.toNat ≤ 1792) :
    ((condZ v = 1#1 ∧ ¬ k0_cond2 v = 1#1 ∧ ¬ k0_cond3 v = 1#1 ∧ ¬ k0_cond4 v = 1#1 ∧ ¬ k0_cond5 v = 1#1 ∧ ¬ k0_cond6 v = 1#1 ∧ ¬ k0_cond7 v = 1#1 ∧ ¬ k0_cond8 v = 1#1) ∧ v.toNat = 0)
    ∨ ((¬ condZ v = 1#1 ∧ k0_cond2 v = 1#1 ∧ ¬ k0_cond3 v = 1#1 ∧ ¬ k0_cond4 v = 1#1 ∧ ¬ k0_cond5 v = 1#1 ∧ ¬ k0_cond6 v = 1#1 ∧ ¬ k0_cond7 v = 1#1 ∧ ¬ k0_cond8 v = 1#1) ∧ 0 < v.toNat ∧ v.toNat ≤ 256)
    ∨ ((¬ condZ v = 1#1 ∧ ¬ k0_cond2 v = 1#1 ∧ k0_cond3 v = 1#1 ∧ ¬ k0_cond4 v = 1#1 ∧ ¬ k0_cond5 v = 1#1 ∧ ¬ k0_cond6 v = 1#1 ∧ ¬ k0_cond7 v = 1#1 ∧ ¬ k0_cond8 v = 1#1) ∧ 256 < v.toNat ∧ v.toNat ≤ 512)
    ∨ ((¬ condZ v = 1#1 ∧ ¬ k0_cond2 v = 1#1 ∧ ¬ k0_cond3 v = 1#1 ∧ k0_cond4 v = 1#1 ∧ ¬ k0_cond5 v = 1#1 ∧ ¬ k0_cond6 v = 1#1 ∧ ¬ k0_cond7 v = 1#1 ∧ ¬ k0_cond8 v = 1#1) ∧ 512 < v.toNat ∧ v.toNat ≤ 768)
    ∨ ((¬ condZ v = 1#1 ∧ ¬ k0_cond2 v = 1#1 ∧ ¬ k0_cond3 v = 1#1 ∧ ¬ k0_cond4 v = 1#1 ∧ k0_cond5 v = 1#1 ∧ ¬ k0_cond6 v = 1#1 ∧ ¬ k0_cond7 v = 1#1 ∧ ¬ k0_cond8 v = 1#1) ∧ 768 < v.toNat ∧ v.toNat ≤ 1024)
    ∨ ((¬ condZ v = 1#1 ∧ ¬ k0_cond2 v = 1#1 ∧ ¬ k0_cond3 v = 1#1 ∧ ¬ k0_cond4 v = 1#1 ∧ ¬ k0_cond5 v = 1#1 ∧ k0_cond6 v = 1#1 ∧ ¬ k0_cond7 v = 1#1 ∧ ¬ k0_cond8 v = 1#1) ∧ 1024 < v.toNat ∧ v.toNat ≤ 1280)
    ∨ ((¬ condZ v = 1#1 ∧ ¬ k0_cond2 v = 1#1 ∧ ¬ k0_cond3 v = 1#1 ∧ ¬ k0_cond4 v = 1#1 ∧ ¬ k0_cond5 v = 1#1 ∧ ¬ k0_cond6 v = 1#1 ∧ k0_cond7 v = 1#1 ∧ ¬ k0_cond8 v = 1#1) ∧ 1280 < v.toNat ∧ v.toNat ≤ 1536)
    ∨ ((¬ condZ v = 1#1 ∧ ¬ k0_cond2 v = 1#1 ∧ ¬ k0_cond3 v = 1#1 ∧ ¬ k0_cond4 v = 1#1 ∧ ¬ k0_cond5 v = 1#1 ∧ ¬ k0_cond6 v = 1#1 ∧ ¬ k0_cond7 v = 1#1 ∧ k0_cond8 v = 1#1) ∧ 1536 < v.toNat ∧ v.toNat ≤ 1792) := by
  have cz : condZ v = 1#1 ↔ v.toNat = 0 := Groups.condZ_iff _
  have c2 : k0_cond2 v = 1#1 ↔ 0 < v.toNat ∧ v.toNat ≤ 256 := Groups.cond_iff _ 0 256 hle (by decide) (by decide)
  have c3 : k0_cond3 v = 1#1 ↔ 256 < v.toNat ∧ v.toNat ≤ 512 := Groups.cond_iff _ 256 512 hle (by decide) (by decide)
  have c4 : k0_cond4 v = 1#1 ↔ 512 < v.toNat ∧ v.toNat ≤ 768 := Groups.cond_iff _ 512 768 hle (by decide) (by decide)
  have c5 : k0_cond5 v = 1#1 ↔ 768 < v.toNat ∧ v.toNat ≤ 1024 := Groups.cond_iff _ 768 1024 hle (by decide) (by decide)
  have c6 : k0_cond6 v = 1#1 ↔ 1024 < v.toNat ∧ v.toNat ≤ 1280 := Groups.cond_iff _ 1024 1280 hle (by decide) (by decide)
  have c7 : k0_cond7 v = 1#1 ↔ 1280 < v.toNat ∧ v.toNat ≤ 1536 := Groups.cond_iff _ 1280 1536 hle (by decide) (by decide)
  have c8 : k0_cond8 v = 1#1 ↔ 1536 < v.toNat ∧ v.toNat ≤ 1792 := Groups.cond_iff _ 1536 1792 hle (by decide) (by decide)
  rw [cz, c2, c3, c4, c5, c6, c7, c8]
  clear cz c2 c3 c4 c5 c6 c7 c8
  generalize v.toNat = n at hle ⊢
  have h : n = 0 ∨ (0 < n ∧ n ≤ 256) ∨ (256 < n ∧ n ≤ 512) ∨ (512 < n ∧ n ≤ 768) ∨ (768 < n ∧ n ≤ 1024) ∨ (1024 < n ∧ n ≤ 1280) ∨ (1280 < n ∧ n ≤ 1536) ∨ (1536 < n ∧ n ≤ 1792) := by omega
  rcases h with h | h | h | h | h | h | h | h
  · refine Or.inl ⟨⟨?_, ?_, ?_, ?_, ?_, ?_, ?_, ?_⟩, h⟩ <;> omega
  · refine Or.inr (Or.inl ⟨⟨?_, ?_, ?_, ?_, ?_, ?_, ?_, ?_⟩, h.1, h.2⟩) <;> omega
  · refine Or.inr (Or.inr (Or.inl ⟨⟨?_, ?_, ?_, ?_, ?_, ?_, ?_, ?_⟩, h.1, h.2⟩)) <;> omega
  · refine Or.inr (Or.inr (Or.inr (Or.inl ⟨⟨?_, ?_, ?_, ?_, ?_, ?_, ?_, ?_⟩, h.1, h.2⟩))) <;> omega
  · refine Or.inr (Or.inr (Or.inr (Or.inr (Or.inl ⟨⟨?_, ?_, ?_, ?_, ?_, ?_, ?_, ?_⟩, h.1, h.2⟩)))) <;> omega
  · refine Or.inr (Or.inr (Or.inr (Or.inr (Or.inr (Or.inl ⟨⟨?_, ?_, ?_, ?_, ?_, ?_, ?_, ?_⟩, h.1, h.2⟩))))) <;> omega
  · refine Or.inr (Or.inr (Or.inr (Or.inr (Or.inr (Or.inr (Or.inl ⟨⟨?_, ?_, ?_, ?_, ?_, ?_, ?_, ?_⟩, h.1, h.2⟩)))))) <;> omega
  · refine Or.inr (Or.inr (Or.inr (Or.inr (Or.inr (Or.inr (Or.inr (⟨⟨?_, ?_, ?_, ?_, ?_, ?_, ?_, ?_⟩, h.1, h.2⟩))))))) <;> omega

set_option maxHeartbeats 1000000 in
/-- The body at any grid point, of sizes that fit: it leaves a block as described, all else as it was. -/
theorem body_spec (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hs : Groups.Fits fun j => x0 (ix1 j)) :
    ∃ out, Desc i x0 x1 x2 x3 x4 out ∧ ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare out) -∗ K ⟨⟩))
          ⊢ wp frame (wpE (defs₀ (F := F)) Variants.none c none) E (cc0_dw i arg3 harg3 arg4 harg4 arg5 harg5 arg6 harg6 arg7 harg7 arg8 harg8) K := by
  have e1 : wd arg3 harg3 x0 (k0_off1 i) (k0_off1_inb i) = x0 (ix1 (ex i)) := wd_eq _ _ _ _ _ _ (off1_val i)
  have ea : wd arg4 harg4 x1 (k0_off1 i) (k0_off1_inb i) = x1 (ix1 (ex i)) := wd_eq _ _ _ _ _ _ (off1_val i)
  have eb : wd arg5 harg5 x2 (k0_off1 i) (k0_off1_inb i) = x2 (ix1 (ex i)) := wd_eq _ _ _ _ _ _ (off1_val i)
  have w0 : wd arg3 harg3 x0 ![0] inb_S4_S1_0 = x0 (ix1 0) := wd_eq _ _ _ _ _ _ rfl
  have w1 : wd arg3 harg3 x0 ![1] inb_S4_S1_1 = x0 (ix1 1) := wd_eq _ _ _ _ _ _ rfl
  have w2 : wd arg3 harg3 x0 ![2] inb_S4_S1_2 = x0 (ix1 2) := wd_eq _ _ _ _ _ _ rfl
  have w3 : wd arg3 harg3 x0 ![3] inb_S4_S1_3 = x0 (ix1 3) := wd_eq _ _ _ _ _ _ rfl
  have hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) := by
    rw [e1, w0, w1, w2, w3]; exact chk hs i
  have hst : startW i (wd arg3 harg3 x0 ![0] inb_S4_S1_0) (wd arg3 harg3 x0 ![1] inb_S4_S1_1) (wd arg3 harg3 x0 ![2] inb_S4_S1_2) (wd arg3 harg3 x0 ![3] inb_S4_S1_3)
      = startW i (x0 (ix1 0)) (x0 (ix1 1)) (x0 (ix1 2)) (x0 (ix1 3)) := by rw [w0, w1, w2, w3]
  have hrow := fun (b : Nat) (hb : b ≤ 1792) => row_val hs i b hb
  have hcol := col_val i
  have hle : (wd arg3 harg3 x0 (k0_off1 i) (k0_off1_inb i)).toNat ≤ 1792 := by rw [e1]; exact hs.le (ex i)
  rcases cases8 (wd arg3 harg3 x0 (k0_off1 i) (k0_off1_inb i)) hle with ⟨⟨hz, h2, h3, h4, h5, h6, h7, h8⟩, h⟩ | ⟨⟨hz, h2, h3, h4, h5, h6, h7, h8⟩, h, h'⟩ | ⟨⟨hz, h2, h3, h4, h5, h6, h7, h8⟩, h, h'⟩ | ⟨⟨hz, h2, h3, h4, h5, h6, h7, h8⟩, h, h'⟩ | ⟨⟨hz, h2, h3, h4, h5, h6, h7, h8⟩, h, h'⟩ | ⟨⟨hz, h2, h3, h4, h5, h6, h7, h8⟩, h, h'⟩ | ⟨⟨hz, h2, h3, h4, h5, h6, h7, h8⟩, h, h'⟩ | ⟨⟨hz, h2, h3, h4, h5, h6, h7, h8⟩, h, h'⟩
  · refine ⟨_, desc_0 i x0 x1 x2 x3 x4 (by rw [← e1]; exact h), fun E K => run_0 c i arg3 harg3 arg4 harg4 arg5 harg5 arg6 harg6 arg7 harg7 arg8 harg8 x0 x1 x2 x3 x4 hw hz h2 h3 h4 h5 h6 h7 h8 E K⟩
  · have E : ∀ A B, k0_pay5 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay5 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 1536)).toNat = min (Groups.startN (fun j => x0 (ix1 j)) (ex i)) 1536 := by
      rw [hst]; exact hrow 1536 (by decide)
    refine ⟨_, ?_, fun E K => run_256 c i arg3 harg3 arg4 harg4 arg5 harg5 arg6 harg6 arg7 harg7 arg8 harg8 x0 x1 x2 x3 x4 hw hz h2 h3 h4 h5 h6 h7 h8 E K⟩
    rw [E]
    refine desc_256 i x0 x1 x2 x3 x4 (by rw [← e1]; exact h) (by rw [← e1]; exact h') _ _ ?_ ?_
    · exact isBlock_readAt arg6 harg6 x3 (k0_off2 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off3 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol
  · have E : ∀ A B, k0_pay6 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay6 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 1280)).toNat = min (Groups.startN (fun j => x0 (ix1 j)) (ex i)) 1280 := by
      rw [hst]; exact hrow 1280 (by decide)
    refine ⟨_, ?_, fun E K => run_512 c i arg3 harg3 arg4 harg4 arg5 harg5 arg6 harg6 arg7 harg7 arg8 harg8 x0 x1 x2 x3 x4 hw hz h2 h3 h4 h5 h6 h7 h8 E K⟩
    rw [E]
    refine desc_512 i x0 x1 x2 x3 x4 (by rw [← e1]; exact h) (by rw [← e1]; exact h') _ _ ?_ ?_
    · exact isBlock_readAt arg6 harg6 x3 (k0_off4 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off5 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol
  · have E : ∀ A B, k0_pay7 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay7 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 1024)).toNat = min (Groups.startN (fun j => x0 (ix1 j)) (ex i)) 1024 := by
      rw [hst]; exact hrow 1024 (by decide)
    refine ⟨_, ?_, fun E K => run_768 c i arg3 harg3 arg4 harg4 arg5 harg5 arg6 harg6 arg7 harg7 arg8 harg8 x0 x1 x2 x3 x4 hw hz h2 h3 h4 h5 h6 h7 h8 E K⟩
    rw [E]
    refine desc_768 i x0 x1 x2 x3 x4 (by rw [← e1]; exact h) (by rw [← e1]; exact h') _ _ ?_ ?_
    · exact isBlock_readAt arg6 harg6 x3 (k0_off6 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off7 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol
  · have E : ∀ A B, k0_pay8 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay8 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 768)).toNat = min (Groups.startN (fun j => x0 (ix1 j)) (ex i)) 768 := by
      rw [hst]; exact hrow 768 (by decide)
    refine ⟨_, ?_, fun E K => run_1024 c i arg3 harg3 arg4 harg4 arg5 harg5 arg6 harg6 arg7 harg7 arg8 harg8 x0 x1 x2 x3 x4 hw hz h2 h3 h4 h5 h6 h7 h8 E K⟩
    rw [E]
    refine desc_1024 i x0 x1 x2 x3 x4 (by rw [← e1]; exact h) (by rw [← e1]; exact h') _ _ ?_ ?_
    · exact isBlock_readAt arg6 harg6 x3 (k0_off8 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off9 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol
  · have E : ∀ A B, k0_pay9 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay9 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 512)).toNat = min (Groups.startN (fun j => x0 (ix1 j)) (ex i)) 512 := by
      rw [hst]; exact hrow 512 (by decide)
    refine ⟨_, ?_, fun E K => run_1280 c i arg3 harg3 arg4 harg4 arg5 harg5 arg6 harg6 arg7 harg7 arg8 harg8 x0 x1 x2 x3 x4 hw hz h2 h3 h4 h5 h6 h7 h8 E K⟩
    rw [E]
    refine desc_1280 i x0 x1 x2 x3 x4 (by rw [← e1]; exact h) (by rw [← e1]; exact h') _ _ ?_ ?_
    · exact isBlock_readAt arg6 harg6 x3 (k0_off10 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off11 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol
  · have E : ∀ A B, k0_pay10 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay10 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 256)).toNat = min (Groups.startN (fun j => x0 (ix1 j)) (ex i)) 256 := by
      rw [hst]; exact hrow 256 (by decide)
    refine ⟨_, ?_, fun E K => run_1536 c i arg3 harg3 arg4 harg4 arg5 harg5 arg6 harg6 arg7 harg7 arg8 harg8 x0 x1 x2 x3 x4 hw hz h2 h3 h4 h5 h6 h7 h8 E K⟩
    rw [E]
    refine desc_1536 i x0 x1 x2 x3 x4 (by rw [← e1]; exact h) (by rw [← e1]; exact h') _ _ ?_ ?_
    · exact isBlock_readAt arg6 harg6 x3 (k0_off12 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off13 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol
  · have E : ∀ A B, k0_pay1 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay1 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 0)).toNat = min (Groups.startN (fun j => x0 (ix1 j)) (ex i)) 0 := by
      rw [hst]; exact hrow 0 (by decide)
    refine ⟨_, ?_, fun E K => run_1792 c i arg3 harg3 arg4 harg4 arg5 harg5 arg6 harg6 arg7 harg7 arg8 harg8 x0 x1 x2 x3 x4 hw hz h2 h3 h4 h5 h6 h7 h8 E K⟩
    rw [E]
    refine desc_1792 i x0 x1 x2 x3 x4 (by rw [← e1]; exact h) (by rw [← e1]; exact h') _ _ ?_ ?_
    · exact isBlock_readAt arg6 harg6 x3 (k0_off14 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off15 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol

end Cert.Dw.Hand

end
-- ==== Proof.DwB.Frame.lean ====
/- The kernel's run: from group sizes that fit it terminates, leaves its arguments as they were, and its result array at what the points wrote. -/
module

public import proofs.«01_k».proof.Proof.DwB.Spec

@[expose] public section

set_option maxRecDepth 16384

noncomputable section

namespace Cert.Dw.Hand

open Cert.Dw Cert.Dw.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The group sizes held at the launch fit, on every device. -/
def SizesFit : Prop := ∀ c : Dev nD, Groups.Fits fun j => (m ((c : Thread nD τ).loc main_arg0) : Vec F S4 .i32) (ix1 j)

abbrev ms0_0 (t : Fin cfg0.N) := win0_0.stage (cfg0.slots t 0)
theorem hs0_0 (t : Fin cfg0.N) : (ms0_0 t).IsWhole := hstage0_0 ((cfg0.slots t 0).cast nbuf0_0)
abbrev ms0_1 (t : Fin cfg0.N) := win0_1.stage (cfg0.slots t 1)
theorem hs0_1 (t : Fin cfg0.N) : (ms0_1 t).IsWhole := hstage0_1 ((cfg0.slots t 1).cast nbuf0_1)
abbrev ms0_2 (t : Fin cfg0.N) := win0_2.stage (cfg0.slots t 2)
theorem hs0_2 (t : Fin cfg0.N) : (ms0_2 t).IsWhole := hstage0_2 ((cfg0.slots t 2).cast nbuf0_2)
abbrev ms0_3 (t : Fin cfg0.N) := win0_3.stage (cfg0.slots t 3)
theorem hs0_3 (t : Fin cfg0.N) : (ms0_3 t).IsWhole := hstage0_3 ((cfg0.slots t 3).cast nbuf0_3)
abbrev ms0_4 (t : Fin cfg0.N) := win0_4.stage (cfg0.slots t 4)
theorem hs0_4 (t : Fin cfg0.N) : (ms0_4 t).IsWhole := hstage0_4 ((cfg0.slots t 4).cast nbuf0_4)
abbrev ms0_5 (t : Fin cfg0.N) := win0_5.stage (cfg0.slots t 5)
theorem hs0_5 (t : Fin cfg0.N) : (ms0_5 t).IsWhole := hstage0_5 ((cfg0.slots t 5).cast nbuf0_5)

/-- The block of the sizes a point is given is the sizes' array. -/
theorem iblk0_eq (c : Dev nD) (t : Fin cfg0.N) (j : Fin 4) :
    (iblk m c 0 t : Vec F S4 .i32) (ix1 j) = (m ((c : Thread nD τ).loc main_arg0) : Vec F S4 .i32) (ix1 j) := by
  unfold iblk
  rw [View.read_apply, cast_eq]
  show m ((c : Thread nD τ).loc main_arg0) _ = _
  congr 1
  funext a
  match a with
  | ⟨0, _⟩ => exact Fin.ext (show 0 * 4 + 1 * j.val = j.val by omega)

variable {m} in
theorem fits_iblk (hH : SizesFit m) (c : Dev nD) (t : Fin cfg0.N) : Groups.Fits fun j => (iblk m c 0 t : Vec F S4 .i32) (ix1 j) := by
  have h : (fun j => (iblk m c 0 t : Vec F S4 .i32) (ix1 j)) = fun j => (m ((c : Thread nD τ).loc main_arg0) : Vec F S4 .i32) (ix1 j) :=
    funext fun j => iblk0_eq m c t j
  rw [h]; exact hH c

variable {m} in
/-- The body's run at a grid point. -/
theorem spec_at (hH : SizesFit m) (c : Dev nD) (t : Fin cfg0.N) :
    ∃ out, Desc (grid0.coords t) (iblk m c 0 t) (iblk m c 1 t) (iblk m c 2 t) (iblk m c 3 t) (iblk m c 4 t) out ∧ ∀ (E : Set ℕ) (K : PUnit → sProp 𝕄),
        iprop(owns (c : Thread nD τ) (ms0_0 t) fullShare (iblk m c 0 t) ∗ owns (c : Thread nD τ) (ms0_1 t) fullShare (iblk m c 1 t) ∗ owns (c : Thread nD τ) (ms0_2 t) fullShare (iblk m c 2 t)
            ∗ owns (c : Thread nD τ) (ms0_3 t) fullShare (iblk m c 3 t) ∗ owns (c : Thread nD τ) (ms0_4 t) fullShare (iblk m c 4 t) ∗ (∃ d, owns (c : Thread nD τ) (ms0_5 t) fullShare d)
            ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t)
              ∗ owns (c : Thread nD τ) (ms0_3 t) fullShare (iblk m c 3 t) ∗ owns (c : Thread nD τ) (ms0_4 t) fullShare (iblk m c 4 t)
              ∗ owns (c : Thread nD τ) (ms0_5 t) fullShare out) -∗ K ⟨⟩))
          ⊢ wp frame (wpE (defs₀ (F := F)) Variants.none c none) E (cc0_dw (grid0.coords t) (ms0_0 t) (hs0_0 t) (ms0_1 t) (hs0_1 t) (ms0_2 t) (hs0_2 t) (ms0_3 t) (hs0_3 t) (ms0_4 t) (hs0_4 t) (ms0_5 t) (hs0_5 t)) K :=
  body_spec c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) (fits_iblk hH c t)

variable {m} in
/-- What a grid point leaves in its block of the result. -/
def outAt (hH : SizesFit m) (c : Dev nD) (t : Fin cfg0.N) : Vec F S1x512x3584 .f32 := Classical.choose (spec_at hH c t)

variable {m} in
/-- It is the described block. -/
theorem outAt_desc (hH : SizesFit m) (c : Dev nD) (t : Fin cfg0.N) :
    Desc (grid0.coords t) (iblk m c 0 t) (iblk m c 1 t) (iblk m c 2 t) (iblk m c 3 t) (iblk m c 4 t) (outAt hH c t) :=
  (Classical.choose_spec (spec_at hH c t)).1

/-- The pipeline's proof data: each input's block left in place, the result's block as its point leaves it. -/
def dats (hH : SizesFit m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt hH c t
  Φ _ := Pipeline.ΦA spec0 c
  q _ := fullShare
  owed _ := 0

theorem A_eq (hH : SizesFit m) (c : Dev nD) (w : Fin cfg0.W) : (dats m hH 0 c).A w = V m c (Pipeline.arrRef spec0 w) := by
  dsimp only [dats]

theorem after0_0 (hH : SizesFit m) (c : Dev nD) (t : Fin cfg0.N) : (dats m hH 0 c).after 0 t = iblk m c 0 t := by dsimp only [dats]
theorem after0_1 (hH : SizesFit m) (c : Dev nD) (t : Fin cfg0.N) : (dats m hH 0 c).after 1 t = iblk m c 1 t := by dsimp only [dats]
theorem after0_2 (hH : SizesFit m) (c : Dev nD) (t : Fin cfg0.N) : (dats m hH 0 c).after 2 t = iblk m c 2 t := by dsimp only [dats]
theorem after0_3 (hH : SizesFit m) (c : Dev nD) (t : Fin cfg0.N) : (dats m hH 0 c).after 3 t = iblk m c 3 t := by dsimp only [dats]
theorem after0_4 (hH : SizesFit m) (c : Dev nD) (t : Fin cfg0.N) : (dats m hH 0 c).after 4 t = iblk m c 4 t := by dsimp only [dats]
theorem after0_5 (hH : SizesFit m) (c : Dev nD) (t : Fin cfg0.N) : (dats m hH 0 c).after 5 t = outAt hH c t := by dsimp only [dats]
theorem before0_0 (hH : SizesFit m) (c : Dev nD) (t : Fin cfg0.N) (d) : (dats m hH 0 c).before 0 t d = iblk m c 0 t :=
  before0_0_of m (dats m hH 0 c) (A_eq m hH c 0) (after0_0 m hH c) t d
theorem before0_1 (hH : SizesFit m) (c : Dev nD) (t : Fin cfg0.N) (d) : (dats m hH 0 c).before 1 t d = iblk m c 1 t :=
  before0_1_of m (dats m hH 0 c) (A_eq m hH c 1) (after0_1 m hH c) t d
theorem before0_2 (hH : SizesFit m) (c : Dev nD) (t : Fin cfg0.N) (d) : (dats m hH 0 c).before 2 t d = iblk m c 2 t :=
  before0_2_of m (dats m hH 0 c) (A_eq m hH c 2) (after0_2 m hH c) t d
theorem before0_3 (hH : SizesFit m) (c : Dev nD) (t : Fin cfg0.N) (d) : (dats m hH 0 c).before 3 t d = iblk m c 3 t :=
  before0_3_of m (dats m hH 0 c) (A_eq m hH c 3) (after0_3 m hH c) t d
theorem before0_4 (hH : SizesFit m) (c : Dev nD) (t : Fin cfg0.N) (d) : (dats m hH 0 c).before 4 t d = iblk m c 4 t :=
  before0_4_of m (dats m hH 0 c) (A_eq m hH c 4) (after0_4 m hH c) t d

/-- What the body is called with at a point, -/
def bodyPre (hH : SizesFit m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d)))

/-- and what it returns. -/
def bodyPost (hH : SizesFit m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t))

set_option maxHeartbeats 1600000 in
/-- The body at any point, from the blocks the pipeline hands it to the blocks of the proof data. -/
theorem sound_body (hH : SizesFit m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5]
  iintro ⟨HP, Ho, ⟨%d0, H0⟩, ⟨%d1, H1⟩, ⟨%d2, H2⟩, ⟨%d3, H3⟩, ⟨%d4, H4⟩, ⟨%d5, H5⟩⟩
  iapply ((Classical.choose_spec (spec_at hH c t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hH : SizesFit m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

-- `θ_run_frame`'s implicit arguments are found by unifying its conclusion with this one, which takes unfolding plain
-- definitions in a metavariable's type
set_option backward.isDefEq.respectTransparency.types false in
/-- The launch: every execution ends, with every array at what the proof data gives and every semaphore counter at zero. -/
theorem run_main_quiescent (hH : SizesFit m) : θ_run defs (onTc (τ := τ) (main (F := F))) (s₀ m ρ) (fun r => (Pipeline.FramePost cfgs (dats m hH) 0 (V m)) r ∧ r.2.sem = fun _ => 0) :=
  Pipeline.θ_run_frame (Q' := _) cfgs (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

theorem run_main (hH : SizesFit m) : θ_run defs (onTc (τ := τ) (main (F := F))) (s₀ m ρ) (Pipeline.FramePost cfgs (dats m hH) 0 (V m)) :=
  (θ_run defs _ _).mono (fun _ h => h.1) (run_main_quiescent m ρ hH)

/-- The argument arrays end unchanged. -/
theorem unchanged (hH : SizesFit m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m hH) (A_eq m hH) (run_main m ρ hH)

/-- The frame claim, of sizes that fit. -/
theorem frame (hH : SizesFit m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hH) ((θ_run defs _ _).mono (fun _ h => h.2) (run_main_quiescent m ρ hH))

end Cert.Dw.Hand

end
-- ==== Proof.DwI.Body.lean ====
/- What one grid point of the weight-gradient kernel leaves in its result block: one lemma for each of the eight ways its branches
   can go (no rows for the expert, or a block of 256, 512, … 1792 rows). -/
module

public import proofs.«01_k».proof.Proof.Gen.DwIdeal.Launch
public import proofs.«01_k».proof.Proof.Gen.DwIdeal.Skeleton
public import proofs.«01_k».proof.Proof.Gen.DwIdeal.Points
public import proofs.«01_k».proof.Proof.Gen.DwIdeal.Frame
public import Idealize.ShloMosaic.Lib.Pipeline.FrameBody
public import Idealize.ShloMosaic.Lib.Ring
public import Idealize.ShloMosaic.Lib.Pipeline.ValueKit
public import Idealize.ShloMosaic.Lib.Tactic

@[expose] public section

set_option maxRecDepth 16384

noncomputable section

namespace Cert.DwIdeal.Hand

open Cert.DwIdeal Cert.DwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word of a four-word scalar array held at `x0` that a load at `off` reads. -/
abbrev wd {e : EltTy} (M : Memref sig .tc .smem S4 e) (h : M.IsWhole) (x0 : Vec F S4 e) (off : Fin 1 → Nat) (inb : ∀ a, off a + S1.size a ≤ S4.size a) : Elt F e :=
  M.view.readAt (Elt F) (Rect.unit (s := S4) off S1.size inb).toLoadRect (h.unread x0) (Shape.Idx.first (numel1_S1.symm ▸ Nat.one_pos))

/-- The first row of the point's expert, as the kernel sums it from the four sizes. -/
def startW (i : grid0.Coords) (v3 v7 v11 v15 : BitVec 32) : BitVec 32 :=
  Scalar.addi (Scalar.addi (Scalar.addi (Scalar.addi 0#32
    (Scalar.select (Scalar.cmpi .sgt (BitVec.ofNat 32 (i 1).val) 0#32) v3 0#32))
    (Scalar.select (Scalar.cmpi .sgt (BitVec.ofNat 32 (i 1).val) 1#32) v7 0#32))
    (Scalar.select (Scalar.cmpi .sgt (BitVec.ofNat 32 (i 1).val) 2#32) v11 0#32))
    (Scalar.select (Scalar.cmpi .sgt (BitVec.ofNat 32 (i 1).val) 3#32) v15 0#32)

/-- The condition of the branch for an expert without rows. -/
abbrev condZ (v1 : BitVec 32) : BitVec 1 := Scalar.cmpi .ne (Scalar.extui (Scalar.cmpi .eq v1 0#32)) 0#32

/-- A block read back after one store of the whole block is the value stored. -/
theorem read_store_whole (M : Memref sig .tc .vmem S1x512x3584 .f32) (f : M.view.ty.Contents (Elt F)) (w : Vec F S1x512x3584 .f32) :
    M.view.read (Elt F) (M.view.writes (Elt F) f [⟨Rect.unit (s := S1x512x3584) ![0, 0, 0] S1x512x3584.size inb_S1x512x3584_S1x512x3584_0_0_0, w⟩]) = w := by
  rw [View.read_writes_eq_canon _ _ _ (View.cover_of_tiledL _ S1x512x3584.size (by sl_kernel_rfl))]
  exact View.canon_cons_unit_lit _ _ _ (by decide)

set_option maxHeartbeats 2000000 in
/-- The body at a point of an expert without rows: the block is zero. -/
theorem run_0 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : condZ (wd arg3 harg3 x0 (k0_off1 i) (k0_off1_inb i)) = 1#1)
    (h2 : ¬ k0_cond2 (wd arg3 harg3 x0 (k0_off1 i) (k0_off1_inb i)) = 1#1)
    (h3 : ¬ k0_cond3 (wd arg3 harg3 x0 (k0_off1 i) (k0_off1_inb i)) = 1#1)
    (h4 : ¬ k0_cond4 (wd arg3 harg3 x0 (k0_off1 i) (k0_off1_inb i)) = 1#1)
    (h5 : ¬ k0_cond5 (wd arg3 harg3 x0 (k0_off1 i) (k0_off1_inb i)) = 1#1)
    (h6 : ¬ k0_cond6 (wd arg3 harg3 x0 (k0_off1 i) (k0_off1_inb i)) = 1#1)
    (h7 : ¬ k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay4 (F := F))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 256 rows (and more than 0): the block is the product over 256 rows, masked and scaled. -/
theorem run_256 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : k0_cond2 (wd arg3 harg3 x0 (k0_off1 i) (k0_off1_inb i)) = 1#1)
    (h3 : ¬ k0_cond3 (wd arg3 harg3 x0 (k0_off1 i) (k0_off1_inb i)) = 1#1)
    (h4 : ¬ k0_cond4 (wd arg3 harg3 x0 (k0_off1 i) (k0_off1_inb i)) = 1#1)
    (h5 : ¬ k0_cond5 (wd arg3 harg3 x0 (k0_off1 i) (k0_off1_inb i)) = 1#1)
    (h6 : ¬ k0_cond6 (wd arg3 harg3 x0 (k0_off1 i) (k0_off1_inb i)) = 1#1)
    (h7 : ¬ k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay5 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off2 i (wd arg3 harg3 x0 ![0] inb_S4_S1_0) (wd arg3 harg3 x0 ![1] inb_S4_S1_1) (wd arg3 harg3 x0 ![2] inb_S4_S1_2) (wd arg3 harg3 x0 ![3] inb_S4_S1_3)) S256x512.size (k0_off2_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h2)).toLoadRect (harg6.unread x3))
              (arg7.view.readAt (Elt F) (Rect.unit (s := S1792x7168) (k0_off3 i (wd arg3 harg3 x0 ![0] inb_S4_S1_0) (wd arg3 harg3 x0 ![1] inb_S4_S1_1) (wd arg3 harg3 x0 ![2] inb_S4_S1_2) (wd arg3 harg3 x0 ![3] inb_S4_S1_3)) S256x3584.size (k0_off3_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h2)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 512 rows (and more than 256): the block is the product over 512 rows, masked and scaled. -/
theorem run_512 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : ¬ k0_cond2 (wd arg3 harg3 x0 (k0_off1 i) (k0_off1_inb i)) = 1#1)
    (h3 : k0_cond3 (wd arg3 harg3 x0 (k0_off1 i) (k0_off1_inb i)) = 1#1)
    (h4 : ¬ k0_cond4 (wd arg3 harg3 x0 (k0_off1 i) (k0_off1_inb i)) = 1#1)
    (h5 : ¬ k0_cond5 (wd arg3 harg3 x0 (k0_off1 i) (k0_off1_inb i)) = 1#1)
    (h6 : ¬ k0_cond6 (wd arg3 harg3 x0 (k0_off1 i) (k0_off1_inb i)) = 1#1)
    (h7 : ¬ k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay6 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off4 i (wd arg3 harg3 x0 ![0] inb_S4_S1_0) (wd arg3 harg3 x0 ![1] inb_S4_S1_1) (wd arg3 harg3 x0 ![2] inb_S4_S1_2) (wd arg3 harg3 x0 ![3] inb_S4_S1_3)) S512x512.size (k0_off4_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h3)).toLoadRect (harg6.unread x3))
              (arg7.view.readAt (Elt F) (Rect.unit (s := S1792x7168) (k0_off5 i (wd arg3 harg3 x0 ![0] inb_S4_S1_0) (wd arg3 harg3 x0 ![1] inb_S4_S1_1) (wd arg3 harg3 x0 ![2] inb_S4_S1_2) (wd arg3 harg3 x0 ![3] inb_S4_S1_3)) S512x3584.size (k0_off5_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h3)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 768 rows (and more than 512): the block is the product over 768 rows, masked and scaled. -/
theorem run_768 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : ¬ k0_cond2 (wd arg3 harg3 x0 (k0_off1 i) (k0_off1_inb i)) = 1#1)
    (h3 : ¬ k0_cond3 (wd arg3 harg3 x0 (k0_off1 i) (k0_off1_inb i)) = 1#1)
    (h4 : k0_cond4 (wd arg3 harg3 x0 (k0_off1 i) (k0_off1_inb i)) = 1#1)
    (h5 : ¬ k0_cond5 (wd arg3 harg3 x0 (k0_off1 i) (k0_off1_inb i)) = 1#1)
    (h6 : ¬ k0_cond6 (wd arg3 harg3 x0 (k0_off1 i) (k0_off1_inb i)) = 1#1)
    (h7 : ¬ k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay7 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off6 i (wd arg3 harg3 x0 ![0] inb_S4_S1_0) (wd arg3 harg3 x0 ![1] inb_S4_S1_1) (wd arg3 harg3 x0 ![2] inb_S4_S1_2) (wd arg3 harg3 x0 ![3] inb_S4_S1_3)) S768x512.size (k0_off6_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h4)).toLoadRect (harg6.unread x3))
              (arg7.view.readAt (Elt F) (Rect.unit (s := S1792x7168) (k0_off7 i (wd arg3 harg3 x0 ![0] inb_S4_S1_0) (wd arg3 harg3 x0 ![1] inb_S4_S1_1) (wd arg3 harg3 x0 ![2] inb_S4_S1_2) (wd arg3 harg3 x0 ![3] inb_S4_S1_3)) S768x3584.size (k0_off7_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h4)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 1024 rows (and more than 768): the block is the product over 1024 rows, masked and scaled. -/
theorem run_1024 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : ¬ k0_cond2 (wd arg3 harg3 x0 (k0_off1 i) (k0_off1_inb i)) = 1#1)
    (h3 : ¬ k0_cond3 (wd arg3 harg3 x0 (k0_off1 i) (k0_off1_inb i)) = 1#1)
    (h4 : ¬ k0_cond4 (wd arg3 harg3 x0 (k0_off1 i) (k0_off1_inb i)) = 1#1)
    (h5 : k0_cond5 (wd arg3 harg3 x0 (k0_off1 i) (k0_off1_inb i)) = 1#1)
    (h6 : ¬ k0_cond6 (wd arg3 harg3 x0 (k0_off1 i) (k0_off1_inb i)) = 1#1)
    (h7 : ¬ k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay8 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off8 i (wd arg3 harg3 x0 ![0] inb_S4_S1_0) (wd arg3 harg3 x0 ![1] inb_S4_S1_1) (wd arg3 harg3 x0 ![2] inb_S4_S1_2) (wd arg3 harg3 x0 ![3] inb_S4_S1_3)) S1024x512.size (k0_off8_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h5)).toLoadRect (harg6.unread x3))
              (arg7.view.readAt (Elt F) (Rect.unit (s := S1792x7168) (k0_off9 i (wd arg3 harg3 x0 ![0] inb_S4_S1_0) (wd arg3 harg3 x0 ![1] inb_S4_S1_1) (wd arg3 harg3 x0 ![2] inb_S4_S1_2) (wd arg3 harg3 x0 ![3] inb_S4_S1_3)) S1024x3584.size (k0_off9_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h5)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 1280 rows (and more than 1024): the block is the product over 1280 rows, masked and scaled. -/
theorem run_1280 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : ¬ k0_cond2 (wd arg3 harg3 x0 (k0_off1 i) (k0_off1_inb i)) = 1#1)
    (h3 : ¬ k0_cond3 (wd arg3 harg3 x0 (k0_off1 i) (k0_off1_inb i)) = 1#1)
    (h4 : ¬ k0_cond4 (wd arg3 harg3 x0 (k0_off1 i) (k0_off1_inb i)) = 1#1)
    (h5 : ¬ k0_cond5 (wd arg3 harg3 x0 (k0_off1 i) (k0_off1_inb i)) = 1#1)
    (h6 : k0_cond6 (wd arg3 harg3 x0 (k0_off1 i) (k0_off1_inb i)) = 1#1)
    (h7 : ¬ k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay9 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off10 i (wd arg3 harg3 x0 ![0] inb_S4_S1_0) (wd arg3 harg3 x0 ![1] inb_S4_S1_1) (wd arg3 harg3 x0 ![2] inb_S4_S1_2) (wd arg3 harg3 x0 ![3] inb_S4_S1_3)) S1280x512.size (k0_off10_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h6)).toLoadRect (harg6.unread x3))
              (arg7.view.readAt (Elt F) (Rect.unit (s := S1792x7168) (k0_off11 i (wd arg3 harg3 x0 ![0] inb_S4_S1_0) (wd arg3 harg3 x0 ![1] inb_S4_S1_1) (wd arg3 harg3 x0 ![2] inb_S4_S1_2) (wd arg3 harg3 x0 ![3] inb_S4_S1_3)) S1280x3584.size (k0_off11_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h6)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 1536 rows (and more than 1280): the block is the product over 1536 rows, masked and scaled. -/
theorem run_1536 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : ¬ k0_cond2 (wd arg3 harg3 x0 (k0_off1 i) (k0_off1_inb i)) = 1#1)
    (h3 : ¬ k0_cond3 (wd arg3 harg3 x0 (k0_off1 i) (k0_off1_inb i)) = 1#1)
    (h4 : ¬ k0_cond4 (wd arg3 harg3 x0 (k0_off1 i) (k0_off1_inb i)) = 1#1)
    (h5 : ¬ k0_cond5 (wd arg3 harg3 x0 (k0_off1 i) (k0_off1_inb i)) = 1#1)
    (h6 : ¬ k0_cond6 (wd arg3 harg3 x0 (k0_off1 i) (k0_off1_inb i)) = 1#1)
    (h7 : k0_cond7 (wd arg3 harg3 x0 (k0_off1 i) (k0_off1_inb i)) = 1#1)
    (h8 : ¬ k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay10 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off12 i (wd arg3 harg3 x0 ![0] inb_S4_S1_0) (wd arg3 harg3 x0 ![1] inb_S4_S1_1) (wd arg3 harg3 x0 ![2] inb_S4_S1_2) (wd arg3 harg3 x0 ![3] inb_S4_S1_3)) S1536x512.size (k0_off12_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h7)).toLoadRect (harg6.unread x3))
              (arg7.view.readAt (Elt F) (Rect.unit (s := S1792x7168) (k0_off13 i (wd arg3 harg3 x0 ![0] inb_S4_S1_0) (wd arg3 harg3 x0 ![1] inb_S4_S1_1) (wd arg3 harg3 x0 ![2] inb_S4_S1_2) (wd arg3 harg3 x0 ![3] inb_S4_S1_3)) S1536x3584.size (k0_off13_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h7)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

set_option maxHeartbeats 2000000 in
/-- The body at a point of an expert of at most 1792 rows (and more than 1536): the block is the product over 1792 rows, masked and scaled. -/
theorem run_1792 (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3))
    (hz : ¬ condZ (wd arg3 harg3 x0 (k0_off1 i) (k0_off1_inb i)) = 1#1)
    (h2 : ¬ k0_cond2 (wd arg3 harg3 x0 (k0_off1 i) (k0_off1_inb i)) = 1#1)
    (h3 : ¬ k0_cond3 (wd arg3 harg3 x0 (k0_off1 i) (k0_off1_inb i)) = 1#1)
    (h4 : ¬ k0_cond4 (wd arg3 harg3 x0 (k0_off1 i) (k0_off1_inb i)) = 1#1)
    (h5 : ¬ k0_cond5 (wd arg3 harg3 x0 (k0_off1 i) (k0_off1_inb i)) = 1#1)
    (h6 : ¬ k0_cond6 (wd arg3 harg3 x0 (k0_off1 i) (k0_off1_inb i)) = 1#1)
    (h7 : ¬ k0_cond7 (wd arg3 harg3 x0 (k0_off1 i) (k0_off1_inb i)) = 1#1)
    (h8 : k0_cond8 (wd arg3 harg3 x0 (k0_off1 i) (k0_off1_inb i)) = 1#1) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare (k0_pay1 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i)))
              (k0_pay2 (wd arg4 harg4 x1 (k0_off1 i) (k0_off1_inb i))) (k0_pay3 (wd arg5 harg5 x2 (k0_off1 i) (k0_off1_inb i)))
              (arg6.view.readAt (Elt F) (Rect.unit (s := S1792x512) (k0_off14 i (wd arg3 harg3 x0 ![0] inb_S4_S1_0) (wd arg3 harg3 x0 ![1] inb_S4_S1_1) (wd arg3 harg3 x0 ![2] inb_S4_S1_2) (wd arg3 harg3 x0 ![3] inb_S4_S1_3)) S1792x512.size (k0_off14_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h8)).toLoadRect (harg6.unread x3))
              (arg7.view.readAt (Elt F) (Rect.unit (s := S1792x7168) (k0_off15 i (wd arg3 harg3 x0 ![0] inb_S4_S1_0) (wd arg3 harg3 x0 ![1] inb_S4_S1_1) (wd arg3 harg3 x0 ![2] inb_S4_S1_2) (wd arg3 harg3 x0 ![3] inb_S4_S1_3)) S1792x3584.size (k0_off15_inb i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) hw h8)).toLoadRect (harg7.unread x4)))) -∗ K ⟨⟩))
          ⊢ wp frame (wpE (defs₀ (F := F)) Variants.none c none) E (cc0_dw i arg3 harg3 arg4 harg4 arg5 harg5 arg6 harg6 arg7 harg7 arg8 harg8) K := by
  simp only [cc0_dw_eq_skeleton]; unfold cc0_dw_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec_parts (disch := first | sl_exact hw | sl_exact hz | sl_exact h2 | sl_exact h3 | sl_exact h4 | sl_exact h5 | sl_exact h6 | sl_exact h7 | sl_exact h8)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro; exact read_store_whole _ _ _

end Cert.DwIdeal.Hand

end
-- ==== Proof.DwI.Spec.lean ====
/- The side condition a grid point assumes holds of any group sizes that fit, and what the point then leaves in its block. -/
module

public import proofs.«01_k».proof.Proof.DwI.Body
public import proofs.«01_k».proof.Proof.Grp.Words

@[expose] public section

set_option maxRecDepth 16384

noncomputable section

namespace Cert.DwIdeal.Hand

open Cert.DwIdeal Cert.DwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of one word reads the array's word at its offset. -/
theorem wd_eq {e : EltTy} (M : Memref sig .tc .smem S4 e) (h : M.IsWhole) (x0 : Vec F S4 e) (off : Fin 1 → Nat) (inb : ∀ a, off a + S1.size a ≤ S4.size a) (j : Fin 4) (hj : off 0 = j.val) :
    wd M h x0 off inb = x0 (ix1 j) := by
  unfold wd
  rw [View.readAt_apply, h.read_unread]
  congr 1
  funext a
  match a with
  | ⟨0, _⟩ => exact Fin.ext (by show off 0 + 1 * 0 = j.val; omega)

/-- The number of a grid point's expert. -/
def ex (i : grid0.Coords) : Fin 4 := ⟨(i 1).val, (i 1).isLt⟩

/-- The number of a grid point's half of the columns. -/
theorem off1_val (i : grid0.Coords) : k0_off1 i 0 = (ex i).val := by
  show (BitVec.ofNat 32 (i 1).val).toNat = (i 1).val
  have : (i 1).val < 4 := (i 1).isLt
  rw [BitVec.toNat_ofNat]; omega

theorem col_val (i : grid0.Coords) : (Scalar.muli (BitVec.ofNat 32 (i 2).val) 3584#32).toNat = 3584 * (i 2).val := by
  have : (i 2).val < 2 := (i 2).isLt
  show (BitVec.ofNat 32 (i 2).val * 3584#32).toNat = _
  rw [BitVec.toNat_mul, BitVec.toNat_ofNat, show (3584#32 : BitVec 32).toNat = 3584 from by decide]; omega

variable {s : Fin 4 → BitVec 32}

theorem startW_le (hs : Groups.Fits s) (i : grid0.Coords) : (startW i (s 0) (s 1) (s 2) (s 3)).toNat = Groups.startN s (ex i) :=
  Groups.startW_toNat hs (ex i)

theorem startN_le (hs : Groups.Fits s) (e : Fin 4) : Groups.startN s e ≤ 1792 := by
  have := Groups.startN_add_le hs e; omega

/-- The first row of the block a point reads: its group's first row, moved up so that the block stays within the array. -/
theorem row_val (hs : Groups.Fits s) (i : grid0.Coords) (b : Nat) (hb : b ≤ 1792) :
    (Scalar.minsi (startW i (s 0) (s 1) (s 2) (s 3)) (BitVec.ofNat 32 b)).toNat = min (Groups.startN s (ex i)) b := by
  rw [Groups.minsi_toNat _ _ (by rw [startW_le hs]; exact startN_le hs _) hb, startW_le hs]

theorem row_dvd (hs : Groups.Fits s) (i : grid0.Coords) (b : Nat) (hb : b ≤ 1792) (hd : 16 ∣ b) :
    16 ∣ (Scalar.minsi (startW i (s 0) (s 1) (s 2) (s 3)) (BitVec.ofNat 32 b)).toNat := by
  rw [row_val hs i b hb]
  have := Groups.dvd_startN hs (ex i)
  rcases Nat.le_total (Groups.startN s (ex i)) b with h | h
  · rwa [Nat.min_eq_left h]
  · rwa [Nat.min_eq_right h]

/-- The condition a grid point assumes holds of sizes that fit. -/
theorem chk (hs : Groups.Fits s) (i : grid0.Coords) : k0_chk1 i (s (ex i)) (s 0) (s 1) (s 2) (s 3) := by
  unfold k0_chk1
  have h2 : (i 2).val < 2 := (i 2).isLt
  refine ⟨fun _ => row_dvd hs i 1536 (by decide) (by decide),
    fun _ a => ?_,
    fun _ a => ?_,
    fun _ => row_dvd hs i 1280 (by decide) (by decide),
    fun _ a => ?_,
    fun _ a => ?_,
    fun _ => row_dvd hs i 1024 (by decide) (by decide),
    fun _ a => ?_,
    fun _ a => ?_,
    fun _ => row_dvd hs i 768 (by decide) (by decide),
    fun _ a => ?_,
    fun _ a => ?_,
    fun _ => row_dvd hs i 512 (by decide) (by decide),
    fun _ a => ?_,
    fun _ a => ?_,
    fun _ => row_dvd hs i 256 (by decide) (by decide),
    fun _ a => ?_,
    fun _ a => ?_,
    fun _ => row_dvd hs i 0 (by decide) (by decide),
    fun _ a => ?_,
    fun _ a => ?_⟩
  · have r := row_val hs i 1536 (by decide)
    match a with
    | ⟨0, _⟩ => show (Scalar.minsi (startW i (s 0) (s 1) (s 2) (s 3)) (BitVec.ofNat 32 1536)).toNat + 256 ≤ 1792; omega
    | ⟨1, _⟩ => show (0#32 : BitVec 32).toNat + 512 ≤ 512; decide
  · have r := row_val hs i 1536 (by decide)
    match a with
    | ⟨0, _⟩ => show (Scalar.minsi (startW i (s 0) (s 1) (s 2) (s 3)) (BitVec.ofNat 32 1536)).toNat + 256 ≤ 1792; omega
    | ⟨1, _⟩ => show (Scalar.muli (BitVec.ofNat 32 (i 2).val) 3584#32).toNat + 3584 ≤ 7168; rw [col_val]; omega
  · have r := row_val hs i 1280 (by decide)
    match a with
    | ⟨0, _⟩ => show (Scalar.minsi (startW i (s 0) (s 1) (s 2) (s 3)) (BitVec.ofNat 32 1280)).toNat + 512 ≤ 1792; omega
    | ⟨1, _⟩ => show (0#32 : BitVec 32).toNat + 512 ≤ 512; decide
  · have r := row_val hs i 1280 (by decide)
    match a with
    | ⟨0, _⟩ => show (Scalar.minsi (startW i (s 0) (s 1) (s 2) (s 3)) (BitVec.ofNat 32 1280)).toNat + 512 ≤ 1792; omega
    | ⟨1, _⟩ => show (Scalar.muli (BitVec.ofNat 32 (i 2).val) 3584#32).toNat + 3584 ≤ 7168; rw [col_val]; omega
  · have r := row_val hs i 1024 (by decide)
    match a with
    | ⟨0, _⟩ => show (Scalar.minsi (startW i (s 0) (s 1) (s 2) (s 3)) (BitVec.ofNat 32 1024)).toNat + 768 ≤ 1792; omega
    | ⟨1, _⟩ => show (0#32 : BitVec 32).toNat + 512 ≤ 512; decide
  · have r := row_val hs i 1024 (by decide)
    match a with
    | ⟨0, _⟩ => show (Scalar.minsi (startW i (s 0) (s 1) (s 2) (s 3)) (BitVec.ofNat 32 1024)).toNat + 768 ≤ 1792; omega
    | ⟨1, _⟩ => show (Scalar.muli (BitVec.ofNat 32 (i 2).val) 3584#32).toNat + 3584 ≤ 7168; rw [col_val]; omega
  · have r := row_val hs i 768 (by decide)
    match a with
    | ⟨0, _⟩ => show (Scalar.minsi (startW i (s 0) (s 1) (s 2) (s 3)) (BitVec.ofNat 32 768)).toNat + 1024 ≤ 1792; omega
    | ⟨1, _⟩ => show (0#32 : BitVec 32).toNat + 512 ≤ 512; decide
  · have r := row_val hs i 768 (by decide)
    match a with
    | ⟨0, _⟩ => show (Scalar.minsi (startW i (s 0) (s 1) (s 2) (s 3)) (BitVec.ofNat 32 768)).toNat + 1024 ≤ 1792; omega
    | ⟨1, _⟩ => show (Scalar.muli (BitVec.ofNat 32 (i 2).val) 3584#32).toNat + 3584 ≤ 7168; rw [col_val]; omega
  · have r := row_val hs i 512 (by decide)
    match a with
    | ⟨0, _⟩ => show (Scalar.minsi (startW i (s 0) (s 1) (s 2) (s 3)) (BitVec.ofNat 32 512)).toNat + 1280 ≤ 1792; omega
    | ⟨1, _⟩ => show (0#32 : BitVec 32).toNat + 512 ≤ 512; decide
  · have r := row_val hs i 512 (by decide)
    match a with
    | ⟨0, _⟩ => show (Scalar.minsi (startW i (s 0) (s 1) (s 2) (s 3)) (BitVec.ofNat 32 512)).toNat + 1280 ≤ 1792; omega
    | ⟨1, _⟩ => show (Scalar.muli (BitVec.ofNat 32 (i 2).val) 3584#32).toNat + 3584 ≤ 7168; rw [col_val]; omega
  · have r := row_val hs i 256 (by decide)
    match a with
    | ⟨0, _⟩ => show (Scalar.minsi (startW i (s 0) (s 1) (s 2) (s 3)) (BitVec.ofNat 32 256)).toNat + 1536 ≤ 1792; omega
    | ⟨1, _⟩ => show (0#32 : BitVec 32).toNat + 512 ≤ 512; decide
  · have r := row_val hs i 256 (by decide)
    match a with
    | ⟨0, _⟩ => show (Scalar.minsi (startW i (s 0) (s 1) (s 2) (s 3)) (BitVec.ofNat 32 256)).toNat + 1536 ≤ 1792; omega
    | ⟨1, _⟩ => show (Scalar.muli (BitVec.ofNat 32 (i 2).val) 3584#32).toNat + 3584 ≤ 7168; rw [col_val]; omega
  · have r := row_val hs i 0 (by decide)
    match a with
    | ⟨0, _⟩ => show (Scalar.minsi (startW i (s 0) (s 1) (s 2) (s 3)) (BitVec.ofNat 32 0)).toNat + 1792 ≤ 1792; omega
    | ⟨1, _⟩ => show (0#32 : BitVec 32).toNat + 512 ≤ 512; decide
  · have r := row_val hs i 0 (by decide)
    match a with
    | ⟨0, _⟩ => show (Scalar.minsi (startW i (s 0) (s 1) (s 2) (s 3)) (BitVec.ofNat 32 0)).toNat + 1792 ≤ 1792; omega
    | ⟨1, _⟩ => show (Scalar.muli (BitVec.ofNat 32 (i 2).val) 3584#32).toNat + 3584 ≤ 7168; rw [col_val]; omega

/-! ## What a point leaves -/

/-- A block of `d` rows read from row `r` and column `q` on: its element at a row and column is the array's at the sums. -/
def IsBlock {n m d w : Nat} (e : EltTy) (r q : Nat) (x : Vec F ⟨2, ![n, m]⟩ e) (A : Vec F ⟨2, ![d, w]⟩ e) : Prop :=
  ∀ (y : (⟨2, ![d, w]⟩ : Shape).Idx) (j : (⟨2, ![n, m]⟩ : Shape).Idx), (j 0).val = r + (y 0).val → (j 1).val = q + (y 1).val → A y = x j

/-- A load of a rectangle at an offset reads such a block. -/
theorem isBlock_readAt {n m d w : Nat} {e : EltTy} (M : Memref sig .tc .vmem ⟨2, ![n, m]⟩ e) (h : M.IsWhole) (x : Vec F ⟨2, ![n, m]⟩ e) (off : Fin 2 → Nat)
    (inb : ∀ a, off a + (⟨2, ![d, w]⟩ : Shape).size a ≤ (⟨2, ![n, m]⟩ : Shape).size a) (r q : Nat) (hr : off 0 = r) (hq : off 1 = q) :
    IsBlock e r q x (M.view.readAt (Elt F) (Rect.unit (s := ⟨2, ![n, m]⟩) off (⟨2, ![d, w]⟩ : Shape).size inb).toLoadRect (h.unread x)) := by
  intro y j h0 h1
  rw [View.readAt_apply, h.read_unread]
  congr 1
  funext a
  match a with
  | ⟨0, _⟩ => exact Fin.ext (by show off 0 + 1 * (y 0).val = (j 0).val; omega)
  | ⟨1, _⟩ => exact Fin.ext (by show off 1 + 1 * (y 1).val = (j 1).val; omega)

/-- What a grid point leaves in its block, by its group's size: zero, or a product over a window of 256, 512, … 1792 rows. -/
def Desc (i : grid0.Coords) (x0 : Vec F S4 .i32) (x1 x2 : Vec F S4 .f32) (x3 : Vec F S1792x512 .bf16) (x4 : Vec F S1792x7168 .bf16) (out : Vec F S1x512x3584 .f32) : Prop :=
  let s : Fin 4 → BitVec 32 := fun j => x0 (ix1 j)
  let st := startW i (s 0) (s 1) (s 2) (s 3)
  let en := Scalar.addi st (s (ex i))
  let n := (s (ex i)).toNat
  let a := k0_pay2 (F := F) (x1 (ix1 (ex i)))
  let b := k0_pay3 (F := F) (x2 (ix1 (ex i)))
  (n = 0 → out = k0_pay4 (F := F))
  ∧ (0 < n → n ≤ 256 → ∃ A B, IsBlock .bf16 (min (Groups.startN s (ex i)) 1536) 0 x3 A ∧ IsBlock .bf16 (min (Groups.startN s (ex i)) 1536) (3584 * (i 2).val) x4 B
      ∧ out = k0_pay5 st en a b A B)
  ∧ (256 < n → n ≤ 512 → ∃ A B, IsBlock .bf16 (min (Groups.startN s (ex i)) 1280) 0 x3 A ∧ IsBlock .bf16 (min (Groups.startN s (ex i)) 1280) (3584 * (i 2).val) x4 B
      ∧ out = k0_pay6 st en a b A B)
  ∧ (512 < n → n ≤ 768 → ∃ A B, IsBlock .bf16 (min (Groups.startN s (ex i)) 1024) 0 x3 A ∧ IsBlock .bf16 (min (Groups.startN s (ex i)) 1024) (3584 * (i 2).val) x4 B
      ∧ out = k0_pay7 st en a b A B)
  ∧ (768 < n → n ≤ 1024 → ∃ A B, IsBlock .bf16 (min (Groups.startN s (ex i)) 768) 0 x3 A ∧ IsBlock .bf16 (min (Groups.startN s (ex i)) 768) (3584 * (i 2).val) x4 B
      ∧ out = k0_pay8 st en a b A B)
  ∧ (1024 < n → n ≤ 1280 → ∃ A B, IsBlock .bf16 (min (Groups.startN s (ex i)) 512) 0 x3 A ∧ IsBlock .bf16 (min (Groups.startN s (ex i)) 512) (3584 * (i 2).val) x4 B
      ∧ out = k0_pay9 st en a b A B)
  ∧ (1280 < n → n ≤ 1536 → ∃ A B, IsBlock .bf16 (min (Groups.startN s (ex i)) 256) 0 x3 A ∧ IsBlock .bf16 (min (Groups.startN s (ex i)) 256) (3584 * (i 2).val) x4 B
      ∧ out = k0_pay10 st en a b A B)
  ∧ (1536 < n → n ≤ 1792 → ∃ A B, IsBlock .bf16 (min (Groups.startN s (ex i)) 0) 0 x3 A ∧ IsBlock .bf16 (min (Groups.startN s (ex i)) 0) (3584 * (i 2).val) x4 B
      ∧ out = k0_pay1 st en a b A B)

/-- Of a group without rows the described block is zero. -/
theorem desc_0 (i : grid0.Coords) (x0 : Vec F S4 .i32) (x1 x2 : Vec F S4 .f32) (x3 : Vec F S1792x512 .bf16) (x4 : Vec F S1792x7168 .bf16) (h : (x0 (ix1 (ex i))).toNat = 0) : Desc i x0 x1 x2 x3 x4 (k0_pay4 (F := F)) := by
  refine ⟨fun _ => rfl, ?_, ?_, ?_, ?_, ?_, ?_, ?_⟩ <;> (intro (h0 : _ < (x0 (ix1 (ex i))).toNat) h1; omega)
/-- Of a group of more than 0 and at most 256 rows the described block is this product. -/
theorem desc_256 (i : grid0.Coords) (x0 : Vec F S4 .i32) (x1 x2 : Vec F S4 .f32) (x3 : Vec F S1792x512 .bf16) (x4 : Vec F S1792x7168 .bf16) (h : 0 < (x0 (ix1 (ex i))).toNat) (h' : (x0 (ix1 (ex i))).toNat ≤ 256)
    (A B) (hA : IsBlock .bf16 (min (Groups.startN (fun j => x0 (ix1 j)) (ex i)) 1536) 0 x3 A) (hB : IsBlock .bf16 (min (Groups.startN (fun j => x0 (ix1 j)) (ex i)) 1536) (3584 * (i 2).val) x4 B) :
    Desc i x0 x1 x2 x3 x4 (k0_pay5 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), fun _ _ => ⟨A, B, hA, hB, rfl⟩, ?_, ?_, ?_, ?_, ?_, ?_⟩ <;> (intro (h0 : _ < (x0 (ix1 (ex i))).toNat) (h1 : (x0 (ix1 (ex i))).toNat ≤ _); omega)
/-- Of a group of more than 256 and at most 512 rows the described block is this product. -/
theorem desc_512 (i : grid0.Coords) (x0 : Vec F S4 .i32) (x1 x2 : Vec F S4 .f32) (x3 : Vec F S1792x512 .bf16) (x4 : Vec F S1792x7168 .bf16) (h : 256 < (x0 (ix1 (ex i))).toNat) (h' : (x0 (ix1 (ex i))).toNat ≤ 512)
    (A B) (hA : IsBlock .bf16 (min (Groups.startN (fun j => x0 (ix1 j)) (ex i)) 1280) 0 x3 A) (hB : IsBlock .bf16 (min (Groups.startN (fun j => x0 (ix1 j)) (ex i)) 1280) (3584 * (i 2).val) x4 B) :
    Desc i x0 x1 x2 x3 x4 (k0_pay6 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), ?_, fun _ _ => ⟨A, B, hA, hB, rfl⟩, ?_, ?_, ?_, ?_, ?_⟩ <;> (intro (h0 : _ < (x0 (ix1 (ex i))).toNat) (h1 : (x0 (ix1 (ex i))).toNat ≤ _); omega)
/-- Of a group of more than 512 and at most 768 rows the described block is this product. -/
theorem desc_768 (i : grid0.Coords) (x0 : Vec F S4 .i32) (x1 x2 : Vec F S4 .f32) (x3 : Vec F S1792x512 .bf16) (x4 : Vec F S1792x7168 .bf16) (h : 512 < (x0 (ix1 (ex i))).toNat) (h' : (x0 (ix1 (ex i))).toNat ≤ 768)
    (A B) (hA : IsBlock .bf16 (min (Groups.startN (fun j => x0 (ix1 j)) (ex i)) 1024) 0 x3 A) (hB : IsBlock .bf16 (min (Groups.startN (fun j => x0 (ix1 j)) (ex i)) 1024) (3584 * (i 2).val) x4 B) :
    Desc i x0 x1 x2 x3 x4 (k0_pay7 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), ?_, ?_, fun _ _ => ⟨A, B, hA, hB, rfl⟩, ?_, ?_, ?_, ?_⟩ <;> (intro (h0 : _ < (x0 (ix1 (ex i))).toNat) (h1 : (x0 (ix1 (ex i))).toNat ≤ _); omega)
/-- Of a group of more than 768 and at most 1024 rows the described block is this product. -/
theorem desc_1024 (i : grid0.Coords) (x0 : Vec F S4 .i32) (x1 x2 : Vec F S4 .f32) (x3 : Vec F S1792x512 .bf16) (x4 : Vec F S1792x7168 .bf16) (h : 768 < (x0 (ix1 (ex i))).toNat) (h' : (x0 (ix1 (ex i))).toNat ≤ 1024)
    (A B) (hA : IsBlock .bf16 (min (Groups.startN (fun j => x0 (ix1 j)) (ex i)) 768) 0 x3 A) (hB : IsBlock .bf16 (min (Groups.startN (fun j => x0 (ix1 j)) (ex i)) 768) (3584 * (i 2).val) x4 B) :
    Desc i x0 x1 x2 x3 x4 (k0_pay8 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), ?_, ?_, ?_, fun _ _ => ⟨A, B, hA, hB, rfl⟩, ?_, ?_, ?_⟩ <;> (intro (h0 : _ < (x0 (ix1 (ex i))).toNat) (h1 : (x0 (ix1 (ex i))).toNat ≤ _); omega)
/-- Of a group of more than 1024 and at most 1280 rows the described block is this product. -/
theorem desc_1280 (i : grid0.Coords) (x0 : Vec F S4 .i32) (x1 x2 : Vec F S4 .f32) (x3 : Vec F S1792x512 .bf16) (x4 : Vec F S1792x7168 .bf16) (h : 1024 < (x0 (ix1 (ex i))).toNat) (h' : (x0 (ix1 (ex i))).toNat ≤ 1280)
    (A B) (hA : IsBlock .bf16 (min (Groups.startN (fun j => x0 (ix1 j)) (ex i)) 512) 0 x3 A) (hB : IsBlock .bf16 (min (Groups.startN (fun j => x0 (ix1 j)) (ex i)) 512) (3584 * (i 2).val) x4 B) :
    Desc i x0 x1 x2 x3 x4 (k0_pay9 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), ?_, ?_, ?_, ?_, fun _ _ => ⟨A, B, hA, hB, rfl⟩, ?_, ?_⟩ <;> (intro (h0 : _ < (x0 (ix1 (ex i))).toNat) (h1 : (x0 (ix1 (ex i))).toNat ≤ _); omega)
/-- Of a group of more than 1280 and at most 1536 rows the described block is this product. -/
theorem desc_1536 (i : grid0.Coords) (x0 : Vec F S4 .i32) (x1 x2 : Vec F S4 .f32) (x3 : Vec F S1792x512 .bf16) (x4 : Vec F S1792x7168 .bf16) (h : 1280 < (x0 (ix1 (ex i))).toNat) (h' : (x0 (ix1 (ex i))).toNat ≤ 1536)
    (A B) (hA : IsBlock .bf16 (min (Groups.startN (fun j => x0 (ix1 j)) (ex i)) 256) 0 x3 A) (hB : IsBlock .bf16 (min (Groups.startN (fun j => x0 (ix1 j)) (ex i)) 256) (3584 * (i 2).val) x4 B) :
    Desc i x0 x1 x2 x3 x4 (k0_pay10 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), ?_, ?_, ?_, ?_, ?_, fun _ _ => ⟨A, B, hA, hB, rfl⟩, ?_⟩ <;> (intro (h0 : _ < (x0 (ix1 (ex i))).toNat) (h1 : (x0 (ix1 (ex i))).toNat ≤ _); omega)
/-- Of a group of more than 1536 and at most 1792 rows the described block is this product. -/
theorem desc_1792 (i : grid0.Coords) (x0 : Vec F S4 .i32) (x1 x2 : Vec F S4 .f32) (x3 : Vec F S1792x512 .bf16) (x4 : Vec F S1792x7168 .bf16) (h : 1536 < (x0 (ix1 (ex i))).toNat) (h' : (x0 (ix1 (ex i))).toNat ≤ 1792)
    (A B) (hA : IsBlock .bf16 (min (Groups.startN (fun j => x0 (ix1 j)) (ex i)) 0) 0 x3 A) (hB : IsBlock .bf16 (min (Groups.startN (fun j => x0 (ix1 j)) (ex i)) 0) (3584 * (i 2).val) x4 B) :
    Desc i x0 x1 x2 x3 x4 (k0_pay1 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B) := by
  refine ⟨fun (h0 : (x0 (ix1 (ex i))).toNat = 0) => absurd h (by omega), ?_, ?_, ?_, ?_, ?_, ?_, fun _ _ => ⟨A, B, hA, hB, rfl⟩⟩ <;> (intro (h0 : _ < (x0 (ix1 (ex i))).toNat) (h1 : (x0 (ix1 (ex i))).toNat ≤ _); omega)

/-- The eight ways the branches go, by the size. -/
theorem cases8 (v : BitVec 32) (hle : v.toNat ≤ 1792) :
    ((condZ v = 1#1 ∧ ¬ k0_cond2 v = 1#1 ∧ ¬ k0_cond3 v = 1#1 ∧ ¬ k0_cond4 v = 1#1 ∧ ¬ k0_cond5 v = 1#1 ∧ ¬ k0_cond6 v = 1#1 ∧ ¬ k0_cond7 v = 1#1 ∧ ¬ k0_cond8 v = 1#1) ∧ v.toNat = 0)
    ∨ ((¬ condZ v = 1#1 ∧ k0_cond2 v = 1#1 ∧ ¬ k0_cond3 v = 1#1 ∧ ¬ k0_cond4 v = 1#1 ∧ ¬ k0_cond5 v = 1#1 ∧ ¬ k0_cond6 v = 1#1 ∧ ¬ k0_cond7 v = 1#1 ∧ ¬ k0_cond8 v = 1#1) ∧ 0 < v.toNat ∧ v.toNat ≤ 256)
    ∨ ((¬ condZ v = 1#1 ∧ ¬ k0_cond2 v = 1#1 ∧ k0_cond3 v = 1#1 ∧ ¬ k0_cond4 v = 1#1 ∧ ¬ k0_cond5 v = 1#1 ∧ ¬ k0_cond6 v = 1#1 ∧ ¬ k0_cond7 v = 1#1 ∧ ¬ k0_cond8 v = 1#1) ∧ 256 < v.toNat ∧ v.toNat ≤ 512)
    ∨ ((¬ condZ v = 1#1 ∧ ¬ k0_cond2 v = 1#1 ∧ ¬ k0_cond3 v = 1#1 ∧ k0_cond4 v = 1#1 ∧ ¬ k0_cond5 v = 1#1 ∧ ¬ k0_cond6 v = 1#1 ∧ ¬ k0_cond7 v = 1#1 ∧ ¬ k0_cond8 v = 1#1) ∧ 512 < v.toNat ∧ v.toNat ≤ 768)
    ∨ ((¬ condZ v = 1#1 ∧ ¬ k0_cond2 v = 1#1 ∧ ¬ k0_cond3 v = 1#1 ∧ ¬ k0_cond4 v = 1#1 ∧ k0_cond5 v = 1#1 ∧ ¬ k0_cond6 v = 1#1 ∧ ¬ k0_cond7 v = 1#1 ∧ ¬ k0_cond8 v = 1#1) ∧ 768 < v.toNat ∧ v.toNat ≤ 1024)
    ∨ ((¬ condZ v = 1#1 ∧ ¬ k0_cond2 v = 1#1 ∧ ¬ k0_cond3 v = 1#1 ∧ ¬ k0_cond4 v = 1#1 ∧ ¬ k0_cond5 v = 1#1 ∧ k0_cond6 v = 1#1 ∧ ¬ k0_cond7 v = 1#1 ∧ ¬ k0_cond8 v = 1#1) ∧ 1024 < v.toNat ∧ v.toNat ≤ 1280)
    ∨ ((¬ condZ v = 1#1 ∧ ¬ k0_cond2 v = 1#1 ∧ ¬ k0_cond3 v = 1#1 ∧ ¬ k0_cond4 v = 1#1 ∧ ¬ k0_cond5 v = 1#1 ∧ ¬ k0_cond6 v = 1#1 ∧ k0_cond7 v = 1#1 ∧ ¬ k0_cond8 v = 1#1) ∧ 1280 < v.toNat ∧ v.toNat ≤ 1536)
    ∨ ((¬ condZ v = 1#1 ∧ ¬ k0_cond2 v = 1#1 ∧ ¬ k0_cond3 v = 1#1 ∧ ¬ k0_cond4 v = 1#1 ∧ ¬ k0_cond5 v = 1#1 ∧ ¬ k0_cond6 v = 1#1 ∧ ¬ k0_cond7 v = 1#1 ∧ k0_cond8 v = 1#1) ∧ 1536 < v.toNat ∧ v.toNat ≤ 1792) := by
  have cz : condZ v = 1#1 ↔ v.toNat = 0 := Groups.condZ_iff _
  have c2 : k0_cond2 v = 1#1 ↔ 0 < v.toNat ∧ v.toNat ≤ 256 := Groups.cond_iff _ 0 256 hle (by decide) (by decide)
  have c3 : k0_cond3 v = 1#1 ↔ 256 < v.toNat ∧ v.toNat ≤ 512 := Groups.cond_iff _ 256 512 hle (by decide) (by decide)
  have c4 : k0_cond4 v = 1#1 ↔ 512 < v.toNat ∧ v.toNat ≤ 768 := Groups.cond_iff _ 512 768 hle (by decide) (by decide)
  have c5 : k0_cond5 v = 1#1 ↔ 768 < v.toNat ∧ v.toNat ≤ 1024 := Groups.cond_iff _ 768 1024 hle (by decide) (by decide)
  have c6 : k0_cond6 v = 1#1 ↔ 1024 < v.toNat ∧ v.toNat ≤ 1280 := Groups.cond_iff _ 1024 1280 hle (by decide) (by decide)
  have c7 : k0_cond7 v = 1#1 ↔ 1280 < v.toNat ∧ v.toNat ≤ 1536 := Groups.cond_iff _ 1280 1536 hle (by decide) (by decide)
  have c8 : k0_cond8 v = 1#1 ↔ 1536 < v.toNat ∧ v.toNat ≤ 1792 := Groups.cond_iff _ 1536 1792 hle (by decide) (by decide)
  rw [cz, c2, c3, c4, c5, c6, c7, c8]
  clear cz c2 c3 c4 c5 c6 c7 c8
  generalize v.toNat = n at hle ⊢
  have h : n = 0 ∨ (0 < n ∧ n ≤ 256) ∨ (256 < n ∧ n ≤ 512) ∨ (512 < n ∧ n ≤ 768) ∨ (768 < n ∧ n ≤ 1024) ∨ (1024 < n ∧ n ≤ 1280) ∨ (1280 < n ∧ n ≤ 1536) ∨ (1536 < n ∧ n ≤ 1792) := by omega
  rcases h with h | h | h | h | h | h | h | h
  · refine Or.inl ⟨⟨?_, ?_, ?_, ?_, ?_, ?_, ?_, ?_⟩, h⟩ <;> omega
  · refine Or.inr (Or.inl ⟨⟨?_, ?_, ?_, ?_, ?_, ?_, ?_, ?_⟩, h.1, h.2⟩) <;> omega
  · refine Or.inr (Or.inr (Or.inl ⟨⟨?_, ?_, ?_, ?_, ?_, ?_, ?_, ?_⟩, h.1, h.2⟩)) <;> omega
  · refine Or.inr (Or.inr (Or.inr (Or.inl ⟨⟨?_, ?_, ?_, ?_, ?_, ?_, ?_, ?_⟩, h.1, h.2⟩))) <;> omega
  · refine Or.inr (Or.inr (Or.inr (Or.inr (Or.inl ⟨⟨?_, ?_, ?_, ?_, ?_, ?_, ?_, ?_⟩, h.1, h.2⟩)))) <;> omega
  · refine Or.inr (Or.inr (Or.inr (Or.inr (Or.inr (Or.inl ⟨⟨?_, ?_, ?_, ?_, ?_, ?_, ?_, ?_⟩, h.1, h.2⟩))))) <;> omega
  · refine Or.inr (Or.inr (Or.inr (Or.inr (Or.inr (Or.inr (Or.inl ⟨⟨?_, ?_, ?_, ?_, ?_, ?_, ?_, ?_⟩, h.1, h.2⟩)))))) <;> omega
  · refine Or.inr (Or.inr (Or.inr (Or.inr (Or.inr (Or.inr (Or.inr (⟨⟨?_, ?_, ?_, ?_, ?_, ?_, ?_, ?_⟩, h.1, h.2⟩))))))) <;> omega

set_option maxHeartbeats 1000000 in
/-- The body at any grid point, of sizes that fit: it leaves a block as described, all else as it was. -/
theorem body_spec (c : Dev nD) (i : grid0.Coords) (arg3 : Memref sig .tc .smem S4 .i32) (harg3 : arg3.IsWhole) (arg4 : Memref sig .tc .smem S4 .f32) (harg4 : arg4.IsWhole) (arg5 : Memref sig .tc .smem S4 .f32) (harg5 : arg5.IsWhole) (arg6 : Memref sig .tc .vmem S1792x512 .bf16) (harg6 : arg6.IsWhole) (arg7 : Memref sig .tc .vmem S1792x7168 .bf16) (harg7 : arg7.IsWhole) (arg8 : Memref sig .tc .vmem S1x512x3584 .f32) (harg8 : arg8.IsWhole)
    (x0 : Vec F S4 .i32) (x1 : Vec F S4 .f32) (x2 : Vec F S4 .f32) (x3 : Vec F S1792x512 .bf16) (x4 : Vec F S1792x7168 .bf16)
    (hs : Groups.Fits fun j => x0 (ix1 j)) :
    ∃ out, Desc i x0 x1 x2 x3 x4 out ∧ ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4
              ∗ owns (c : Thread nD τ) arg8 fullShare out) -∗ K ⟨⟩))
          ⊢ wp frame (wpE (defs₀ (F := F)) Variants.none c none) E (cc0_dw i arg3 harg3 arg4 harg4 arg5 harg5 arg6 harg6 arg7 harg7 arg8 harg8) K := by
  have e1 : wd arg3 harg3 x0 (k0_off1 i) (k0_off1_inb i) = x0 (ix1 (ex i)) := wd_eq _ _ _ _ _ _ (off1_val i)
  have ea : wd arg4 harg4 x1 (k0_off1 i) (k0_off1_inb i) = x1 (ix1 (ex i)) := wd_eq _ _ _ _ _ _ (off1_val i)
  have eb : wd arg5 harg5 x2 (k0_off1 i) (k0_off1_inb i) = x2 (ix1 (ex i)) := wd_eq _ _ _ _ _ _ (off1_val i)
  have w0 : wd arg3 harg3 x0 ![0] inb_S4_S1_0 = x0 (ix1 0) := wd_eq _ _ _ _ _ _ rfl
  have w1 : wd arg3 harg3 x0 ![1] inb_S4_S1_1 = x0 (ix1 1) := wd_eq _ _ _ _ _ _ rfl
  have w2 : wd arg3 harg3 x0 ![2] inb_S4_S1_2 = x0 (ix1 2) := wd_eq _ _ _ _ _ _ rfl
  have w3 : wd arg3 harg3 x0 ![3] inb_S4_S1_3 = x0 (ix1 3) := wd_eq _ _ _ _ _ _ rfl
  have hw : k0_chk1 i (wd arg3 harg3 x0 (k0_off1 i) (k0_off1_inb i)) (wd arg3 harg3 x0 ![0] inb_S4_S1_0) (wd arg3 harg3 x0 ![1] inb_S4_S1_1) (wd arg3 harg3 x0 ![2] inb_S4_S1_2) (wd arg3 harg3 x0 ![3] inb_S4_S1_3) := by
    rw [e1, w0, w1, w2, w3]; exact chk hs i
  have hst : startW i (wd arg3 harg3 x0 ![0] inb_S4_S1_0) (wd arg3 harg3 x0 ![1] inb_S4_S1_1) (wd arg3 harg3 x0 ![2] inb_S4_S1_2) (wd arg3 harg3 x0 ![3] inb_S4_S1_3)
      = startW i (x0 (ix1 0)) (x0 (ix1 1)) (x0 (ix1 2)) (x0 (ix1 3)) := by rw [w0, w1, w2, w3]
  have hrow := fun (b : Nat) (hb : b ≤ 1792) => row_val hs i b hb
  have hcol := col_val i
  have hle : (wd arg3 harg3 x0 (k0_off1 i) (k0_off1_inb i)).toNat ≤ 1792 := by rw [e1]; exact hs.le (ex i)
  rcases cases8 (wd arg3 harg3 x0 (k0_off1 i) (k0_off1_inb i)) hle with ⟨⟨hz, h2, h3, h4, h5, h6, h7, h8⟩, h⟩ | ⟨⟨hz, h2, h3, h4, h5, h6, h7, h8⟩, h, h'⟩ | ⟨⟨hz, h2, h3, h4, h5, h6, h7, h8⟩, h, h'⟩ | ⟨⟨hz, h2, h3, h4, h5, h6, h7, h8⟩, h, h'⟩ | ⟨⟨hz, h2, h3, h4, h5, h6, h7, h8⟩, h, h'⟩ | ⟨⟨hz, h2, h3, h4, h5, h6, h7, h8⟩, h, h'⟩ | ⟨⟨hz, h2, h3, h4, h5, h6, h7, h8⟩, h, h'⟩ | ⟨⟨hz, h2, h3, h4, h5, h6, h7, h8⟩, h, h'⟩
  · refine ⟨_, desc_0 i x0 x1 x2 x3 x4 (by rw [← e1]; exact h), fun E K => run_0 c i arg3 harg3 arg4 harg4 arg5 harg5 arg6 harg6 arg7 harg7 arg8 harg8 x0 x1 x2 x3 x4 hw hz h2 h3 h4 h5 h6 h7 h8 E K⟩
  · have E : ∀ A B, k0_pay5 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay5 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 1536)).toNat = min (Groups.startN (fun j => x0 (ix1 j)) (ex i)) 1536 := by
      rw [hst]; exact hrow 1536 (by decide)
    refine ⟨_, ?_, fun E K => run_256 c i arg3 harg3 arg4 harg4 arg5 harg5 arg6 harg6 arg7 harg7 arg8 harg8 x0 x1 x2 x3 x4 hw hz h2 h3 h4 h5 h6 h7 h8 E K⟩
    rw [E]
    refine desc_256 i x0 x1 x2 x3 x4 (by rw [← e1]; exact h) (by rw [← e1]; exact h') _ _ ?_ ?_
    · exact isBlock_readAt arg6 harg6 x3 (k0_off2 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off3 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol
  · have E : ∀ A B, k0_pay6 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay6 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 1280)).toNat = min (Groups.startN (fun j => x0 (ix1 j)) (ex i)) 1280 := by
      rw [hst]; exact hrow 1280 (by decide)
    refine ⟨_, ?_, fun E K => run_512 c i arg3 harg3 arg4 harg4 arg5 harg5 arg6 harg6 arg7 harg7 arg8 harg8 x0 x1 x2 x3 x4 hw hz h2 h3 h4 h5 h6 h7 h8 E K⟩
    rw [E]
    refine desc_512 i x0 x1 x2 x3 x4 (by rw [← e1]; exact h) (by rw [← e1]; exact h') _ _ ?_ ?_
    · exact isBlock_readAt arg6 harg6 x3 (k0_off4 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off5 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol
  · have E : ∀ A B, k0_pay7 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay7 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 1024)).toNat = min (Groups.startN (fun j => x0 (ix1 j)) (ex i)) 1024 := by
      rw [hst]; exact hrow 1024 (by decide)
    refine ⟨_, ?_, fun E K => run_768 c i arg3 harg3 arg4 harg4 arg5 harg5 arg6 harg6 arg7 harg7 arg8 harg8 x0 x1 x2 x3 x4 hw hz h2 h3 h4 h5 h6 h7 h8 E K⟩
    rw [E]
    refine desc_768 i x0 x1 x2 x3 x4 (by rw [← e1]; exact h) (by rw [← e1]; exact h') _ _ ?_ ?_
    · exact isBlock_readAt arg6 harg6 x3 (k0_off6 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off7 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol
  · have E : ∀ A B, k0_pay8 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay8 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 768)).toNat = min (Groups.startN (fun j => x0 (ix1 j)) (ex i)) 768 := by
      rw [hst]; exact hrow 768 (by decide)
    refine ⟨_, ?_, fun E K => run_1024 c i arg3 harg3 arg4 harg4 arg5 harg5 arg6 harg6 arg7 harg7 arg8 harg8 x0 x1 x2 x3 x4 hw hz h2 h3 h4 h5 h6 h7 h8 E K⟩
    rw [E]
    refine desc_1024 i x0 x1 x2 x3 x4 (by rw [← e1]; exact h) (by rw [← e1]; exact h') _ _ ?_ ?_
    · exact isBlock_readAt arg6 harg6 x3 (k0_off8 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off9 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol
  · have E : ∀ A B, k0_pay9 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay9 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 512)).toNat = min (Groups.startN (fun j => x0 (ix1 j)) (ex i)) 512 := by
      rw [hst]; exact hrow 512 (by decide)
    refine ⟨_, ?_, fun E K => run_1280 c i arg3 harg3 arg4 harg4 arg5 harg5 arg6 harg6 arg7 harg7 arg8 harg8 x0 x1 x2 x3 x4 hw hz h2 h3 h4 h5 h6 h7 h8 E K⟩
    rw [E]
    refine desc_1280 i x0 x1 x2 x3 x4 (by rw [← e1]; exact h) (by rw [← e1]; exact h') _ _ ?_ ?_
    · exact isBlock_readAt arg6 harg6 x3 (k0_off10 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off11 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol
  · have E : ∀ A B, k0_pay10 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay10 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 256)).toNat = min (Groups.startN (fun j => x0 (ix1 j)) (ex i)) 256 := by
      rw [hst]; exact hrow 256 (by decide)
    refine ⟨_, ?_, fun E K => run_1536 c i arg3 harg3 arg4 harg4 arg5 harg5 arg6 harg6 arg7 harg7 arg8 harg8 x0 x1 x2 x3 x4 hw hz h2 h3 h4 h5 h6 h7 h8 E K⟩
    rw [E]
    refine desc_1536 i x0 x1 x2 x3 x4 (by rw [← e1]; exact h) (by rw [← e1]; exact h') _ _ ?_ ?_
    · exact isBlock_readAt arg6 harg6 x3 (k0_off12 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off13 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol
  · have E : ∀ A B, k0_pay1 (startW i (wd arg3 harg3 x0 ![0] inb_S4_S1_0) (wd arg3 harg3 x0 ![1] inb_S4_S1_1) (wd arg3 harg3 x0 ![2] inb_S4_S1_2) (wd arg3 harg3 x0 ![3] inb_S4_S1_3)) (Scalar.addi (startW i (wd arg3 harg3 x0 ![0] inb_S4_S1_0) (wd arg3 harg3 x0 ![1] inb_S4_S1_1) (wd arg3 harg3 x0 ![2] inb_S4_S1_2) (wd arg3 harg3 x0 ![3] inb_S4_S1_3)) (wd arg3 harg3 x0 (k0_off1 i) (k0_off1_inb i))) (k0_pay2 (wd arg4 harg4 x1 (k0_off1 i) (k0_off1_inb i))) (k0_pay3 (wd arg5 harg5 x2 (k0_off1 i) (k0_off1_inb i))) A B
        = k0_pay1 (startW i (x0 (ix1 0)) (x0 (ix1 1)) (x0 (ix1 2)) (x0 (ix1 3))) (Scalar.addi (startW i (x0 (ix1 0)) (x0 (ix1 1)) (x0 (ix1 2)) (x0 (ix1 3))) (x0 (ix1 (ex i)))) (k0_pay2 (F := F) (x1 (ix1 (ex i)))) (k0_pay3 (F := F) (x2 (ix1 (ex i)))) A B := by
      intro A B; rw [hst, e1, ea, eb]
    have hr : (Scalar.minsi (startW i (wd arg3 harg3 x0 ![0] inb_S4_S1_0) (wd arg3 harg3 x0 ![1] inb_S4_S1_1) (wd arg3 harg3 x0 ![2] inb_S4_S1_2) (wd arg3 harg3 x0 ![3] inb_S4_S1_3)) (BitVec.ofNat 32 0)).toNat = min (Groups.startN (fun j => x0 (ix1 j)) (ex i)) 0 := by
      rw [hst]; exact hrow 0 (by decide)
    refine ⟨_, ?_, fun E K => run_1792 c i arg3 harg3 arg4 harg4 arg5 harg5 arg6 harg6 arg7 harg7 arg8 harg8 x0 x1 x2 x3 x4 hw hz h2 h3 h4 h5 h6 h7 h8 E K⟩
    rw [E]
    refine desc_1792 i x0 x1 x2 x3 x4 (by rw [← e1]; exact h) (by rw [← e1]; exact h') _ _ ?_ ?_
    · exact isBlock_readAt arg6 harg6 x3 (k0_off14 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr rfl
    · exact isBlock_readAt arg7 harg7 x4 (k0_off15 i (wd arg3 harg3 x0 ![0] inb_S4_S1_0) (wd arg3 harg3 x0 ![1] inb_S4_S1_1) (wd arg3 harg3 x0 ![2] inb_S4_S1_2) (wd arg3 harg3 x0 ![3] inb_S4_S1_3)) _ _ _ hr hcol

end Cert.DwIdeal.Hand

end
-- ==== Proof.DwI.Frame.lean ====
/- The kernel's run: from group sizes that fit it terminates, leaves its arguments as they were, and its result array at what the points wrote. -/
module

public import proofs.«01_k».proof.Proof.DwI.Spec

@[expose] public section

set_option maxRecDepth 16384

noncomputable section

namespace Cert.DwIdeal.Hand

open Cert.DwIdeal Cert.DwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The group sizes held at the launch fit, on every device. -/
def SizesFit : Prop := ∀ c : Dev nD, Groups.Fits fun j => (m ((c : Thread nD τ).loc main_arg0) : Vec F S4 .i32) (ix1 j)

abbrev ms0_0 (t : Fin cfg0.N) := win0_0.stage (cfg0.slots t 0)
theorem hs0_0 (t : Fin cfg0.N) : (ms0_0 t).IsWhole := hstage0_0 ((cfg0.slots t 0).cast nbuf0_0)
abbrev ms0_1 (t : Fin cfg0.N) := win0_1.stage (cfg0.slots t 1)
theorem hs0_1 (t : Fin cfg0.N) : (ms0_1 t).IsWhole := hstage0_1 ((cfg0.slots t 1).cast nbuf0_1)
abbrev ms0_2 (t : Fin cfg0.N) := win0_2.stage (cfg0.slots t 2)
theorem hs0_2 (t : Fin cfg0.N) : (ms0_2 t).IsWhole := hstage0_2 ((cfg0.slots t 2).cast nbuf0_2)
abbrev ms0_3 (t : Fin cfg0.N) := win0_3.stage (cfg0.slots t 3)
theorem hs0_3 (t : Fin cfg0.N) : (ms0_3 t).IsWhole := hstage0_3 ((cfg0.slots t 3).cast nbuf0_3)
abbrev ms0_4 (t : Fin cfg0.N) := win0_4.stage (cfg0.slots t 4)
theorem hs0_4 (t : Fin cfg0.N) : (ms0_4 t).IsWhole := hstage0_4 ((cfg0.slots t 4).cast nbuf0_4)
abbrev ms0_5 (t : Fin cfg0.N) := win0_5.stage (cfg0.slots t 5)
theorem hs0_5 (t : Fin cfg0.N) : (ms0_5 t).IsWhole := hstage0_5 ((cfg0.slots t 5).cast nbuf0_5)

/-- The block of the sizes a point is given is the sizes' array. -/
theorem iblk0_eq (c : Dev nD) (t : Fin cfg0.N) (j : Fin 4) :
    (iblk m c 0 t : Vec F S4 .i32) (ix1 j) = (m ((c : Thread nD τ).loc main_arg0) : Vec F S4 .i32) (ix1 j) := by
  unfold iblk
  rw [View.read_apply, cast_eq]
  show m ((c : Thread nD τ).loc main_arg0) _ = _
  congr 1
  funext a
  match a with
  | ⟨0, _⟩ => exact Fin.ext (show 0 * 4 + 1 * j.val = j.val by omega)

variable {m} in
theorem fits_iblk (hH : SizesFit m) (c : Dev nD) (t : Fin cfg0.N) : Groups.Fits fun j => (iblk m c 0 t : Vec F S4 .i32) (ix1 j) := by
  have h : (fun j => (iblk m c 0 t : Vec F S4 .i32) (ix1 j)) = fun j => (m ((c : Thread nD τ).loc main_arg0) : Vec F S4 .i32) (ix1 j) :=
    funext fun j => iblk0_eq m c t j
  rw [h]; exact hH c

variable {m} in
/-- The body's run at a grid point. -/
theorem spec_at (hH : SizesFit m) (c : Dev nD) (t : Fin cfg0.N) :
    ∃ out, Desc (grid0.coords t) (iblk m c 0 t) (iblk m c 1 t) (iblk m c 2 t) (iblk m c 3 t) (iblk m c 4 t) out ∧ ∀ (E : Set ℕ) (K : PUnit → sProp 𝕄),
        iprop(owns (c : Thread nD τ) (ms0_0 t) fullShare (iblk m c 0 t) ∗ owns (c : Thread nD τ) (ms0_1 t) fullShare (iblk m c 1 t) ∗ owns (c : Thread nD τ) (ms0_2 t) fullShare (iblk m c 2 t)
            ∗ owns (c : Thread nD τ) (ms0_3 t) fullShare (iblk m c 3 t) ∗ owns (c : Thread nD τ) (ms0_4 t) fullShare (iblk m c 4 t) ∗ (∃ d, owns (c : Thread nD τ) (ms0_5 t) fullShare d)
            ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t)
              ∗ owns (c : Thread nD τ) (ms0_3 t) fullShare (iblk m c 3 t) ∗ owns (c : Thread nD τ) (ms0_4 t) fullShare (iblk m c 4 t)
              ∗ owns (c : Thread nD τ) (ms0_5 t) fullShare out) -∗ K ⟨⟩))
          ⊢ wp frame (wpE (defs₀ (F := F)) Variants.none c none) E (cc0_dw (grid0.coords t) (ms0_0 t) (hs0_0 t) (ms0_1 t) (hs0_1 t) (ms0_2 t) (hs0_2 t) (ms0_3 t) (hs0_3 t) (ms0_4 t) (hs0_4 t) (ms0_5 t) (hs0_5 t)) K :=
  body_spec c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) (fits_iblk hH c t)

variable {m} in
/-- What a grid point leaves in its block of the result. -/
def outAt (hH : SizesFit m) (c : Dev nD) (t : Fin cfg0.N) : Vec F S1x512x3584 .f32 := Classical.choose (spec_at hH c t)

variable {m} in
/-- It is the described block. -/
theorem outAt_desc (hH : SizesFit m) (c : Dev nD) (t : Fin cfg0.N) :
    Desc (grid0.coords t) (iblk m c 0 t) (iblk m c 1 t) (iblk m c 2 t) (iblk m c 3 t) (iblk m c 4 t) (outAt hH c t) :=
  (Classical.choose_spec (spec_at hH c t)).1

/-- The pipeline's proof data: each input's block left in place, the result's block as its point leaves it. -/
def dats (hH : SizesFit m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt hH c t
  Φ _ := Pipeline.ΦA spec0 c
  q _ := fullShare
  owed _ := 0

theorem A_eq (hH : SizesFit m) (c : Dev nD) (w : Fin cfg0.W) : (dats m hH 0 c).A w = V m c (Pipeline.arrRef spec0 w) := by
  dsimp only [dats]

theorem after0_0 (hH : SizesFit m) (c : Dev nD) (t : Fin cfg0.N) : (dats m hH 0 c).after 0 t = iblk m c 0 t := by dsimp only [dats]
theorem after0_1 (hH : SizesFit m) (c : Dev nD) (t : Fin cfg0.N) : (dats m hH 0 c).after 1 t = iblk m c 1 t := by dsimp only [dats]
theorem after0_2 (hH : SizesFit m) (c : Dev nD) (t : Fin cfg0.N) : (dats m hH 0 c).after 2 t = iblk m c 2 t := by dsimp only [dats]
theorem after0_3 (hH : SizesFit m) (c : Dev nD) (t : Fin cfg0.N) : (dats m hH 0 c).after 3 t = iblk m c 3 t := by dsimp only [dats]
theorem after0_4 (hH : SizesFit m) (c : Dev nD) (t : Fin cfg0.N) : (dats m hH 0 c).after 4 t = iblk m c 4 t := by dsimp only [dats]
theorem after0_5 (hH : SizesFit m) (c : Dev nD) (t : Fin cfg0.N) : (dats m hH 0 c).after 5 t = outAt hH c t := by dsimp only [dats]
theorem before0_0 (hH : SizesFit m) (c : Dev nD) (t : Fin cfg0.N) (d) : (dats m hH 0 c).before 0 t d = iblk m c 0 t :=
  before0_0_of m (dats m hH 0 c) (A_eq m hH c 0) (after0_0 m hH c) t d
theorem before0_1 (hH : SizesFit m) (c : Dev nD) (t : Fin cfg0.N) (d) : (dats m hH 0 c).before 1 t d = iblk m c 1 t :=
  before0_1_of m (dats m hH 0 c) (A_eq m hH c 1) (after0_1 m hH c) t d
theorem before0_2 (hH : SizesFit m) (c : Dev nD) (t : Fin cfg0.N) (d) : (dats m hH 0 c).before 2 t d = iblk m c 2 t :=
  before0_2_of m (dats m hH 0 c) (A_eq m hH c 2) (after0_2 m hH c) t d
theorem before0_3 (hH : SizesFit m) (c : Dev nD) (t : Fin cfg0.N) (d) : (dats m hH 0 c).before 3 t d = iblk m c 3 t :=
  before0_3_of m (dats m hH 0 c) (A_eq m hH c 3) (after0_3 m hH c) t d
theorem before0_4 (hH : SizesFit m) (c : Dev nD) (t : Fin cfg0.N) (d) : (dats m hH 0 c).before 4 t d = iblk m c 4 t :=
  before0_4_of m (dats m hH 0 c) (A_eq m hH c 4) (after0_4 m hH c) t d

/-- What the body is called with at a point, -/
def bodyPre (hH : SizesFit m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d)))

/-- and what it returns. -/
def bodyPost (hH : SizesFit m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t))

set_option maxHeartbeats 1600000 in
/-- The body at any point, from the blocks the pipeline hands it to the blocks of the proof data. -/
theorem sound_body (hH : SizesFit m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5]
  iintro ⟨HP, Ho, ⟨%d0, H0⟩, ⟨%d1, H1⟩, ⟨%d2, H2⟩, ⟨%d3, H3⟩, ⟨%d4, H4⟩, ⟨%d5, H5⟩⟩
  iapply ((Classical.choose_spec (spec_at hH c t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hH : SizesFit m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

-- `θ_run_frame`'s implicit arguments are found by unifying its conclusion with this one, which takes unfolding plain
-- definitions in a metavariable's type
set_option backward.isDefEq.respectTransparency.types false in
/-- The launch: every execution ends, with every array at what the proof data gives and every semaphore counter at zero. -/
theorem run_main_quiescent (hH : SizesFit m) : θ_run defs (onTc (τ := τ) (main (F := F))) (s₀ m ρ) (fun r => (Pipeline.FramePost cfgs (dats m hH) 0 (V m)) r ∧ r.2.sem = fun _ => 0) :=
  Pipeline.θ_run_frame (Q' := _) cfgs (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

theorem run_main (hH : SizesFit m) : θ_run defs (onTc (τ := τ) (main (F := F))) (s₀ m ρ) (Pipeline.FramePost cfgs (dats m hH) 0 (V m)) :=
  (θ_run defs _ _).mono (fun _ h => h.1) (run_main_quiescent m ρ hH)

/-- The argument arrays end unchanged. -/
theorem unchanged (hH : SizesFit m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m hH) (A_eq m hH) (run_main m ρ hH)

/-- The frame claim, of sizes that fit. -/
theorem frame (hH : SizesFit m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hH) ((θ_run defs _ _).mono (fun _ h => h.2) (run_main_quiescent m ρ hH))

end Cert.DwIdeal.Hand

end
-- ==== Proof.Grp.Window.lean ====
/- The rows of one group inside a window of rows: the mask the kernel computes on pairs of rows, and the sum over the window as a sum over all rows. -/
module

public import proofs.«01_k».proof.Proof.Grp.Words

@[expose] public section

noncomputable section

namespace Cert.Groups

open Idealize.ShloMosaic

/-- The mask of pair `w` of rows, in the window that starts at the group's first row `st` or at `b`, whichever is less. -/
def mask (st en b : BitVec 32) (w : Nat) : BitVec 1 :=
  IntOp.andi (IntOp.cmpi .sge (IntOp.addi (IntOp.muli (BitVec.ofNat 32 w) 2#32) (Scalar.minsi st b)) st)
    (IntOp.cmpi .slt (IntOp.addi (IntOp.muli (BitVec.ofNat 32 w) 2#32) (Scalar.minsi st b)) en)

/-- The mask of a row's pair says whether the row is the group's. -/
theorem mask_iff (st en : BitVec 32) (b x : Nat) (hs : st.toNat ≤ 1792) (he : en.toNat ≤ 1792) (hb : b ≤ 1792) (hx : x < 1792)
    (ds : 16 ∣ st.toNat) (de : 16 ∣ en.toNat) (db : 16 ∣ b) :
    mask st en (BitVec.ofNat 32 b) (x / 2) = 1#1 ↔ st.toNat ≤ min st.toNat b + x ∧ min st.toNat b + x < en.toNat := by
  have hm := minsi_toNat st b hs hb
  have hr : (IntOp.addi (IntOp.muli (BitVec.ofNat 32 (x / 2)) 2#32) (Scalar.minsi st (BitVec.ofNat 32 b))).toNat = x / 2 * 2 + min st.toNat b := by
    show (BitVec.ofNat 32 (x / 2) * 2#32 + _).toNat = _
    rw [BitVec.toNat_add, BitVec.toNat_mul, BitVec.toNat_ofNat, hm, show (2#32 : BitVec 32).toNat = 2 from by decide]
    omega
  unfold mask
  rw [IntOp.andi_eq_one, IntOp.cmpi_sge, IntOp.cmpi_slt]
  generalize IntOp.addi (IntOp.muli (BitVec.ofNat 32 (x / 2)) 2#32) (Scalar.minsi st (BitVec.ofNat 32 b)) = row at hr
  rw [BitVec.toInt_eq_toNat_of_lt (x := row) (by omega), BitVec.toInt_eq_toNat_of_lt (x := st) (by omega), BitVec.toInt_eq_toNat_of_lt (x := en) (by omega)]
  have hmin : 16 ∣ min st.toNat b := by
    rcases Nat.le_total st.toNat b with h | h
    · rwa [Nat.min_eq_left h]
    · rwa [Nat.min_eq_right h]
  omega

/-- A sum over a window of `d` rows of what belongs to the rows from `lo` to `hi` is the sum over all rows, where the window holds those rows. -/
theorem window_sum (d r lo hi : Nat) (hd : r + d ≤ 1792) (hlo : r ≤ lo) (hhi : hi ≤ r + d) (f : Fin d → EReal) (g : Fin 1792 → EReal)
    (hf : ∀ (x : Fin d) (k : Fin 1792), k.val = r + x.val → lo ≤ k.val → k.val < hi → f x = g k)
    (hf0 : ∀ x : Fin d, ¬ (lo ≤ r + x.val ∧ r + x.val < hi) → f x = 0)
    (hg0 : ∀ k : Fin 1792, ¬ (lo ≤ k.val ∧ k.val < hi) → g k = 0) :
    ∑ x : Fin d, f x = ∑ k : Fin 1792, g k := by
  have hinj : Function.Injective (fun x : Fin d => (⟨r + x.val, by have := x.isLt; omega⟩ : Fin 1792)) := by
    intro a b h
    have := congrArg Fin.val h
    exact Fin.ext (by simpa using this)
  rw [← Finset.sum_subset (Finset.subset_univ (Finset.univ.map ⟨_, hinj⟩)), Finset.sum_map]
  · refine Finset.sum_congr rfl fun x _ => ?_
    by_cases h : lo ≤ r + x.val ∧ r + x.val < hi
    · exact hf x _ rfl h.1 h.2
    · rw [hf0 x h]; exact (hg0 _ h).symm
  · intro k _ hk
    refine hg0 k fun h => hk ?_
    refine Finset.mem_map.mpr ⟨⟨k.val - r, by omega⟩, Finset.mem_univ _, Fin.ext ?_⟩
    show r + (k.val - r) = k.val
    omega

end Cert.Groups
-- ==== Proof.DwI.Block.lean ====
/- What a grid point's block holds at an index, over the extended reals: a sum over all rows of the group's rows' products, times the two scales. -/
module

public import proofs.«01_k».proof.Proof.DwI.Spec
public import proofs.«01_k».proof.Proof.Grp.Window

@[expose] public section

set_option maxRecDepth 16384

noncomputable section

namespace Cert.DwIdeal.Hand

open Cert.DwIdeal Cert.DwIdeal.Gen Idealize.ShloMosaic

private theorem two_halves {n : Nat} {α : Type} (f : Fin n → α) (x : Nat) (hx : x < n) (h0 : 2 * (x / 2) < n) (h1 : 2 * (x / 2) + 1 < n ∨ x % 2 = 0) (c : BitVec 1) (z : α) (h1' : 2 * (x / 2) + 1 < n) :
    (if x % 2 = 0 then Scalar.select c (f ⟨2 * (x / 2), h0⟩) z else Scalar.select c (f ⟨2 * (x / 2) + 1, h1'⟩) z) = if c = 1#1 then f ⟨x, hx⟩ else z := by
  split
  · have : (⟨2 * (x / 2), h0⟩ : Fin n) = ⟨x, hx⟩ := Fin.ext (by simp only; omega)
    rw [this]; rfl
  · have : (⟨2 * (x / 2) + 1, h1'⟩ : Fin n) = ⟨x, hx⟩ := Fin.ext (by simp only; omega)
    rw [this]; rfl

/-- The product over a window of 256 rows, at an index. -/
theorem pay5_apply (st en : BitVec 32) (a b : EReal) (A : Vec Ideal S256x512 .bf16) (B : Vec Ideal S256x3584 .bf16) (r : Fin 512) (q : Fin 3584) :
    k0_pay5 (F := Ideal) st en a b A B (ix3 0 r q)
      = (∑ x : Fin 256, (if Groups.mask st en (BitVec.ofNat 32 1536) (x.val / 2) = 1#1 then (A (ix2 x r) : EReal) else 0) * B (ix2 x q)) * a * b := by
  pointwise [k0_pay5]
  refine congrArg (· * b) (congrArg (· * a) (Finset.sum_congr rfl fun x _ => congrArg (· * (B (ix2 x q) : EReal)) ?_))
  have := x.isLt
  exact two_halves (fun k : Fin 256 => (A (ix2 k r) : EReal)) x.val x.isLt (by omega) (.inl (by omega)) (Groups.mask st en (BitVec.ofNat 32 1536) (x.val / 2)) 0 (by omega)

/-- The product over a window of 512 rows, at an index. -/
theorem pay6_apply (st en : BitVec 32) (a b : EReal) (A : Vec Ideal S512x512 .bf16) (B : Vec Ideal S512x3584 .bf16) (r : Fin 512) (q : Fin 3584) :
    k0_pay6 (F := Ideal) st en a b A B (ix3 0 r q)
      = (∑ x : Fin 512, (if Groups.mask st en (BitVec.ofNat 32 1280) (x.val / 2) = 1#1 then (A (ix2 x r) : EReal) else 0) * B (ix2 x q)) * a * b := by
  pointwise [k0_pay6]
  refine congrArg (· * b) (congrArg (· * a) (Finset.sum_congr rfl fun x _ => congrArg (· * (B (ix2 x q) : EReal)) ?_))
  have := x.isLt
  exact two_halves (fun k : Fin 512 => (A (ix2 k r) : EReal)) x.val x.isLt (by omega) (.inl (by omega)) (Groups.mask st en (BitVec.ofNat 32 1280) (x.val / 2)) 0 (by omega)

/-- The product over a window of 768 rows, at an index. -/
theorem pay7_apply (st en : BitVec 32) (a b : EReal) (A : Vec Ideal S768x512 .bf16) (B : Vec Ideal S768x3584 .bf16) (r : Fin 512) (q : Fin 3584) :
    k0_pay7 (F := Ideal) st en a b A B (ix3 0 r q)
      = (∑ x : Fin 768, (if Groups.mask st en (BitVec.ofNat 32 1024) (x.val / 2) = 1#1 then (A (ix2 x r) : EReal) else 0) * B (ix2 x q)) * a * b := by
  pointwise [k0_pay7]
  refine congrArg (· * b) (congrArg (· * a) (Finset.sum_congr rfl fun x _ => congrArg (· * (B (ix2 x q) : EReal)) ?_))
  have := x.isLt
  exact two_halves (fun k : Fin 768 => (A (ix2 k r) : EReal)) x.val x.isLt (by omega) (.inl (by omega)) (Groups.mask st en (BitVec.ofNat 32 1024) (x.val / 2)) 0 (by omega)

/-- The product over a window of 1024 rows, at an index. -/
theorem pay8_apply (st en : BitVec 32) (a b : EReal) (A : Vec Ideal S1024x512 .bf16) (B : Vec Ideal S1024x3584 .bf16) (r : Fin 512) (q : Fin 3584) :
    k0_pay8 (F := Ideal) st en a b A B (ix3 0 r q)
      = (∑ x : Fin 1024, (if Groups.mask st en (BitVec.ofNat 32 768) (x.val / 2) = 1#1 then (A (ix2 x r) : EReal) else 0) * B (ix2 x q)) * a * b := by
  pointwise [k0_pay8]
  refine congrArg (· * b) (congrArg (· * a) (Finset.sum_congr rfl fun x _ => congrArg (· * (B (ix2 x q) : EReal)) ?_))
  have := x.isLt
  exact two_halves (fun k : Fin 1024 => (A (ix2 k r) : EReal)) x.val x.isLt (by omega) (.inl (by omega)) (Groups.mask st en (BitVec.ofNat 32 768) (x.val / 2)) 0 (by omega)

/-- The product over a window of 1280 rows, at an index. -/
theorem pay9_apply (st en : BitVec 32) (a b : EReal) (A : Vec Ideal S1280x512 .bf16) (B : Vec Ideal S1280x3584 .bf16) (r : Fin 512) (q : Fin 3584) :
    k0_pay9 (F := Ideal) st en a b A B (ix3 0 r q)
      = (∑ x : Fin 1280, (if Groups.mask st en (BitVec.ofNat 32 512) (x.val / 2) = 1#1 then (A (ix2 x r) : EReal) else 0) * B (ix2 x q)) * a * b := by
  pointwise [k0_pay9]
  refine congrArg (· * b) (congrArg (· * a) (Finset.sum_congr rfl fun x _ => congrArg (· * (B (ix2 x q) : EReal)) ?_))
  have := x.isLt
  exact two_halves (fun k : Fin 1280 => (A (ix2 k r) : EReal)) x.val x.isLt (by omega) (.inl (by omega)) (Groups.mask st en (BitVec.ofNat 32 512) (x.val / 2)) 0 (by omega)

/-- The product over a window of 1536 rows, at an index. -/
theorem pay10_apply (st en : BitVec 32) (a b : EReal) (A : Vec Ideal S1536x512 .bf16) (B : Vec Ideal S1536x3584 .bf16) (r : Fin 512) (q : Fin 3584) :
    k0_pay10 (F := Ideal) st en a b A B (ix3 0 r q)
      = (∑ x : Fin 1536, (if Groups.mask st en (BitVec.ofNat 32 256) (x.val / 2) = 1#1 then (A (ix2 x r) : EReal) else 0) * B (ix2 x q)) * a * b := by
  pointwise [k0_pay10]
  refine congrArg (· * b) (congrArg (· * a) (Finset.sum_congr rfl fun x _ => congrArg (· * (B (ix2 x q) : EReal)) ?_))
  have := x.isLt
  exact two_halves (fun k : Fin 1536 => (A (ix2 k r) : EReal)) x.val x.isLt (by omega) (.inl (by omega)) (Groups.mask st en (BitVec.ofNat 32 256) (x.val / 2)) 0 (by omega)

/-- The product over a window of 1792 rows, at an index. -/
theorem pay1_apply (st en : BitVec 32) (a b : EReal) (A : Vec Ideal S1792x512 .bf16) (B : Vec Ideal S1792x3584 .bf16) (r : Fin 512) (q : Fin 3584) :
    k0_pay1 (F := Ideal) st en a b A B (ix3 0 r q)
      = (∑ x : Fin 1792, (if Groups.mask st en (BitVec.ofNat 32 0) (x.val / 2) = 1#1 then (A (ix2 x r) : EReal) else 0) * B (ix2 x q)) * a * b := by
  pointwise [k0_pay1]
  refine congrArg (· * b) (congrArg (· * a) (Finset.sum_congr rfl fun x _ => congrArg (· * (B (ix2 x q) : EReal)) ?_))
  have := x.isLt
  exact two_halves (fun k : Fin 1792 => (A (ix2 k r) : EReal)) x.val x.isLt (by omega) (.inl (by omega)) (Groups.mask st en (BitVec.ofNat 32 0) (x.val / 2)) 0 (by omega)

/-- The zero block, at an index. -/
theorem pay4_apply (y : S1x512x3584.Idx) : k0_pay4 (F := Ideal) y = (0 : EReal) := by
  pointwise [k0_pay4]

/-- A window's sum of masked products is the sum over all rows. -/
theorem window_rows {d : Nat} (b st n : Nat) (hb : b + d = 1792) (hn : n ≤ d) (hst : st + n ≤ 1792) (ds : 16 ∣ st) (dn : 16 ∣ n) (db : 16 ∣ b)
    (stw enw : BitVec 32) (hs : stw.toNat = st) (he : enw.toNat = st + n) (c0 : Nat)
    (x3 : Vec Ideal S1792x512 .bf16) (x4 : Vec Ideal S1792x7168 .bf16) (A : Vec Ideal ⟨2, ![d, 512]⟩ .bf16) (B : Vec Ideal ⟨2, ![d, 3584]⟩ .bf16)
    (hA : IsBlock (F := Ideal) .bf16 (min st b) 0 x3 A) (hB : IsBlock (F := Ideal) .bf16 (min st b) c0 x4 B) (r : Fin 512) (q : Fin 3584) (Q : Fin 7168) (hQ : Q.val = c0 + q.val) :
    (∑ x : Fin d, (if Groups.mask stw enw (BitVec.ofNat 32 b) (x.val / 2) = 1#1 then (A (ix2 x r) : EReal) else 0) * B (ix2 x q))
      = ∑ k : Fin 1792, (if st ≤ k.val ∧ k.val < st + n then (x3 (ix2 k r) : EReal) else 0) * x4 (ix2 k Q) := by
  have hm (x : Fin d) : Groups.mask stw enw (BitVec.ofNat 32 b) (x.val / 2) = 1#1 ↔ st ≤ min st b + x.val ∧ min st b + x.val < st + n := by
    have := x.isLt
    have h := Groups.mask_iff stw enw b x.val (by omega) (by omega) (by omega) (by omega) (by rwa [hs]) (by rw [he]; omega) db
    rwa [hs, he] at h
  refine Groups.window_sum d (min st b) st (st + n) (by omega) (by omega) (by omega) _ _ ?_ ?_ ?_
  · intro x k hk h1 h2
    rw [if_pos ((hm x).mpr ⟨by omega, by omega⟩), if_pos ⟨h1, h2⟩,
      hA (ix2 x r) (ix2 k r) hk (by show r.val = 0 + r.val; omega), hB (ix2 x q) (ix2 k Q) hk hQ]
  · intro x h
    rw [if_neg fun h' => h ((hm x).mp h'), zero_mul]
  · intro k h
    rw [if_neg h, zero_mul]

/-- The described block, at an index. -/
theorem desc_apply (i : grid0.Coords) (x0 : Vec Ideal S4 .i32) (x1 x2 : Vec Ideal S4 .f32) (x3 : Vec Ideal S1792x512 .bf16) (x4 : Vec Ideal S1792x7168 .bf16)
    (out : Vec Ideal S1x512x3584 .f32) (hs : Groups.Fits fun j => x0 (ix1 j)) (h : Desc i x0 x1 x2 x3 x4 out) (r : Fin 512) (q : Fin 3584) (Q : Fin 7168)
    (hQ : Q.val = 3584 * (i 2).val + q.val) :
    (out (ix3 0 r q) : EReal)
      = (∑ k : Fin 1792, (if Groups.startN (fun j => x0 (ix1 j)) (ex i) ≤ k.val ∧ k.val < Groups.startN (fun j => x0 (ix1 j)) (ex i) + (x0 (ix1 (ex i))).toNat then (x3 (ix2 k r) : EReal) else 0) * x4 (ix2 k Q))
        * k0_pay2 (F := Ideal) (x1 (ix1 (ex i))) * k0_pay3 (F := Ideal) (x2 (ix1 (ex i))) := by
  have hst := startW_le hs i
  have hadd := Groups.startN_add_le hs (ex i)
  have hds := Groups.dvd_startN hs (ex i)
  have hdn := hs.dvd (ex i)
  have hen : (Scalar.addi (startW i (x0 (ix1 0)) (x0 (ix1 1)) (x0 (ix1 2)) (x0 (ix1 3))) (x0 (ix1 (ex i)))).toNat = Groups.startN (fun j => x0 (ix1 j)) (ex i) + (x0 (ix1 (ex i))).toNat := by
    show (_ + _ : BitVec 32).toNat = _
    rw [BitVec.toNat_add, hst]
    exact Nat.mod_eq_of_lt (by omega)
  unfold Desc at h
  dsimp only at h hst hadd hds hdn
  obtain ⟨h0, h256, h512, h768, h1024, h1280, h1536, h1792⟩ := h
  generalize Groups.startN (fun j => x0 (ix1 j)) (ex i) = st at *
  generalize startW i (x0 (ix1 0)) (x0 (ix1 1)) (x0 (ix1 2)) (x0 (ix1 3)) = stw at *
  generalize Scalar.addi stw (x0 (ix1 (ex i))) = enw at *
  generalize x0 (ix1 (ex i)) = v at *
  generalize hn : v.toNat = n at *
  have hcase : n = 0 ∨ (0 < n ∧ n ≤ 256) ∨ (256 < n ∧ n ≤ 512) ∨ (512 < n ∧ n ≤ 768) ∨ (768 < n ∧ n ≤ 1024) ∨ (1024 < n ∧ n ≤ 1280) ∨ (1280 < n ∧ n ≤ 1536) ∨ (1536 < n ∧ n ≤ 1792) := by omega
  rcases hcase with e | ⟨l, u⟩ | ⟨l, u⟩ | ⟨l, u⟩ | ⟨l, u⟩ | ⟨l, u⟩ | ⟨l, u⟩ | ⟨l, u⟩
  · rw [h0 e, pay4_apply, Finset.sum_eq_zero, zero_mul, zero_mul]
    intro k _
    rw [if_neg (by omega), zero_mul]
  · obtain ⟨A, B, hA, hB, rfl⟩ := h256 l u
    rw [pay5_apply, window_rows 1536 st n (by decide) u hadd hds hdn (by decide) stw enw hst hen (3584 * (i 2).val) x3 x4 A B hA hB r q Q hQ]
  · obtain ⟨A, B, hA, hB, rfl⟩ := h512 l u
    rw [pay6_apply, window_rows 1280 st n (by decide) u hadd hds hdn (by decide) stw enw hst hen (3584 * (i 2).val) x3 x4 A B hA hB r q Q hQ]
  · obtain ⟨A, B, hA, hB, rfl⟩ := h768 l u
    rw [pay7_apply, window_rows 1024 st n (by decide) u hadd hds hdn (by decide) stw enw hst hen (3584 * (i 2).val) x3 x4 A B hA hB r q Q hQ]
  · obtain ⟨A, B, hA, hB, rfl⟩ := h1024 l u
    rw [pay8_apply, window_rows 768 st n (by decide) u hadd hds hdn (by decide) stw enw hst hen (3584 * (i 2).val) x3 x4 A B hA hB r q Q hQ]
  · obtain ⟨A, B, hA, hB, rfl⟩ := h1280 l u
    rw [pay9_apply, window_rows 512 st n (by decide) u hadd hds hdn (by decide) stw enw hst hen (3584 * (i 2).val) x3 x4 A B hA hB r q Q hQ]
  · obtain ⟨A, B, hA, hB, rfl⟩ := h1536 l u
    rw [pay10_apply, window_rows 256 st n (by decide) u hadd hds hdn (by decide) stw enw hst hen (3584 * (i 2).val) x3 x4 A B hA hB r q Q hQ]
  · obtain ⟨A, B, hA, hB, rfl⟩ := h1792 l u
    rw [pay1_apply, window_rows 0 st n (by decide) u hadd hds hdn (by decide) stw enw hst hen (3584 * (i 2).val) x3 x4 A B hA hB r q Q hQ]

end Cert.DwIdeal.Hand
-- ==== Proof.DwI.Array.lean ====
/- The kernel's result array, over the extended reals: one function of the argument arrays. -/
module

public import proofs.«01_k».proof.Proof.DwI.Block
public import proofs.«01_k».proof.Proof.DwI.Frame
public import Idealize.ShloMosaic.Lib.Pipeline.ValueKit

@[expose] public section

set_option maxRecDepth 16384

noncomputable section

namespace Cert.DwIdeal.Hand

open Cert.DwIdeal Cert.DwIdeal.Gen
open Idealize.ShloMosaic Idealize.ShloMosaic.TcCoe

/-- The weight gradient: for each group, the sum over the group's rows of the products of the two arrays' elements, times the group's two scales. -/
def target (x0 : Vec Ideal S4 .i32) (x1 x2 : Vec Ideal S4 .f32) (x3 : Vec Ideal S1792x4096 .bf16) (x4 : Vec Ideal S1792x7168 .bf16) : Vec Ideal S4x4096x7168 .f32 := fun i =>
  ((∑ k : Fin 1792, (if Groups.startN (fun j => x0 (ix1 j)) (i 0) ≤ k.val ∧ k.val < Groups.startN (fun j => x0 (ix1 j)) (i 0) + (x0 (ix1 (i 0))).toNat then (x3 (ix2 k (i 1)) : EReal) else 0) * x4 (ix2 k (i 2)))
    * k0_pay2 (F := Ideal) (x1 (ix1 (i 0))) * k0_pay3 (F := Ideal) (x2 (ix1 (i 0))) : EReal)

variable (m : (ℓ : Loc nD τ sig) → Buf (Elt Ideal) ℓ)

theorem iblk1_eq (c : Dev nD) (t : Fin cfg0.N) (j : Fin 4) :
    (iblk m c 1 t : Vec Ideal S4 .f32) (ix1 j) = (m ((c : Thread nD τ).loc main_arg1) : Vec Ideal S4 .f32) (ix1 j) := by
  unfold iblk
  rw [View.read_apply, cast_eq]
  show m ((c : Thread nD τ).loc main_arg1) _ = _
  congr 1
  funext a
  match a with
  | ⟨0, _⟩ => exact Fin.ext (show 0 * 4 + 1 * j.val = j.val by omega)

theorem iblk2_eq (c : Dev nD) (t : Fin cfg0.N) (j : Fin 4) :
    (iblk m c 2 t : Vec Ideal S4 .f32) (ix1 j) = (m ((c : Thread nD τ).loc main_arg2) : Vec Ideal S4 .f32) (ix1 j) := by
  unfold iblk
  rw [View.read_apply, cast_eq]
  show m ((c : Thread nD τ).loc main_arg2) _ = _
  congr 1
  funext a
  match a with
  | ⟨0, _⟩ => exact Fin.ext (show 0 * 4 + 1 * j.val = j.val by omega)

theorem index3 : ∀ t : Fin cfg0.N, win0_3.index t = ![0, (grid0.coords t 0).val] :=
  (by decide +kernel : ∀ t : Fin grid0.N, win0_3.index t = ![0, (grid0.coords t 0).val])

theorem index5 : ∀ t : Fin cfg0.N, win0_5.index t = ![(grid0.coords t 1).val, (grid0.coords t 0).val, (grid0.coords t 2).val] :=
  (by decide +kernel : ∀ t : Fin grid0.N, win0_5.index t = ![(grid0.coords t 1).val, (grid0.coords t 0).val, (grid0.coords t 2).val])

/-- A point's block of the first operand: 512 of its columns. -/
theorem iblk3_eq (c : Dev nD) (t : Fin cfg0.N) (k : Fin 1792) (r : Fin 512) (R : Fin 4096) (hR : R.val = 512 * (grid0.coords t 0).val + r.val) :
    (iblk m c 3 t : Vec Ideal S1792x512 .bf16) (ix2 k r) = (m ((c : Thread nD τ).loc main_arg3) : Vec Ideal S1792x4096 .bf16) (ix2 k R) := by
  unfold iblk
  rw [View.read_apply, cast_eq]
  show m ((c : Thread nD τ).loc main_arg3) _ = _
  have e := index3 t
  congr 1
  funext a
  match a with
  | ⟨0, _⟩ =>
    refine Fin.ext ?_
    show win0_3.index t 0 * 1792 + 1 * k.val = k.val
    rw [e]; show 0 * 1792 + 1 * k.val = k.val; omega
  | ⟨1, _⟩ =>
    refine Fin.ext ?_
    show win0_3.index t 1 * 512 + 1 * r.val = R.val
    rw [e]; show (grid0.coords t 0).val * 512 + 1 * r.val = R.val; omega

/-- A point's block of the second operand: all of it. -/
theorem iblk4_eq (c : Dev nD) (t : Fin cfg0.N) (k : Fin 1792) (q : Fin 7168) :
    (iblk m c 4 t : Vec Ideal S1792x7168 .bf16) (ix2 k q) = (m ((c : Thread nD τ).loc main_arg4) : Vec Ideal S1792x7168 .bf16) (ix2 k q) := by
  unfold iblk
  rw [View.read_apply, cast_eq]
  show m ((c : Thread nD τ).loc main_arg4) _ = _
  congr 1
  funext a
  match a with
  | ⟨0, _⟩ => exact Fin.ext (show 0 * 1792 + 1 * k.val = k.val by omega)
  | ⟨1, _⟩ => exact Fin.ext (show 0 * 7168 + 1 * q.val = q.val by omega)

variable {m}

/-- What a point leaves in its block, at an index, from the argument arrays. -/
theorem outAt_apply (hH : SizesFit m) (c : Dev nD) (t : Fin cfg0.N) (r : Fin 512) (q : Fin 3584) (R : Fin 4096) (Q : Fin 7168)
    (hR : R.val = 512 * (grid0.coords t 0).val + r.val) (hQ : Q.val = 3584 * (grid0.coords t 2).val + q.val) :
    outAt hH c t (ix3 0 r q) = target (m ((c : Thread nD τ).loc main_arg0)) (m ((c : Thread nD τ).loc main_arg1)) (m ((c : Thread nD τ).loc main_arg2))
      (m ((c : Thread nD τ).loc main_arg3)) (m ((c : Thread nD τ).loc main_arg4)) (ix3 (ex (grid0.coords t)) R Q) := by
  have e0 : (fun j => (iblk m c 0 t : Vec Ideal S4 .i32) (ix1 j)) = fun j => (m ((c : Thread nD τ).loc main_arg0) : Vec Ideal S4 .i32) (ix1 j) := funext fun j => iblk0_eq m c t j
  rw [desc_apply (grid0.coords t) _ _ _ _ _ _ (fits_iblk hH c t) (outAt_desc hH c t) r q Q hQ, e0, iblk0_eq, iblk1_eq, iblk2_eq]
  simp only [iblk3_eq m c t _ r R hR, iblk4_eq m c t]
  rfl

/-- The result array after the run. -/
theorem final (hH : SizesFit m) (c : Dev nD) :
    (dats m hH 0 c).arrAt 5 cfg0.N = target (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m hH 0 c).arrAt_eq_of_covers 5 _ (by decide +kernel) fun t hf y => ?_
  rw [cast_eq, after0_5]
  have hy0 : (y 0).val < 1 := (y 0).isLt
  have hy1 : (y 1).val < 512 := (y 1).isLt
  have hy2 : (y 2).val < 3584 := (y 2).isLt
  have c0 : (grid0.coords t 0).val < 8 := (grid0.coords t 0).isLt
  have c2 : (grid0.coords t 2).val < 2 := (grid0.coords t 2).isLt
  have e := index5 t
  refine (congrArg (outAt hH c t) ?_ : _ = outAt hH c t (ix3 0 ⟨(y 1).val, hy1⟩ ⟨(y 2).val, hy2⟩)).trans
    ((outAt_apply hH c t ⟨(y 1).val, hy1⟩ ⟨(y 2).val, hy2⟩ ⟨512 * (grid0.coords t 0).val + (y 1).val, by omega⟩ ⟨3584 * (grid0.coords t 2).val + (y 2).val, by omega⟩ rfl rfl).trans (congrArg (target _ _ _ _ _) ?_))
  · funext a
    match a with
    | ⟨0, _⟩ => exact Fin.ext (show (y 0).val = 0 by omega)
    | ⟨1, _⟩ => rfl
    | ⟨2, _⟩ => rfl
  · funext a
    match a with
    | ⟨0, _⟩ =>
      refine Fin.ext ?_
      show (grid0.coords t 1).val = win0_5.index t 0 * 1 + 1 * (y 0).val
      rw [e]; show (grid0.coords t 1).val = (grid0.coords t 1).val * 1 + 1 * (y 0).val; omega
    | ⟨1, _⟩ =>
      refine Fin.ext ?_
      show 512 * (grid0.coords t 0).val + (y 1).val = win0_5.index t 1 * 512 + 1 * (y 1).val
      rw [e]; show _ = (grid0.coords t 0).val * 512 + 1 * (y 1).val; omega
    | ⟨2, _⟩ =>
      refine Fin.ext ?_
      show 3584 * (grid0.coords t 2).val + (y 2).val = win0_5.index t 2 * 3584 + 1 * (y 2).val
      rw [e]; show _ = (grid0.coords t 2).val * 3584 + 1 * (y 2).val; omega

end Cert.DwIdeal.Hand
-- ==== Proof.DwR.Rows.lean ====
/- The row numbers the reference computes: the ends of the groups, the number of the group of a row, and which rows are a group's. -/
module

public import proofs.«01_k».proof.Proof.Gen.DwRefIdeal.Read
public import proofs.«01_k».proof.Proof.Grp.Words
public import Idealize.ShloMosaic.Lib.Routing.Ops

@[expose] public section

set_option maxRecDepth 16384

noncomputable section

namespace Cert.DwRefIdeal.Hand

open Cert.DwRefIdeal Cert.DwRefIdeal.Gen Cert.DwRefIdeal.Read Idealize.ShloMosaic

/-- Whether the group `q` ends at or before row `k`. -/
def EndsBy (s : Fin 4 → BitVec 32) (k q : Nat) : Prop := ∃ h : q < 4, Groups.startN s ⟨q, h⟩ + (s ⟨q, h⟩).toNat ≤ k

instance (s : Fin 4 → BitVec 32) (k : Nat) : DecidablePred (EndsBy s k) := fun q => by unfold EndsBy; infer_instance

/-- The number of groups that end at or before a row is a group's number exactly for the rows of that group. -/
theorem count_eq_iff (s : Fin 4 → BitVec 32) (k : Nat) (e : Fin 4) :
    Nat.count (EndsBy s k) 4 = e.val ↔ Groups.startN s e ≤ k ∧ k < Groups.startN s e + (s e).toNat := by
  have h0 : EndsBy s k 0 ↔ (s 0).toNat ≤ k := ⟨fun ⟨_, h⟩ => by simpa [Groups.startN] using h, fun h => ⟨by decide, by simpa [Groups.startN] using h⟩⟩
  have h1 : EndsBy s k 1 ↔ (s 0).toNat + (s 1).toNat ≤ k := ⟨fun ⟨_, h⟩ => by simpa [Groups.startN] using h, fun h => ⟨by decide, by simpa [Groups.startN] using h⟩⟩
  have h2 : EndsBy s k 2 ↔ (s 0).toNat + (s 1).toNat + (s 2).toNat ≤ k := ⟨fun ⟨_, h⟩ => by simpa [Groups.startN] using h, fun h => ⟨by decide, by simpa [Groups.startN] using h⟩⟩
  have h3 : EndsBy s k 3 ↔ (s 0).toNat + (s 1).toNat + (s 2).toNat + (s 3).toNat ≤ k := ⟨fun ⟨_, h⟩ => by simpa [Groups.startN] using h, fun h => ⟨by decide, by simpa [Groups.startN] using h⟩⟩
  rw [Nat.count_succ, Nat.count_succ, Nat.count_succ, Nat.count_succ, Nat.count_zero]
  simp only [h0, h1, h2, h3]
  clear h0 h1 h2 h3
  unfold Groups.startN
  generalize h0 : (s 0).toNat = a0
  generalize h1 : (s 1).toNat = a1
  generalize h2 : (s 2).toNat = a2
  generalize h3 : (s 3).toNat = a3
  match e with
  | ⟨0, _⟩ => simp [show (⟨0, _⟩ : Fin 4) = 0 from rfl, h0]; omega
  | ⟨1, _⟩ => simp [show (⟨1, _⟩ : Fin 4) = 1 from rfl, h1]; split_ifs <;> omega
  | ⟨2, _⟩ => simp [show (⟨2, _⟩ : Fin 4) = 2 from rfl, h1, h2]; split_ifs <;> omega
  | ⟨3, _⟩ => simp [show (⟨3, _⟩ : Fin 4) = 3 from rfl, h1, h2, h3]; split_ifs <;> omega

variable {x0 : Vec Ideal S4 .i32}

/-- A running sum of the sizes is the row its group ends at. -/
theorem ends (hs : Groups.Fits fun j => x0 (ix1 j)) (e : Fin 4) :
    val_main_v1 (F := Ideal) x0 (ix1 e) = BitVec.ofNat 32 (Groups.startN (fun j => x0 (ix1 j)) e + (x0 (ix1 e)).toNat) := by
  unfold val_main_v1
  refine (Routing.cumsum1 (N := 4) rfl x0 (fun n => if h : n < 4 then (x0 (ix1 ⟨n, h⟩)).toNat else 0) (fun i => ?_) _ ?_ _ _ e).trans ?_
  · rw [dif_pos i.isLt]; exact (BitVec.ofNat_toNat ..).symm ▸ (BitVec.setWidth_eq _).symm
  · rfl
  · refine congrArg (BitVec.ofNat 32) ?_
    unfold Groups.startN
    fin_cases e <;> simp [List.range_succ] <;> omega

/-- The group number the reference gives a row. -/
theorem ids (hs : Groups.Fits fun j => x0 (ix1 j)) (k : Fin 1792) :
    val_main_v8 (F := Ideal) x0 (ix1 k) = BitVec.ofNat 32 (Nat.count (EndsBy (fun j => x0 (ix1 j)) k.val) 4) := by
  unfold val_main_v8 val_main_v7 val_main_c
  refine Routing.reduce_count (n := 1792) (m := 4) (by decide) (val_main_v6 (F := Ideal) x0) _ _ _ k _ fun q => ?_
  have hk := k.isLt
  have hq := Groups.startN_add_le hs q
  show val_main_v6 (F := Ideal) x0 (ix2 k q) = 1#1 ↔ _
  rw [val_main_v6_apply, val_main_v4_apply, val_main_v2_apply, val_main_v5_apply, val_main_v3_apply, val_main_v0_apply]
  have e1 : idx_main_v2 (idx_main_v4 (ix2 k q)) = ix1 q := funext fun a => match a with | ⟨0, _⟩ => rfl
  rw [e1, ends hs, IntOp.cmpi_sle]
  show (BitVec.ofNat 32 _).toInt ≤ (BitVec.ofNat 32 k.val).toInt ↔ _
  rw [BitVec.toInt_eq_toNat_of_lt (by rw [BitVec.toNat_ofNat]; omega), BitVec.toInt_eq_toNat_of_lt (by rw [BitVec.toNat_ofNat]; omega), BitVec.toNat_ofNat, BitVec.toNat_ofNat,
    Nat.mod_eq_of_lt (by omega), Nat.mod_eq_of_lt (by omega)]
  exact ⟨fun h => ⟨q.isLt, by exact_mod_cast h⟩, fun ⟨_, h⟩ => by exact_mod_cast h⟩

/-- A row is masked in for a group exactly where it is one of the group's rows. -/
theorem mine (hs : Groups.Fits fun j => x0 (ix1 j)) (e : Fin 4) (k : Fin 1792) :
    val_main_v14 (F := Ideal) x0 (ix2 e k) = 1#1 ↔ Groups.startN (fun j => x0 (ix1 j)) e ≤ k.val ∧ k.val < Groups.startN (fun j => x0 (ix1 j)) e + (x0 (ix1 e)).toNat := by
  rw [val_main_v14_apply, val_main_v12_apply, val_main_v9_apply, val_main_v13_apply, val_main_v11_apply, val_main_v10_apply]
  have e1 : idx_main_v9 (idx_main_v12 (ix2 e k)) = ix1 k := funext fun a => match a with | ⟨0, _⟩ => rfl
  rw [e1, ids hs, ← count_eq_iff]
  show IntOp.cmpi .eq _ (BitVec.ofNat 32 e.val) = 1#1 ↔ _
  have hc : Nat.count (EndsBy (fun j => x0 (ix1 j)) k.val) 4 ≤ 4 := Nat.count_le _
  have he := e.isLt
  rw [IntOp.cmpi_eq, ← BitVec.toNat_inj, BitVec.toNat_ofNat, BitVec.toNat_ofNat, Nat.mod_eq_of_lt (by omega), Nat.mod_eq_of_lt (by omega)]

end Cert.DwRefIdeal.Hand
-- ==== Proof.DwR.Value.lean ====
/- What the reference's result holds at an index: the sum over a group's rows, times the group's two scales. -/
module

public import proofs.«01_k».proof.Proof.DwR.Rows
public import proofs.«01_k».proof.Proof.DwI.Array
public import proofs.«01_k».proof.Proof.Gen.DwRefIdeal.Run

@[expose] public section

set_option maxRecDepth 16384

noncomputable section

namespace Cert.DwRefIdeal.Hand

open Cert.DwRefIdeal Cert.DwRefIdeal.Gen Cert.DwRefIdeal.Read Idealize.ShloMosaic

/-- The reference's masked operand, at an index. -/
theorem lhs_apply {x0 : Vec Ideal S4 .i32} (hs : Groups.Fits fun j => x0 (ix1 j)) (x3 : Vec Ideal S1792x4096 .bf16) (e : Fin 4) (k : Fin 1792) (r : Fin 4096) :
    val_main_v17 (F := Ideal) x0 x3 (ix3 e k r)
      = if Groups.startN (fun j => x0 (ix1 j)) e ≤ k.val ∧ k.val < Groups.startN (fun j => x0 (ix1 j)) e + (x0 (ix1 e)).toNat then (x3 (ix2 k r) : EReal) else 0 := by
  rw [val_main_v17_apply, val_main_call1_v0_apply, val_main_v15_apply, val_main_call1_v1_apply, val_main_v16_apply, val_main_call1_v2_apply, val_main_cst_apply]
  have e1 : idx_main_v15 (idx_main_call1_v0 (ix3 e k r)) = ix2 e k := funext fun a => match a with | ⟨0, _⟩ => rfl | ⟨1, _⟩ => rfl
  have e2 : idx_main_v16 (idx_main_call1_v1 (ix3 e k r)) = ix2 k r := funext fun a => match a with | ⟨0, _⟩ => rfl | ⟨1, _⟩ => rfl
  rw [e1, e2]
  show (if val_main_v14 (F := Ideal) x0 (ix2 e k) = 1#1 then (x3 (ix2 k r) : EReal) else Ideal.ofBits .bf16 0x0000#16) = _
  rw [Ideal.ofBits_zero_bf16]
  exact if_congr (mine hs e k) rfl rfl

/-- The reference's first scale. -/
theorem scale1 (x1 : Vec Ideal S4 .f32) (i : S4x4096x7168.Idx) : val_main_v25 (F := Ideal) x1 i = Cert.DwIdeal.Gen.k0_pay2 (F := Ideal) (x1 (ix1 (i 0))) := by
  rw [val_main_v25_apply, val_main_v24_apply, val_main_v23_apply, val_main_v20_apply, val_main_v22_apply, val_main_call2_v1_apply, val_main_v19_apply, val_main_v21_apply]
  have e1 : idx_main_v24 (idx_main_v25 i) = ix1 (i 0) := funext fun a => match a with | ⟨0, _⟩ => rfl
  rw [e1]
  rfl

/-- The reference's second scale. -/
theorem scale2 (x2 : Vec Ideal S4 .f32) (i : S4x4096x7168.Idx) : val_main_v33 (F := Ideal) x2 i = Cert.DwIdeal.Gen.k0_pay3 (F := Ideal) (x2 (ix1 (i 0))) := by
  rw [val_main_v33_apply, val_main_v32_apply, val_main_v31_apply, val_main_v28_apply, val_main_v30_apply, val_main_call3_v1_apply, val_main_v27_apply, val_main_v29_apply]
  have e1 : idx_main_v32 (idx_main_v33 i) = ix1 (i 0) := funext fun a => match a with | ⟨0, _⟩ => rfl
  rw [e1]
  rfl

/-- Two multiplications at the ideal numbers. -/
theorem mulf_mulf (a b c : EReal) :
    FloatOps.mulf (F := Ideal) (φ := .f32) (FloatOps.mulf (F := Ideal) (φ := .f32) a b) c = a * b * c := rfl

/-- The reference's product, at an index. -/
theorem sum_apply {x0 : Vec Ideal S4 .i32} (hs : Groups.Fits fun j => x0 (ix1 j)) (x3 : Vec Ideal S1792x4096 .bf16) (x4 : Vec Ideal S1792x7168 .bf16) (i : S4x4096x7168.Idx) :
    val_main_v18 (F := Ideal) x0 x3 x4 i
      = ∑ k : Fin 1792, (if Groups.startN (fun j => x0 (ix1 j)) (i 0) ≤ k.val ∧ k.val < Groups.startN (fun j => x0 (ix1 j)) (i 0) + (x0 (ix1 (i 0))).toNat then (x3 (ix2 k (i 1)) : EReal) else 0) * x4 (ix2 k (i 2)) := by
  rw [val_main_v18_apply]
  refine Finset.sum_congr rfl fun k _ => ?_
  have e1 : lidx_main_v18 i k = ix3 (i 0) k (i 1) := funext fun a => match a with | ⟨0, _⟩ => rfl | ⟨1, _⟩ => rfl | ⟨2, _⟩ => rfl
  have e2 : ridx_main_v18 i k = ix2 k (i 2) := funext fun a => match a with | ⟨0, _⟩ => rfl | ⟨1, _⟩ => rfl
  rw [e1, e2]
  exact congrArg (fun z : EReal => z * x4 (ix2 k (i 2))) (lhs_apply hs x3 (i 0) k (i 1))

/-- The reference computes the kernel's array. -/
theorem value {x0 : Vec Ideal S4 .i32} (hs : Groups.Fits fun j => x0 (ix1 j)) (x1 x2 : Vec Ideal S4 .f32) (x3 : Vec Ideal S1792x4096 .bf16) (x4 : Vec Ideal S1792x7168 .bf16) :
    val_main_v34 (F := Ideal) x0 x1 x2 x3 x4 = Cert.DwIdeal.Hand.target x0 x1 x2 x3 x4 := by
  funext i
  have hS := sum_apply hs x3 x4 i
  have h1 := scale1 x1 i
  have h2 := scale2 x2 i
  rw [val_main_v34_apply, val_main_v26_apply, hS, h1, h2]
  unfold Cert.DwIdeal.Hand.target
  with_reducible exact mulf_mulf _ _ _

end Cert.DwRefIdeal.Hand
-- ==== Proof.Grp.Trips.lean ====
/- How many blocks of 256 rows a group of rows has, and where each begins, as words and as numbers. -/
module

public import proofs.«01_k».proof.Proof.Grp.Words
public import Idealize.ShloMosaic.Lib.LoopRemainder

@[expose] public section

noncomputable section

namespace Cert.Groups

open Idealize.ShloMosaic

/-- The number of blocks of 256 rows of a group of `x` rows, as a kernel's loop bound computes it. -/
def blocksW (x : BitVec 32) : BitVec 32 :=
  Scalar.addi 0#32 (Scalar.muli (Scalar.divsi (Scalar.subi (Scalar.divsi (Scalar.addi x 255#32) 256#32) 0#32) 1#32) 1#32)

/-- It is the size divided by 256, rounded up. -/
theorem blocksW_toNat (x : BitVec 32) (hx : x.toNat ≤ 1792) : (blocksW x).toNat = (x.toNat + 255) / 256 := by
  unfold blocksW
  rw [Scalar.muli_divsi_one]
  have h1 : (Scalar.addi x 255#32).toNat = x.toNat + 255 := by
    show (x + 255#32).toNat = _
    rw [BitVec.toNat_add, show (255#32 : BitVec 32).toNat = 255 from by decide]; omega
  have h2 : (Scalar.divsi (Scalar.addi x 255#32) 256#32).toNat = (x.toNat + 255) / 256 := by
    have hm : (Scalar.addi x 255#32).msb = false := BitVec.msb_eq_false_iff_two_mul_lt.mpr (by omega)
    have hc : ¬ IntOp.SDivCorner (Scalar.addi x 255#32) 256#32 := by
      intro hc; rcases hc with hc | ⟨_, hc⟩ <;> exact absurd hc (by decide)
    simp only [Scalar.divsi, IntOp.divsi, if_neg hc, BitVec.sdiv_eq, hm, show (256#32 : BitVec 32).msb = false from by decide, BitVec.udiv_eq,
      BitVec.toNat_udiv, h1, show (256#32 : BitVec 32).toNat = 256 from by decide]
  show (0#32 + (Scalar.divsi (Scalar.addi x 255#32) 256#32 - 0#32)).toNat = _
  rw [BitVec.zero_add, BitVec.sub_zero, h2]

/-- The loop over a group's blocks makes one trip per block. -/
theorem blocks_trips (x : BitVec 32) (hx : x.toNat ≤ 1792) : Scf.trips 0#32 (blocksW x) 1#32 = (x.toNat + 255) / 256 := by
  have h := blocksW_toNat x hx
  have : (blocksW x).toInt = ((x.toNat + 255) / 256 : Nat) := by
    rw [BitVec.toInt_eq_toNat_of_lt (by omega), h]
  unfold Scf.trips
  rw [this, show (0#32 : BitVec 32).toInt = 0 from by decide, show (1#32 : BitVec 32).toInt = 1 from by decide]
  omega

/-- The loop is meaningful. -/
theorem blocks_ok (x : BitVec 32) (hx : x.toNat ≤ 1792) : Scf.OK 0#32 (blocksW x) 1#32 := by
  unfold Scf.OK
  rw [blocks_trips x hx, show (0#32 : BitVec 32).toInt = 0 from by decide, show (1#32 : BitVec 32).toInt = 1 from by decide]
  refine ⟨by decide, ?_⟩
  norm_num
  omega

/-- The first row of block `k` of a group starting at `w`: moved up so that the block lies within the 1792 rows. -/
def blockRowW (w : BitVec 32) (k : Nat) : BitVec 32 :=
  Scalar.minsi (Scalar.addi w (Scalar.muli (Scf.iv 0#32 1#32 k) 256#32)) 1536#32

/-- It is the smaller of the group's start plus 256 times the block's number and 1536. -/
theorem blockRowW_toNat (w : BitVec 32) (k : Nat) (h : w.toNat + 256 * k ≤ 1792) : (blockRowW w k).toNat = min (w.toNat + 256 * k) 1536 := by
  have h1 : (Scf.iv 0#32 1#32 k : BitVec 32).toNat = k := by
    show (0#32 + BitVec.ofNat 32 k * 1#32).toNat = k
    rw [BitVec.zero_add, BitVec.mul_one, BitVec.toNat_ofNat]; omega
  have h2 : (Scalar.addi w (Scalar.muli (Scf.iv 0#32 1#32 k) 256#32)).toNat = w.toNat + 256 * k := by
    show (w + Scf.iv 0#32 1#32 k * 256#32).toNat = _
    rw [BitVec.toNat_add, BitVec.toNat_mul, h1, show (256#32 : BitVec 32).toNat = 256 from by decide]; omega
  unfold blockRowW
  rw [show (1536#32 : BitVec 32) = BitVec.ofNat 32 1536 from rfl, minsi_toNat _ 1536 (by omega) (by decide), h2]

/-- It is a multiple of 16 where the group's start is. -/
theorem blockRowW_dvd (w : BitVec 32) (k : Nat) (h : w.toNat + 256 * k ≤ 1792) (hd : 16 ∣ w.toNat) : 16 ∣ (blockRowW w k).toNat := by
  rw [blockRowW_toNat w k h]
  rcases Nat.le_total (w.toNat + 256 * k) 1536 with h' | h'
  · rw [Nat.min_eq_left h']; omega
  · rw [Nat.min_eq_right h']; decide

/-- The condition `size > 0`, read as a number. -/
theorem condP_iff (x : BitVec 32) (hx : x.toNat ≤ 1792) : Scalar.cmpi .ne (Scalar.extui (Scalar.cmpi .sgt x 0#32) : BitVec 32) 0#32 = 1#1 ↔ 0 < x.toNat := by
  have e1 : Scalar.cmpi .sgt x 0#32 = BitVec.ofBool (decide (0 < x.toNat)) := by
    simp only [Scalar.cmpi, IntOp.cmpi, BitVec.slt]
    rw [show (0#32 : BitVec 32).toInt = 0 from by decide, BitVec.toInt_eq_toNat_of_lt (by omega)]
    simp
  rw [e1]
  by_cases p : 0 < x.toNat <;> simp only [p, decide_true, decide_false, true_iff, iff_true, false_iff, iff_false] <;> decide

end Cert.Groups

end
-- ==== Proof.DxB.Checks.lean ====
/- The side conditions a grid point of the input-gradient kernel assumes hold of any group sizes that fit. -/
module

public import proofs.«01_k».proof.Proof.Gen.Dx.Launch
public import proofs.«01_k».proof.Proof.Gen.Dx.Skeleton
public import proofs.«01_k».proof.Proof.Gen.Dx.Points
public import proofs.«01_k».proof.Proof.Gen.Dx.Frame
public import proofs.«01_k».proof.Proof.Grp.Trips
public import Idealize.ShloMosaic.Lib.Pipeline.FrameBody
public import Idealize.ShloMosaic.Lib.Ring
public import Idealize.ShloMosaic.Lib.Pipeline.ValueKit
public import Idealize.ShloMosaic.Lib.Tactic

@[expose] public section

set_option maxRecDepth 16384

noncomputable section

namespace Cert.Dx.Hand

open Cert.Dx Cert.Dx.Gen
open Idealize.ShloMosaic Idealize.ShloMosaic.TcCoe Idealize.ShloMosaic.Tactic

variable {F : FTy → Type} [BitOps F]

/-- The word of a four-word scalar array held at `x0` that a load at `off` reads. -/
abbrev wd {e : EltTy} (M : Memref sig .tc .smem S4 e) (h : M.IsWhole) (x0 : Vec F S4 e) (off : Fin 1 → Nat) (inb : ∀ a, off a + S1.size a ≤ S4.size a) : Elt F e :=
  M.view.readAt (Elt F) (Rect.unit (s := S4) off S1.size inb).toLoadRect (h.unread x0) (Shape.Idx.first (numel1_S1.symm ▸ Nat.one_pos))

/-- A load of one word reads the array's word at its offset. -/
theorem wd_eq {e : EltTy} (M : Memref sig .tc .smem S4 e) (h : M.IsWhole) (x0 : Vec F S4 e) (off : Fin 1 → Nat) (inb : ∀ a, off a + S1.size a ≤ S4.size a) (j : Fin 4) (hj : off 0 = j.val) :
    wd M h x0 off inb = x0 (ix1 j) := by
  unfold wd
  rw [View.readAt_apply, h.read_unread]
  congr 1
  funext a
  match a with
  | ⟨0, _⟩ => exact Fin.ext (by show off 0 + 1 * 0 = j.val; omega)

/-- The number of a grid point's expert. -/
def ex (i : grid0.Coords) : Fin 4 := ⟨(i 1).val, (i 1).isLt⟩

theorem off1_val (i : grid0.Coords) : k0_off1 i 0 = (ex i).val := by
  show (BitVec.ofNat 32 (i 1).val).toNat = (i 1).val
  have : (i 1).val < 4 := (i 1).isLt
  rw [BitVec.toNat_ofNat]; omega

theorem off5_val (i : grid0.Coords) : k0_off5 i 0 = (ex i).val := off1_val i

/-- The first row of the point's expert, as the kernel sums it from the four sizes. -/
abbrev startW (i : grid0.Coords) (v3 v7 v11 v15 : BitVec 32) : BitVec 32 := Groups.startW (i 1).val v3 v7 v11 v15

variable {s : Fin 4 → BitVec 32}

theorem startW_eq (hs : Groups.Fits s) (i : grid0.Coords) : (startW i (s 0) (s 1) (s 2) (s 3)).toNat = Groups.startN s (ex i) :=
  Groups.startW_toNat hs (ex i)

theorem startW_dvd (hs : Groups.Fits s) (i : grid0.Coords) : 16 ∣ (startW i (s 0) (s 1) (s 2) (s 3)).toNat := by
  rw [startW_eq hs]; exact Groups.dvd_startN hs _

/-- A trip of the row loop is one of the group's blocks, -/
theorem trip_lt (hs : Groups.Fits s) (e : Fin 4) (k : Fin (k0_t2_loop (s e)).trips) : 256 * k.val < (s e).toNat := by
  have h := k.isLt
  have h' : (k0_t2_loop (s e)).trips = ((s e).toNat + 255) / 256 := Groups.blocks_trips (s e) (hs.le e)
  omega

/-- and starts within the rows. -/
theorem trip_le (hs : Groups.Fits s) (i : grid0.Coords) (k : Fin (k0_t2_loop (s (ex i))).trips) :
    (startW i (s 0) (s 1) (s 2) (s 3)).toNat + 256 * k.val ≤ 1792 := by
  have := trip_lt hs _ k
  have := Groups.startN_add_le hs (ex i)
  rw [startW_eq hs]; omega

/-- The first row of the block a trip of the row loop works on. -/
abbrev rowW (i : grid0.Coords) (s : Fin 4 → BitVec 32) (k : Nat) : BitVec 32 := Groups.blockRowW (startW i (s 0) (s 1) (s 2) (s 3)) k

theorem rowW_le (hs : Groups.Fits s) (i : grid0.Coords) (k : Fin (k0_t2_loop (s (ex i))).trips) : (rowW i s k.val).toNat ≤ 1536 := by
  rw [rowW, Groups.blockRowW_toNat _ _ (trip_le hs i k)]; exact Nat.min_le_right _ _

theorem rowW_dvd (hs : Groups.Fits s) (i : grid0.Coords) (k : Fin (k0_t2_loop (s (ex i))).trips) : 16 ∣ (rowW i s k.val).toNat :=
  Groups.blockRowW_dvd _ _ (trip_le hs i k) (startW_dvd hs i)

/-- A block of 256 rows and 128 columns whose first row is a multiple of 16 takes whole words. -/
theorem packed {off : Fin 2 → Nat} (hinb : ∀ a, off a + S256x128.size a ≤ S1792x512.size a) (h : 16 ∣ off 0) :
    (Rect.unit (s := S1792x512) off S256x128.size hinb).PackedRows (EltTy.packing .bf16) :=
  Affine.packed_dvd (s := S1792x512) (le_refl 2 : 2 ≤ S1792x512.rank) (show 2 ∣ off 0 from Dvd.dvd.trans (by decide) h) (show 2 ∣ 256 by decide)

/-- The first condition: both loops are meaningful. -/
theorem chk1 (hs : Groups.Fits s) (e : Fin 4) : k0_chk1 (s e) := by
  unfold k0_chk1
  exact ⟨fun _ => Groups.blocks_ok (s e) (hs.le e), fun _ => Scf.rem_ok _ _⟩

/-- The second: every block lies within the rows and takes whole words. -/
theorem chk2 (hs : Groups.Fits s) (i : grid0.Coords) : k0_chk2 i (s (ex i)) (s 0) (s 1) (s 2) (s 3) := by
  unfold k0_chk2
  have A (c : Nat) (hc : c + 128 ≤ 512) (k : Fin (k0_t2_loop (s (ex i))).trips) (a : Fin 2) :
      (![(rowW i s k.val).toNat, c] : Fin 2 → Nat) a + S256x128.size a ≤ S1792x512.size a := by
    have r := rowW_le hs i k
    match a with
    | ⟨0, _⟩ => show (rowW i s k.val).toNat + 256 ≤ 1792; omega
    | ⟨1, _⟩ => show c + 128 ≤ 512; exact hc
  refine ⟨fun k _ => rowW_dvd hs i k, fun k _ a => ?_,
    fun k _ a => A 0 (by decide) k a, fun k _ h => packed h (rowW_dvd hs i k),
    fun k _ a => A 128 (by decide) k a, fun k _ h => packed h (rowW_dvd hs i k),
    fun k _ a => A 256 (by decide) k a, fun k _ h => packed h (rowW_dvd hs i k),
    fun k _ a => A 384 (by decide) k a, fun k _ h => packed h (rowW_dvd hs i k),
    fun k => (Scf.rem_no_trip _ _ k).elim, fun k => (Scf.rem_no_trip _ _ k).elim,
    fun k => (Scf.rem_no_trip _ _ k).elim, fun k => (Scf.rem_no_trip _ _ k).elim,
    fun k => (Scf.rem_no_trip _ _ k).elim, fun k => (Scf.rem_no_trip _ _ k).elim,
    fun k => (Scf.rem_no_trip _ _ k).elim, fun k => (Scf.rem_no_trip _ _ k).elim,
    fun k => (Scf.rem_no_trip _ _ k).elim, fun k => (Scf.rem_no_trip _ _ k).elim⟩
  have r := rowW_le hs i k
  match a with
  | ⟨0, _⟩ => show (rowW i s k.val).toNat + 256 ≤ 1792; omega
  | ⟨1, _⟩ => show 0 + 4096 ≤ 4096; decide

end Cert.Dx.Hand

end
-- ==== Proof.DxB.Body.lean ====
/- What one grid point of the input-gradient kernel needs and gives back: its six input blocks unchanged, its result block and its
   three work arrays at some contents. -/
module

public import proofs.«01_k».proof.Proof.DxB.Checks
public import proofs.«01_k».proof.Proof.Gen.Dx.Loops
public import Idealize.ShloMosaic.Lib.LoopRemainder

@[expose] public section

set_option maxRecDepth 16384

noncomputable section

namespace Cert.Dx.Hand

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

set_option maxHeartbeats 4000000 in
/-- The body at a point of an expert without rows. -/
theorem run_none (c : Dev nD) (i : grid0.Coords) (arg2 : Memref sig .tc .smem S4 .i32) (harg2 : arg2.IsWhole) (arg3 : Memref sig .tc .smem S4 .f32) (harg3 : arg3.IsWhole) (arg4 : Memref sig .tc .smem S4 .f32) (harg4 : arg4.IsWhole) (arg5 : Memref sig .tc .vmem S1792x4096 .bf16) (harg5 : arg5.IsWhole) (arg6 : Memref sig .tc .vmem S1x4096x256 .i8) (harg6 : arg6.IsWhole) (arg7 : Memref sig .tc .vmem S1x256x448 .fp8e4m3) (harg7 : arg7.IsWhole) (arg8 : Memref sig .tc .vmem S1792x512 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S256x256 .i32) (harg11 : arg11.IsWhole)
    (x0 : Vec F S4 .i32) (x1 : Vec F S4 .f32) (x2 : Vec F S4 .f32) (x3 : Vec F S1792x4096 .bf16) (x4 : Vec F S1x4096x256 .i8) (x5 : Vec F S1x256x448 .fp8e4m3)
    (hw1 : k0_chk1 (wd arg2 harg2 x0 (k0_off1 i) (k0_off1_inb i)))
    (hw2 : k0_chk2 i (wd arg2 harg2 x0 (k0_off1 i) (k0_off1_inb i)) (wd arg2 harg2 x0 ![0] inb_S4_S1_0) (wd arg2 harg2 x0 ![1] inb_S4_S1_1) (wd arg2 harg2 x0 ![2] inb_S4_S1_2) (wd arg2 harg2 x0 ![3] inb_S4_S1_3))
    (h1 : ¬ k0_cond1 (wd arg2 harg2 x0 (k0_off1 i) (k0_off1_inb i)) = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11) K := by
  simp only [cc0_dx_eq_skeleton]; unfold cc0_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec_parts (disch := first | sl_exact hw1 | sl_exact hw2 | sl_exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  iexists _; iexists _; isplitr
  swap; · iexact H9
  ipureintro; rfl

set_option maxHeartbeats 4000000 in
/-- The body at a point of an expert with rows. -/
theorem run_some (c : Dev nD) (i : grid0.Coords) (arg2 : Memref sig .tc .smem S4 .i32) (harg2 : arg2.IsWhole) (arg3 : Memref sig .tc .smem S4 .f32) (harg3 : arg3.IsWhole) (arg4 : Memref sig .tc .smem S4 .f32) (harg4 : arg4.IsWhole) (arg5 : Memref sig .tc .vmem S1792x4096 .bf16) (harg5 : arg5.IsWhole) (arg6 : Memref sig .tc .vmem S1x4096x256 .i8) (harg6 : arg6.IsWhole) (arg7 : Memref sig .tc .vmem S1x256x448 .fp8e4m3) (harg7 : arg7.IsWhole) (arg8 : Memref sig .tc .vmem S1792x512 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S256x256 .i32) (harg11 : arg11.IsWhole)
    (x0 : Vec F S4 .i32) (x1 : Vec F S4 .f32) (x2 : Vec F S4 .f32) (x3 : Vec F S1792x4096 .bf16) (x4 : Vec F S1x4096x256 .i8) (x5 : Vec F S1x256x448 .fp8e4m3)
    (hw1 : k0_chk1 (wd arg2 harg2 x0 (k0_off1 i) (k0_off1_inb i)))
    (hw2 : k0_chk2 i (wd arg2 harg2 x0 (k0_off1 i) (k0_off1_inb i)) (wd arg2 harg2 x0 ![0] inb_S4_S1_0) (wd arg2 harg2 x0 ![1] inb_S4_S1_1) (wd arg2 harg2 x0 ![2] inb_S4_S1_2) (wd arg2 harg2 x0 ![3] inb_S4_S1_3))
    (h1 : k0_cond1 (wd arg2 harg2 x0 (k0_off1 i) (k0_off1_inb i)) = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11) K := by
  simp only [cc0_dx_eq_skeleton]; unfold cc0_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec_parts (disch := first | sl_exact hw1 | sl_exact hw2 | sl_exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  iexists _; iexists _; isplitr
  swap; · iexact H9
  ipureintro; rfl

/-- The body at any point, of sizes that fit. -/
theorem body_spec (c : Dev nD) (i : grid0.Coords) (arg2 : Memref sig .tc .smem S4 .i32) (harg2 : arg2.IsWhole) (arg3 : Memref sig .tc .smem S4 .f32) (harg3 : arg3.IsWhole) (arg4 : Memref sig .tc .smem S4 .f32) (harg4 : arg4.IsWhole) (arg5 : Memref sig .tc .vmem S1792x4096 .bf16) (harg5 : arg5.IsWhole) (arg6 : Memref sig .tc .vmem S1x4096x256 .i8) (harg6 : arg6.IsWhole) (arg7 : Memref sig .tc .vmem S1x256x448 .fp8e4m3) (harg7 : arg7.IsWhole) (arg8 : Memref sig .tc .vmem S1792x512 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S256x256 .i32) (harg11 : arg11.IsWhole)
    (x0 : Vec F S4 .i32) (x1 : Vec F S4 .f32) (x2 : Vec F S4 .f32) (x3 : Vec F S1792x4096 .bf16) (x4 : Vec F S1x4096x256 .i8) (x5 : Vec F S1x256x448 .fp8e4m3) (hs : Groups.Fits fun j => x0 (ix1 j)) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_dx i arg2 harg2 arg3 harg3 arg4 harg4 arg5 harg5 arg6 harg6 arg7 harg7 arg8 harg8 arg9 harg9 arg10 harg10 arg11 harg11) K := by
  have e1 := wd_eq arg2 harg2 x0 (k0_off1 i) (k0_off1_inb i) (ex i) (off1_val i)
  have hw1 : k0_chk1 (wd arg2 harg2 x0 (k0_off1 i) (k0_off1_inb i)) := by rw [e1]; exact chk1 hs (ex i)
  have hw2 : k0_chk2 i (wd arg2 harg2 x0 (k0_off1 i) (k0_off1_inb i)) (wd arg2 harg2 x0 ![0] inb_S4_S1_0) (wd arg2 harg2 x0 ![1] inb_S4_S1_1) (wd arg2 harg2 x0 ![2] inb_S4_S1_2) (wd arg2 harg2 x0 ![3] inb_S4_S1_3) := by
    rw [e1, wd_eq arg2 harg2 x0 ![0] inb_S4_S1_0 0 rfl, wd_eq arg2 harg2 x0 ![1] inb_S4_S1_1 1 rfl, wd_eq arg2 harg2 x0 ![2] inb_S4_S1_2 2 rfl, wd_eq arg2 harg2 x0 ![3] inb_S4_S1_3 3 rfl]
    exact chk2 hs i
  by_cases h1 : k0_cond1 (wd arg2 harg2 x0 (k0_off1 i) (k0_off1_inb i)) = 1#1
  · exact run_some c i arg2 harg2 arg3 harg3 arg4 harg4 arg5 harg5 arg6 harg6 arg7 harg7 arg8 harg8 arg9 harg9 arg10 harg10 arg11 harg11 x0 x1 x2 x3 x4 x5 hw1 hw2 h1 E K
  · exact run_none c i arg2 harg2 arg3 harg3 arg4 harg4 arg5 harg5 arg6 harg6 arg7 harg7 arg8 harg8 arg9 harg9 arg10 harg10 arg11 harg11 x0 x1 x2 x3 x4 x5 hw1 hw2 h1 E K

end Cert.Dx.Hand

end
-- ==== Proof.DxB.Frame.lean ====
/- The kernel's run: from group sizes that fit it terminates and leaves its arguments as they were. -/
module

public import proofs.«01_k».proof.Proof.DxB.Body
public import Idealize.ShloMosaic.Lib.Pipeline.DatRel
public import Idealize.ShloMosaic.Lib.Pipeline.ArrRel

@[expose] public section

set_option maxRecDepth 16384

noncomputable section

namespace Cert.Dx.Hand

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The group sizes held at the launch fit, on every device. -/
def SizesFit : Prop := ∀ c : Dev nD, Groups.Fits fun j => (m ((c : Thread nD τ).loc main_arg0) : Vec F S4 .i32) (ix1 j)

abbrev ms0_0 (t : Fin cfg0.N) := win0_0.stage (cfg0.slots t 0)
theorem hs0_0 (t : Fin cfg0.N) : (ms0_0 t).IsWhole := hstage0_0 ((cfg0.slots t 0).cast nbuf0_0)
abbrev ms0_1 (t : Fin cfg0.N) := win0_1.stage (cfg0.slots t 1)
theorem hs0_1 (t : Fin cfg0.N) : (ms0_1 t).IsWhole := hstage0_1 ((cfg0.slots t 1).cast nbuf0_1)
abbrev ms0_2 (t : Fin cfg0.N) := win0_2.stage (cfg0.slots t 2)
theorem hs0_2 (t : Fin cfg0.N) : (ms0_2 t).IsWhole := hstage0_2 ((cfg0.slots t 2).cast nbuf0_2)
abbrev ms0_3 (t : Fin cfg0.N) := win0_3.stage (cfg0.slots t 3)
theorem hs0_3 (t : Fin cfg0.N) : (ms0_3 t).IsWhole := hstage0_3 ((cfg0.slots t 3).cast nbuf0_3)
abbrev ms0_4 (t : Fin cfg0.N) := win0_4.stage (cfg0.slots t 4)
theorem hs0_4 (t : Fin cfg0.N) : (ms0_4 t).IsWhole := hstage0_4 ((cfg0.slots t 4).cast nbuf0_4)
abbrev ms0_5 (t : Fin cfg0.N) := win0_5.stage (cfg0.slots t 5)
theorem hs0_5 (t : Fin cfg0.N) : (ms0_5 t).IsWhole := hstage0_5 ((cfg0.slots t 5).cast nbuf0_5)
abbrev ms0_6 (t : Fin cfg0.N) := win0_6.stage (cfg0.slots t 6)
theorem hs0_6 (t : Fin cfg0.N) : (ms0_6 t).IsWhole := hstage0_6 ((cfg0.slots t 6).cast nbuf0_6)

/-- The block of the sizes a point is given is the sizes' array. -/
theorem iblk0_eq (c : Dev nD) (t : Fin cfg0.N) (j : Fin 4) :
    (iblk m c 0 t : Vec F S4 .i32) (ix1 j) = (m ((c : Thread nD τ).loc main_arg0) : Vec F S4 .i32) (ix1 j) := by
  unfold iblk
  rw [View.read_apply, cast_eq]
  show m ((c : Thread nD τ).loc main_arg0) _ = _
  congr 1
  funext a
  match a with
  | ⟨0, _⟩ => exact Fin.ext (show 0 * 4 + 1 * j.val = j.val by omega)

variable {m} in
theorem fits_iblk (hH : SizesFit m) (c : Dev nD) (t : Fin cfg0.N) : Groups.Fits fun j => (iblk m c 0 t : Vec F S4 .i32) (ix1 j) := by
  have h : (fun j => (iblk m c 0 t : Vec F S4 .i32) (ix1 j)) = fun j => (m ((c : Thread nD τ).loc main_arg0) : Vec F S4 .i32) (ix1 j) :=
    funext fun j => iblk0_eq m c t j
  rw [h]; exact hH c

/-- The pipeline's proof data: each input's block left in place; what the result's block then holds is related, not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The one window whose contents are related: the result's. -/
def fgt (w : Fin cfg0.W) : Bool := w.val == 6

/-- Nothing is said of what a point leaves in the result's block. -/
def Rl (c : Dev nD) (w : Fin cfg0.W) (t : Fin cfg0.N) (X : (cfg0.win w).block.Idx → Elt F (cfg0.win w).elt) : Prop := True

/-- The relational proof data. -/
abbrev rdat (c : Dev nD) : RDat τ (Elt F) Unit ℕ (UR sig nD τ) ℕ cfg0 c := (dats m 0 c).toRRel fgt (Rl c)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Rl c 6 t X⌝ ∗ owns (c : Thread nD τ) (ms0_6 t) fullShare X))

set_option maxHeartbeats 1600000 in
/-- The body at any point, from the blocks the pipeline hands it to the blocks of the proof data. -/
theorem sound_body (hH : SizesFit m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  simp only [← owns_whole]
  iintro ⟨⟨⟨⟨%f9, H9⟩, ⟨%f10, H10⟩, ⟨%f11, H11⟩⟩, HP⟩, Ho, ⟨%d0, H0⟩, ⟨%d1, H1⟩, ⟨%d2, H2⟩, ⟨%d3, H3⟩, ⟨%d4, H4⟩, ⟨%d5, H5⟩, ⟨%d6, %hd6, H6⟩⟩
  iapply (body_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (fits_iblk hH c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H9]; · iexists _; iexact H9
  isplitl [H10]; · iexists _; iexact H10
  isplitl [H11]; · iexists _; iexact H11
  iintro ⟨H0, H1, H2, H3, H4, H5, ⟨%d6, H6⟩, ⟨%g9, H9⟩, ⟨%g10, H10⟩, ⟨%g11, H11⟩⟩
  isplitl [H9 H10 H11 HP]
  · isplitl [H9 H10 H11]
    · isplitl [H9]; · iexists _; iexact H9
      isplitl [H10]; · iexists _; iexact H10
      iexists _; iexact H11
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr
  swap; · iexact H6
  ipureintro; trivial

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hH : SizesFit m) (c : Dev nD) : BodyObligationRel (dats (F := F) m 0 c) (defs₀ (F := F)) Variants.none () Set.univ fgt (Rl c) := fun t => by
  rw [bigSep_W0, bigSep_W0, defs₀_row]
  exact triple_restated (sound_body m hH c t) rfl .rfl fun _ => .rfl

-- `θ_run_frame`'s implicit arguments are found by unifying its conclusion with this one, which takes unfolding plain
-- definitions in a metavariable's type
set_option backward.isDefEq.respectTransparency.types false in
/-- The launch: every execution ends, with every array at what the proof data gives and every semaphore counter at zero. -/
theorem run_main_quiescent (hH : SizesFit m) : θ_run defs (onTc (τ := τ) (main (F := F))) (s₀ m ρ) (fun r => (RDat.FramePost cfg0 (rdat m) (V m)) r ∧ r.2.sem = fun _ => 0) :=
  Pipeline.RDat.θ_run_frame (Q' := _) cfgs (0 : Fin 1) launch0 defs₀ Variants.none (rdat m) m ρ main
    (hbody := fun c => (body_obligation m hH c).toRRel) (hshare := fun c => (dats m 0 c).share_full fun _ => rfl)
    (howed := fun _ _ => rfl) (V := V m) (hmain := hmain m Variants.none) (hA := A_eq m) (hΦ := fun _ _ => rfl)

theorem run_main (hH : SizesFit m) : θ_run defs (onTc (τ := τ) (main (F := F))) (s₀ m ρ) (RDat.FramePost cfg0 (rdat m) (V m)) :=
  (θ_run defs _ _).mono (fun _ h => h.1) (run_main_quiescent m ρ hH)

/-- The argument arrays end unchanged. -/
theorem unchanged_of {r} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 0 rfl).trans (V_main_arg0 m c),
      (RDat.FramePost.arr_in h c 1 rfl).trans (V_main_arg1 m c),
      (RDat.FramePost.arr_in h c 2 rfl).trans (V_main_arg2 m c),
      (RDat.FramePost.arr_in h c 3 rfl).trans (V_main_arg3 m c),
      (RDat.FramePost.arr_in h c 4 rfl).trans (V_main_arg4 m c),
      (RDat.FramePost.arr_in h c 5 rfl).trans (V_main_arg5 m c)⟩

/-- The frame claim, of sizes that fit. -/
theorem frame (hH : SizesFit m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨unchanged_of m h.1, h.2⟩) (run_main_quiescent m ρ hH)

end Cert.Dx.Hand

end
-- ==== Proof.DxI.Checks.lean ====
/- The side conditions a grid point of the input-gradient kernel assumes hold of any group sizes that fit. -/
module

public import proofs.«01_k».proof.Proof.Gen.DxIdeal.Launch
public import proofs.«01_k».proof.Proof.Gen.DxIdeal.Skeleton
public import proofs.«01_k».proof.Proof.Gen.DxIdeal.Points
public import proofs.«01_k».proof.Proof.Gen.DxIdeal.Frame
public import proofs.«01_k».proof.Proof.Grp.Trips
public import Idealize.ShloMosaic.Lib.Pipeline.FrameBody
public import Idealize.ShloMosaic.Lib.Ring
public import Idealize.ShloMosaic.Lib.Pipeline.ValueKit
public import Idealize.ShloMosaic.Lib.Tactic

@[expose] public section

set_option maxRecDepth 16384

noncomputable section

namespace Cert.DxIdeal.Hand

open Cert.DxIdeal Cert.DxIdeal.Gen
open Idealize.ShloMosaic Idealize.ShloMosaic.TcCoe Idealize.ShloMosaic.Tactic

variable {F : FTy → Type} [FloatOps F]

/-- The word of a four-word scalar array held at `x0` that a load at `off` reads. -/
abbrev wd {e : EltTy} (M : Memref sig .tc .smem S4 e) (h : M.IsWhole) (x0 : Vec F S4 e) (off : Fin 1 → Nat) (inb : ∀ a, off a + S1.size a ≤ S4.size a) : Elt F e :=
  M.view.readAt (Elt F) (Rect.unit (s := S4) off S1.size inb).toLoadRect (h.unread x0) (Shape.Idx.first (numel1_S1.symm ▸ Nat.one_pos))

/-- A load of one word reads the array's word at its offset. -/
theorem wd_eq {e : EltTy} (M : Memref sig .tc .smem S4 e) (h : M.IsWhole) (x0 : Vec F S4 e) (off : Fin 1 → Nat) (inb : ∀ a, off a + S1.size a ≤ S4.size a) (j : Fin 4) (hj : off 0 = j.val) :
    wd M h x0 off inb = x0 (ix1 j) := by
  unfold wd
  rw [View.readAt_apply, h.read_unread]
  congr 1
  funext a
  match a with
  | ⟨0, _⟩ => exact Fin.ext (by show off 0 + 1 * 0 = j.val; omega)

/-- The number of a grid point's expert. -/
def ex (i : grid0.Coords) : Fin 4 := ⟨(i 1).val, (i 1).isLt⟩

theorem off1_val (i : grid0.Coords) : k0_off1 i 0 = (ex i).val := by
  show (BitVec.ofNat 32 (i 1).val).toNat = (i 1).val
  have : (i 1).val < 4 := (i 1).isLt
  rw [BitVec.toNat_ofNat]; omega

theorem off5_val (i : grid0.Coords) : k0_off5 i 0 = (ex i).val := off1_val i

/-- The first row of the point's expert, as the kernel sums it from the four sizes. -/
abbrev startW (i : grid0.Coords) (v3 v7 v11 v15 : BitVec 32) : BitVec 32 := Groups.startW (i 1).val v3 v7 v11 v15

variable {s : Fin 4 → BitVec 32}

theorem startW_eq (hs : Groups.Fits s) (i : grid0.Coords) : (startW i (s 0) (s 1) (s 2) (s 3)).toNat = Groups.startN s (ex i) :=
  Groups.startW_toNat hs (ex i)

theorem startW_dvd (hs : Groups.Fits s) (i : grid0.Coords) : 16 ∣ (startW i (s 0) (s 1) (s 2) (s 3)).toNat := by
  rw [startW_eq hs]; exact Groups.dvd_startN hs _

/-- A trip of the row loop is one of the group's blocks, -/
theorem trip_lt (hs : Groups.Fits s) (e : Fin 4) (k : Fin (k0_t2_loop (s e)).trips) : 256 * k.val < (s e).toNat := by
  have h := k.isLt
  have h' : (k0_t2_loop (s e)).trips = ((s e).toNat + 255) / 256 := Groups.blocks_trips (s e) (hs.le e)
  omega

/-- and starts within the rows. -/
theorem trip_le (hs : Groups.Fits s) (i : grid0.Coords) (k : Fin (k0_t2_loop (s (ex i))).trips) :
    (startW i (s 0) (s 1) (s 2) (s 3)).toNat + 256 * k.val ≤ 1792 := by
  have := trip_lt hs _ k
  have := Groups.startN_add_le hs (ex i)
  rw [startW_eq hs]; omega

/-- The first row of the block a trip of the row loop works on. -/
abbrev rowW (i : grid0.Coords) (s : Fin 4 → BitVec 32) (k : Nat) : BitVec 32 := Groups.blockRowW (startW i (s 0) (s 1) (s 2) (s 3)) k

theorem rowW_le (hs : Groups.Fits s) (i : grid0.Coords) (k : Fin (k0_t2_loop (s (ex i))).trips) : (rowW i s k.val).toNat ≤ 1536 := by
  rw [rowW, Groups.blockRowW_toNat _ _ (trip_le hs i k)]; exact Nat.min_le_right _ _

theorem rowW_dvd (hs : Groups.Fits s) (i : grid0.Coords) (k : Fin (k0_t2_loop (s (ex i))).trips) : 16 ∣ (rowW i s k.val).toNat :=
  Groups.blockRowW_dvd _ _ (trip_le hs i k) (startW_dvd hs i)

/-- A block of 256 rows and 128 columns whose first row is a multiple of 16 takes whole words. -/
theorem packed {off : Fin 2 → Nat} (hinb : ∀ a, off a + S256x128.size a ≤ S1792x512.size a) (h : 16 ∣ off 0) :
    (Rect.unit (s := S1792x512) off S256x128.size hinb).PackedRows (EltTy.packing .bf16) :=
  Affine.packed_dvd (s := S1792x512) (le_refl 2 : 2 ≤ S1792x512.rank) (show 2 ∣ off 0 from Dvd.dvd.trans (by decide) h) (show 2 ∣ 256 by decide)

/-- The first condition: both loops are meaningful. -/
theorem chk1 (hs : Groups.Fits s) (e : Fin 4) : k0_chk1 (s e) := by
  unfold k0_chk1
  exact ⟨fun _ => Groups.blocks_ok (s e) (hs.le e), fun _ => Scf.rem_ok _ _⟩

/-- The second: every block lies within the rows and takes whole words. -/
theorem chk2 (hs : Groups.Fits s) (i : grid0.Coords) : k0_chk2 i (s (ex i)) (s 0) (s 1) (s 2) (s 3) := by
  unfold k0_chk2
  have A (c : Nat) (hc : c + 128 ≤ 512) (k : Fin (k0_t2_loop (s (ex i))).trips) (a : Fin 2) :
      (![(rowW i s k.val).toNat, c] : Fin 2 → Nat) a + S256x128.size a ≤ S1792x512.size a := by
    have r := rowW_le hs i k
    match a with
    | ⟨0, _⟩ => show (rowW i s k.val).toNat + 256 ≤ 1792; omega
    | ⟨1, _⟩ => show c + 128 ≤ 512; exact hc
  refine ⟨fun k _ => rowW_dvd hs i k, fun k _ a => ?_,
    fun k _ a => A 0 (by decide) k a, fun k _ h => packed h (rowW_dvd hs i k),
    fun k _ a => A 128 (by decide) k a, fun k _ h => packed h (rowW_dvd hs i k),
    fun k _ a => A 256 (by decide) k a, fun k _ h => packed h (rowW_dvd hs i k),
    fun k _ a => A 384 (by decide) k a, fun k _ h => packed h (rowW_dvd hs i k),
    fun k => (Scf.rem_no_trip _ _ k).elim, fun k => (Scf.rem_no_trip _ _ k).elim,
    fun k => (Scf.rem_no_trip _ _ k).elim, fun k => (Scf.rem_no_trip _ _ k).elim,
    fun k => (Scf.rem_no_trip _ _ k).elim, fun k => (Scf.rem_no_trip _ _ k).elim,
    fun k => (Scf.rem_no_trip _ _ k).elim, fun k => (Scf.rem_no_trip _ _ k).elim,
    fun k => (Scf.rem_no_trip _ _ k).elim, fun k => (Scf.rem_no_trip _ _ k).elim⟩
  have r := rowW_le hs i k
  match a with
  | ⟨0, _⟩ => show (rowW i s k.val).toNat + 256 ≤ 1792; omega
  | ⟨1, _⟩ => show 0 + 4096 ≤ 4096; decide

end Cert.DxIdeal.Hand

end
-- ==== Proof.DxI.Nibble.lean ====
/- A stored weight byte holds two four-bit codes. The kernel turns each into an eight-bit float of four exponent bits whose value is
   the code's divided by 64: the words' shifts and masks, read byte by byte, and the values, code by code. -/
module

public import Idealize.ShloMosaic.Lib.BitcastFour
public import Idealize.ShloMosaic.Lib.Pointwise
public import Idealize.ShloMosaic.Lib.Tactic

@[expose] public section

noncomputable section

namespace Cert.Nibble

open Idealize.ShloMosaic

/-- The float byte of the low code of a stored byte, -/
def lo (b : BitVec 8) : BitVec 8 := ((b &&& 8#8) <<< 4) ||| ((b &&& 7#8) <<< 2)

/-- and of the high code. -/
def hi (b : BitVec 8) : BitVec 8 := (b &&& 128#8) ||| ((b &&& 112#8) >>> 2)

/-- The same shifts and masks on a word of four bytes, the low codes -/
def loW (w : BitVec 32) : BitVec 32 := ((w &&& 134744072#32) <<< 4) ||| ((w &&& 117901063#32) <<< 2)

/-- and the high. -/
def hiW (w : BitVec 32) : BitVec 32 := (w &&& 2155905152#32) ||| ((w &&& 1886417008#32) >>> 2)

/-- Byte `m` of the shifted word is the shifted byte `m`. -/
theorem loW_byte (w : BitVec 32) (b : BitVec 8) (m : Nat) (hm : m < 4) (h : ∀ q, q < 8 → w.getLsbD (8 * m + q) = b.getLsbD q) (q : Nat) (hq : q < 8) :
    (loW w).getLsbD (8 * m + q) = (lo b).getLsbD q := by
  have h0 := h 0 (by decide); have h1 := h 1 (by decide); have h2 := h 2 (by decide); have h3 := h 3 (by decide)
  have h4 := h 4 (by decide); have h5 := h 5 (by decide); have h6 := h 6 (by decide); have h7 := h 7 (by decide)
  unfold loW lo
  simp only [BitVec.getLsbD_or, BitVec.getLsbD_shiftLeft, BitVec.getLsbD_and]
  interval_cases m <;> interval_cases q <;> simp_all

theorem hiW_byte (w : BitVec 32) (b : BitVec 8) (m : Nat) (hm : m < 4) (h : ∀ q, q < 8 → w.getLsbD (8 * m + q) = b.getLsbD q) (q : Nat) (hq : q < 8) :
    (hiW w).getLsbD (8 * m + q) = (hi b).getLsbD q := by
  have h0 := h 0 (by decide); have h1 := h 1 (by decide); have h2 := h 2 (by decide); have h3 := h 3 (by decide)
  have h4 := h 4 (by decide); have h5 := h 5 (by decide); have h6 := h 6 (by decide); have h7 := h 7 (by decide)
  unfold hiW hi
  simp only [BitVec.getLsbD_or, BitVec.getLsbD_ushiftRight, BitVec.getLsbD_and]
  interval_cases m <;> interval_cases q <;> simp_all

/-- Rows of bytes read as words, each word changed, and read back as bytes: each byte changed, for a change that works byte by
    byte. -/
theorem bytes_of_words {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (W : BitVec 32 → BitVec 32) (B : BitVec 8 → BitVec 8)
    (hWB : ∀ w b m, m < 4 → (∀ q, q < 8 → w.getLsbD (8 * m + q) = b.getLsbD q) → ∀ q, q < 8 → (W w).getLsbD (8 * m + q) = (B b).getLsbD q)
    (a : Fin R) (l : Fin n) (hr : a.val / 4 < r) :
    bitcast ⟨2, ![R, n]⟩ 8 (fun i => W (bitcast ⟨2, ![r, n]⟩ 32 x h i)) h' (ValueIdx.ix2 a l) = B (x (ValueIdx.ix2 a l)) := by
  apply BitVec.eq_of_getLsbD_eq
  intro q hq
  rw [bitcast_getLsbD _ h' _ q hq (by decide)]
  have hrow : (⟨2, ![R, n]⟩ : Shape).row (ValueIdx.ix2 a l) = a.val := rfl
  have hi : ∀ hp, h'.srcIdx (ValueIdx.ix2 a l) (((⟨2, ![R, n]⟩ : Shape).row (ValueIdx.ix2 a l) * 8 + q) / 32) hp = ValueIdx.ix2 ⟨a.val / 4, hr⟩ l := by
    intro hp
    funext c
    match c with
    | ⟨0, _⟩ => exact Fin.ext ((h'.srcIdx_row _ _ _ ⟨0, Nat.zero_lt_two⟩ rfl).trans (show (a.val * 8 + q) / 32 = a.val / 4 by omega))
    | ⟨1, _⟩ => exact Fin.ext (h'.srcIdx_other _ _ _ ⟨1, Nat.one_lt_two⟩ (by show ¬ 1 + 2 = 2; omega))
  rw [hi, hrow, show (a.val * 8 + q) % 32 = 8 * (a.val % 4) + q by omega]
  refine hWB _ _ (a.val % 4) (by omega) (fun q' hq' => ?_) q hq
  rw [bitcast_8_32_getLsbD_ix2 x h ⟨a.val / 4, hr⟩ l (8 * (a.val % 4) + q') (by omega) a (by show a.val = 4 * (a.val / 4) + _; omega)]
  congr 1; omega

end Cert.Nibble

end
-- ==== Proof.DxI.Group.lean ====
/- One trip of the loop that decodes the weight codes: sixteen groups of sixteen rows, each code times its block's scale. -/
module
public import proofs.«01_k».proof.Proof.Gen.DxIdeal.Skeleton
public import proofs.«01_k».proof.Proof.DxI.Checks
public import proofs.«01_k».proof.Proof.DxI.Nibble
public import Idealize.ShloMosaic.Lib.Tactic
public import Idealize.ShloMosaic.Lib.Writes

@[expose] public section

set_option maxRecDepth 16384

noncomputable section

namespace Cert.DxIdeal.Hand

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- Two halves interleaved by rows, at an index: the even rows are the first's, the odd the second's. -/
theorem interleave_apply {R m n : Nat} (lo hi : (⟨2, ![m, n]⟩ : Shape).Idx → Ideal .bf16) (h : (⟨2, ![R, n]⟩ : Shape).Bitcasts 16 ⟨2, ![m, n]⟩ 32)
    (r : Fin R) (l : Fin n) (hr : r.val / 2 < m) :
    interleaveRows ⟨2, ![R, n]⟩ lo hi h (ix2 r l) = if r.val % 2 = 0 then lo (ix2 ⟨r.val / 2, hr⟩ l) else hi (ix2 ⟨r.val / 2, hr⟩ l) := by
  unfold interleaveRows
  show (if r.val % 2 = 0 then lo _ else hi _) = _
  refine if_congr Iff.rfl (congrArg lo ?_) (congrArg hi ?_)
  · funext b
    match b with
    | ⟨0, _⟩ => rfl
    | ⟨1, _⟩ => rfl
  · funext b
    match b with
    | ⟨0, _⟩ => rfl
    | ⟨1, _⟩ => rfl

/-- The rows of one parity, at an index. -/
theorem parity2_apply {R m n : Nat} (p : Fin 2) (x : (⟨2, ![R, n]⟩ : Shape).Idx → Ideal .bf16) (h : (⟨2, ![R, n]⟩ : Shape).Bitcasts 16 ⟨2, ![m, n]⟩ 32)
    (a : Fin m) (l : Fin n) (hr : 2 * a.val + p.val < R) :
    rowsOfParity p ⟨2, ![m, n]⟩ x h (ix2 a l) = x (ix2 ⟨2 * a.val + p.val, hr⟩ l) := by
  unfold rowsOfParity
  refine congrArg x ?_
  funext b
  match b with
  | ⟨0, _⟩ => rfl
  | ⟨1, _⟩ => rfl

/-- Eight copies of one row: every row is that row. -/
theorem rows8_apply (x : FVec Ideal S1x256 .bf16) (a : Fin 8) (l : Fin 256) :
    concatenate S8x256 0 [⟨S1x256, x⟩, ⟨S1x256, x⟩, ⟨S1x256, x⟩, ⟨S1x256, x⟩, ⟨S1x256, x⟩, ⟨S1x256, x⟩, ⟨S1x256, x⟩, ⟨S1x256, x⟩] concatenates_S1x256_S1x256_S1x256_S1x256_S1x256_S1x256_S1x256_S1x256_S8x256_d0 (ix2 a l) = x (ix2 (0 : Fin 1) l) := by
  match a with
  | ⟨0, _⟩ => exact congrArg x (by funext b; match b with | ⟨0, _⟩ => rfl | ⟨1, _⟩ => rfl)
  | ⟨1, _⟩ => exact congrArg x (by funext b; match b with | ⟨0, _⟩ => rfl | ⟨1, _⟩ => rfl)
  | ⟨2, _⟩ => exact congrArg x (by funext b; match b with | ⟨0, _⟩ => rfl | ⟨1, _⟩ => rfl)
  | ⟨3, _⟩ => exact congrArg x (by funext b; match b with | ⟨0, _⟩ => rfl | ⟨1, _⟩ => rfl)
  | ⟨4, _⟩ => exact congrArg x (by funext b; match b with | ⟨0, _⟩ => rfl | ⟨1, _⟩ => rfl)
  | ⟨5, _⟩ => exact congrArg x (by funext b; match b with | ⟨0, _⟩ => rfl | ⟨1, _⟩ => rfl)
  | ⟨6, _⟩ => exact congrArg x (by funext b; match b with | ⟨0, _⟩ => rfl | ⟨1, _⟩ => rfl)
  | ⟨7, _⟩ => exact congrArg x (by funext b; match b with | ⟨0, _⟩ => rfl | ⟨1, _⟩ => rfl)

/-- A row of one parity of the two loaded rows. -/
theorem parity_apply (raw : Vec Ideal S1x2x256 .bf16) (p : Fin 2) (l : Fin 256) :
    shapeCast S1x256 (rowsOfParity p S1x1x256 raw bitcasts_S1x2x256_w16_S1x1x256_w32) shapeCasts_S1x1x256_S1x256 (ix2 (0 : Fin 1) l) = raw (ix3 (0 : Fin 1) p l) := by
  pointwise

/-- The scales of sixteen rows: the two rows loaded, alternating. -/
theorem scales_apply (raw : Vec Ideal S1x2x256 .bf16) (r : Fin 16) (l : Fin 256) :
    k0_pay5 raw (ix2 r l) = raw (ix3 (0 : Fin 1) (⟨r.val % 2, Nat.mod_lt _ (by decide)⟩ : Fin 2) l) := by
  unfold k0_pay5
  refine (interleave_apply (R := 16) (m := 8) (n := 256) _ _ bitcasts_S16x256_w16_S8x256_w32 r l (by omega)).trans ?_
  rw [rows8_apply, rows8_apply, parity_apply, parity_apply]
  split
  · rename_i h
    exact congrArg (fun q : Fin 2 => raw (ix3 (0 : Fin 1) q l)) (show (0 : Fin 2) = ⟨r.val % 2, Nat.mod_lt _ (by decide)⟩ from Fin.ext (by show 0 = r.val % 2; omega))
  · rename_i h
    exact congrArg (fun q : Fin 2 => raw (ix3 (0 : Fin 1) q l)) (show (1 : Fin 2) = ⟨r.val % 2, Nat.mod_lt _ (by decide)⟩ from Fin.ext (by show 1 = r.val % 2; omega))

/-- What a trip stores for one group of sixteen rows: the group's decoded codes times its scales. -/
def group (v : FVec Ideal S256x256 .bf16) (raw : Vec Ideal S1x2x256 .bf16) (o : Nat) (h : S256x256.Slices ![o, 0] S16x256) : FVec Ideal S16x256 .bf16 :=
  shapeCast S16x256 (mulf (extractStridedSlice S16x256 ![o, 0] v h) (k0_pay5 raw)) shapeCasts_S16x256_S16x256

theorem group_apply (v : FVec Ideal S256x256 .bf16) (raw : Vec Ideal S1x2x256 .bf16) (o : Nat) (h : S256x256.Slices ![o, 0] S16x256) (ho : o + 16 ≤ 256)
    (r : Fin 16) (l : Fin 256) :
    group v raw o h (ix2 r l) = (v (ix2 (⟨o + r.val, by omega⟩ : Fin 256) l) * raw (ix3 (0 : Fin 1) (⟨r.val % 2, Nat.mod_lt _ (by decide)⟩ : Fin 2) l) : EReal) := by
  unfold group
  rw [shapeCast_id]
  show (extractStridedSlice S16x256 ![o, 0] v h (ix2 r l) * k0_pay5 raw (ix2 r l) : EReal) = _
  rw [scales_apply]
  congr 1
  refine congrArg v ?_
  funext b
  match b with
  | ⟨0, _⟩ => exact Fin.ext (by show o + r.val = _; rfl)
  | ⟨1, _⟩ => exact Fin.ext (by show 0 + l.val = l.val; omega)

/-- The decoded low codes, element by element, -/
theorem lo_apply (x : Vec Ideal S1x256x256 .i8) (a l : Fin 256) :
    k0_pay3 x (ix2 a l) = FloatOps.ofBits (F := Ideal) .fp8e4m3 (Nibble.lo (x (ix3 (0 : Fin 1) a l))) := by
  have h := Nibble.bytes_of_words (R := 256) (r := 64) (n := 256) (shapeCast S256x256 x shapeCasts_S1x256x256_S256x256) bitcasts_S256x256_w8_S64x256_w32
    bitcasts_S64x256_w32_S256x256_w8 Nibble.loW Nibble.lo Nibble.loW_byte a l (by omega)
  show FloatOps.ofBits (F := Ideal) .fp8e4m3 _ = _
  refine congrArg (FloatOps.ofBits (F := Ideal) .fp8e4m3) (Eq.trans ?_ (h.trans ?_))
  · rfl
  · refine congrArg Nibble.lo ?_
    show shapeCast S256x256 x shapeCasts_S1x256x256_S256x256 (ix2 a l) = _
    pointwise

/-- and the high. -/
theorem hi_apply (x : Vec Ideal S1x256x256 .i8) (a l : Fin 256) :
    k0_pay4 x (ix2 a l) = FloatOps.ofBits (F := Ideal) .fp8e4m3 (Nibble.hi (x (ix3 (0 : Fin 1) a l))) := by
  have h := Nibble.bytes_of_words (R := 256) (r := 64) (n := 256) (shapeCast S256x256 x shapeCasts_S1x256x256_S256x256) bitcasts_S256x256_w8_S64x256_w32
    bitcasts_S64x256_w32_S256x256_w8 Nibble.hiW Nibble.hi Nibble.hiW_byte a l (by omega)
  show FloatOps.ofBits (F := Ideal) .fp8e4m3 _ = _
  refine congrArg (FloatOps.ofBits (F := Ideal) .fp8e4m3) (Eq.trans ?_ (h.trans ?_))
  · rfl
  · refine congrArg Nibble.hi ?_
    show shapeCast S256x256 x shapeCasts_S1x256x256_S256x256 (ix2 a l) = _
    pointwise

end Cert.DxIdeal.Hand

end
-- ==== Proof.DxI.Loop1.lean ====
/- The loop that decodes an expert's weight codes: after a trip its 256 rows of the two decoded arrays hold the codes times their scales. -/
module
public import proofs.«01_k».proof.Proof.Gen.DxIdeal.Skeleton
public import proofs.«01_k».proof.Proof.DxI.Checks
public import proofs.«01_k».proof.Proof.DxI.Group
public import Idealize.ShloMosaic.Lib.Tactic
public import Idealize.ShloMosaic.Lib.LoopEntry
public import Idealize.ShloMosaic.Lib.Pipeline.FrameBody

@[expose] public section

set_option maxRecDepth 16384

noncomputable section

namespace Cert.DxIdeal.Hand

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The decoded low codes of a weight block, each times its block's scale, -/
def LO (x6 : Vec Ideal S1x4096x256 .i8) (x11 : Vec Ideal S256x2x256 .bf16) : S4096x256.Idx → Elt Ideal .bf16 := fun y =>
  (FloatOps.ofBits (F := Ideal) .fp8e4m3 (Nibble.lo (x6 (ix3 (0 : Fin 1) (show Fin 4096 from y 0) (show Fin 256 from y 1)))) *
    x11 (ix3 (⟨(show Fin 4096 from y 0).val / 16, by have := (show Fin 4096 from y 0).isLt; omega⟩ : Fin 256) (⟨(show Fin 4096 from y 0).val % 2, Nat.mod_lt _ (by decide)⟩ : Fin 2) (show Fin 256 from y 1)) : EReal)

/-- and the high. -/
def HI (x6 : Vec Ideal S1x4096x256 .i8) (x11 : Vec Ideal S256x2x256 .bf16) : S4096x256.Idx → Elt Ideal .bf16 := fun y =>
  (FloatOps.ofBits (F := Ideal) .fp8e4m3 (Nibble.hi (x6 (ix3 (0 : Fin 1) (show Fin 4096 from y 0) (show Fin 256 from y 1)))) *
    x11 (ix3 (⟨(show Fin 4096 from y 0).val / 16, by have := (show Fin 4096 from y 0).isLt; omega⟩ : Fin 256) (⟨(show Fin 4096 from y 0).val % 2, Nat.mod_lt _ (by decide)⟩ : Fin 2) (show Fin 256 from y 1)) : EReal)

/-- A stored group of sixteen rows is its rows of the low codes' array. -/
theorem piece_lo (M6 : Memref sig .tc .vmem S1x4096x256 .i8) (M11 : Memref sig .tc .vmem S256x2x256 .bf16)
    (X6 : BufTy.Contents (Elt Ideal) M6.view.ty) (X11 : BufTy.Contents (Elt Ideal) M11.view.ty) (k : Fin k0_t1_loop.trips) (g : Fin 16)
    (i2 : ∀ a, (k0_off2 k) a + S1x256x256.size a ≤ S1x4096x256.size a)
    (i3 : ∀ a, (k0_off3 k (BitVec.ofNat 32 g.val)) a + S1x2x256.size a ≤ S256x2x256.size a)
    (i4 : ∀ a, (k0_off4 k (BitVec.ofNat 32 (16 * g.val))) a + S16x256.size a ≤ S4096x256.size a)
    (hs : S256x256.Slices ![16 * g.val, 0] S16x256) (x : S16x256.Idx) :
    group (k0_pay3 (View.readAt (Elt Ideal) M6.view (Rect.unit (s := S1x4096x256) (k0_off2 k) S1x256x256.size i2).toLoadRect X6))
        (View.readAt (Elt Ideal) M11.view (Rect.unit (s := S256x2x256) (k0_off3 k (BitVec.ofNat 32 g.val)) S1x2x256.size i3).toLoadRect X11) (16 * g.val) hs x
      = LO (M6.view.read (Elt Ideal) X6) (M11.view.read (Elt Ideal) X11) ((Rect.unit (s := S4096x256) (k0_off4 k (BitVec.ofNat 32 (16 * g.val))) S16x256.size i4).emb x) := by
  have hk : k.val < 16 := Nat.lt_of_lt_of_le k.isLt k0_t1_abs.2.1
  have hg := g.isLt
  have h20 : k0_off2 k 0 = 0 := congrFun (k0_off2_eq k) 0
  have h21 : k0_off2 k 1 = 256 * k.val := congrFun (k0_off2_eq k) 1
  have h22 : k0_off2 k 2 = 0 := congrFun (k0_off2_eq k) 2
  have h30 : k0_off3 k (BitVec.ofNat 32 g.val) 0 = 16 * k.val + g.val := congrFun (k0_off3_eq k g) 0
  have h31 : k0_off3 k (BitVec.ofNat 32 g.val) 1 = 0 := congrFun (k0_off3_eq k g) 1
  have h32 : k0_off3 k (BitVec.ofNat 32 g.val) 2 = 0 := congrFun (k0_off3_eq k g) 2
  have h40 : k0_off4 k (BitVec.ofNat 32 (16 * g.val)) 0 = 256 * k.val + 16 * g.val := congrFun (k0_off4_eq k g) 0
  have h41 : k0_off4 k (BitVec.ofNat 32 (16 * g.val)) 1 = 0 := congrFun (k0_off4_eq k g) 1
  obtain ⟨r, l, rfl⟩ : ∃ (r : Fin 16) (l : Fin 256), x = ix2 r l := ⟨x 0, x 1, by funext b; match b with | ⟨0, _⟩ => rfl | ⟨1, _⟩ => rfl⟩
  rw [group_apply _ _ _ _ (by omega), lo_apply, View.readAt_apply, View.readAt_apply]
  have e0 : ((Rect.unit (s := S4096x256) (k0_off4 k (BitVec.ofNat 32 (16 * g.val))) S16x256.size i4).emb (ix2 r l) 0).val = 256 * k.val + 16 * g.val + r.val := by
    show k0_off4 k (BitVec.ofNat 32 (16 * g.val)) 0 + 1 * r.val = _; omega
  have e1 : ((Rect.unit (s := S4096x256) (k0_off4 k (BitVec.ofNat 32 (16 * g.val))) S16x256.size i4).emb (ix2 r l) 1).val = l.val := by
    show k0_off4 k (BitVec.ofNat 32 (16 * g.val)) 1 + 1 * l.val = _; omega
  have hr := r.isLt
  unfold LO
  refine Ideal.mul_congr (congrArg (fun y => FloatOps.ofBits (F := Ideal) .fp8e4m3 (Nibble.lo (M6.view.read (Elt Ideal) X6 y))) ?_) (congrArg (M11.view.read (Elt Ideal) X11) ?_)
  · funext b
    match b with
    | ⟨0, _⟩ => exact Fin.ext (show k0_off2 k 0 + 1 * 0 = 0 by omega)
    | ⟨1, _⟩ => exact Fin.ext (show k0_off2 k 1 + 1 * (16 * g.val + r.val) = ((Rect.unit (s := S4096x256) (k0_off4 k (BitVec.ofNat 32 (16 * g.val))) S16x256.size i4).emb (ix2 r l) 0).val by rw [e0]; omega)
    | ⟨2, _⟩ => exact Fin.ext (show k0_off2 k 2 + 1 * l.val = ((Rect.unit (s := S4096x256) (k0_off4 k (BitVec.ofNat 32 (16 * g.val))) S16x256.size i4).emb (ix2 r l) 1).val by rw [e1]; omega)
  · funext b
    match b with
    | ⟨0, _⟩ => exact Fin.ext (show k0_off3 k (BitVec.ofNat 32 g.val) 0 + 1 * 0 = ((Rect.unit (s := S4096x256) (k0_off4 k (BitVec.ofNat 32 (16 * g.val))) S16x256.size i4).emb (ix2 r l) 0).val / 16 by rw [e0]; omega)
    | ⟨1, _⟩ => exact Fin.ext (show k0_off3 k (BitVec.ofNat 32 g.val) 1 + 1 * (r.val % 2) = ((Rect.unit (s := S4096x256) (k0_off4 k (BitVec.ofNat 32 (16 * g.val))) S16x256.size i4).emb (ix2 r l) 0).val % 2 by rw [e0]; omega)
    | ⟨2, _⟩ => exact Fin.ext (show k0_off3 k (BitVec.ofNat 32 g.val) 2 + 1 * l.val = ((Rect.unit (s := S4096x256) (k0_off4 k (BitVec.ofNat 32 (16 * g.val))) S16x256.size i4).emb (ix2 r l) 1).val by rw [e1]; omega)

/-- A stored group of sixteen rows is its rows of the high codes' array. -/
theorem piece_hi (M6 : Memref sig .tc .vmem S1x4096x256 .i8) (M11 : Memref sig .tc .vmem S256x2x256 .bf16)
    (X6 : BufTy.Contents (Elt Ideal) M6.view.ty) (X11 : BufTy.Contents (Elt Ideal) M11.view.ty) (k : Fin k0_t1_loop.trips) (g : Fin 16)
    (i2 : ∀ a, (k0_off2 k) a + S1x256x256.size a ≤ S1x4096x256.size a)
    (i3 : ∀ a, (k0_off3 k (BitVec.ofNat 32 g.val)) a + S1x2x256.size a ≤ S256x2x256.size a)
    (i4 : ∀ a, (k0_off4 k (BitVec.ofNat 32 (16 * g.val))) a + S16x256.size a ≤ S4096x256.size a)
    (hs : S256x256.Slices ![16 * g.val, 0] S16x256) (x : S16x256.Idx) :
    group (k0_pay4 (View.readAt (Elt Ideal) M6.view (Rect.unit (s := S1x4096x256) (k0_off2 k) S1x256x256.size i2).toLoadRect X6))
        (View.readAt (Elt Ideal) M11.view (Rect.unit (s := S256x2x256) (k0_off3 k (BitVec.ofNat 32 g.val)) S1x2x256.size i3).toLoadRect X11) (16 * g.val) hs x
      = HI (M6.view.read (Elt Ideal) X6) (M11.view.read (Elt Ideal) X11) ((Rect.unit (s := S4096x256) (k0_off4 k (BitVec.ofNat 32 (16 * g.val))) S16x256.size i4).emb x) := by
  have hk : k.val < 16 := Nat.lt_of_lt_of_le k.isLt k0_t1_abs.2.1
  have hg := g.isLt
  have h20 : k0_off2 k 0 = 0 := congrFun (k0_off2_eq k) 0
  have h21 : k0_off2 k 1 = 256 * k.val := congrFun (k0_off2_eq k) 1
  have h22 : k0_off2 k 2 = 0 := congrFun (k0_off2_eq k) 2
  have h30 : k0_off3 k (BitVec.ofNat 32 g.val) 0 = 16 * k.val + g.val := congrFun (k0_off3_eq k g) 0
  have h31 : k0_off3 k (BitVec.ofNat 32 g.val) 1 = 0 := congrFun (k0_off3_eq k g) 1
  have h32 : k0_off3 k (BitVec.ofNat 32 g.val) 2 = 0 := congrFun (k0_off3_eq k g) 2
  have h40 : k0_off4 k (BitVec.ofNat 32 (16 * g.val)) 0 = 256 * k.val + 16 * g.val := congrFun (k0_off4_eq k g) 0
  have h41 : k0_off4 k (BitVec.ofNat 32 (16 * g.val)) 1 = 0 := congrFun (k0_off4_eq k g) 1
  obtain ⟨r, l, rfl⟩ : ∃ (r : Fin 16) (l : Fin 256), x = ix2 r l := ⟨x 0, x 1, by funext b; match b with | ⟨0, _⟩ => rfl | ⟨1, _⟩ => rfl⟩
  rw [group_apply _ _ _ _ (by omega), hi_apply, View.readAt_apply, View.readAt_apply]
  have e0 : ((Rect.unit (s := S4096x256) (k0_off4 k (BitVec.ofNat 32 (16 * g.val))) S16x256.size i4).emb (ix2 r l) 0).val = 256 * k.val + 16 * g.val + r.val := by
    show k0_off4 k (BitVec.ofNat 32 (16 * g.val)) 0 + 1 * r.val = _; omega
  have e1 : ((Rect.unit (s := S4096x256) (k0_off4 k (BitVec.ofNat 32 (16 * g.val))) S16x256.size i4).emb (ix2 r l) 1).val = l.val := by
    show k0_off4 k (BitVec.ofNat 32 (16 * g.val)) 1 + 1 * l.val = _; omega
  have hr := r.isLt
  unfold HI
  refine Ideal.mul_congr (congrArg (fun y => FloatOps.ofBits (F := Ideal) .fp8e4m3 (Nibble.hi (M6.view.read (Elt Ideal) X6 y))) ?_) (congrArg (M11.view.read (Elt Ideal) X11) ?_)
  · funext b
    match b with
    | ⟨0, _⟩ => exact Fin.ext (show k0_off2 k 0 + 1 * 0 = 0 by omega)
    | ⟨1, _⟩ => exact Fin.ext (show k0_off2 k 1 + 1 * (16 * g.val + r.val) = ((Rect.unit (s := S4096x256) (k0_off4 k (BitVec.ofNat 32 (16 * g.val))) S16x256.size i4).emb (ix2 r l) 0).val by rw [e0]; omega)
    | ⟨2, _⟩ => exact Fin.ext (show k0_off2 k 2 + 1 * l.val = ((Rect.unit (s := S4096x256) (k0_off4 k (BitVec.ofNat 32 (16 * g.val))) S16x256.size i4).emb (ix2 r l) 1).val by rw [e1]; omega)
  · funext b
    match b with
    | ⟨0, _⟩ => exact Fin.ext (show k0_off3 k (BitVec.ofNat 32 g.val) 0 + 1 * 0 = ((Rect.unit (s := S4096x256) (k0_off4 k (BitVec.ofNat 32 (16 * g.val))) S16x256.size i4).emb (ix2 r l) 0).val / 16 by rw [e0]; omega)
    | ⟨1, _⟩ => exact Fin.ext (show k0_off3 k (BitVec.ofNat 32 g.val) 1 + 1 * (r.val % 2) = ((Rect.unit (s := S4096x256) (k0_off4 k (BitVec.ofNat 32 (16 * g.val))) S16x256.size i4).emb (ix2 r l) 0).val % 2 by rw [e0]; omega)
    | ⟨2, _⟩ => exact Fin.ext (show k0_off3 k (BitVec.ofNat 32 g.val) 2 + 1 * l.val = ((Rect.unit (s := S4096x256) (k0_off4 k (BitVec.ofNat 32 (16 * g.val))) S16x256.size i4).emb (ix2 r l) 1).val by rw [e1]; omega)

/-- An index whose row is of a group lies in the group's rectangle. -/
theorem inGroup (k : Fin k0_t1_loop.trips) (g : Fin 16) (y : S4096x256.Idx)
    (hlo : 256 * k.val + 16 * g.val ≤ (y 0).val) (hhi : (y 0).val < 256 * k.val + 16 * g.val + 16) :
    y ∈ (Rect.unit (s := S4096x256) (k0_off4 k (BitVec.ofNat 32 (16 * g.val))) S16x256.size (k0_off4_inb k g)).set := by
  have h40 : k0_off4 k (BitVec.ofNat 32 (16 * g.val)) 0 = 256 * k.val + 16 * g.val := congrFun (k0_off4_eq k g) 0
  have h41 : k0_off4 k (BitVec.ofNat 32 (16 * g.val)) 1 = 0 := congrFun (k0_off4_eq k g) 1
  have h1 : (y 1).val < 256 := (y 1).isLt
  rw [Rect.mem_set_unit]
  intro b
  match b with
  | ⟨0, _⟩ => exact ⟨show k0_off4 k (BitVec.ofNat 32 (16 * g.val)) 0 ≤ (y 0).val by omega, show (y 0).val < k0_off4 k (BitVec.ofNat 32 (16 * g.val)) 0 + 16 by omega⟩
  | ⟨1, _⟩ => exact ⟨show k0_off4 k (BitVec.ofNat 32 (16 * g.val)) 1 ≤ (y 1).val by omega, show (y 1).val < k0_off4 k (BitVec.ofNat 32 (16 * g.val)) 1 + 256 by omega⟩

set_option maxHeartbeats 4000000 in
/-- After a trip's sixteen stores the rows of all trips so far hold their values. -/
theorem read16 (M : Memref sig .tc .vmem S4096x256 .bf16) (f : BufTy.Contents (Elt Ideal) M.view.ty) (k : Fin k0_t1_loop.trips)
    (w0 w1 w2 w3 w4 w5 w6 w7 w8 w9 w10 w11 w12 w13 w14 w15 : S16x256.Idx → Elt Ideal .bf16) (G : S4096x256.Idx → Elt Ideal .bf16)
    (h0 : ∀ x, w0 x = G ((Rect.unit (s := S4096x256) (k0_off4 k 0#32) S16x256.size (k0_off4_inb k 0)).emb x))
    (h1 : ∀ x, w1 x = G ((Rect.unit (s := S4096x256) (k0_off4 k 16#32) S16x256.size (k0_off4_inb k 1)).emb x))
    (h2 : ∀ x, w2 x = G ((Rect.unit (s := S4096x256) (k0_off4 k 32#32) S16x256.size (k0_off4_inb k 2)).emb x))
    (h3 : ∀ x, w3 x = G ((Rect.unit (s := S4096x256) (k0_off4 k 48#32) S16x256.size (k0_off4_inb k 3)).emb x))
    (h4 : ∀ x, w4 x = G ((Rect.unit (s := S4096x256) (k0_off4 k 64#32) S16x256.size (k0_off4_inb k 4)).emb x))
    (h5 : ∀ x, w5 x = G ((Rect.unit (s := S4096x256) (k0_off4 k 80#32) S16x256.size (k0_off4_inb k 5)).emb x))
    (h6 : ∀ x, w6 x = G ((Rect.unit (s := S4096x256) (k0_off4 k 96#32) S16x256.size (k0_off4_inb k 6)).emb x))
    (h7 : ∀ x, w7 x = G ((Rect.unit (s := S4096x256) (k0_off4 k 112#32) S16x256.size (k0_off4_inb k 7)).emb x))
    (h8 : ∀ x, w8 x = G ((Rect.unit (s := S4096x256) (k0_off4 k 128#32) S16x256.size (k0_off4_inb k 8)).emb x))
    (h9 : ∀ x, w9 x = G ((Rect.unit (s := S4096x256) (k0_off4 k 144#32) S16x256.size (k0_off4_inb k 9)).emb x))
    (h10 : ∀ x, w10 x = G ((Rect.unit (s := S4096x256) (k0_off4 k 160#32) S16x256.size (k0_off4_inb k 10)).emb x))
    (h11 : ∀ x, w11 x = G ((Rect.unit (s := S4096x256) (k0_off4 k 176#32) S16x256.size (k0_off4_inb k 11)).emb x))
    (h12 : ∀ x, w12 x = G ((Rect.unit (s := S4096x256) (k0_off4 k 192#32) S16x256.size (k0_off4_inb k 12)).emb x))
    (h13 : ∀ x, w13 x = G ((Rect.unit (s := S4096x256) (k0_off4 k 208#32) S16x256.size (k0_off4_inb k 13)).emb x))
    (h14 : ∀ x, w14 x = G ((Rect.unit (s := S4096x256) (k0_off4 k 224#32) S16x256.size (k0_off4_inb k 14)).emb x))
    (h15 : ∀ x, w15 x = G ((Rect.unit (s := S4096x256) (k0_off4 k 240#32) S16x256.size (k0_off4_inb k 15)).emb x))
    (hf : ∀ y : S4096x256.Idx, (y 0).val < 256 * k.val → M.view.read (Elt Ideal) f y = G y)
    (y : S4096x256.Idx) (hy : (y 0).val < 256 * (k.val + 1)) :
    M.view.read (Elt Ideal) (M.view.writes (Elt Ideal) f [⟨Rect.unit (s := S4096x256) (k0_off4 k 240#32) S16x256.size (k0_off4_inb k 15), w15⟩, ⟨Rect.unit (s := S4096x256) (k0_off4 k 224#32) S16x256.size (k0_off4_inb k 14), w14⟩, ⟨Rect.unit (s := S4096x256) (k0_off4 k 208#32) S16x256.size (k0_off4_inb k 13), w13⟩, ⟨Rect.unit (s := S4096x256) (k0_off4 k 192#32) S16x256.size (k0_off4_inb k 12), w12⟩, ⟨Rect.unit (s := S4096x256) (k0_off4 k 176#32) S16x256.size (k0_off4_inb k 11), w11⟩, ⟨Rect.unit (s := S4096x256) (k0_off4 k 160#32) S16x256.size (k0_off4_inb k 10), w10⟩, ⟨Rect.unit (s := S4096x256) (k0_off4 k 144#32) S16x256.size (k0_off4_inb k 9), w9⟩, ⟨Rect.unit (s := S4096x256) (k0_off4 k 128#32) S16x256.size (k0_off4_inb k 8), w8⟩, ⟨Rect.unit (s := S4096x256) (k0_off4 k 112#32) S16x256.size (k0_off4_inb k 7), w7⟩, ⟨Rect.unit (s := S4096x256) (k0_off4 k 96#32) S16x256.size (k0_off4_inb k 6), w6⟩, ⟨Rect.unit (s := S4096x256) (k0_off4 k 80#32) S16x256.size (k0_off4_inb k 5), w5⟩, ⟨Rect.unit (s := S4096x256) (k0_off4 k 64#32) S16x256.size (k0_off4_inb k 4), w4⟩, ⟨Rect.unit (s := S4096x256) (k0_off4 k 48#32) S16x256.size (k0_off4_inb k 3), w3⟩, ⟨Rect.unit (s := S4096x256) (k0_off4 k 32#32) S16x256.size (k0_off4_inb k 2), w2⟩, ⟨Rect.unit (s := S4096x256) (k0_off4 k 16#32) S16x256.size (k0_off4_inb k 1), w1⟩, ⟨Rect.unit (s := S4096x256) (k0_off4 k 0#32) S16x256.size (k0_off4_inb k 0), w0⟩]) y = G y := by
  have hL : ∀ p ∈ ([⟨Rect.unit (s := S4096x256) (k0_off4 k 240#32) S16x256.size (k0_off4_inb k 15), w15⟩, ⟨Rect.unit (s := S4096x256) (k0_off4 k 224#32) S16x256.size (k0_off4_inb k 14), w14⟩, ⟨Rect.unit (s := S4096x256) (k0_off4 k 208#32) S16x256.size (k0_off4_inb k 13), w13⟩, ⟨Rect.unit (s := S4096x256) (k0_off4 k 192#32) S16x256.size (k0_off4_inb k 12), w12⟩, ⟨Rect.unit (s := S4096x256) (k0_off4 k 176#32) S16x256.size (k0_off4_inb k 11), w11⟩, ⟨Rect.unit (s := S4096x256) (k0_off4 k 160#32) S16x256.size (k0_off4_inb k 10), w10⟩, ⟨Rect.unit (s := S4096x256) (k0_off4 k 144#32) S16x256.size (k0_off4_inb k 9), w9⟩, ⟨Rect.unit (s := S4096x256) (k0_off4 k 128#32) S16x256.size (k0_off4_inb k 8), w8⟩, ⟨Rect.unit (s := S4096x256) (k0_off4 k 112#32) S16x256.size (k0_off4_inb k 7), w7⟩, ⟨Rect.unit (s := S4096x256) (k0_off4 k 96#32) S16x256.size (k0_off4_inb k 6), w6⟩, ⟨Rect.unit (s := S4096x256) (k0_off4 k 80#32) S16x256.size (k0_off4_inb k 5), w5⟩, ⟨Rect.unit (s := S4096x256) (k0_off4 k 64#32) S16x256.size (k0_off4_inb k 4), w4⟩, ⟨Rect.unit (s := S4096x256) (k0_off4 k 48#32) S16x256.size (k0_off4_inb k 3), w3⟩, ⟨Rect.unit (s := S4096x256) (k0_off4 k 32#32) S16x256.size (k0_off4_inb k 2), w2⟩, ⟨Rect.unit (s := S4096x256) (k0_off4 k 16#32) S16x256.size (k0_off4_inb k 1), w1⟩, ⟨Rect.unit (s := S4096x256) (k0_off4 k 0#32) S16x256.size (k0_off4_inb k 0), w0⟩] : List (View.Piece (Elt Ideal) S4096x256 .bf16)), ∀ x, p.2 x = G (p.1.emb x) := by
    simp only [List.forall_mem_cons, List.not_mem_nil, false_imp_iff, implies_true, and_true]
    exact ⟨h15, h14, h13, h12, h11, h10, h9, h8, h7, h6, h5, h4, h3, h2, h1, h0⟩
  by_cases hc : ∃ p ∈ ([⟨Rect.unit (s := S4096x256) (k0_off4 k 240#32) S16x256.size (k0_off4_inb k 15), w15⟩, ⟨Rect.unit (s := S4096x256) (k0_off4 k 224#32) S16x256.size (k0_off4_inb k 14), w14⟩, ⟨Rect.unit (s := S4096x256) (k0_off4 k 208#32) S16x256.size (k0_off4_inb k 13), w13⟩, ⟨Rect.unit (s := S4096x256) (k0_off4 k 192#32) S16x256.size (k0_off4_inb k 12), w12⟩, ⟨Rect.unit (s := S4096x256) (k0_off4 k 176#32) S16x256.size (k0_off4_inb k 11), w11⟩, ⟨Rect.unit (s := S4096x256) (k0_off4 k 160#32) S16x256.size (k0_off4_inb k 10), w10⟩, ⟨Rect.unit (s := S4096x256) (k0_off4 k 144#32) S16x256.size (k0_off4_inb k 9), w9⟩, ⟨Rect.unit (s := S4096x256) (k0_off4 k 128#32) S16x256.size (k0_off4_inb k 8), w8⟩, ⟨Rect.unit (s := S4096x256) (k0_off4 k 112#32) S16x256.size (k0_off4_inb k 7), w7⟩, ⟨Rect.unit (s := S4096x256) (k0_off4 k 96#32) S16x256.size (k0_off4_inb k 6), w6⟩, ⟨Rect.unit (s := S4096x256) (k0_off4 k 80#32) S16x256.size (k0_off4_inb k 5), w5⟩, ⟨Rect.unit (s := S4096x256) (k0_off4 k 64#32) S16x256.size (k0_off4_inb k 4), w4⟩, ⟨Rect.unit (s := S4096x256) (k0_off4 k 48#32) S16x256.size (k0_off4_inb k 3), w3⟩, ⟨Rect.unit (s := S4096x256) (k0_off4 k 32#32) S16x256.size (k0_off4_inb k 2), w2⟩, ⟨Rect.unit (s := S4096x256) (k0_off4 k 16#32) S16x256.size (k0_off4_inb k 1), w1⟩, ⟨Rect.unit (s := S4096x256) (k0_off4 k 0#32) S16x256.size (k0_off4_inb k 0), w0⟩] : List (View.Piece (Elt Ideal) S4096x256 .bf16)), y ∈ p.1.set
  · exact View.read_writes_apply_of_pieces M.view f G _ hL y hc
  · rw [View.read_writes_apply_of_forall_not_mem M.view f y _ (fun p hp hyp => hc ⟨p, hp, hyp⟩)]
    refine hf y (Nat.lt_of_not_le fun hle => hc ?_)
    obtain ⟨g, hlo, hhi⟩ : ∃ g : Fin 16, 256 * k.val + 16 * g.val ≤ (y 0).val ∧ (y 0).val < 256 * k.val + 16 * g.val + 16 :=
      ⟨⟨((y 0).val - 256 * k.val) / 16, by omega⟩, by show 256 * k.val + 16 * (((y 0).val - 256 * k.val) / 16) ≤ _; omega, by show _ < 256 * k.val + 16 * (((y 0).val - 256 * k.val) / 16) + 16; omega⟩
    revert hlo hhi
    match g with
    | ⟨0, _⟩ => intro hlo hhi; exact ⟨_, (.tail _ (.tail _ (.tail _ (.tail _ (.tail _ (.tail _ (.tail _ (.tail _ (.tail _ (.tail _ (.tail _ (.tail _ (.tail _ (.tail _ (.tail _ (.head _)))))))))))))))), inGroup k 0 y hlo hhi⟩
    | ⟨1, _⟩ => intro hlo hhi; exact ⟨_, (.tail _ (.tail _ (.tail _ (.tail _ (.tail _ (.tail _ (.tail _ (.tail _ (.tail _ (.tail _ (.tail _ (.tail _ (.tail _ (.tail _ (.head _))))))))))))))), inGroup k 1 y hlo hhi⟩
    | ⟨2, _⟩ => intro hlo hhi; exact ⟨_, (.tail _ (.tail _ (.tail _ (.tail _ (.tail _ (.tail _ (.tail _ (.tail _ (.tail _ (.tail _ (.tail _ (.tail _ (.tail _ (.head _)))))))))))))), inGroup k 2 y hlo hhi⟩
    | ⟨3, _⟩ => intro hlo hhi; exact ⟨_, (.tail _ (.tail _ (.tail _ (.tail _ (.tail _ (.tail _ (.tail _ (.tail _ (.tail _ (.tail _ (.tail _ (.tail _ (.head _))))))))))))), inGroup k 3 y hlo hhi⟩
    | ⟨4, _⟩ => intro hlo hhi; exact ⟨_, (.tail _ (.tail _ (.tail _ (.tail _ (.tail _ (.tail _ (.tail _ (.tail _ (.tail _ (.tail _ (.tail _ (.head _)))))))))))), inGroup k 4 y hlo hhi⟩
    | ⟨5, _⟩ => intro hlo hhi; exact ⟨_, (.tail _ (.tail _ (.tail _ (.tail _ (.tail _ (.tail _ (.tail _ (.tail _ (.tail _ (.tail _ (.head _))))))))))), inGroup k 5 y hlo hhi⟩
    | ⟨6, _⟩ => intro hlo hhi; exact ⟨_, (.tail _ (.tail _ (.tail _ (.tail _ (.tail _ (.tail _ (.tail _ (.tail _ (.tail _ (.head _)))))))))), inGroup k 6 y hlo hhi⟩
    | ⟨7, _⟩ => intro hlo hhi; exact ⟨_, (.tail _ (.tail _ (.tail _ (.tail _ (.tail _ (.tail _ (.tail _ (.tail _ (.head _))))))))), inGroup k 7 y hlo hhi⟩
    | ⟨8, _⟩ => intro hlo hhi; exact ⟨_, (.tail _ (.tail _ (.tail _ (.tail _ (.tail _ (.tail _ (.tail _ (.head _)))))))), inGroup k 8 y hlo hhi⟩
    | ⟨9, _⟩ => intro hlo hhi; exact ⟨_, (.tail _ (.tail _ (.tail _ (.tail _ (.tail _ (.tail _ (.head _))))))), inGroup k 9 y hlo hhi⟩
    | ⟨10, _⟩ => intro hlo hhi; exact ⟨_, (.tail _ (.tail _ (.tail _ (.tail _ (.tail _ (.head _)))))), inGroup k 10 y hlo hhi⟩
    | ⟨11, _⟩ => intro hlo hhi; exact ⟨_, (.tail _ (.tail _ (.tail _ (.tail _ (.head _))))), inGroup k 11 y hlo hhi⟩
    | ⟨12, _⟩ => intro hlo hhi; exact ⟨_, (.tail _ (.tail _ (.tail _ (.head _)))), inGroup k 12 y hlo hhi⟩
    | ⟨13, _⟩ => intro hlo hhi; exact ⟨_, (.tail _ (.tail _ (.head _))), inGroup k 13 y hlo hhi⟩
    | ⟨14, _⟩ => intro hlo hhi; exact ⟨_, (.tail _ (.head _)), inGroup k 14 y hlo hhi⟩
    | ⟨15, _⟩ => intro hlo hhi; exact ⟨_, (.head _), inGroup k 15 y hlo hhi⟩
    | ⟨n + 16, h⟩ => exact absurd h (by omega)

set_option maxHeartbeats 4000000 in
set_option warn.classDefReducibility false in
/-- The loop's invariant: the rows of the trips done hold their values. -/
@[sl_loop] def decodeInv (𝒱 : Variants) (c : Dev nD) (bd : Option 𝒱.V) (E : Set ℕ) (i : grid0.Coords) (arg2 : Memref sig .tc .smem S4 .i32) (harg2 : arg2.IsWhole) (arg3 : Memref sig .tc .smem S4 .f32) (harg3 : arg3.IsWhole) (arg4 : Memref sig .tc .smem S4 .f32) (harg4 : arg4.IsWhole) (arg5 : Memref sig .tc .vmem S1792x4096 .bf16) (harg5 : arg5.IsWhole) (arg6 : Memref sig .tc .vmem S1x4096x256 .i8) (harg6 : arg6.IsWhole) (arg7 : Memref sig .tc .vmem S1x256x448 .fp8e4m3) (harg7 : arg7.IsWhole) (arg8 : Memref sig .tc .vmem S1792x512 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S256x2x256 .bf16) (harg11 : arg11.IsWhole) (arg0 arg1 : BitVec 32)
    (X6 : BufTy.Contents (Elt Ideal) arg6.view.ty) (X11 : BufTy.Contents (Elt Ideal) arg11.view.ty) :
    Idealize.ShloMosaic.LoopInv (M := 𝕄) frame (wpE (defs₀ (F := Ideal)) 𝒱 (c : Thread nD τ) bd) E k0_t1_loop.lb k0_t1_loop.ub k0_t1_loop.st k0_t1_ok () (k0_t1_body (F := Ideal) i arg2 harg2 arg3 harg3 arg4 harg4 arg5 harg5 arg6 harg6 arg7 harg7 arg8 harg8 arg9 harg9 arg10 harg10 arg11 harg11 arg0 arg1) where
  inv k _ := iprop((arg6.view.loc (c : Thread nD τ) ↦[arg6.view.set]{fullShare} X6) ∗ (arg11.view.loc (c : Thread nD τ) ↦[arg11.view.set]{fullShare} X11)
      ∗ (∃ f, (arg9.view.loc (c : Thread nD τ) ↦[arg9.view.set]{fullShare} f) ∗ ⌜∀ y : S4096x256.Idx, (y 0).val < 256 * k → arg9.view.read (Elt Ideal) f y = LO (arg6.view.read (Elt Ideal) X6) (arg11.view.read (Elt Ideal) X11) y⌝)
      ∗ (∃ f, (arg10.view.loc (c : Thread nD τ) ↦[arg10.view.set]{fullShare} f) ∗ ⌜∀ y : S4096x256.Idx, (y 0).val < 256 * k → arg10.view.read (Elt Ideal) f y = HI (arg6.view.read (Elt Ideal) X6) (arg11.view.read (Elt Ideal) X11) y⌝))
  step k acc := by
    unfold k0_t1_body
    iintro ⟨H6, H11, ⟨%f9, H9, %hf9⟩, ⟨%f10, H10, %hf10⟩⟩
    sl_exec
    sl_step
    isplitl [H6]; · iexact H6
    isplitl [H11]; · iexact H11
    isplitl [H9]
    · iexists _; isplitl [H9]; · iexact H9
      ipureintro
      refine read16 _ _ k _ _ _ _ _ _ _ _ _ _ _ _ _ _ _ _ (LO (arg6.view.read (Elt Ideal) X6) (arg11.view.read (Elt Ideal) X11)) ?_ ?_ ?_ ?_ ?_ ?_ ?_ ?_ ?_ ?_ ?_ ?_ ?_ ?_ ?_ ?_ hf9
      · exact fun x => piece_lo arg6 arg11 X6 X11 k 0 (k0_off2_inb k) (k0_off3_inb k 0) (k0_off4_inb k 0) slices_S256x256_o0_0_S16x256 x
      · exact fun x => piece_lo arg6 arg11 X6 X11 k 1 (k0_off2_inb k) (k0_off3_inb k 1) (k0_off4_inb k 1) slices_S256x256_o16_0_S16x256 x
      · exact fun x => piece_lo arg6 arg11 X6 X11 k 2 (k0_off2_inb k) (k0_off3_inb k 2) (k0_off4_inb k 2) slices_S256x256_o32_0_S16x256 x
      · exact fun x => piece_lo arg6 arg11 X6 X11 k 3 (k0_off2_inb k) (k0_off3_inb k 3) (k0_off4_inb k 3) slices_S256x256_o48_0_S16x256 x
      · exact fun x => piece_lo arg6 arg11 X6 X11 k 4 (k0_off2_inb k) (k0_off3_inb k 4) (k0_off4_inb k 4) slices_S256x256_o64_0_S16x256 x
      · exact fun x => piece_lo arg6 arg11 X6 X11 k 5 (k0_off2_inb k) (k0_off3_inb k 5) (k0_off4_inb k 5) slices_S256x256_o80_0_S16x256 x
      · exact fun x => piece_lo arg6 arg11 X6 X11 k 6 (k0_off2_inb k) (k0_off3_inb k 6) (k0_off4_inb k 6) slices_S256x256_o96_0_S16x256 x
      · exact fun x => piece_lo arg6 arg11 X6 X11 k 7 (k0_off2_inb k) (k0_off3_inb k 7) (k0_off4_inb k 7) slices_S256x256_o112_0_S16x256 x
      · exact fun x => piece_lo arg6 arg11 X6 X11 k 8 (k0_off2_inb k) (k0_off3_inb k 8) (k0_off4_inb k 8) slices_S256x256_o128_0_S16x256 x
      · exact fun x => piece_lo arg6 arg11 X6 X11 k 9 (k0_off2_inb k) (k0_off3_inb k 9) (k0_off4_inb k 9) slices_S256x256_o144_0_S16x256 x
      · exact fun x => piece_lo arg6 arg11 X6 X11 k 10 (k0_off2_inb k) (k0_off3_inb k 10) (k0_off4_inb k 10) slices_S256x256_o160_0_S16x256 x
      · exact fun x => piece_lo arg6 arg11 X6 X11 k 11 (k0_off2_inb k) (k0_off3_inb k 11) (k0_off4_inb k 11) slices_S256x256_o176_0_S16x256 x
      · exact fun x => piece_lo arg6 arg11 X6 X11 k 12 (k0_off2_inb k) (k0_off3_inb k 12) (k0_off4_inb k 12) slices_S256x256_o192_0_S16x256 x
      · exact fun x => piece_lo arg6 arg11 X6 X11 k 13 (k0_off2_inb k) (k0_off3_inb k 13) (k0_off4_inb k 13) slices_S256x256_o208_0_S16x256 x
      · exact fun x => piece_lo arg6 arg11 X6 X11 k 14 (k0_off2_inb k) (k0_off3_inb k 14) (k0_off4_inb k 14) slices_S256x256_o224_0_S16x256 x
      · exact fun x => piece_lo arg6 arg11 X6 X11 k 15 (k0_off2_inb k) (k0_off3_inb k 15) (k0_off4_inb k 15) slices_S256x256_o240_0_S16x256 x
    iexists _; isplitl [H10]; · iexact H10
    ipureintro
    refine read16 _ _ k _ _ _ _ _ _ _ _ _ _ _ _ _ _ _ _ (HI (arg6.view.read (Elt Ideal) X6) (arg11.view.read (Elt Ideal) X11)) ?_ ?_ ?_ ?_ ?_ ?_ ?_ ?_ ?_ ?_ ?_ ?_ ?_ ?_ ?_ ?_ hf10
    · exact fun x => piece_hi arg6 arg11 X6 X11 k 0 (k0_off2_inb k) (k0_off3_inb k 0) (k0_off4_inb k 0) slices_S256x256_o0_0_S16x256 x
    · exact fun x => piece_hi arg6 arg11 X6 X11 k 1 (k0_off2_inb k) (k0_off3_inb k 1) (k0_off4_inb k 1) slices_S256x256_o16_0_S16x256 x
    · exact fun x => piece_hi arg6 arg11 X6 X11 k 2 (k0_off2_inb k) (k0_off3_inb k 2) (k0_off4_inb k 2) slices_S256x256_o32_0_S16x256 x
    · exact fun x => piece_hi arg6 arg11 X6 X11 k 3 (k0_off2_inb k) (k0_off3_inb k 3) (k0_off4_inb k 3) slices_S256x256_o48_0_S16x256 x
    · exact fun x => piece_hi arg6 arg11 X6 X11 k 4 (k0_off2_inb k) (k0_off3_inb k 4) (k0_off4_inb k 4) slices_S256x256_o64_0_S16x256 x
    · exact fun x => piece_hi arg6 arg11 X6 X11 k 5 (k0_off2_inb k) (k0_off3_inb k 5) (k0_off4_inb k 5) slices_S256x256_o80_0_S16x256 x
    · exact fun x => piece_hi arg6 arg11 X6 X11 k 6 (k0_off2_inb k) (k0_off3_inb k 6) (k0_off4_inb k 6) slices_S256x256_o96_0_S16x256 x
    · exact fun x => piece_hi arg6 arg11 X6 X11 k 7 (k0_off2_inb k) (k0_off3_inb k 7) (k0_off4_inb k 7) slices_S256x256_o112_0_S16x256 x
    · exact fun x => piece_hi arg6 arg11 X6 X11 k 8 (k0_off2_inb k) (k0_off3_inb k 8) (k0_off4_inb k 8) slices_S256x256_o128_0_S16x256 x
    · exact fun x => piece_hi arg6 arg11 X6 X11 k 9 (k0_off2_inb k) (k0_off3_inb k 9) (k0_off4_inb k 9) slices_S256x256_o144_0_S16x256 x
    · exact fun x => piece_hi arg6 arg11 X6 X11 k 10 (k0_off2_inb k) (k0_off3_inb k 10) (k0_off4_inb k 10) slices_S256x256_o160_0_S16x256 x
    · exact fun x => piece_hi arg6 arg11 X6 X11 k 11 (k0_off2_inb k) (k0_off3_inb k 11) (k0_off4_inb k 11) slices_S256x256_o176_0_S16x256 x
    · exact fun x => piece_hi arg6 arg11 X6 X11 k 12 (k0_off2_inb k) (k0_off3_inb k 12) (k0_off4_inb k 12) slices_S256x256_o192_0_S16x256 x
    · exact fun x => piece_hi arg6 arg11 X6 X11 k 13 (k0_off2_inb k) (k0_off3_inb k 13) (k0_off4_inb k 13) slices_S256x256_o208_0_S16x256 x
    · exact fun x => piece_hi arg6 arg11 X6 X11 k 14 (k0_off2_inb k) (k0_off3_inb k 14) (k0_off4_inb k 14) slices_S256x256_o224_0_S16x256 x
    · exact fun x => piece_hi arg6 arg11 X6 X11 k 15 (k0_off2_inb k) (k0_off3_inb k 15) (k0_off4_inb k 15) slices_S256x256_o240_0_S16x256 x

end Cert.DxIdeal.Hand

end
-- ==== Proof.DxI.Pick.lean ====
/- The kernel's array of weight scales: each row of a block's scales spread over the columns of the decoded codes by a product with a matrix of zeros and ones, times 64. -/
module

public import proofs.«01_k».proof.Proof.DxI.Loop1
public import Idealize.ShloMosaic.PureOps.Ideal

@[expose] public section

set_option maxRecDepth 16384

noncomputable section

namespace Cert.DxIdeal.Hand

open Cert.DxIdeal Cert.DxIdeal.Gen
open Idealize.ShloMosaic Idealize.ShloMosaic.TcCoe Idealize.ShloMosaic.Tactic

/-- The bit that says whether scale `k` is the one of column `l` of column block `g`. -/
def hot (g : BitVec 32) (k : Fin 448) (l : Fin 256) : BitVec 1 :=
  IntOp.cmpi .eq (BitVec.ofNat 32 k.val) (IntOp.addi (Scalar.muli g 32#32) (IntOp.shrsi .vector (BitVec.ofNat 32 l.val) 3#32))

theorem hot_eq (g : Nat) (hg : g < 14) (k : Fin 448) (l : Fin 256) : hot (BitVec.ofNat 32 g) k l = if k.val = 32 * g + l.val / 8 then 1#1 else 0#1 := by
  have hk := k.isLt
  have hl := l.isLt
  have h1 : (IntOp.addi (Scalar.muli (BitVec.ofNat 32 g) 32#32) (IntOp.shrsi .vector (BitVec.ofNat 32 l.val) 3#32)) = BitVec.ofNat 32 (32 * g + l.val / 8) := by
    have hs : IntOp.shrsi .vector (BitVec.ofNat 32 l.val) 3#32 = BitVec.ofNat 32 (l.val / 8) := by
      have : ∀ l : Fin 256, IntOp.shrsi .vector (BitVec.ofNat 32 l.val) 3#32 = BitVec.ofNat 32 (l.val / 8) := by decide +kernel
      exact this l
    rw [hs]
    show BitVec.ofNat 32 g * 32#32 + BitVec.ofNat 32 (l.val / 8) = _
    apply BitVec.eq_of_toNat_eq
    simp only [BitVec.toNat_add, BitVec.toNat_mul, BitVec.toNat_ofNat]
    omega
  unfold hot
  rw [h1]
  show BitVec.ofBool (BitVec.ofNat 32 k.val == BitVec.ofNat 32 (32 * g + l.val / 8)) = _
  have : (BitVec.ofNat 32 k.val = BitVec.ofNat 32 (32 * g + l.val / 8)) ↔ k.val = 32 * g + l.val / 8 := by
    constructor
    · intro h
      have := congrArg BitVec.toNat h
      rw [BitVec.toNat_ofNat, BitVec.toNat_ofNat] at this
      omega
    · intro h; rw [h]
  by_cases h : k.val = 32 * g + l.val / 8
  · rw [if_pos h, beq_iff_eq.mpr (this.mpr h)]; rfl
  · rw [if_neg h, beq_eq_false_iff_ne.mpr (fun hh => h (this.mp hh))]; rfl

theorem bcast_row (v : FVec Ideal S256x256 .bf16) (a : Fin 256) (l : Fin 256) :
    shapeCast S256x1x256 v shapeCasts_S256x256_S256x1x256 (ix3 a (0 : Fin 1) l) = v (ix2 a l) := by
  pointwise

/-- The spread scales before they are stored. -/
def spread (g : BitVec 32) (x : Vec Ideal S1x256x448 .fp8e4m3) (a l : Fin 256) : EReal :=
  (∑ k : Fin 448, (x (ix3 (0 : Fin 1) a k) : EReal) * FloatOps.sitofp (F := Ideal) .f32 ((hot g k l).zeroExtend 32)) * FloatOps.ofBits (F := Ideal) .f32 0x42800000#32

theorem pay91_apply (g : BitVec 32) (x : Vec Ideal S1x256x448 .fp8e4m3) (a : Fin 256) (p : Fin 2) (l : Fin 256) :
    k0_pay91 (F := Ideal) g x (ix3 a p l) = spread g x a l := by
  unfold spread hot
  match p with
  | ⟨0, _⟩ => pointwise [k0_pay91]
  | ⟨1, _⟩ => pointwise [k0_pay91]

/-- A spread scale is one scale of the row, times 64. -/
theorem spread_eq (g : Nat) (hg : g < 14) (x : Vec Ideal S1x256x448 .fp8e4m3) (a l : Fin 256) (K : Fin 448) (hK : K.val = 32 * g + l.val / 8) :
    spread (BitVec.ofNat 32 g) x a l = (x (ix3 (0 : Fin 1) a K) : EReal) * FloatOps.ofBits (F := Ideal) .f32 0x42800000#32 := by
  unfold spread
  refine congrArg (· * FloatOps.ofBits (F := Ideal) .f32 0x42800000#32) ?_
  rw [Finset.sum_eq_single K]
  · rw [hot_eq g hg, if_pos hK]
    have : (FloatOps.sitofp (F := Ideal) .f32 ((1#1 : BitVec 1).zeroExtend 32) : EReal) = 1 := by
      show (((BitVec.toInt ((1#1 : BitVec 1).zeroExtend 32)) : ℝ) : EReal) = 1
      rw [show BitVec.toInt ((1#1 : BitVec 1).zeroExtend 32) = 1 from by decide]
      norm_num
    rw [this, mul_one]
  · intro k _ hk
    rw [hot_eq g hg, if_neg (fun h => hk (Fin.ext (h.trans hK.symm)))]
    have : (FloatOps.sitofp (F := Ideal) .f32 ((0#1 : BitVec 1).zeroExtend 32) : EReal) = 0 := by
      show (((BitVec.toInt ((0#1 : BitVec 1).zeroExtend 32)) : ℝ) : EReal) = 0
      rw [show BitVec.toInt ((0#1 : BitVec 1).zeroExtend 32) = 0 from by decide]
      norm_num
    rw [this, mul_zero]
  · intro h; exact absurd (Finset.mem_univ K) h

end Cert.DxIdeal.Hand

end
-- ==== Proof.DxI.Codes.lean ====
/- The sixteen values a four-bit code stands for, as the kernel's eight-bit pattern of the code gives them and as the tests on the code's bits give them. -/
module

public import proofs.«01_k».proof.Proof.DxI.Nibble
public import Idealize.ShloMosaic.PureOps.Ideal

@[expose] public section

noncomputable section

namespace Cert.Nibble

open Idealize.ShloMosaic

/-- The real number code `n` stands for. -/
def val (n : Fin 16) : ℝ := (![0, 1/2, 1, 3/2, 2, 3, 4, 6, 0, -(1/2), -1, -(3/2), -2, -3, -4, -6] : Fin 16 → ℝ) n

/-- The low code of a byte, -/
def lowCode (b : BitVec 8) : Fin 16 := ⟨b.toNat % 16, Nat.mod_lt _ (by decide)⟩

/-- and the high. -/
def highCode (b : BitVec 8) : Fin 16 := ⟨b.toNat / 16, by have := b.isLt; omega⟩

theorem lo_code : ∀ b : BitVec 8, lo b = lo (BitVec.ofNat 8 (lowCode b).val) := by
  decide +kernel

theorem hi_code : ∀ b : BitVec 8, hi b = lo (BitVec.ofNat 8 (highCode b).val) := by
  decide +kernel

/-- The eight-bit pattern of a code is the code's value over 64. -/
theorem pattern_val (n : Fin 16) : (FloatOps.ofBits (F := Ideal) .fp8e4m3 (lo (BitVec.ofNat 8 n.val)) : EReal) = ((val n / 64 : ℝ) : EReal) := by
  show Ideal.e4m3fn (lo (BitVec.ofNat 8 n.val)) = _
  fin_cases n <;> simp [Ideal.e4m3fn, lo, val, -EReal.coe_mul] <;> norm_num

theorem sixtyFour : (FloatOps.ofBits (F := Ideal) .f32 0x42800000#32 : EReal) = ((64 : ℝ) : EReal) := by
  show Ideal.ofBits .f32 0x42800000#32 = _
  simp [Ideal.ofBits, Ideal.ieee, -EReal.coe_mul]; norm_num

/-- The pattern times 64 times a scale is the value times the scale, whatever the scale. -/
theorem pattern_mul (n : Fin 16) (s : EReal) :
    (FloatOps.ofBits (F := Ideal) .fp8e4m3 (lo (BitVec.ofNat 8 n.val)) : EReal) * (s * FloatOps.ofBits (F := Ideal) .f32 0x42800000#32) = ((val n : ℝ) : EReal) * s := by
  rw [pattern_val, sixtyFour, mul_comm s, ← mul_assoc, ← EReal.coe_mul]
  congr 3
  ring

/-- The value of a code from tests on its word's bits. -/
def decode (c : BitVec 32) : EReal :=
  have b0 := IntOp.cmpi .ne (IntOp.andi c 1#32) 0#32
  have b1 := IntOp.cmpi .ne (IntOp.andi c 2#32) 0#32
  have b2 := IntOp.cmpi .ne (IntOp.andi c 4#32) 0#32
  have b3 := IntOp.cmpi .ne (IntOp.andi c 8#32) 0#32
  have k (w : BitVec 16) : EReal := Ideal.ofBits .bf16 w
  have m : EReal := Scalar.select b2 (Scalar.select b1 (Scalar.select b0 (k 0x40C0#16) (k 0x4080#16)) (Scalar.select b0 (k 0x4040#16) (k 0x4000#16)))
    (Scalar.select b1 (Scalar.select b0 (k 0x3FC0#16) 1) (Scalar.select b0 (k 0x3F00#16) 0))
  Scalar.select b3 (0 - m) m

theorem k1 : Ideal.ofBits .bf16 0x3F00#16 = ((1/2 : ℝ) : EReal) := by simp [Ideal.ofBits, Ideal.ieee, -EReal.coe_mul]; norm_num
theorem k3 : Ideal.ofBits .bf16 0x3FC0#16 = ((3/2 : ℝ) : EReal) := by simp [Ideal.ofBits, Ideal.ieee, -EReal.coe_mul]; norm_num
theorem k4 : Ideal.ofBits .bf16 0x4000#16 = ((2 : ℝ) : EReal) := by simp [Ideal.ofBits, Ideal.ieee, -EReal.coe_mul]; norm_num
theorem k5 : Ideal.ofBits .bf16 0x4040#16 = ((3 : ℝ) : EReal) := by simp [Ideal.ofBits, Ideal.ieee, -EReal.coe_mul]; norm_num
theorem k6 : Ideal.ofBits .bf16 0x4080#16 = ((4 : ℝ) : EReal) := by simp [Ideal.ofBits, Ideal.ieee, -EReal.coe_mul]; norm_num
theorem k7 : Ideal.ofBits .bf16 0x40C0#16 = ((6 : ℝ) : EReal) := by simp [Ideal.ofBits, Ideal.ieee, -EReal.coe_mul]; norm_num

theorem decode_val (n : Fin 16) : decode (BitVec.ofNat 32 n.val) = ((val n : ℝ) : EReal) := by
  unfold decode
  simp only [k1, k3, k4, k5, k6, k7]
  fin_cases n <;> simp [Scalar.select, IntOp.cmpi, IntOp.andi, val, -EReal.coe_mul, -EReal.coe_sub, -EReal.coe_neg, ← EReal.coe_neg]
  exact (EReal.coe_neg 1).symm

theorem low_word : ∀ b : BitVec 8, IntOp.andi (b.zeroExtend 32) 15#32 = BitVec.ofNat 32 (lowCode b).val := by
  decide +kernel

theorem high_word : ∀ b : BitVec 8, IntOp.shrsi .vector (b.zeroExtend 32) 4#32 = BitVec.ofNat 32 (highCode b).val := by
  decide +kernel

end Cert.Nibble

end
-- ==== Proof.DxI.Tile.lean ====
/- What a trip of the loop over a group's blocks of rows stores in each quarter of the columns, at an index. -/
module
public import proofs.«01_k».proof.Proof.Gen.DxIdeal.Skeleton
public import proofs.«01_k».proof.Proof.DxI.Group
public import proofs.«01_k».proof.Proof.Grp.Trips
public import Idealize.ShloMosaic.Lib.Tactic

@[expose] public section

set_option maxRecDepth 16384

noncomputable section

namespace Cert.DxIdeal.Hand

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The vector of lane numbers. -/
def lanes : IVec S256x128 32 := iota .tc S256x128 32 [1] iota_S256x128_d1_w32

/-- The lane each lane is gathered from: half its number, plus an offset. -/
def laneIdx (d : BitVec 32) (v56 : IVec S256x128 32) : IVec S256x128 32 :=
  shapeCast S256x128 (shapeCast S256x128x1
    (select (cmpi .slt (addi (shrsi v56 (broadcast S256x128 1#32)) (broadcast S256x128 d)) (broadcast S256x128 0#32))
      (addi (addi (shrsi v56 (broadcast S256x128 1#32)) (broadcast S256x128 d)) (broadcast S256x128 128#32))
      (addi (shrsi v56 (broadcast S256x128 1#32)) (broadcast S256x128 d))) shapeCasts_S256x128_S256x128x1) shapeCasts_S256x128x1_S256x128

theorem laneIdx_apply (d : Nat) (hd : d = 0 ∨ d = 64) (r : Fin 256) (l : Fin 128) :
    (laneIdx (BitVec.ofNat 32 d) lanes (ix2 r l)).toNat = l.val / 2 + d := by
  have hw : ∀ l : Fin 128, ∀ d : Fin 65, (Scalar.select (IntOp.cmpi .slt (IntOp.addi (IntOp.shrsi .vector (BitVec.ofNat 32 l.val) 1#32) (BitVec.ofNat 32 d.val)) 0#32)
      (IntOp.addi (IntOp.addi (IntOp.shrsi .vector (BitVec.ofNat 32 l.val) 1#32) (BitVec.ofNat 32 d.val)) 128#32)
      (IntOp.addi (IntOp.shrsi .vector (BitVec.ofNat 32 l.val) 1#32) (BitVec.ofNat 32 d.val))).toNat = l.val / 2 + d.val := by decide +kernel
  have e : laneIdx (BitVec.ofNat 32 d) lanes (ix2 r l) = Scalar.select (IntOp.cmpi .slt (IntOp.addi (IntOp.shrsi .vector (BitVec.ofNat 32 l.val) 1#32) (BitVec.ofNat 32 d)) 0#32)
      (IntOp.addi (IntOp.addi (IntOp.shrsi .vector (BitVec.ofNat 32 l.val) 1#32) (BitVec.ofNat 32 d)) 128#32)
      (IntOp.addi (IntOp.shrsi .vector (BitVec.ofNat 32 l.val) 1#32) (BitVec.ofNat 32 d)) := by
    unfold laneIdx
    rw [shapeCast_comp, shapeCast_id]
    have hz : lanes (ix2 r l) = BitVec.ofNat 32 l.val := by show BitVec.ofNat 32 (0 * 128 + l.val) = _; rw [Nat.zero_mul, Nat.zero_add]
    show Scalar.select (IntOp.cmpi .slt (IntOp.addi (IntOp.shrsi .vector (lanes (ix2 r l)) 1#32) (BitVec.ofNat 32 d)) 0#32)
      (IntOp.addi (IntOp.addi (IntOp.shrsi .vector (lanes (ix2 r l)) 1#32) (BitVec.ofNat 32 d)) 128#32)
      (IntOp.addi (IntOp.shrsi .vector (lanes (ix2 r l)) 1#32) (BitVec.ofNat 32 d)) = _
    rw [hz]
  rw [e]
  exact hw l ⟨d, by omega⟩

/-- Whether a lane is even. -/
theorem even_apply (r : Fin 256) (l : Fin 128) :
    cmpi .eq (andi lanes (broadcast S256x128 1#32)) (broadcast S256x128 0#32) (ix2 r l) = if l.val % 2 = 0 then 1#1 else 0#1 := by
  have hw : ∀ l : Fin 128, IntOp.cmpi .eq (IntOp.andi (BitVec.ofNat 32 l.val) 1#32) 0#32 = if l.val % 2 = 0 then 1#1 else 0#1 := by decide +kernel
  refine Eq.trans ?_ (hw l)
  show IntOp.cmpi .eq (IntOp.andi (BitVec.ofNat 32 (0 * 128 + l.val)) 1#32) 0#32 = _
  rw [Nat.zero_mul, Nat.zero_add]

/-- A quarter of a block's columns: even lanes from the products with the low codes, odd lanes from those with the high. -/
def pick (o : Nat) (d : BitVec 32) (h : S256x256.Slices ![0, o] S256x128) (v56 : IVec S256x128 32) (ev od : FVec Ideal S256x256 .f32) : FVec Ideal S256x128 .f32 :=
  select (cmpi .eq (andi v56 (broadcast S256x128 1#32)) (broadcast S256x128 0#32))
    (dynamicGather 1 (extractStridedSlice S256x128 ![0, o] ev h) (laneIdx d v56)) (dynamicGather 1 (extractStridedSlice S256x128 ![0, o] od h) (laneIdx d v56))

theorem gather_apply (o d : Nat) (hd : d = 0 ∨ d = 64) (ho : o + 128 ≤ 256) (h : S256x256.Slices ![0, o] S256x128) (v : FVec Ideal S256x256 .f32) (r : Fin 256) (l : Fin 128) :
    dynamicGather 1 (extractStridedSlice S256x128 ![0, o] v h) (laneIdx (BitVec.ofNat 32 d) lanes) (ix2 r l) = v (ix2 r (⟨o + d + l.val / 2, by have := l.isLt; omega⟩ : Fin 256)) := by
  have hi := laneIdx_apply d hd r l
  have hl := l.isLt
  show v _ = _
  refine congrArg v ?_
  funext b
  match b with
  | ⟨0, _⟩ => exact Fin.ext (by show 0 + r.val = r.val; omega)
  | ⟨1, _⟩ => exact Fin.ext (by show o + (laneIdx (BitVec.ofNat 32 d) lanes (ix2 r l)).toNat % 128 = o + d + l.val / 2; rw [hi]; omega)

theorem pick_apply (o d : Nat) (hd : d = 0 ∨ d = 64) (ho : o + 128 ≤ 256) (h : S256x256.Slices ![0, o] S256x128) (ev od : FVec Ideal S256x256 .f32) (r : Fin 256) (l : Fin 128) :
    pick o (BitVec.ofNat 32 d) h lanes ev od (ix2 r l) = (if l.val % 2 = 0 then ev else od) (ix2 r (⟨o + d + l.val / 2, by have := l.isLt; omega⟩ : Fin 256)) := by
  show Scalar.select (cmpi .eq (andi lanes (broadcast S256x128 1#32)) (broadcast S256x128 0#32) (ix2 r l)) (dynamicGather 1 _ _ (ix2 r l)) (dynamicGather 1 _ _ (ix2 r l)) = _
  rw [even_apply, gather_apply o d hd ho, gather_apply o d hd ho]
  by_cases hl : l.val % 2 = 0
  · rw [if_pos hl, if_pos hl]; rfl
  · rw [if_neg hl, if_neg hl]; rfl

/-- The new values where a pair of rows is in the mask, the old elsewhere. -/
def merge (mk : IVec S128x128 1) (new : FVec Ideal S256x128 .bf16) (old : Vec Ideal S256x128 .bf16) : FVec Ideal S256x128 .bf16 :=
  interleaveRows S256x128
    (select mk (rowsOfParity 0 S128x128 new bitcasts_S256x128_w16_S128x128_w32) (rowsOfParity 0 S128x128 (shapeCast S256x128 old shapeCasts_S256x128_S256x128) bitcasts_S256x128_w16_S128x128_w32))
    (select mk (rowsOfParity 1 S128x128 new bitcasts_S256x128_w16_S128x128_w32) (rowsOfParity 1 S128x128 (shapeCast S256x128 old shapeCasts_S256x128_S256x128) bitcasts_S256x128_w16_S128x128_w32))
    bitcasts_S256x128_w16_S128x128_w32

theorem merge_apply (mk : IVec S128x128 1) (new : FVec Ideal S256x128 .bf16) (old : Vec Ideal S256x128 .bf16) (r : Fin 256) (l : Fin 128) :
    merge mk new old (ix2 r l) = if mk (ix2 (⟨r.val / 2, by have := r.isLt; omega⟩ : Fin 128) l) = 1#1 then new (ix2 r l) else old (ix2 r l) := by
  have hr := r.isLt
  unfold merge
  rw [shapeCast_id]
  refine (interleave_apply (R := 256) (m := 128) (n := 128) _ _ bitcasts_S256x128_w16_S128x128_w32 r l (by omega)).trans ?_
  show (if r.val % 2 = 0 then Scalar.select (mk (ix2 (⟨r.val / 2, _⟩ : Fin 128) l)) (rowsOfParity 0 S128x128 new bitcasts_S256x128_w16_S128x128_w32 (ix2 (⟨r.val / 2, _⟩ : Fin 128) l)) (rowsOfParity 0 S128x128 old bitcasts_S256x128_w16_S128x128_w32 (ix2 (⟨r.val / 2, _⟩ : Fin 128) l))
    else Scalar.select (mk (ix2 (⟨r.val / 2, _⟩ : Fin 128) l)) (rowsOfParity 1 S128x128 new bitcasts_S256x128_w16_S128x128_w32 (ix2 (⟨r.val / 2, _⟩ : Fin 128) l)) (rowsOfParity 1 S128x128 old bitcasts_S256x128_w16_S128x128_w32 (ix2 (⟨r.val / 2, _⟩ : Fin 128) l))) = _
  have p0 := fun (x : S256x128.Idx → Ideal .bf16) => parity2_apply (R := 256) (m := 128) (n := 128) 0 x bitcasts_S256x128_w16_S128x128_w32 (⟨r.val / 2, by omega⟩ : Fin 128) l (by show 2 * (r.val / 2) + 0 < 256; omega)
  have p1 := fun (x : S256x128.Idx → Ideal .bf16) => parity2_apply (R := 256) (m := 128) (n := 128) 1 x bitcasts_S256x128_w16_S128x128_w32 (⟨r.val / 2, by omega⟩ : Fin 128) l (by show 2 * (r.val / 2) + 1 < 256; omega)
  by_cases hp : r.val % 2 = 0
  · have er : (⟨2 * (r.val / 2) + (0 : Fin 2).val, by show 2 * (r.val / 2) + 0 < 256; omega⟩ : Fin 256) = r := Fin.ext (by show 2 * (r.val / 2) + 0 = r.val; omega)
    rw [if_pos hp]
    refine (congrArg₂ (Scalar.select _) ((p0 new).trans (congrArg (fun q => new (ix2 q l)) er)) ((p0 old).trans (congrArg (fun q => old (ix2 q l)) er))).trans ?_
    rfl
  · have er : (⟨2 * (r.val / 2) + (1 : Fin 2).val, by show 2 * (r.val / 2) + 1 < 256; omega⟩ : Fin 256) = r := Fin.ext (by show 2 * (r.val / 2) + 1 = r.val; omega)
    rw [if_neg hp]
    refine (congrArg₂ (Scalar.select _) ((p1 new).trans (congrArg (fun q => new (ix2 q l)) er)) ((p1 old).trans (congrArg (fun q => old (ix2 q l)) er))).trans ?_
    rfl

/-- The mask of a block's pairs of rows: the rows from the group's first on. -/
theorem mask_apply (v1 v17 : BitVec 32) (k : Fin (k0_t2_loop v1).trips) (h : v17.toNat + 256 * k.val ≤ 1792) (hd : 16 ∣ v17.toNat) (r : Fin 256) (p l : Fin 128) (hp : p.val = r.val / 2) :
    k0_pay59 (F := Ideal) v1 v17 0#32 1#32 k (ix2 p l) = 1#1 ↔ v17.toNat ≤ min (v17.toNat + 256 * k.val) 1536 + r.val := by
  have hrow := Groups.blockRowW_toNat v17 k.val h
  have hdv := Groups.blockRowW_dvd v17 k.val h hd
  have hr := r.isLt
  show IntOp.cmpi .sge (IntOp.addi (IntOp.muli (BitVec.ofNat 32 (0 * 128 + p.val)) 2#32) (Groups.blockRowW v17 k.val)) v17 = 1#1 ↔ _
  have hw : (IntOp.addi (IntOp.muli (BitVec.ofNat 32 (0 * 128 + p.val)) 2#32) (Groups.blockRowW v17 k.val)).toNat = p.val * 2 + (Groups.blockRowW v17 k.val).toNat := by
    show (BitVec.ofNat 32 (0 * 128 + p.val) * 2#32 + _).toNat = _
    rw [BitVec.toNat_add, BitVec.toNat_mul, BitVec.toNat_ofNat, show (2#32 : BitVec 32).toNat = 2 from by decide]
    omega
  rw [IntOp.cmpi_sge]
  generalize IntOp.addi (IntOp.muli (BitVec.ofNat 32 (0 * 128 + p.val)) 2#32) (Groups.blockRowW v17 k.val) = row at hw
  rw [BitVec.toInt_eq_toNat_of_lt (x := row) (by omega), BitVec.toInt_eq_toNat_of_lt (x := v17) (by omega)]
  rw [hrow] at hw hdv
  omega

end Cert.DxIdeal.Hand

end
-- ==== Proof.DxI.Quarter.lean ====
/- What a trip of the loop over a group's blocks of rows leaves in the result's block. -/
module
public import proofs.«01_k».proof.Proof.Gen.DxIdeal.Skeleton
public import proofs.«01_k».proof.Proof.DxI.Checks
public import proofs.«01_k».proof.Proof.DxI.Tile
public import Idealize.ShloMosaic.Lib.Pointwise
public import Idealize.ShloMosaic.Lib.Tactic
public import Idealize.ShloMosaic.Lib.LoopEntry
public import Idealize.ShloMosaic.Lib.Pipeline.FrameBody

@[expose] public section

set_option maxRecDepth 16384

noncomputable section

namespace Cert.DxIdeal.Hand

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A row of the gradient times a column of a decoded weight array, times a scale. -/
def dotT (x5 : Vec Ideal S1792x4096 .bf16) (w : Vec Ideal S4096x256 .bf16) (s : EReal) (a : Fin 1792) (c : Fin 256) : EReal :=
  (∑ j : Fin 4096, (x5 (ix2 a j) : EReal) * w (ix2 j c)) * s

/-- The result's block for one weight block: even columns from its low codes, odd columns from its high. -/
def TILE (x5 : Vec Ideal S1792x4096 .bf16) (x9 x10 : Vec Ideal S4096x256 .bf16) (s : EReal) : S1792x512.Idx → Elt Ideal .bf16 := fun y =>
  dotT x5 (if (show Fin 512 from y 1).val % 2 = 0 then x9 else x10) s (show Fin 1792 from y 0) ⟨(show Fin 512 from y 1).val / 2, by have := (show Fin 512 from y 1).isLt; omega⟩

theorem pay57_apply (s : EReal) (A : Vec Ideal S256x4096 .bf16) (B : Vec Ideal S4096x256 .bf16) (r c : Fin 256) :
    k0_pay57 (F := Ideal) s A B (ix2 r c) = (∑ j : Fin 4096, (A (ix2 r j) : EReal) * B (ix2 j c)) * s := by
  pointwise [k0_pay57]

theorem pay58_apply (s : EReal) (A : Vec Ideal S256x4096 .bf16) (B : Vec Ideal S4096x256 .bf16) (r c : Fin 256) :
    k0_pay58 (F := Ideal) s A B (ix2 r c) = (∑ j : Fin 4096, (A (ix2 r j) : EReal) * B (ix2 j c)) * s := by
  pointwise [k0_pay58]

/-- A product over a block of rows is the product at the rows it was read from. -/
theorem dot_read (M5 : Memref sig .tc .vmem S1792x4096 .bf16) (M9 : Memref sig .tc .vmem S4096x256 .bf16)
    (X5 : BufTy.Contents (Elt Ideal) M5.view.ty) (X9 : BufTy.Contents (Elt Ideal) M9.view.ty) (s : EReal) (row : Nat)
    (o5 : Fin 2 → Nat) (i5 : ∀ a, o5 a + S256x4096.size a ≤ S1792x4096.size a) (h50 : o5 0 = row) (h51 : o5 1 = 0)
    (o9 : Fin 2 → Nat) (i9 : ∀ a, o9 a + S4096x256.size a ≤ S4096x256.size a)
    (r c : Fin 256) (a : Fin 1792) (ha : a.val = row + r.val) :
    (∑ j : Fin 4096, (View.readAt (Elt Ideal) M5.view (Rect.unit (s := S1792x4096) o5 S256x4096.size i5).toLoadRect X5 (ix2 r j) : EReal)
      * View.readAt (Elt Ideal) M9.view (Rect.unit (s := S4096x256) o9 S4096x256.size i9).toLoadRect X9 (ix2 j c)) * s
      = dotT (M5.view.read (Elt Ideal) X5) (M9.view.read (Elt Ideal) X9) s a c := by
  unfold dotT
  refine congrArg (· * s) (Finset.sum_congr rfl fun j _ => ?_)
  rw [View.readAt_apply, View.readAt_apply]
  have h90 : o9 0 = 0 := by have := i9 0; have : o9 0 + 4096 ≤ 4096 := this; omega
  have h91 : o9 1 = 0 := by have := i9 1; have : o9 1 + 256 ≤ 256 := this; omega
  refine Ideal.mul_congr (congrArg (M5.view.read (Elt Ideal) X5) ?_) (congrArg (M9.view.read (Elt Ideal) X9) ?_)
  · funext b
    match b with
    | ⟨0, _⟩ => exact Fin.ext (show o5 0 + 1 * r.val = a.val by omega)
    | ⟨1, _⟩ => exact Fin.ext (show o5 1 + 1 * j.val = j.val by omega)
  · funext b
    match b with
    | ⟨0, _⟩ => exact Fin.ext (show o9 0 + 1 * j.val = j.val by omega)
    | ⟨1, _⟩ => exact Fin.ext (show o9 1 + 1 * c.val = c.val by omega)

/-- A stored quarter of a block's columns: the products from the group's first row on, what was there before above it. -/
theorem piece (M5 : Memref sig .tc .vmem S1792x4096 .bf16) (M9 M10 : Memref sig .tc .vmem S4096x256 .bf16) (M8 : Memref sig .tc .vmem S1792x512 .bf16)
    (X5 : BufTy.Contents (Elt Ideal) M5.view.ty) (X9 : BufTy.Contents (Elt Ideal) M9.view.ty) (X10 : BufTy.Contents (Elt Ideal) M10.view.ty) (f g : BufTy.Contents (Elt Ideal) M8.view.ty)
    (s : EReal) (o d : Nat) (hd : d = 0 ∨ d = 64) (ho : o + 128 ≤ 256) (h : S256x256.Slices ![0, o] S256x128)
    (i9 i10 : ∀ a, (![0, 0] : Fin 2 → Nat) a + S4096x256.size a ≤ S4096x256.size a)
    (start row : Nat) {mk : IVec S128x128 1} (hmk : ∀ (r : Fin 256) (p l : Fin 128), p.val = r.val / 2 → (mk (ix2 p l) = 1#1 ↔ start ≤ row + r.val))
    (o5 : Fin 2 → Nat) (i5 : ∀ a, o5 a + S256x4096.size a ≤ S1792x4096.size a) (h50 : o5 0 = row) (h51 : o5 1 = 0)
    (o8 : Fin 2 → Nat) (i8 i8' : ∀ a, o8 a + S256x128.size a ≤ S1792x512.size a) (h80 : o8 0 = row) (h81 : o8 1 = 2 * (o + d))
    (hg : ∀ y : S1792x512.Idx, (y 0).val < start → M8.view.read (Elt Ideal) g y = M8.view.read (Elt Ideal) f y) (x : S256x128.Idx) :
    merge mk (pick o (BitVec.ofNat 32 d) h lanes
        (k0_pay57 s (View.readAt (Elt Ideal) M5.view (Rect.unit (s := S1792x4096) o5 S256x4096.size i5).toLoadRect X5) (View.readAt (Elt Ideal) M9.view (Rect.unit (s := S4096x256) ![0, 0] S4096x256.size i9).toLoadRect X9))
        (k0_pay58 s (View.readAt (Elt Ideal) M5.view (Rect.unit (s := S1792x4096) o5 S256x4096.size i5).toLoadRect X5) (View.readAt (Elt Ideal) M10.view (Rect.unit (s := S4096x256) ![0, 0] S4096x256.size i10).toLoadRect X10)))
        (View.readAt (Elt Ideal) M8.view (Rect.unit (s := S1792x512) o8 S256x128.size i8).toLoadRect g) x
      = (fun y : S1792x512.Idx => if start ≤ (y 0).val then TILE (M5.view.read (Elt Ideal) X5) (M9.view.read (Elt Ideal) X9) (M10.view.read (Elt Ideal) X10) s y else M8.view.read (Elt Ideal) f y)
          ((Rect.unit (s := S1792x512) o8 S256x128.size i8').emb x) := by
  obtain ⟨r, l, rfl⟩ : ∃ (r : Fin 256) (l : Fin 128), x = ix2 r l := ⟨x 0, x 1, by funext b; match b with | ⟨0, _⟩ => rfl | ⟨1, _⟩ => rfl⟩
  have e0 : ((Rect.unit (s := S1792x512) o8 S256x128.size i8').emb (ix2 r l) 0).val = row + r.val := by show o8 0 + 1 * r.val = _; omega
  have e1 : ((Rect.unit (s := S1792x512) o8 S256x128.size i8').emb (ix2 r l) 1).val = 2 * (o + d) + l.val := by show o8 1 + 1 * l.val = _; omega
  have hr := r.isLt
  have hl := l.isLt
  rw [merge_apply]
  show _ = if start ≤ ((Rect.unit (s := S1792x512) o8 S256x128.size i8').emb (ix2 r l) 0).val then _ else _
  rw [e0]
  by_cases hc : start ≤ row + r.val
  · rw [if_pos ((hmk r _ l rfl).mpr hc), if_pos hc, pick_apply o d hd ho]
    unfold TILE
    have hpar : ((Rect.unit (s := S1792x512) o8 S256x128.size i8').emb (ix2 r l) 1).val % 2 = l.val % 2 := by rw [e1]; omega
    have hhalf : (⟨o + d + l.val / 2, by omega⟩ : Fin 256) = ⟨((Rect.unit (s := S1792x512) o8 S256x128.size i8').emb (ix2 r l) 1).val / 2, by rw [e1]; omega⟩ := Fin.ext (by show o + d + l.val / 2 = _ / 2; rw [e1]; omega)
    by_cases hp : l.val % 2 = 0
    · rw [if_pos hp, pay57_apply]
      refine (dot_read M5 M9 X5 X9 s row o5 i5 h50 h51 ![0, 0] i9 r _ _ e0).trans ?_
      refine Eq.trans ?_ (congrArg (fun w => dotT _ w s _ _) (if_pos (hpar.trans hp)).symm)
      exact congrArg (dotT _ _ s _) hhalf
    · rw [if_neg hp, pay58_apply]
      refine (dot_read M5 M10 X5 X10 s row o5 i5 h50 h51 ![0, 0] i10 r _ _ e0).trans ?_
      refine Eq.trans ?_ (congrArg (fun w => dotT _ w s _ _) (if_neg (fun hh => hp (hpar.symm.trans hh))).symm)
      exact congrArg (dotT _ _ s _) hhalf
  · rw [if_neg (fun hh => hc ((hmk r _ l rfl).mp hh)), if_neg hc, View.readAt_apply, ← hg _ (by rw [e0]; omega)]
    refine congrArg (M8.view.read (Elt Ideal) g) ?_
    funext b
    match b with
    | ⟨0, _⟩ => rfl
    | ⟨1, _⟩ => rfl

/-- The four stored payloads in one form. -/
theorem pay65_eq (s : EReal) (v56 : IVec S256x128 32) (A : Vec Ideal S256x4096 .bf16) (B C : Vec Ideal S4096x256 .bf16) (mk : IVec S128x128 1) (old : Vec Ideal S256x128 .bf16) :
    k0_pay65 (F := Ideal) mk (k0_pay60 v56) (k0_pay61 v56) (k0_pay62 s v56 A B) (k0_pay63 s A C) (k0_pay64 v56) 128#32 old
      = merge mk (pick 0 0#32 slices_S256x256_o0_0_S256x128 v56 (k0_pay57 s A B) (k0_pay58 s A C)) old := rfl
theorem pay67_eq (v56 : IVec S256x128 32) (ev od : FVec Ideal S256x256 .f32) (mk : IVec S128x128 1) (old : Vec Ideal S256x128 .bf16) :
    k0_pay67 (F := Ideal) mk (k0_pay66 v56 ev od) old = merge mk (pick 0 64#32 slices_S256x256_o0_0_S256x128 v56 ev od) old := rfl
theorem pay72_eq (v56 : IVec S256x128 32) (ev od : FVec Ideal S256x256 .f32) (mk : IVec S128x128 1) (old : Vec Ideal S256x128 .bf16) :
    k0_pay72 (F := Ideal) (k0_pay70 v56 ev od mk old) (k0_pay71 v56 ev od mk old) = merge mk (pick 128 0#32 slices_S256x256_o0_128_S256x128 v56 ev od) old := rfl
theorem pay73_eq (v56 : IVec S256x128 32) (ev od : FVec Ideal S256x256 .f32) (mk : IVec S128x128 1) (old : Vec Ideal S256x128 .bf16) :
    k0_pay73 (F := Ideal) v56 ev od mk old = merge mk (pick 128 64#32 slices_S256x256_o0_128_S256x128 v56 ev od) old := rfl

/-- An index whose row and column are of a stored quarter lies in its rectangle. -/
theorem inQuarter (o8 : Fin 2 → Nat) (i8 : ∀ a, o8 a + S256x128.size a ≤ S1792x512.size a) (row col : Nat) (h0 : o8 0 = row) (h1 : o8 1 = col) (y : S1792x512.Idx) :
    y ∈ (Rect.unit (s := S1792x512) o8 S256x128.size i8).set ↔ (row ≤ (y 0).val ∧ (y 0).val < row + 256) ∧ (col ≤ (y 1).val ∧ (y 1).val < col + 128) := by
  rw [Rect.mem_set_unit]
  constructor
  · intro hy
    have a0 : o8 0 ≤ (y 0).val ∧ (y 0).val < o8 0 + 256 := hy 0
    have a1 : o8 1 ≤ (y 1).val ∧ (y 1).val < o8 1 + 128 := hy 1
    omega
  · intro hy b
    match b with
    | ⟨0, _⟩ => exact ⟨show o8 0 ≤ (y 0).val by omega, show (y 0).val < o8 0 + 256 by omega⟩
    | ⟨1, _⟩ => exact ⟨show o8 1 ≤ (y 1).val by omega, show (y 1).val < o8 1 + 128 by omega⟩

/-- One more store keeps the rows above the group's, and puts the group's values in its rectangle. -/
theorem keep (M : Memref sig .tc .vmem S1792x512 .bf16) (f : BufTy.Contents (Elt Ideal) M.view.ty) (T : S1792x512.Idx → Elt Ideal .bf16) (start : Nat)
    (L : List (View.Piece (Elt Ideal) S1792x512 .bf16))
    (hL : ∀ p ∈ L, ∀ x, p.2 x = (fun y : S1792x512.Idx => if start ≤ (y 0).val then T y else M.view.read (Elt Ideal) f y) (p.1.emb x)) (y : S1792x512.Idx) :
    ((y 0).val < start → M.view.read (Elt Ideal) (M.view.writes (Elt Ideal) f L) y = M.view.read (Elt Ideal) f y)
      ∧ ((∃ p ∈ L, y ∈ p.1.set) → start ≤ (y 0).val → M.view.read (Elt Ideal) (M.view.writes (Elt Ideal) f L) y = T y)
      ∧ ((¬ ∃ p ∈ L, y ∈ p.1.set) → M.view.read (Elt Ideal) (M.view.writes (Elt Ideal) f L) y = M.view.read (Elt Ideal) f y) := by
  have hout : (¬ ∃ p ∈ L, y ∈ p.1.set) → M.view.read (Elt Ideal) (M.view.writes (Elt Ideal) f L) y = M.view.read (Elt Ideal) f y :=
    fun hc => View.read_writes_apply_of_forall_not_mem M.view f y _ (fun p hp hyp => hc ⟨p, hp, hyp⟩)
  refine ⟨fun hy => ?_, fun hc hy => ?_, hout⟩
  · by_cases hc : ∃ p ∈ L, y ∈ p.1.set
    · rw [View.read_writes_apply_of_pieces M.view f (fun y : S1792x512.Idx => if start ≤ (y 0).val then T y else M.view.read (Elt Ideal) f y) L hL y hc]
      exact if_neg (Nat.not_le.mpr hy)
    · exact hout hc
  · rw [View.read_writes_apply_of_pieces M.view f (fun y : S1792x512.Idx => if start ≤ (y 0).val then T y else M.view.read (Elt Ideal) f y) L hL y hc]
    exact if_pos hy

/-- After a trip's four stores the rows of all trips so far hold their values and the rows above the group's are unchanged. -/
theorem block4 (M : Memref sig .tc .vmem S1792x512 .bf16) (f : BufTy.Contents (Elt Ideal) M.view.ty) (T G8 : S1792x512.Idx → Elt Ideal .bf16) (start row k : Nat)
    (hst : start + 256 * k ≤ 1792) (hrow : row = min (start + 256 * k) 1536)
    (o7 o8 o9 o10 : Fin 2 → Nat) (i7 : ∀ a, o7 a + S256x128.size a ≤ S1792x512.size a) (i8 : ∀ a, o8 a + S256x128.size a ≤ S1792x512.size a)
    (i9 : ∀ a, o9 a + S256x128.size a ≤ S1792x512.size a) (i10 : ∀ a, o10 a + S256x128.size a ≤ S1792x512.size a)
    (h7 : o7 0 = row ∧ o7 1 = 0) (h8 : o8 0 = row ∧ o8 1 = 128) (h9 : o9 0 = row ∧ o9 1 = 256) (h10 : o10 0 = row ∧ o10 1 = 384)
    (w7 w8 w9 w10 : S256x128.Idx → Elt Ideal .bf16)
    (p7 : (∀ y : S1792x512.Idx, (y 0).val < start → M.view.read (Elt Ideal) f y = M.view.read (Elt Ideal) f y) → ∀ x, w7 x = (fun y : S1792x512.Idx => if start ≤ (y 0).val then T y else M.view.read (Elt Ideal) f y) ((Rect.unit (s := S1792x512) o7 S256x128.size i7).emb x))
    (p8 : (∀ y : S1792x512.Idx, (y 0).val < start → M.view.read (Elt Ideal) (M.view.writes (Elt Ideal) f [⟨Rect.unit (s := S1792x512) o7 S256x128.size i7, w7⟩]) y = M.view.read (Elt Ideal) f y) → ∀ x, w8 x = (fun y : S1792x512.Idx => if start ≤ (y 0).val then T y else M.view.read (Elt Ideal) f y) ((Rect.unit (s := S1792x512) o8 S256x128.size i8).emb x))
    (p9 : (∀ y : S1792x512.Idx, (y 0).val < start → M.view.read (Elt Ideal) (M.view.writes (Elt Ideal) f [⟨Rect.unit (s := S1792x512) o8 S256x128.size i8, w8⟩, ⟨Rect.unit (s := S1792x512) o7 S256x128.size i7, w7⟩]) y = M.view.read (Elt Ideal) f y) → ∀ x, w9 x = (fun y : S1792x512.Idx => if start ≤ (y 0).val then T y else M.view.read (Elt Ideal) f y) ((Rect.unit (s := S1792x512) o9 S256x128.size i9).emb x))
    (p10 : (∀ y : S1792x512.Idx, (y 0).val < start → M.view.read (Elt Ideal) (M.view.writes (Elt Ideal) f [⟨Rect.unit (s := S1792x512) o9 S256x128.size i9, w9⟩, ⟨Rect.unit (s := S1792x512) o8 S256x128.size i8, w8⟩, ⟨Rect.unit (s := S1792x512) o7 S256x128.size i7, w7⟩]) y = M.view.read (Elt Ideal) f y) → ∀ x, w10 x = (fun y : S1792x512.Idx => if start ≤ (y 0).val then T y else M.view.read (Elt Ideal) f y) ((Rect.unit (s := S1792x512) o10 S256x128.size i10).emb x))
    (hf : ∀ y : S1792x512.Idx, ((y 0).val < start → M.view.read (Elt Ideal) f y = G8 y) ∧ (start ≤ (y 0).val → (y 0).val < start + 256 * k → M.view.read (Elt Ideal) f y = T y))
    (y : S1792x512.Idx) :
    ((y 0).val < start → M.view.read (Elt Ideal) (M.view.writes (Elt Ideal) f [⟨Rect.unit (s := S1792x512) o10 S256x128.size i10, w10⟩, ⟨Rect.unit (s := S1792x512) o9 S256x128.size i9, w9⟩, ⟨Rect.unit (s := S1792x512) o8 S256x128.size i8, w8⟩, ⟨Rect.unit (s := S1792x512) o7 S256x128.size i7, w7⟩]) y = G8 y)
      ∧ (start ≤ (y 0).val → (y 0).val < start + 256 * (k + 1) → M.view.read (Elt Ideal) (M.view.writes (Elt Ideal) f [⟨Rect.unit (s := S1792x512) o10 S256x128.size i10, w10⟩, ⟨Rect.unit (s := S1792x512) o9 S256x128.size i9, w9⟩, ⟨Rect.unit (s := S1792x512) o8 S256x128.size i8, w8⟩, ⟨Rect.unit (s := S1792x512) o7 S256x128.size i7, w7⟩]) y = T y) := by
  have q7 := p7 fun _ _ => rfl
  have L7 : ∀ p ∈ ([⟨Rect.unit (s := S1792x512) o7 S256x128.size i7, w7⟩] : List (View.Piece (Elt Ideal) S1792x512 .bf16)), ∀ x, p.2 x = (fun y : S1792x512.Idx => if start ≤ (y 0).val then T y else M.view.read (Elt Ideal) f y) (p.1.emb x) := by
    simp only [List.forall_mem_cons, List.not_mem_nil, false_imp_iff, implies_true, and_true]
    exact q7
  have q8 := p8 fun y => (keep M f T start _ L7 y).1
  have L8 : ∀ p ∈ ([⟨Rect.unit (s := S1792x512) o8 S256x128.size i8, w8⟩, ⟨Rect.unit (s := S1792x512) o7 S256x128.size i7, w7⟩] : List (View.Piece (Elt Ideal) S1792x512 .bf16)), ∀ x, p.2 x = (fun y : S1792x512.Idx => if start ≤ (y 0).val then T y else M.view.read (Elt Ideal) f y) (p.1.emb x) := by
    simp only [List.forall_mem_cons, List.not_mem_nil, false_imp_iff, implies_true, and_true]
    exact ⟨q8, q7⟩
  have q9 := p9 fun y => (keep M f T start _ L8 y).1
  have L9 : ∀ p ∈ ([⟨Rect.unit (s := S1792x512) o9 S256x128.size i9, w9⟩, ⟨Rect.unit (s := S1792x512) o8 S256x128.size i8, w8⟩, ⟨Rect.unit (s := S1792x512) o7 S256x128.size i7, w7⟩] : List (View.Piece (Elt Ideal) S1792x512 .bf16)), ∀ x, p.2 x = (fun y : S1792x512.Idx => if start ≤ (y 0).val then T y else M.view.read (Elt Ideal) f y) (p.1.emb x) := by
    simp only [List.forall_mem_cons, List.not_mem_nil, false_imp_iff, implies_true, and_true]
    exact ⟨q9, q8, q7⟩
  have q10 := p10 fun y => (keep M f T start _ L9 y).1
  have L10 : ∀ p ∈ ([⟨Rect.unit (s := S1792x512) o10 S256x128.size i10, w10⟩, ⟨Rect.unit (s := S1792x512) o9 S256x128.size i9, w9⟩, ⟨Rect.unit (s := S1792x512) o8 S256x128.size i8, w8⟩, ⟨Rect.unit (s := S1792x512) o7 S256x128.size i7, w7⟩] : List (View.Piece (Elt Ideal) S1792x512 .bf16)), ∀ x, p.2 x = (fun y : S1792x512.Idx => if start ≤ (y 0).val then T y else M.view.read (Elt Ideal) f y) (p.1.emb x) := by
    simp only [List.forall_mem_cons, List.not_mem_nil, false_imp_iff, implies_true, and_true]
    exact ⟨q10, q9, q8, q7⟩
  obtain ⟨K1, K2, K3⟩ := keep M f T start _ L10 y
  refine ⟨fun hy => (K1 hy).trans ((hf y).1 hy), fun hy hy' => ?_⟩
  by_cases hc : ∃ p ∈ ([⟨Rect.unit (s := S1792x512) o10 S256x128.size i10, w10⟩, ⟨Rect.unit (s := S1792x512) o9 S256x128.size i9, w9⟩, ⟨Rect.unit (s := S1792x512) o8 S256x128.size i8, w8⟩, ⟨Rect.unit (s := S1792x512) o7 S256x128.size i7, w7⟩] : List (View.Piece (Elt Ideal) S1792x512 .bf16)), y ∈ p.1.set
  · exact K2 hc hy
  · refine (K3 hc).trans ((hf y).2 hy (Nat.lt_of_not_le fun hle => hc ?_))
    have y0 : (y 0).val < 1792 := (y 0).isLt
    have y1 : (y 1).val < 512 := (y 1).isLt
    have hr : row ≤ (y 0).val ∧ (y 0).val < row + 256 := by omega
    rcases (by omega : (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128)) with hq | hq | hq | hq
    · exact ⟨_, .tail _ (.tail _ (.tail _ (.head _))), (inQuarter o7 i7 row 0 h7.1 h7.2 y).mpr ⟨hr, hq⟩⟩
    · exact ⟨_, .tail _ (.tail _ (.head _)), (inQuarter o8 i8 row 128 h8.1 h8.2 y).mpr ⟨hr, hq⟩⟩
    · exact ⟨_, .tail _ (.head _), (inQuarter o9 i9 row 256 h9.1 h9.2 y).mpr ⟨hr, hq⟩⟩
    · exact ⟨_, .head _, (inQuarter o10 i10 row 384 h10.1 h10.2 y).mpr ⟨hr, hq⟩⟩

/-- What the array held at the loop's entry, where no trip is done. -/
abbrev entry {α : Type*} : Nat → α → α → α
  | 0, G, _ => G
  | _ + 1, _, f => f

/-- What the trips before the `k`th have stored: their rows' products, nothing above the group's first row. -/
def Done (hyp : Prop) (M : Memref sig .tc .vmem S1792x512 .bf16) (start : Nat) (T : S1792x512.Idx → Elt Ideal .bf16) (G f : BufTy.Contents (Elt Ideal) M.view.ty) (k : Nat) : Prop :=
  hyp → ∀ y : S1792x512.Idx, ((y 0).val < start → M.view.read (Elt Ideal) f y = M.view.read (Elt Ideal) G y)
    ∧ (start ≤ (y 0).val → (y 0).val < start + 256 * k → M.view.read (Elt Ideal) f y = T y)

/-- A fact about the trips done, where a trip is done. -/
abbrev after : Nat → Prop → Prop
  | 0, _ => True
  | _ + 1, P => P

/-- The two facts together, at any number of trips. -/
theorem done_of {hyp : Prop} {M : Memref sig .tc .vmem S1792x512 .bf16} {start : Nat} {T : S1792x512.Idx → Elt Ideal .bf16} {G f : BufTy.Contents (Elt Ideal) M.view.ty} {k : Nat}
    (hg : f = entry k G f) (hf : after k (Done hyp M start T G f k) = True) : Done hyp M start T G f k := by
  match k, hg, hf with
  | 0, hg, _ => exact fun _ y => ⟨fun _ => congrFun (congrArg (M.view.read (Elt Ideal)) hg) y, fun h1 h2 => absurd h2 (by omega)⟩
  | n + 1, _, hf => exact of_eq_true hf

end Cert.DxIdeal.Hand

end
-- ==== Proof.DxI.Loop2.lean ====
/- The loop over a group's blocks of rows: what its trips have stored in the result's block. -/
module
public import proofs.«01_k».proof.Proof.Gen.DxIdeal.Skeleton
public import proofs.«01_k».proof.Proof.DxI.Checks
public import proofs.«01_k».proof.Proof.DxI.Quarter
public import Idealize.ShloMosaic.Lib.Pointwise
public import Idealize.ShloMosaic.Lib.Tactic
public import Idealize.ShloMosaic.Lib.LoopEntry
public import Idealize.ShloMosaic.Lib.Pipeline.FrameBody

@[expose] public section

set_option maxRecDepth 16384

noncomputable section

namespace Cert.DxIdeal.Hand

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option maxHeartbeats 8000000 in
set_option warn.classDefReducibility false in
/-- The loop's invariant: the rows of the trips done hold their products, the rows above the group's what they held at first. -/
@[sl_loop] def blockInv (𝒱 : Variants) (c : Dev nD) (bd : Option 𝒱.V) (E : Set ℕ) (i : grid0.Coords) (arg2 : Memref sig .tc .smem S4 .i32) (harg2 : arg2.IsWhole) (arg3 : Memref sig .tc .smem S4 .f32) (harg3 : arg3.IsWhole) (arg4 : Memref sig .tc .smem S4 .f32) (harg4 : arg4.IsWhole) (arg5 : Memref sig .tc .vmem S1792x4096 .bf16) (harg5 : arg5.IsWhole) (arg6 : Memref sig .tc .vmem S1x4096x256 .i8) (harg6 : arg6.IsWhole) (arg7 : Memref sig .tc .vmem S1x256x448 .fp8e4m3) (harg7 : arg7.IsWhole) (arg8 : Memref sig .tc .vmem S1792x512 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S256x2x256 .bf16) (harg11 : arg11.IsWhole) (v1 : Elt Ideal .i32) (k0_hw1 : k0_chk1 v1) (v3 : Elt Ideal .i32) (v7 : Elt Ideal .i32) (v11 : Elt Ideal .i32) (v15 : Elt Ideal .i32) (k0_hw2 : k0_chk2 i v1 v3 v7 v11 v15) (v17 : BitVec 32) (k0_h1 : k0_cond1 v1 = 1#1) (v49 : Ideal .f32) (v52 : BitVec 1) (v53 : Ideal .f32) (v56 : IVec S256x128 32)
    (X5 : BufTy.Contents (Elt Ideal) arg5.view.ty) (X9 : BufTy.Contents (Elt Ideal) arg9.view.ty) (X10 : BufTy.Contents (Elt Ideal) arg10.view.ty) (G8 : BufTy.Contents (Elt Ideal) arg8.view.ty) (init : BitVec 32) :
    Idealize.ShloMosaic.LoopInv (M := 𝕄) frame (wpE (defs₀ (F := Ideal)) 𝒱 (c : Thread nD τ) bd) E (k0_t2_loop v1).lb (k0_t2_loop v1).ub (k0_t2_loop v1).st (k0_t2_ok v1 k0_hw1 k0_h1) init (k0_t2_body (F := Ideal) i arg2 harg2 arg3 harg3 arg4 harg4 arg5 harg5 arg6 harg6 arg7 harg7 arg8 harg8 arg9 harg9 arg10 harg10 arg11 harg11 v1 k0_hw1 v3 v7 v11 v15 k0_hw2 v17 k0_h1 v49 v52 v53 v56) where
  inv k _ := iprop((arg5.view.loc (c : Thread nD τ) ↦[arg5.view.set]{fullShare} X5) ∗ (arg9.view.loc (c : Thread nD τ) ↦[arg9.view.set]{fullShare} X9) ∗ (arg10.view.loc (c : Thread nD τ) ↦[arg10.view.set]{fullShare} X10)
      ∗ (∃ f, (arg8.view.loc (c : Thread nD τ) ↦[arg8.view.set]{fullShare} f) ∗ ⌜f = entry k G8 f⌝ ∗ ⌜after k (Done (v17 = startW i v3 v7 v11 v15 ∧ v56 = lanes ∧ 16 ∣ v17.toNat ∧ ∀ k : Fin (k0_t2_loop v1).trips, v17.toNat + 256 * k.val ≤ 1792) arg8 v17.toNat (TILE (arg5.view.read (Elt Ideal) X5) (arg9.view.read (Elt Ideal) X9) (arg10.view.read (Elt Ideal) X10) (k0_pay1 v49 v52 v53)) G8 f k) = True⌝))
  step k acc := by
    unfold k0_t2_body
    iintro ⟨H5, H9, H10, ⟨%f, H8, %hg, %hf⟩⟩
    sl_exec
    sl_step
    isplitl [H5]; · iexact H5
    isplitl [H9]; · iexact H9
    isplitl [H10]; · iexact H10
    iexists _; isplitl [H8]; · iexact H8
    isplitr; · ipureintro; rfl
    ipureintro
    refine eq_true ?_
    intro hyp
    replace hf : ∀ y : S1792x512.Idx, ((y 0).val < v17.toNat → arg8.view.read (Elt Ideal) f y = arg8.view.read (Elt Ideal) G8 y)
        ∧ (v17.toNat ≤ (y 0).val → (y 0).val < v17.toNat + 256 * k.val → arg8.view.read (Elt Ideal) f y = TILE (arg5.view.read (Elt Ideal) X5) (arg9.view.read (Elt Ideal) X9) (arg10.view.read (Elt Ideal) X10) (k0_pay1 v49 v52 v53) y) :=
      fun y => done_of hg hf hyp y
    obtain ⟨h17, rfl, hdv, hle⟩ := hyp
    have hk := hle k
    have hmk : ∀ (r : Fin 256) (p l : Fin 128), p.val = r.val / 2 → (k0_pay59 (F := Ideal) v1 v17 0#32 1#32 k (ix2 p l) = 1#1 ↔ v17.toNat ≤ min (v17.toNat + 256 * k.val) 1536 + r.val) :=
      fun r p l hp => mask_apply v1 v17 k hk hdv r p l hp
    have hrow : (Groups.blockRowW (startW i v3 v7 v11 v15) k.val).toNat = min (v17.toNat + 256 * k.val) 1536 := by
      rw [← h17]; exact Groups.blockRowW_toNat v17 k.val hk
    intro y
    refine block4 arg8 f _ _ v17.toNat (min (v17.toNat + 256 * k.val) 1536) k.val hk rfl
      (k0_off7 i v1 v3 v7 v11 v15 k) (k0_off8 i v1 v3 v7 v11 v15 k) (k0_off9 i v1 v3 v7 v11 v15 k) (k0_off10 i v1 v3 v7 v11 v15 k) _ _ _ _
      ⟨hrow, rfl⟩ ⟨hrow, rfl⟩ ⟨hrow, rfl⟩ ⟨hrow, rfl⟩ _ _ _ _ ?_ ?_ ?_ ?_ hf y
    · exact fun hg x => (congrFun (pay65_eq (k0_pay1 v49 v52 v53) lanes _ _ _ _ _ ) x).trans (piece arg5 arg9 arg10 arg8 X5 X9 X10 f _ (k0_pay1 v49 v52 v53) 0 0 (by decide) (by decide) slices_S256x256_o0_0_S256x128 _ _ v17.toNat (min (v17.toNat + 256 * k.val) 1536) hmk (k0_off6 i v1 v3 v7 v11 v15 k) _ hrow rfl (k0_off7 i v1 v3 v7 v11 v15 k) _ _ hrow rfl hg x)
    · exact fun hg x => (congrFun (pay67_eq lanes _ _ _ _ ) x).trans (piece arg5 arg9 arg10 arg8 X5 X9 X10 f _ (k0_pay1 v49 v52 v53) 0 64 (by decide) (by decide) slices_S256x256_o0_0_S256x128 _ _ v17.toNat (min (v17.toNat + 256 * k.val) 1536) hmk (k0_off6 i v1 v3 v7 v11 v15 k) _ hrow rfl (k0_off8 i v1 v3 v7 v11 v15 k) _ _ hrow rfl hg x)
    · exact fun hg x => (congrFun (pay72_eq lanes _ _ _ _ ) x).trans (piece arg5 arg9 arg10 arg8 X5 X9 X10 f _ (k0_pay1 v49 v52 v53) 128 0 (by decide) (by decide) slices_S256x256_o0_128_S256x128 _ _ v17.toNat (min (v17.toNat + 256 * k.val) 1536) hmk (k0_off6 i v1 v3 v7 v11 v15 k) _ hrow rfl (k0_off9 i v1 v3 v7 v11 v15 k) _ _ hrow rfl hg x)
    · exact fun hg x => (congrFun (pay73_eq lanes _ _ _ _ ) x).trans (piece arg5 arg9 arg10 arg8 X5 X9 X10 f _ (k0_pay1 v49 v52 v53) 128 64 (by decide) (by decide) slices_S256x256_o0_128_S256x128 _ _ v17.toNat (min (v17.toNat + 256 * k.val) 1536) hmk (k0_off6 i v1 v3 v7 v11 v15 k) _ hrow rfl (k0_off10 i v1 v3 v7 v11 v15 k) _ _ hrow rfl hg x)

end Cert.DxIdeal.Hand

end
-- ==== Proof.DxI.Body.lean ====
/- What one grid point of the input-gradient kernel, over the extended reals, leaves in its result block. -/
module

public import proofs.«01_k».proof.Proof.DxI.Loop1
public import proofs.«01_k».proof.Proof.DxI.Loop2
public import Idealize.ShloMosaic.Lib.LoopRemainder

@[expose] public section

set_option maxRecDepth 16384

noncomputable section

namespace Cert.DxIdeal.Hand

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The scale of a point: the gradient's global scale times the weights'. -/
def scale (a w : EReal) : EReal := k0_pay1 (F := Ideal) (k0_pay96 (F := Ideal) a) (Scalar.cmpf (F := Ideal) (φ := .f32) .oeq w (Scalar.ofBits (F := Ideal) .f32 0x00000000#32)) (k0_pay97 (F := Ideal) w)

/-- The rows a point computes: the gradient's rows times its decoded weight block, times its scale. -/
def POINT (i : grid0.Coords) (x3 : Vec Ideal S1792x4096 .bf16) (x4 : Vec Ideal S1x4096x256 .i8) (x5 : Vec Ideal S1x256x448 .fp8e4m3) (a w : EReal) : S1792x512.Idx → Elt Ideal .bf16 :=
  TILE x3 (LO x4 (k0_pay91 (BitVec.ofNat 32 (i 0).val) x5)) (HI x4 (k0_pay91 (BitVec.ofNat 32 (i 0).val) x5)) (scale a w)

theorem point_of {i : grid0.Coords} {x3 x3' : Vec Ideal S1792x4096 .bf16} {x4 : Vec Ideal S1x4096x256 .i8} {x5 : Vec Ideal S1x256x448 .fp8e4m3} {a w : EReal} {x9 x10 : Vec Ideal S4096x256 .bf16} {y : S1792x512.Idx}
    (e3 : x3' = x3) (e9 : x9 = LO x4 (k0_pay91 (BitVec.ofNat 32 (i 0).val) x5)) (e10 : x10 = HI x4 (k0_pay91 (BitVec.ofNat 32 (i 0).val) x5)) :
    TILE x3' x9 x10 (scale a w) y = POINT i x3 x4 x5 a w y := by
  subst e3 e9 e10; rfl

/-- A load of the whole array of block scales reads the array. -/
theorem readAt_scales (M : Memref sig .tc .vmem S1x256x448 .fp8e4m3) (h : M.IsWhole) (x : Vec Ideal S1x256x448 .fp8e4m3) (inb : ∀ a, (![0, 0, 0] : Fin 3 → Nat) a + S1x256x448.size a ≤ S1x256x448.size a) :
    View.readAt (Elt Ideal) M.view (Rect.unit (s := S1x256x448) ![0, 0, 0] S1x256x448.size inb).toLoadRect (h.unread x) = x := by
  funext y
  rw [View.readAt_apply, h.read_unread]
  refine congrArg x ?_
  funext b
  match b with
  | ⟨0, _⟩ => exact Fin.ext (by show 0 + 1 * (y 0).val = (y 0).val; omega)
  | ⟨1, _⟩ => exact Fin.ext (by show 0 + 1 * (y 1).val = (y 1).val; omega)
  | ⟨2, _⟩ => exact Fin.ext (by show 0 + 1 * (y 2).val = (y 2).val; omega)

/-- After a store of the whole work array of scales it holds what was stored. -/
theorem read_scales (M : Memref sig .tc .vmem S256x2x256 .bf16) (f : BufTy.Contents (Elt Ideal) M.view.ty) (G : S256x2x256.Idx → Elt Ideal .bf16) (inb : ∀ a, (![0, 0, 0] : Fin 3 → Nat) a + S256x2x256.size a ≤ S256x2x256.size a) :
    M.view.read (Elt Ideal) (M.view.writes (Elt Ideal) f [⟨Rect.unit (s := S256x2x256) ![0, 0, 0] S256x2x256.size inb, G⟩]) = G := by
  have hemb : ∀ x : S256x2x256.Idx, (Rect.unit (s := S256x2x256) ![0, 0, 0] S256x2x256.size inb).emb x = x := by
    intro x
    funext b
    match b with
    | ⟨0, _⟩ => exact Fin.ext (by show 0 + 1 * (x 0).val = (x 0).val; omega)
    | ⟨1, _⟩ => exact Fin.ext (by show 0 + 1 * (x 1).val = (x 1).val; omega)
    | ⟨2, _⟩ => exact Fin.ext (by show 0 + 1 * (x 2).val = (x 2).val; omega)
  funext y
  refine View.read_writes_apply_of_pieces M.view f G _ ?_ y ⟨_, .head _, ?_⟩
  · simp only [List.forall_mem_cons, List.not_mem_nil, false_imp_iff, implies_true, and_true]
    exact fun x => congrArg G (hemb x).symm
  · rw [Rect.mem_set_unit]
    intro b
    match b with
    | ⟨0, _⟩ => exact ⟨Nat.zero_le _, by have : (y 0).val < 256 := (y 0).isLt; show (y 0).val < 0 + 256; omega⟩
    | ⟨1, _⟩ => exact ⟨Nat.zero_le _, by have : (y 1).val < 2 := (y 1).isLt; show (y 1).val < 0 + 2; omega⟩
    | ⟨2, _⟩ => exact ⟨Nat.zero_le _, by have : (y 2).val < 256 := (y 2).isLt; show (y 2).val < 0 + 256; omega⟩

set_option maxHeartbeats 4000000 in
/-- The body at a point of an expert without rows. -/
theorem run_none (c : Dev nD) (i : grid0.Coords) (arg2 : Memref sig .tc .smem S4 .i32) (harg2 : arg2.IsWhole) (arg3 : Memref sig .tc .smem S4 .f32) (harg3 : arg3.IsWhole) (arg4 : Memref sig .tc .smem S4 .f32) (harg4 : arg4.IsWhole) (arg5 : Memref sig .tc .vmem S1792x4096 .bf16) (harg5 : arg5.IsWhole) (arg6 : Memref sig .tc .vmem S1x4096x256 .i8) (harg6 : arg6.IsWhole) (arg7 : Memref sig .tc .vmem S1x256x448 .fp8e4m3) (harg7 : arg7.IsWhole) (arg8 : Memref sig .tc .vmem S1792x512 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S256x2x256 .bf16) (harg11 : arg11.IsWhole)
    (x0 : Vec Ideal S4 .i32) (x1 : Vec Ideal S4 .f32) (x2 : Vec Ideal S4 .f32) (x3 : Vec Ideal S1792x4096 .bf16) (x4 : Vec Ideal S1x4096x256 .i8) (x5 : Vec Ideal S1x256x448 .fp8e4m3) (d8 : Vec Ideal S1792x512 .bf16)
    (hw1 : k0_chk1 (wd arg2 harg2 x0 (k0_off1 i) (k0_off1_inb i)))
    (hw2 : k0_chk2 i (wd arg2 harg2 x0 (k0_off1 i) (k0_off1_inb i)) (wd arg2 harg2 x0 ![0] inb_S4_S1_0) (wd arg2 harg2 x0 ![1] inb_S4_S1_1) (wd arg2 harg2 x0 ![2] inb_S4_S1_2) (wd arg2 harg2 x0 ![3] inb_S4_S1_3))
    (h1 : ¬ k0_cond1 (wd arg2 harg2 x0 (k0_off1 i) (k0_off1_inb i)) = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, ⌜∀ y, d y = d8 y⌝ ∗ owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_dx i arg2 harg2 arg3 harg3 arg4 harg4 arg5 harg5 arg6 harg6 arg7 harg7 arg8 harg8 arg9 harg9 arg10 harg10 arg11 harg11) K := by
  simp only [cc0_dx_eq_skeleton]; unfold cc0_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8', %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec_parts (disch := first | sl_exact hw1 | sl_exact hw2 | sl_exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists d8; isplitr; · ipureintro; exact fun _ => rfl
    iexists _; isplitr
    swap; · iexact H6
    ipureintro; exact harg8.read_unread _
  isplitl [H7]
  · iexists _; iexists _; isplitr
    swap; · iexact H7
    ipureintro; rfl
  isplitl [H8]
  · iexists _; iexists _; isplitr
    swap; · iexact H8
    ipureintro; rfl
  iexists _; iexists _; isplitr
  swap; · iexact H9
  ipureintro; rfl

set_option maxHeartbeats 8000000 in
/-- The body at a point of an expert with rows. -/
theorem run_some (c : Dev nD) (i : grid0.Coords) (arg2 : Memref sig .tc .smem S4 .i32) (harg2 : arg2.IsWhole) (arg3 : Memref sig .tc .smem S4 .f32) (harg3 : arg3.IsWhole) (arg4 : Memref sig .tc .smem S4 .f32) (harg4 : arg4.IsWhole) (arg5 : Memref sig .tc .vmem S1792x4096 .bf16) (harg5 : arg5.IsWhole) (arg6 : Memref sig .tc .vmem S1x4096x256 .i8) (harg6 : arg6.IsWhole) (arg7 : Memref sig .tc .vmem S1x256x448 .fp8e4m3) (harg7 : arg7.IsWhole) (arg8 : Memref sig .tc .vmem S1792x512 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S256x2x256 .bf16) (harg11 : arg11.IsWhole)
    (x0 : Vec Ideal S4 .i32) (x1 : Vec Ideal S4 .f32) (x2 : Vec Ideal S4 .f32) (x3 : Vec Ideal S1792x4096 .bf16) (x4 : Vec Ideal S1x4096x256 .i8) (x5 : Vec Ideal S1x256x448 .fp8e4m3) (d8 : Vec Ideal S1792x512 .bf16)
    (hw1 : k0_chk1 (wd arg2 harg2 x0 (k0_off1 i) (k0_off1_inb i)))
    (hw2 : k0_chk2 i (wd arg2 harg2 x0 (k0_off1 i) (k0_off1_inb i)) (wd arg2 harg2 x0 ![0] inb_S4_S1_0) (wd arg2 harg2 x0 ![1] inb_S4_S1_1) (wd arg2 harg2 x0 ![2] inb_S4_S1_2) (wd arg2 harg2 x0 ![3] inb_S4_S1_3))
    (h1 : k0_cond1 (wd arg2 harg2 x0 (k0_off1 i) (k0_off1_inb i)) = 1#1)
    (hst : 16 ∣ (startW i (wd arg2 harg2 x0 ![0] inb_S4_S1_0) (wd arg2 harg2 x0 ![1] inb_S4_S1_1) (wd arg2 harg2 x0 ![2] inb_S4_S1_2) (wd arg2 harg2 x0 ![3] inb_S4_S1_3)).toNat ∧ ∀ k : Fin (k0_t2_loop (wd arg2 harg2 x0 (k0_off1 i) (k0_off1_inb i))).trips, (startW i (wd arg2 harg2 x0 ![0] inb_S4_S1_0) (wd arg2 harg2 x0 ![1] inb_S4_S1_1) (wd arg2 harg2 x0 ![2] inb_S4_S1_2) (wd arg2 harg2 x0 ![3] inb_S4_S1_3)).toNat + 256 * k.val ≤ 1792) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, ⌜∀ y : S1792x512.Idx, ((y 0).val < (startW i (wd arg2 harg2 x0 ![0] inb_S4_S1_0) (wd arg2 harg2 x0 ![1] inb_S4_S1_1) (wd arg2 harg2 x0 ![2] inb_S4_S1_2) (wd arg2 harg2 x0 ![3] inb_S4_S1_3)).toNat → d y = d8 y) ∧ ((startW i (wd arg2 harg2 x0 ![0] inb_S4_S1_0) (wd arg2 harg2 x0 ![1] inb_S4_S1_1) (wd arg2 harg2 x0 ![2] inb_S4_S1_2) (wd arg2 harg2 x0 ![3] inb_S4_S1_3)).toNat ≤ (y 0).val → (y 0).val < (startW i (wd arg2 harg2 x0 ![0] inb_S4_S1_0) (wd arg2 harg2 x0 ![1] inb_S4_S1_1) (wd arg2 harg2 x0 ![2] inb_S4_S1_2) (wd arg2 harg2 x0 ![3] inb_S4_S1_3)).toNat + 256 * (k0_t2_loop (wd arg2 harg2 x0 (k0_off1 i) (k0_off1_inb i))).trips → d y = POINT i x3 x4 x5 (wd arg3 harg3 x1 (k0_off5 i) (k0_off5_inb i)) (wd arg4 harg4 x2 (k0_off5 i) (k0_off5_inb i)) y)⌝ ∗ owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_dx i arg2 harg2 arg3 harg3 arg4 harg4 arg5 harg5 arg6 harg6 arg7 harg7 arg8 harg8 arg9 harg9 arg10 harg10 arg11 harg11) K := by
  simp only [cc0_dx_eq_skeleton]; unfold cc0_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8', %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec_parts (disch := first | sl_exact hw1 | sl_exact hw2 | sl_exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap
    · iexists _; isplitr
      swap; · iexact H6
      ipureintro; rfl
    ipureintro
    have D := done_of hL10 hL11 ⟨rfl, rfl, hst⟩
    intro y
    refine ⟨fun h => ((D y).1 h).trans (congrFun (harg8.read_unread d8) y), fun h1 h2 => ((D y).2 h1 h2).trans ?_⟩
    have hs11 : arg11.view.read (Elt Ideal) (arg11.view.writes (Elt Ideal) arg11.view.junk (run_some.sl.H9_1 c i arg7 harg7 x5)) = k0_pay91 (BitVec.ofNat 32 (i 0).val) x5 :=
      (read_scales arg11 _ _ _).trans (congrArg (k0_pay91 (F := Ideal) (BitVec.ofNat 32 (i 0).val)) (readAt_scales arg7 harg7 x5 _))
    refine point_of (harg5.read_unread x3) ?_ ?_
    · funext q
      refine (hL3 q (q 0).isLt).trans ?_
      rw [hs11, harg6.read_unread]
    · funext q
      refine (hL5 q (q 0).isLt).trans ?_
      rw [hs11, harg6.read_unread]
  isplitl [H7]
  · iexists _; iexists _; isplitr
    swap; · iexact H7
    ipureintro; rfl
  isplitl [H8]
  · iexists _; iexists _; isplitr
    swap; · iexact H8
    ipureintro; rfl
  iexists _; iexists _; isplitr
  swap; · iexact H9
  ipureintro; rfl

end Cert.DxIdeal.Hand

end
-- ==== Proof.DxI.Spec.lean ====
/- What the body leaves in the result's block at any point: the rows of the point's expert computed, the rows before them kept. -/
module

public import proofs.«01_k».proof.Proof.DxI.Body

@[expose] public section

set_option maxRecDepth 16384

noncomputable section

namespace Cert.DxIdeal.Hand

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The point's effect on the result's block: rows before the expert's first are as found, the expert's rows are computed. -/
def Rows (i : grid0.Coords) (x0 : Vec Ideal S4 .i32) (x1 : Vec Ideal S4 .f32) (x2 : Vec Ideal S4 .f32) (x3 : Vec Ideal S1792x4096 .bf16) (x4 : Vec Ideal S1x4096x256 .i8) (x5 : Vec Ideal S1x256x448 .fp8e4m3) (d8 d : Vec Ideal S1792x512 .bf16) : Prop :=
  ∀ y : S1792x512.Idx, ((y 0).val < Groups.startN (fun j => x0 (ix1 j)) (ex i) → d y = d8 y)
    ∧ (Groups.startN (fun j => x0 (ix1 j)) (ex i) ≤ (y 0).val → (y 0).val < Groups.startN (fun j => x0 (ix1 j)) (ex i) + (x0 (ix1 (ex i))).toNat → d y = POINT i x3 x4 x5 (x1 (ix1 (ex i))) (x2 (ix1 (ex i))) y)

/-- The body at any point, of sizes that fit. -/
theorem body_spec (c : Dev nD) (i : grid0.Coords) (arg2 : Memref sig .tc .smem S4 .i32) (harg2 : arg2.IsWhole) (arg3 : Memref sig .tc .smem S4 .f32) (harg3 : arg3.IsWhole) (arg4 : Memref sig .tc .smem S4 .f32) (harg4 : arg4.IsWhole) (arg5 : Memref sig .tc .vmem S1792x4096 .bf16) (harg5 : arg5.IsWhole) (arg6 : Memref sig .tc .vmem S1x4096x256 .i8) (harg6 : arg6.IsWhole) (arg7 : Memref sig .tc .vmem S1x256x448 .fp8e4m3) (harg7 : arg7.IsWhole) (arg8 : Memref sig .tc .vmem S1792x512 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S256x2x256 .bf16) (harg11 : arg11.IsWhole)
    (x0 : Vec Ideal S4 .i32) (x1 : Vec Ideal S4 .f32) (x2 : Vec Ideal S4 .f32) (x3 : Vec Ideal S1792x4096 .bf16) (x4 : Vec Ideal S1x4096x256 .i8) (x5 : Vec Ideal S1x256x448 .fp8e4m3) (d8 : Vec Ideal S1792x512 .bf16) (hs : Groups.Fits fun j => x0 (ix1 j)) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, ⌜Rows i x0 x1 x2 x3 x4 x5 d8 d⌝ ∗ owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_dx i arg2 harg2 arg3 harg3 arg4 harg4 arg5 harg5 arg6 harg6 arg7 harg7 arg8 harg8 arg9 harg9 arg10 harg10 arg11 harg11) K := by
  have e1 := wd_eq arg2 harg2 x0 (k0_off1 i) (k0_off1_inb i) (ex i) (off1_val i)
  have e0 := wd_eq arg2 harg2 x0 ![0] inb_S4_S1_0 0 rfl
  have e2 := wd_eq arg2 harg2 x0 ![1] inb_S4_S1_1 1 rfl
  have e3 := wd_eq arg2 harg2 x0 ![2] inb_S4_S1_2 2 rfl
  have e4 := wd_eq arg2 harg2 x0 ![3] inb_S4_S1_3 3 rfl
  have hw1 : k0_chk1 (wd arg2 harg2 x0 (k0_off1 i) (k0_off1_inb i)) := by rw [e1]; exact chk1 hs (ex i)
  have hw2 : k0_chk2 i (wd arg2 harg2 x0 (k0_off1 i) (k0_off1_inb i)) (wd arg2 harg2 x0 ![0] inb_S4_S1_0) (wd arg2 harg2 x0 ![1] inb_S4_S1_1) (wd arg2 harg2 x0 ![2] inb_S4_S1_2) (wd arg2 harg2 x0 ![3] inb_S4_S1_3) := by
    rw [e1, e0, e2, e3, e4]
    exact chk2 hs i
  have hst : (startW i (wd arg2 harg2 x0 ![0] inb_S4_S1_0) (wd arg2 harg2 x0 ![1] inb_S4_S1_1) (wd arg2 harg2 x0 ![2] inb_S4_S1_2) (wd arg2 harg2 x0 ![3] inb_S4_S1_3)).toNat = Groups.startN (fun j => x0 (ix1 j)) (ex i) := by
    rw [e0, e2, e3, e4]; exact startW_eq hs i
  by_cases h1 : k0_cond1 (wd arg2 harg2 x0 (k0_off1 i) (k0_off1_inb i)) = 1#1
  · have htr : (k0_t2_loop (wd arg2 harg2 x0 (k0_off1 i) (k0_off1_inb i))).trips = ((x0 (ix1 (ex i))).toNat + 255) / 256 := by
      rw [e1]; exact Groups.blocks_trips _ (hs.le (ex i))
    have hgood : 16 ∣ (startW i (wd arg2 harg2 x0 ![0] inb_S4_S1_0) (wd arg2 harg2 x0 ![1] inb_S4_S1_1) (wd arg2 harg2 x0 ![2] inb_S4_S1_2) (wd arg2 harg2 x0 ![3] inb_S4_S1_3)).toNat ∧ ∀ k : Fin (k0_t2_loop (wd arg2 harg2 x0 (k0_off1 i) (k0_off1_inb i))).trips, (startW i (wd arg2 harg2 x0 ![0] inb_S4_S1_0) (wd arg2 harg2 x0 ![1] inb_S4_S1_1) (wd arg2 harg2 x0 ![2] inb_S4_S1_2) (wd arg2 harg2 x0 ![3] inb_S4_S1_3)).toNat + 256 * k.val ≤ 1792 := by
      rw [hst]
      refine ⟨Groups.dvd_startN hs _, fun k => ?_⟩
      have hk := k.isLt
      have := Groups.startN_add_le hs (ex i)
      have h' : k.val < ((x0 (ix1 (ex i))).toNat + 255) / 256 := htr ▸ hk
      have : 256 * k.val < (x0 (ix1 (ex i))).toNat := by omega
      omega
    refine entails_trans ?_ (run_some c i arg2 harg2 arg3 harg3 arg4 harg4 arg5 harg5 arg6 harg6 arg7 harg7 arg8 harg8 arg9 harg9 arg10 harg10 arg11 harg11 x0 x1 x2 x3 x4 x5 d8 hw1 hw2 h1 hgood E K)
    iintro ⟨H0, H1, H2, H3, H4, H5, H6, H7, H8, H9, Hk⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, ⟨%d, %hd, H6⟩, H7, H8, H9⟩
    iapply Hk
    isplitl [H0]; · iexact H0
    isplitl [H1]; · iexact H1
    isplitl [H2]; · iexact H2
    isplitl [H3]; · iexact H3
    isplitl [H4]; · iexact H4
    isplitl [H5]; · iexact H5
    isplitl [H6]
    · iexists d; isplitr
      swap; · iexact H6
      ipureintro
      intro y
      obtain ⟨a, b⟩ := hd y
      rw [hst] at a b
      rw [htr, wd_eq arg3 harg3 x1 (k0_off5 i) (k0_off5_inb i) (ex i) (off5_val i), wd_eq arg4 harg4 x2 (k0_off5 i) (k0_off5_inb i) (ex i) (off5_val i)] at b
      exact ⟨a, fun u v => b u (by omega)⟩
    isplitl [H7]; · iexact H7
    isplitl [H8]; · iexact H8
    iexact H9
  · have hz : (x0 (ix1 (ex i))).toNat = 0 := by
      by_contra hne
      exact h1 (e1 ▸ (Groups.condP_iff _ (hs.le (ex i))).mpr (Nat.pos_of_ne_zero hne))
    refine entails_trans ?_ (run_none c i arg2 harg2 arg3 harg3 arg4 harg4 arg5 harg5 arg6 harg6 arg7 harg7 arg8 harg8 arg9 harg9 arg10 harg10 arg11 harg11 x0 x1 x2 x3 x4 x5 d8 hw1 hw2 h1 E K)
    iintro ⟨H0, H1, H2, H3, H4, H5, H6, H7, H8, H9, Hk⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, ⟨%d, %hd, H6⟩, H7, H8, H9⟩
    iapply Hk
    isplitl [H0]; · iexact H0
    isplitl [H1]; · iexact H1
    isplitl [H2]; · iexact H2
    isplitl [H3]; · iexact H3
    isplitl [H4]; · iexact H4
    isplitl [H5]; · iexact H5
    isplitl [H6]
    · iexists d; isplitr
      swap; · iexact H6
      ipureintro
      intro y
      exact ⟨fun _ => hd y, fun u v => absurd v (by omega)⟩
    isplitl [H7]; · iexact H7
    isplitl [H8]; · iexact H8
    iexact H9

end Cert.DxIdeal.Hand

end
-- ==== Proof.DxI.Cell.lean ====
/- One element of the input gradient, and the kernel's block element as such an element. -/
module

public import proofs.«01_k».proof.Proof.DxI.Pick
public import proofs.«01_k».proof.Proof.DxI.Codes
public import proofs.«01_k».proof.Proof.DxI.Spec

@[expose] public section

set_option maxRecDepth 16384

noncomputable section

namespace Cert.DxIdeal.Hand

open Cert.DxIdeal Cert.DxIdeal.Gen
open Idealize.ShloMosaic Idealize.ShloMosaic.TcCoe Idealize.ShloMosaic.Tactic

/-- A decoded weight: the code's value times its block's scale. Even columns are the bytes' low codes, odd columns the high. -/
def weight (x4 : Vec Ideal S4x4096x3584 .i8) (x5 : Vec Ideal S4x256x448 .fp8e4m3) (e : Fin 4) (j : Fin 4096) (n : Fin 7168) : EReal :=
  ((Nibble.val (if n.val % 2 = 0 then Nibble.lowCode (x4 (ix3 e j (⟨n.val / 2, by omega⟩ : Fin 3584))) else Nibble.highCode (x4 (ix3 e j (⟨n.val / 2, by omega⟩ : Fin 3584)))) : ℝ) : EReal)
    * x5 (ix3 e (⟨j.val / 16, by omega⟩ : Fin 256) (⟨n.val / 16, by omega⟩ : Fin 448))

/-- An element of the input gradient for a row of group `e`: the row times a column of the group's decoded weights, times the group's scale. -/
def cell (x1 x2 : Vec Ideal S4 .f32) (x3 : Vec Ideal S1792x4096 .bf16) (x4 : Vec Ideal S4x4096x3584 .i8) (x5 : Vec Ideal S4x256x448 .fp8e4m3) (e : Fin 4) (r : Fin 1792) (n : Fin 7168) : EReal :=
  (∑ j : Fin 4096, (x3 (ix2 r j) : EReal) * weight x4 x5 e j n) * scale (x1 (ix1 e)) (x2 (ix1 e))

/-- An element of a point's block, from the whole arrays. -/
theorem POINT_apply (i : grid0.Coords) (x3 : Vec Ideal S1792x4096 .bf16) (X4 : Vec Ideal S1x4096x256 .i8) (X5 : Vec Ideal S1x256x448 .fp8e4m3)
    (x4 : Vec Ideal S4x4096x3584 .i8) (x5 : Vec Ideal S4x256x448 .fp8e4m3) (e : Fin 4) (a w : EReal)
    (h4 : ∀ (j : Fin 4096) (b : Fin 256) (B : Fin 3584), B.val = 256 * (i 0).val + b.val → X4 (ix3 (0 : Fin 1) j b) = x4 (ix3 e j B))
    (h5 : ∀ (p : Fin 256) (q : Fin 448), X5 (ix3 (0 : Fin 1) p q) = x5 (ix3 e p q))
    (r : Fin 1792) (q : Fin 512) (n : Fin 7168) (hn : n.val = 512 * (i 0).val + q.val) :
    POINT i x3 X4 X5 a w (ix2 r q) = (∑ j : Fin 4096, (x3 (ix2 r j) : EReal) * weight x4 x5 e j n) * scale a w := by
  have hg : (i 0).val < 14 := (i 0).isLt
  have hq := q.isLt
  unfold POINT TILE dotT
  refine congrArg (· * scale a w) (Finset.sum_congr rfl fun j _ => congrArg (fun z : EReal => x3 (ix2 r j) * z) ?_)
  have hj := j.isLt
  unfold weight
  have hC : (⟨n.val / 2, by omega⟩ : Fin 3584).val = 256 * (i 0).val + (⟨q.val / 2, by omega⟩ : Fin 256).val := by show n.val / 2 = _ + q.val / 2; omega
  have hK : (⟨n.val / 16, by omega⟩ : Fin 448).val = 32 * (i 0).val + (⟨q.val / 2, by omega⟩ : Fin 256).val / 8 := by show n.val / 16 = _ + q.val / 2 / 8; omega
  have e4 := h4 j ⟨q.val / 2, by omega⟩ ⟨n.val / 2, by omega⟩ hC
  have e5 := h5 (⟨j.val / 16, by omega⟩ : Fin 256) (⟨n.val / 16, by omega⟩ : Fin 448)
  have e91 := (pay91_apply (BitVec.ofNat 32 (i 0).val) X5 (⟨j.val / 16, by omega⟩ : Fin 256) (⟨j.val % 2, Nat.mod_lt _ (by decide)⟩ : Fin 2) (⟨q.val / 2, by omega⟩ : Fin 256)).trans
    (spread_eq (i 0).val hg X5 _ _ _ hK)
  by_cases hp : q.val % 2 = 0
  · have hp' : n.val % 2 = 0 := by omega
    refine (congrFun (if_pos hp : (if q.val % 2 = 0 then LO X4 _ else HI X4 _) = _) _).trans ?_
    rw [if_pos hp']
    show (FloatOps.ofBits (F := Ideal) .fp8e4m3 (Nibble.lo (X4 (ix3 (0 : Fin 1) j ⟨q.val / 2, _⟩))) * k0_pay91 (BitVec.ofNat 32 (i 0).val) X5 (ix3 (⟨j.val / 16, _⟩ : Fin 256) (⟨j.val % 2, _⟩ : Fin 2) (⟨q.val / 2, _⟩ : Fin 256)) : EReal) = _
    rw [e91, e4, e5, Nibble.lo_code, Nibble.pattern_mul]
  · have hp' : ¬ n.val % 2 = 0 := by omega
    refine (congrFun (if_neg hp : (if q.val % 2 = 0 then LO X4 _ else HI X4 _) = _) _).trans ?_
    rw [if_neg hp']
    show (FloatOps.ofBits (F := Ideal) .fp8e4m3 (Nibble.hi (X4 (ix3 (0 : Fin 1) j ⟨q.val / 2, _⟩))) * k0_pay91 (BitVec.ofNat 32 (i 0).val) X5 (ix3 (⟨j.val / 16, _⟩ : Fin 256) (⟨j.val % 2, _⟩ : Fin 2) (⟨q.val / 2, _⟩ : Fin 256)) : EReal) = _
    rw [e91, e4, e5, Nibble.hi_code, Nibble.pattern_mul]

end Cert.DxIdeal.Hand

end
-- ==== Proof.DxI.Frame.lean ====
/- The kernel's run: from group sizes that fit it terminates and leaves its arguments as they were, and the rows of the groups done so far are what they should be. -/
module

public import proofs.«01_k».proof.Proof.DxI.Cell
public import Idealize.ShloMosaic.Lib.Pipeline.DatRel
public import Idealize.ShloMosaic.Lib.Pipeline.ArrRel

@[expose] public section

set_option maxRecDepth 16384

noncomputable section

namespace Cert.DxIdeal.Hand

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-- A group ends where, or before, a later one starts. -/
theorem startN_mono (s : Fin 4 → BitVec 32) (e e' : Fin 4) (h : e.val < e'.val) : Groups.startN s e + (s e).toNat ≤ Groups.startN s e' := by
  unfold Groups.startN
  have he := e.isLt
  have he' := e'.isLt
  obtain rfl | rfl | rfl | rfl : e = 0 ∨ e = 1 ∨ e = 2 ∨ e = 3 := by omega
  all_goals split_ifs <;> simp_all <;> omega

/-- The group sizes held at the launch. -/
def sizes (c : Dev nD) : Fin 4 → BitVec 32 := fun j => (m ((c : Thread nD τ).loc main_arg0) : Vec Ideal S4 .i32) (ix1 j)

/-- The group sizes held at the launch fit, on every device. -/
def SizesFit : Prop := ∀ c : Dev nD, Groups.Fits fun j => (m ((c : Thread nD τ).loc main_arg0) : Vec Ideal S4 .i32) (ix1 j)

abbrev ms0_0 (t : Fin cfg0.N) := win0_0.stage (cfg0.slots t 0)
theorem hs0_0 (t : Fin cfg0.N) : (ms0_0 t).IsWhole := hstage0_0 ((cfg0.slots t 0).cast nbuf0_0)
abbrev ms0_1 (t : Fin cfg0.N) := win0_1.stage (cfg0.slots t 1)
theorem hs0_1 (t : Fin cfg0.N) : (ms0_1 t).IsWhole := hstage0_1 ((cfg0.slots t 1).cast nbuf0_1)
abbrev ms0_2 (t : Fin cfg0.N) := win0_2.stage (cfg0.slots t 2)
theorem hs0_2 (t : Fin cfg0.N) : (ms0_2 t).IsWhole := hstage0_2 ((cfg0.slots t 2).cast nbuf0_2)
abbrev ms0_3 (t : Fin cfg0.N) := win0_3.stage (cfg0.slots t 3)
theorem hs0_3 (t : Fin cfg0.N) : (ms0_3 t).IsWhole := hstage0_3 ((cfg0.slots t 3).cast nbuf0_3)
abbrev ms0_4 (t : Fin cfg0.N) := win0_4.stage (cfg0.slots t 4)
theorem hs0_4 (t : Fin cfg0.N) : (ms0_4 t).IsWhole := hstage0_4 ((cfg0.slots t 4).cast nbuf0_4)
abbrev ms0_5 (t : Fin cfg0.N) := win0_5.stage (cfg0.slots t 5)
theorem hs0_5 (t : Fin cfg0.N) : (ms0_5 t).IsWhole := hstage0_5 ((cfg0.slots t 5).cast nbuf0_5)
abbrev ms0_6 (t : Fin cfg0.N) := win0_6.stage (cfg0.slots t 6)
theorem hs0_6 (t : Fin cfg0.N) : (ms0_6 t).IsWhole := hstage0_6 ((cfg0.slots t 6).cast nbuf0_6)

/-- The block of the sizes a point is given is the sizes' array. -/
theorem iblk0_eq (c : Dev nD) (t : Fin cfg0.N) (j : Fin 4) :
    (iblk m c 0 t : Vec Ideal S4 .i32) (ix1 j) = (m ((c : Thread nD τ).loc main_arg0) : Vec Ideal S4 .i32) (ix1 j) := by
  unfold iblk
  rw [View.read_apply, cast_eq]
  show m ((c : Thread nD τ).loc main_arg0) _ = _
  congr 1
  funext a
  match a with
  | ⟨0, _⟩ => exact Fin.ext (show 0 * 4 + 1 * j.val = j.val by omega)

theorem iblk1_eq (c : Dev nD) (t : Fin cfg0.N) (j : Fin 4) :
    (iblk m c 1 t : Vec Ideal S4 .f32) (ix1 j) = (m ((c : Thread nD τ).loc main_arg1) : Vec Ideal S4 .f32) (ix1 j) := by
  unfold iblk
  rw [View.read_apply, cast_eq]
  show m ((c : Thread nD τ).loc main_arg1) _ = _
  congr 1
  funext a
  match a with
  | ⟨0, _⟩ => exact Fin.ext (show 0 * 4 + 1 * j.val = j.val by omega)

theorem iblk2_eq (c : Dev nD) (t : Fin cfg0.N) (j : Fin 4) :
    (iblk m c 2 t : Vec Ideal S4 .f32) (ix1 j) = (m ((c : Thread nD τ).loc main_arg2) : Vec Ideal S4 .f32) (ix1 j) := by
  unfold iblk
  rw [View.read_apply, cast_eq]
  show m ((c : Thread nD τ).loc main_arg2) _ = _
  congr 1
  funext a
  match a with
  | ⟨0, _⟩ => exact Fin.ext (show 0 * 4 + 1 * j.val = j.val by omega)

/-- A point's block of the rows: all of them. -/
theorem iblk3_eq (c : Dev nD) (t : Fin cfg0.N) :
    (iblk m c 3 t : Vec Ideal S1792x4096 .bf16) = (m ((c : Thread nD τ).loc main_arg3) : Vec Ideal S1792x4096 .bf16) := by
  funext y
  unfold iblk
  rw [View.read_apply, cast_eq]
  show m ((c : Thread nD τ).loc main_arg3) _ = m ((c : Thread nD τ).loc main_arg3) _
  congr 1
  funext a
  match a with
  | ⟨0, _⟩ => exact Fin.ext (show 0 * 1792 + 1 * (y 0).val = (y 0).val by omega)
  | ⟨1, _⟩ => exact Fin.ext (show 0 * 4096 + 1 * (y 1).val = (y 1).val by omega)

theorem index4 : ∀ t : Fin cfg0.N, win0_4.index t = ![(grid0.coords t 1).val, 0, (grid0.coords t 0).val] :=
  (by decide +kernel : ∀ t : Fin grid0.N, win0_4.index t = ![(grid0.coords t 1).val, 0, (grid0.coords t 0).val])

theorem index5 : ∀ t : Fin cfg0.N, win0_5.index t = ![(grid0.coords t 1).val, 0, 0] :=
  (by decide +kernel : ∀ t : Fin grid0.N, win0_5.index t = ![(grid0.coords t 1).val, 0, 0])

theorem index6 : ∀ t : Fin cfg0.N, win0_6.index t = ![0, (grid0.coords t 0).val] :=
  (by decide +kernel : ∀ t : Fin grid0.N, win0_6.index t = ![0, (grid0.coords t 0).val])

/-- A point's block of the codes: its group's, 256 columns of them. -/
theorem iblk4_eq (c : Dev nD) (t : Fin cfg0.N) (j : Fin 4096) (b : Fin 256) (B : Fin 3584) (hB : B.val = 256 * (grid0.coords t 0).val + b.val) :
    (iblk m c 4 t : Vec Ideal S1x4096x256 .i8) (ix3 (0 : Fin 1) j b) = (m ((c : Thread nD τ).loc main_arg4) : Vec Ideal S4x4096x3584 .i8) (ix3 (ex (grid0.coords t)) j B) := by
  unfold iblk
  rw [View.read_apply, cast_eq]
  show m ((c : Thread nD τ).loc main_arg4) _ = _
  have e := index4 t
  congr 1
  funext a
  match a with
  | ⟨0, _⟩ =>
    refine Fin.ext ?_
    show win0_4.index t 0 * 1 + 1 * 0 = (grid0.coords t 1).val
    rw [e]; show (grid0.coords t 1).val * 1 + 1 * 0 = (grid0.coords t 1).val; omega
  | ⟨1, _⟩ =>
    refine Fin.ext ?_
    show win0_4.index t 1 * 4096 + 1 * j.val = j.val
    rw [e]; show 0 * 4096 + 1 * j.val = j.val; omega
  | ⟨2, _⟩ =>
    refine Fin.ext ?_
    show win0_4.index t 2 * 256 + 1 * b.val = B.val
    rw [e]; show (grid0.coords t 0).val * 256 + 1 * b.val = B.val; omega

/-- A point's block of the scales: its group's. -/
theorem iblk5_eq (c : Dev nD) (t : Fin cfg0.N) (p : Fin 256) (q : Fin 448) :
    (iblk m c 5 t : Vec Ideal S1x256x448 .fp8e4m3) (ix3 (0 : Fin 1) p q) = (m ((c : Thread nD τ).loc main_arg5) : Vec Ideal S4x256x448 .fp8e4m3) (ix3 (ex (grid0.coords t)) p q) := by
  unfold iblk
  rw [View.read_apply, cast_eq]
  show m ((c : Thread nD τ).loc main_arg5) _ = _
  have e := index5 t
  congr 1
  funext a
  match a with
  | ⟨0, _⟩ =>
    refine Fin.ext ?_
    show win0_5.index t 0 * 1 + 1 * 0 = (grid0.coords t 1).val
    rw [e]; show (grid0.coords t 1).val * 1 + 1 * 0 = (grid0.coords t 1).val; omega
  | ⟨1, _⟩ =>
    refine Fin.ext ?_
    show win0_5.index t 1 * 256 + 1 * p.val = p.val
    rw [e]; show 0 * 256 + 1 * p.val = p.val; omega
  | ⟨2, _⟩ =>
    refine Fin.ext ?_
    show win0_5.index t 2 * 448 + 1 * q.val = q.val
    rw [e]; show 0 * 448 + 1 * q.val = q.val; omega

variable {m} in
theorem fits_iblk (hH : SizesFit m) (c : Dev nD) (t : Fin cfg0.N) : Groups.Fits fun j => (iblk m c 0 t : Vec Ideal S4 .i32) (ix1 j) := by
  have h : (fun j => (iblk m c 0 t : Vec Ideal S4 .i32) (ix1 j)) = fun j => (m ((c : Thread nD τ).loc main_arg0) : Vec Ideal S4 .i32) (ix1 j) :=
    funext fun j => iblk0_eq m c t j
  rw [h]; exact hH c

/-- The pipeline's proof data: each input's block left in place; what the result's block then holds is related, not named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The one window whose contents are related: the result's. -/
def fgt (w : Fin cfg0.W) : Bool := w.val == 6

/-- A block of the result after a point: the rows of every group up to the point's are done. -/
def Filled (c : Dev nD) (t : Fin cfg0.N) (X : Vec Ideal S1792x512 .bf16) : Prop :=
  ∀ (e : Fin 4) (r : Fin 1792) (q : Fin 512) (n : Fin 7168), e.val ≤ (grid0.coords t 1).val → n.val = 512 * (grid0.coords t 0).val + q.val →
    Groups.startN (sizes m c) e ≤ r.val → r.val < Groups.startN (sizes m c) e + (sizes m c e).toNat →
    X (ix2 r q) = cell (m ((c : Thread nD τ).loc main_arg1)) (m ((c : Thread nD τ).loc main_arg2)) (m ((c : Thread nD τ).loc main_arg3)) (m ((c : Thread nD τ).loc main_arg4)) (m ((c : Thread nD τ).loc main_arg5)) e r n

/-- What is said of what a point leaves in its blocks. -/
def Rl (c : Dev nD) : (w : Fin cfg0.W) → (t : Fin cfg0.N) → ((cfg0.win w).block.Idx → Elt Ideal (cfg0.win w).elt) → Prop
  | ⟨6, _⟩, t, X => Filled m c t X
  | _, _, _ => True

/-- The relational proof data. -/
abbrev rdat (c : Dev nD) : RDat τ (Elt Ideal) Unit ℕ (UR sig nD τ) ℕ cfg0 c := (dats m 0 c).toRRel fgt (Rl m c)

/-- The point before. -/
def prev (t : Fin cfg0.N) : Fin cfg0.N := ⟨t.val - 1, Nat.lt_of_le_of_lt (Nat.sub_le _ _) t.isLt⟩

theorem prev6 : ∀ t : Fin cfg0.N, (grid0.coords t 1).val ≠ 0 → win0_6.flush (prev t) = false
    ∧ (grid0.coords (prev t) 0).val = (grid0.coords t 0).val
    ∧ (grid0.coords (prev t) 1).val + 1 = (grid0.coords t 1).val :=
  (by decide +kernel : ∀ t : Fin grid0.N, (grid0.coords t 1).val ≠ 0 → win0_6.flush (prev t) = false
    ∧ (grid0.coords (prev t) 0).val = (grid0.coords t 0).val
    ∧ (grid0.coords (prev t) 1).val + 1 = (grid0.coords t 1).val)

theorem first6 : ∀ t : Fin cfg0.N, (grid0.coords t 1).val ≠ 0 → t.val ≠ 0 :=
  (by decide +kernel : ∀ t : Fin grid0.N, (grid0.coords t 1).val ≠ 0 → t.val ≠ 0)

/-- What a point finds in the result's block: after the first group's point, the earlier groups' rows are done. -/
theorem found (c : Dev nD) (t : Fin cfg0.N) (Y) (hY : (rdat m c).Finds 6 t Y) (h1 : (grid0.coords t 1).val ≠ 0) (e : Fin 4) (r : Fin 1792) (q : Fin 512) (n : Fin 7168)
    (he : e.val < (grid0.coords t 1).val) (hn : n.val = 512 * (grid0.coords t 0).val + q.val)
    (hlo : Groups.startN (sizes m c) e ≤ r.val) (hhi : r.val < Groups.startN (sizes m c) e + (sizes m c e).toNat) :
    (Y : Vec Ideal S1792x512 .bf16) (ix2 r q) = cell (m ((c : Thread nD τ).loc main_arg1)) (m ((c : Thread nD τ).loc main_arg2)) (m ((c : Thread nD τ).loc main_arg3)) (m ((c : Thread nD τ).loc main_arg4)) (m ((c : Thread nD τ).loc main_arg5)) e r n := by
  have ht := first6 t h1
  obtain ⟨hfl, g0, g1⟩ := prev6 t h1
  have hL := ((RDat.finds_of_pos (rdat m c) (w := 6) (t := t) rfl ht Y).mp hY).resolve_left fun h => Bool.false_ne_true (hfl.symm.trans h)
  have hR : Filled m c (prev t) Y := Dat.toRRel_leaves (dats m 0 c) (w := 6) rfl hL
  exact hR e r q n (by omega) (by omega) hlo hhi

/-- A point's step: what it finds, with its own group's rows written, is what it should leave. -/
theorem filled (hH : SizesFit m) (c : Dev nD) (t : Fin cfg0.N) (Y) (hY : (rdat m c).Finds 6 t Y) (X : Vec Ideal S1792x512 .bf16)
    (hX : Rows (grid0.coords t) (iblk m c 0 t) (iblk m c 1 t) (iblk m c 2 t) (iblk m c 3 t) (iblk m c 4 t) (iblk m c 5 t) Y X) : Filled m c t X := by
  intro e r q n he hn hlo hhi
  have e0 : (fun j => (iblk m c 0 t : Vec Ideal S4 .i32) (ix1 j)) = sizes m c := funext fun j => iblk0_eq m c t j
  have hx := hX (ix2 r q)
  rw [e0, iblk0_eq, iblk1_eq, iblk2_eq] at hx
  obtain ⟨ho, hd⟩ := hx
  by_cases hee : e.val = (grid0.coords t 1).val
  · have hex : e = ex (grid0.coords t) := Fin.ext hee
    subst hex
    refine (hd hlo hhi).trans ?_
    have e3 : (iblk m c 3 t : Vec Ideal S1792x4096 .bf16) = (m ((c : Thread nD τ).loc main_arg3) : Vec Ideal S1792x4096 .bf16) := iblk3_eq m c t
    rw [e3]
    exact POINT_apply (grid0.coords t) _ _ _ _ _ _ _ _ (fun j b B hB => iblk4_eq m c t j b B hB) (fun p q => iblk5_eq m c t p q) r q n hn
  · have hlt : e.val < (grid0.coords t 1).val := by omega
    have hst : Groups.startN (sizes m c) e + (sizes m c e).toNat ≤ Groups.startN (sizes m c) (ex (grid0.coords t)) := startN_mono (sizes m c) e _ hlt
    exact (ho (Nat.lt_of_lt_of_le hhi hst)).trans (found m c t Y hY (by omega) e r q n hlt hn hlo hhi)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Filled m c t X⌝ ∗ owns (c : Thread nD τ) (ms0_6 t) fullShare X))

set_option maxHeartbeats 1600000 in
/-- The body at any point, from the blocks the pipeline hands it to the blocks of the proof data. -/
theorem sound_body (hH : SizesFit m) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  simp only [← owns_whole]
  iintro ⟨⟨⟨⟨%f9, H9⟩, ⟨%f10, H10⟩, ⟨%f11, H11⟩⟩, HP⟩, Ho, ⟨%d0, H0⟩, ⟨%d1, H1⟩, ⟨%d2, H2⟩, ⟨%d3, H3⟩, ⟨%d4, H4⟩, ⟨%d5, H5⟩, ⟨%d6, %hd6, H6⟩⟩
  iapply (body_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) d6 (fits_iblk hH c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H9]; · iexists _; iexact H9
  isplitl [H10]; · iexists _; iexact H10
  isplitl [H11]; · iexists _; iexact H11
  iintro ⟨H0, H1, H2, H3, H4, H5, ⟨%d8, %hd8, H6⟩, ⟨%g9, H9⟩, ⟨%g10, H10⟩, ⟨%g11, H11⟩⟩
  isplitl [H9 H10 H11 HP]
  · isplitl [H9 H10 H11]
    · isplitl [H9]; · iexists _; iexact H9
      isplitl [H10]; · iexists _; iexact H10
      iexists _; iexact H11
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr
  swap; · iexact H6
  ipureintro; exact filled m hH c t d6 hd6 d8 hd8

theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (hH : SizesFit m) (c : Dev nD) : BodyObligationRel (dats m 0 c) (defs₀ (F := Ideal)) Variants.none () Set.univ fgt (Rl m c) := fun t => by
  rw [bigSep_W0, bigSep_W0, defs₀_row]
  exact triple_restated (sound_body m hH c t) rfl .rfl fun _ => .rfl

-- `θ_run_frame`'s implicit arguments are found by unifying its conclusion with this one, which takes unfolding plain
-- definitions in a metavariable's type
set_option backward.isDefEq.respectTransparency.types false in
/-- The launch: every execution ends, with every array at what the proof data gives and every semaphore counter at zero. -/
theorem run_main_quiescent (hH : SizesFit m) : θ_run defs (onTc (τ := τ) (main (F := Ideal))) (s₀ m ρ) (fun r => (RDat.FramePost cfg0 (rdat m) (V m)) r ∧ r.2.sem = fun _ => 0) :=
  Pipeline.RDat.θ_run_frame (Q' := _) cfgs (0 : Fin 1) launch0 defs₀ Variants.none (rdat m) m ρ main
    (hbody := fun c => (body_obligation m hH c).toRRel) (hshare := fun c => (dats m 0 c).share_full fun _ => rfl)
    (howed := fun _ _ => rfl) (V := V m) (hmain := hmain m Variants.none) (hA := A_eq m) (hΦ := fun _ _ => rfl)

theorem run_main (hH : SizesFit m) : θ_run defs (onTc (τ := τ) (main (F := Ideal))) (s₀ m ρ) (RDat.FramePost cfg0 (rdat m) (V m)) :=
  (θ_run defs _ _).mono (fun _ h => h.1) (run_main_quiescent m ρ hH)

/-- The argument arrays end unchanged. -/
theorem unchanged_of {r} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 0 rfl).trans (V_main_arg0 m c),
      (RDat.FramePost.arr_in h c 1 rfl).trans (V_main_arg1 m c),
      (RDat.FramePost.arr_in h c 2 rfl).trans (V_main_arg2 m c),
      (RDat.FramePost.arr_in h c 3 rfl).trans (V_main_arg3 m c),
      (RDat.FramePost.arr_in h c 4 rfl).trans (V_main_arg4 m c),
      (RDat.FramePost.arr_in h c 5 rfl).trans (V_main_arg5 m c)⟩

/-- The frame claim, of sizes that fit. -/
theorem frame (hH : SizesFit m) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨unchanged_of m h.1, h.2⟩) (run_main_quiescent m ρ hH)

end Cert.DxIdeal.Hand

end
-- ==== Proof.Grp.Fill.lean ====
/- The precondition that the groups fill the rows, decoded. -/
module

public import proofs.«01_k».proof.Proof.Gen.Pre_groups_fill
public import Idealize.ShloMosaic.Lib.Affine
public import Idealize.ShloMosaic.Lib.WordCmp
public import Idealize.ShloMosaic.Lib.StableHlo.Predicate
public import Idealize.ShloMosaic.Lib.Pointwise

public import proofs.«01_k».proof.Proof.Grp.Words

@[expose] public section

noncomputable section

namespace Cert.Groups

open Idealize.ShloMosaic

open Cert.Pre_groups_fill Cert.Pre_groups_fill.Gen

private theorem andi_ofBool (a b : Bool) : IntOp.andi (BitVec.ofBool a) (BitVec.ofBool b) = BitVec.ofBool (a && b) := by
  cases a <;> cases b <;> rfl
private theorem ofBool_eq_one (a : Bool) : BitVec.ofBool a = 1#1 ↔ a = true := by cases a <;> decide

/-- The kernel's remainder by sixteen of a word between 0 and 1792 is zero only at a multiple of 16. -/
theorem dvd_of_rem_fill {F : FTy → Type} [FloatOps F] (s : IVec S4 32) (y : S4.Idx) (h : (s y).toNat ≤ 1792)
    (e : fn_remainder (F := F) s (constantI S_ 32 16#32) y = 0#32) : 16 ∣ (s y).toNat := by
  have hr : (IntOp.remsi .host (s y) 16#32).toNat = (s y).toNat % 16 :=
    IntOp.toNat_remsi .host (by omega) 16 (by decide) (by decide)
  have hsl : IntOp.cmpi .slt (IntOp.remsi .host (s y) 16#32) 0#32 = 0#1 := by
    simp only [IntOp.cmpi, BitVec.slt]
    rw [BitVec.toInt_eq_toNat_of_lt (by omega), hr]
    have : ¬ (((s y).toNat % 16 : Nat) : Int) < 0 := by omega
    rw [show (0#32 : BitVec 32).toInt = 0 from by decide, decide_eq_false this]; rfl
  have e' : ∀ D : BitVec 32, (if IntOp.cmpi .eq 16#32 0#32 = 1 then 1#32 else 16#32) = D →
      (if IntOp.andi (IntOp.cmpi .ne (IntOp.cmpi .slt (IntOp.remsi .host (s y) D) 0#32) (IntOp.cmpi .slt D 0#32)) (IntOp.cmpi .ne (IntOp.remsi .host (s y) D) 0#32) = 1
      then IntOp.addi (IntOp.remsi .host (s y) D) D else IntOp.remsi .host (s y) D) = 0#32 := fun D hD => by subst hD; exact e
  replace e' := e' 16#32 (by decide)
  rw [hsl, show IntOp.cmpi .slt (16#32) (0#32) = 0#1 from by decide, show IntOp.cmpi .ne (0#1) (0#1) = 0#1 from by decide, show ∀ b : BitVec 1, IntOp.andi 0#1 b = 0#1 from by decide, if_neg (by decide)] at e'
  exact (IntOp.remsi_eq_zero_iff .host (by omega) 16 (by decide) (by decide)).1 e'

/-- The sum of the four sizes as the precondition forms it. -/
theorem sum_words_fill (s : IVec S4 32) (hs : ∀ j : Fin 4, (s (ix1 j)).toNat ≤ 1792) (j : S_.Idx) :
    (Host.reduce IntOp.addi s (constantI S_ 32 0#32) reducesTo_S4_S_d0 h_S_ j).toNat = ∑ k : Fin 4, (s (ix1 k)).toNat := by
  rw [Host.reduce_eq_fold]
  have hu : (Finset.univ.filter fun i : S4.Idx => reducesTo_S4_S_d0.drop i = j) = Finset.univ :=
    Finset.filter_true_of_mem fun i _ => funext fun a => a.elim0
  rw [hu]
  have hsum : ∑ i : S4.Idx, (s i).toNat = ∑ k : Fin 4, (s (ix1 k)).toNat := sum_idx1 (n0 := 4) fun i => (s i).toNat
  refine (StableHlo.Predicate.toNat_fold_addi _ _ ?_).trans hsum
  rw [hsum, Fin.sum_univ_four]
  have := hs 0; have := hs 1; have := hs 2; have := hs 3
  omega

/-- What the precondition says of the four group sizes: each a multiple of 16, together the 1792 rows there are. -/
structure Fills (s : Fin 4 → BitVec 32) : Prop extends Fits s where
  all : (s 0).toNat + (s 1).toNat + (s 2).toNat + (s 3).toNat = 1792

/-- The precondition, decoded. -/
theorem fills_of_pre {F : FTy → Type} [FloatOps F] (s : IVec S4 32) (a b : FVec F S4 .f32) (p : FVec F S1792x4096 .bf16) (w : IVec S4x4096x3584 8) (q : FVec F S4x256x448 .fp8e4m3)
    (h : fn s a b p w q = fun _ => 1#1) : Fills fun j => s (ix1 j) := by
  have key : ∀ y : S4.Idx, ((s y).toNat ≤ 1792 ∧ fn_remainder (F := F) s (constantI S_ 32 16#32) y = 0#32)
      ∧ IntOp.cmpi .eq (Host.reduce IntOp.addi s (constantI S_ 32 0#32) reducesTo_S4_S_d0 h_S_ (fun a => a.elim0)) 1792#32 = 1#1 := by
    intro y
    have e : IntOp.andi (IntOp.andi (IntOp.andi (IntOp.cmpi .sge (s y) 0#32) (IntOp.cmpi .sle (s y) 1792#32))
        (IntOp.cmpi .eq (fn_remainder (F := F) s (constantI S_ 32 16#32) y) 0#32))
        (broadcastInDim S4 ![] bcast_S_S4 (fun j => IntOp.cmpi .eq (Host.reduce IntOp.addi s (constantI S_ 32 0#32) reducesTo_S4_S_d0 h_S_ j) 1792#32) y) = 1#1 := congrFun h y
    have hb : ∀ (f : S_.Idx → BitVec 1), broadcastInDim S4 ![] bcast_S_S4 f y = f (fun a => a.elim0) := fun f =>
      congrArg f (funext fun a => a.elim0)
    rw [hb] at e
    rw [IntOp.andi_eq_one, IntOp.andi_eq_one, IntOp.andi_eq_one, IntOp.cmpi_sge] at e
    obtain ⟨⟨⟨h0, h1⟩, h2⟩, h3⟩ := e
    refine ⟨⟨?_, ?_⟩, h3⟩
    · rw [IntOp.cmpi, ofBool_eq_one, BitVec.sle_iff_toInt_le] at h1
      have : (0#32 : BitVec 32).toInt = 0 := by decide
      have : (1792#32 : BitVec 32).toInt = 1792 := by decide
      have := BitVec.toInt_eq_toNat_cond (s y)
      split at this <;> omega
    · rw [IntOp.cmpi, ofBool_eq_one] at h2; simpa using h2
  have hle : ∀ j : Fin 4, (s (ix1 j)).toNat ≤ 1792 := fun j => (key (ix1 j)).1.1
  have h3 := (key (ix1 0)).2
  have hs := sum_words_fill s hle (fun a => a.elim0)
  rw [IntOp.cmpi, ofBool_eq_one, beq_iff_eq] at h3
  rw [Fin.sum_univ_four, h3] at hs
  have h : (1792#32 : BitVec 32).toNat = 1792 := by decide
  refine ⟨⟨hle, fun j => dvd_of_rem_fill s _ (hle j) (key (ix1 j)).1.2, ?_⟩, ?_⟩
  · show (s (ix1 0)).toNat + (s (ix1 1)).toNat + (s (ix1 2)).toNat + (s (ix1 3)).toNat ≤ 1792
    omega
  · show (s (ix1 0)).toNat + (s (ix1 1)).toNat + (s (ix1 2)).toNat + (s (ix1 3)).toNat = 1792
    omega

/-- With the sizes filling the rows, every row is a group's. -/
theorem Fills.group {s : Fin 4 → BitVec 32} (h : Fills s) (r : Nat) (hr : r < 1792) : ∃ e : Fin 4, startN s e ≤ r ∧ r < startN s e + (s e).toNat := by
  have ha := h.all
  by_cases h0 : r < (s 0).toNat
  · exact ⟨0, by simp [startN], by simpa [startN] using h0⟩
  by_cases h1 : r < (s 0).toNat + (s 1).toNat
  · exact ⟨1, by simp [startN]; omega, by simpa [startN] using h1⟩
  by_cases h2 : r < (s 0).toNat + (s 1).toNat + (s 2).toNat
  · exact ⟨2, by simp [startN]; omega, by simpa [startN] using h2⟩
  · exact ⟨3, by simp [startN]; omega, by simp [startN]; omega⟩

end Cert.Groups

end
-- ==== Proof.DxI.Array.lean ====
/- The kernel's result array, over the extended reals: one function of the argument arrays. -/
module

public import proofs.«01_k».proof.Proof.DxI.Frame
public import proofs.«01_k».proof.Proof.Grp.Fill
public import Idealize.ShloMosaic.Lib.Pipeline.ValueKit
public import Idealize.ShloMosaic.Lib.Pipeline.ArrRel

@[expose] public section

set_option maxRecDepth 16384

noncomputable section

namespace Cert.DxIdeal.Hand

open Cert.DxIdeal Cert.DxIdeal.Gen
open Idealize.ShloMosaic Idealize.ShloMosaic.TcCoe
open Idealize.ShloMosaic.Pipeline (Dat RDat)

/-- The group a row belongs to, when the groups fill the rows. -/
def grp (s : Fin 4 → BitVec 32) (r : Nat) : Fin 4 :=
  if r < (s 0).toNat then 0 else if r < (s 0).toNat + (s 1).toNat then 1 else if r < (s 0).toNat + (s 1).toNat + (s 2).toNat then 2 else 3

theorem grp_spec {s : Fin 4 → BitVec 32} (h : Groups.Fills s) (r : Nat) (hr : r < 1792) : Groups.startN s (grp s r) ≤ r ∧ r < Groups.startN s (grp s r) + (s (grp s r)).toNat := by
  have ha := h.all
  unfold grp
  split_ifs <;> simp [Groups.startN] <;> omega

/-- The gradient with respect to the rows: each row times its group's decoded weights, times the group's two scales. -/
def target (x0 : Vec Ideal S4 .i32) (x1 x2 : Vec Ideal S4 .f32) (x3 : Vec Ideal S1792x4096 .bf16) (x4 : Vec Ideal S4x4096x3584 .i8) (x5 : Vec Ideal S4x256x448 .fp8e4m3) : Vec Ideal S1792x7168 .bf16 := fun i =>
  cell x1 x2 x3 x4 x5 (grp (fun j => x0 (ix1 j)) (i 0).val) (i 0) (i 1)

variable {m : (ℓ : Loc nD τ sig) → Buf (Elt Ideal) ℓ}

/-- A block is written back after the last group's point. -/
theorem last6 : ∀ t : Fin cfg0.N, win0_6.flush t = true → (grid0.coords t 1).val = 3 :=
  (by decide +kernel : ∀ t : Fin grid0.N, win0_6.flush t = true → (grid0.coords t 1).val = 3)

/-- The result array after the run. -/
theorem final (hF : ∀ c : Dev nD, Groups.Fills (sizes m c)) {r} (h : RDat.FramePost cfg0 (rdat m) (V m) r) (c : Dev nD) :
    r.2.mem ((c : Thread nD τ).loc main_v0) = target (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  obtain ⟨after, hL, hA⟩ := RDat.FramePost.exists_exact h c
  refine (hA 6).trans (((rdat m c).withAfter after).arrAt_eq_of_covers 6 _ (by decide +kernel) fun t hf y => ?_)
  rw [cast_eq]
  have hy0 : (y 0).val < 1792 := (y 0).isLt
  have hy1 : (y 1).val < 512 := (y 1).isLt
  have c0 : (grid0.coords t 0).val < 14 := (grid0.coords t 0).isLt
  have e := index6 t
  have hR : Filled m c t (after 6 t) := Dat.toRRel_leaves (dats m 0 c) (w := 6) rfl (hL 6 t hf)
  have hg := grp_spec (hF c) (y 0).val hy0
  have hv := hR (grp (sizes m c) (y 0).val) ⟨(y 0).val, hy0⟩ ⟨(y 1).val, hy1⟩ ⟨512 * (grid0.coords t 0).val + (y 1).val, by omega⟩
    (by rw [last6 t hf]; have := (grp (sizes m c) (y 0).val).isLt; omega) rfl hg.1 hg.2
  refine (congrArg (after 6 t) ?_ : _ = after 6 t (ix2 ⟨(y 0).val, hy0⟩ ⟨(y 1).val, hy1⟩)).trans (hv.trans
    ((?_ : _ = target _ _ _ _ _ _ (ix2 ⟨(y 0).val, hy0⟩ ⟨512 * (grid0.coords t 0).val + (y 1).val, by omega⟩)).trans (congrArg (target _ _ _ _ _ _) ?_)))
  · funext a
    match a with
    | ⟨0, _⟩ => rfl
    | ⟨1, _⟩ => rfl
  · rfl
  · funext a
    match a with
    | ⟨0, _⟩ =>
      refine Fin.ext ?_
      show (y 0).val = win0_6.index t 0 * 1792 + 1 * (y 0).val
      rw [e]; show _ = 0 * 1792 + 1 * (y 0).val; omega
    | ⟨1, _⟩ =>
      refine Fin.ext ?_
      show 512 * (grid0.coords t 0).val + (y 1).val = win0_6.index t 1 * 512 + 1 * (y 1).val
      rw [e]; show _ = (grid0.coords t 0).val * 512 + 1 * (y 1).val; omega

end Cert.DxIdeal.Hand
-- ==== Proof.DxR.Terms.lean ====
/- The reference's decoded weights and its products with them, element by element. -/
module

public import proofs.«01_k».proof.Proof.Gen.DxRefIdeal.Value
public import proofs.«01_k».proof.Proof.DxI.Codes
public import Idealize.ShloMosaic.Lib.Tactic

@[expose] public section

set_option maxRecDepth 16384

noncomputable section

namespace Cert.DxRefIdeal.Hand

open Cert.DxRefIdeal Cert.DxRefIdeal.Gen
open Idealize.ShloMosaic Idealize.ShloMosaic.TcCoe Idealize.ShloMosaic.Tactic

/-- An element of the rows times a group's decoded even columns: each byte's low code. -/
def evenSum (l : Vec Ideal S1792x4096 .bf16) (w : Vec Ideal S1x4096x3584 .i8) (s : Vec Ideal S1x256x448 .fp8e4m3) (r : Fin 1792) (q : Fin 3584) (k : Fin 448) : EReal :=
  ∑ j : Fin 4096, (l (ix2 r j) : EReal) * (Nibble.decode (IntOp.andi (BitVec.setWidth 32 (w (ix3 0 j q))) 15#32) * s (ix3 0 (⟨j.val / 16, by omega⟩ : Fin 256) k))

/-- An element of the rows times a group's decoded odd columns: each byte's high code. -/
def oddSum (l : Vec Ideal S1792x4096 .bf16) (w : Vec Ideal S1x4096x3584 .i8) (s : Vec Ideal S1x256x448 .fp8e4m3) (r : Fin 1792) (q : Fin 3584) (k : Fin 448) : EReal :=
  ∑ j : Fin 4096, (l (ix2 r j) : EReal) * (Nibble.decode (IntOp.shrsi .vector (BitVec.setWidth 32 (w (ix3 0 j q))) 4#32) * s (ix3 0 (⟨j.val / 16, by omega⟩ : Fin 256) k))

variable (w : Vec Ideal S1x4096x3584 .i8) (s : Vec Ideal S1x256x448 .fp8e4m3) (acc acc' : FVec Ideal S1792x3584 .f32) (l : Vec Ideal S1792x4096 .bf16)

theorem even0 (r : Fin 1792) (q : Fin 3584) :
    (k0_pay20 acc l (k0_pay14 (F := Ideal) (k0_pay8 s) (k0_pay9 (F := Ideal) w) (k0_pay10 (F := Ideal) w) (k0_pay11 (F := Ideal) w) (k0_pay12 (F := Ideal) w) k0_pay13) (ix2 r q) : EReal) = acc (ix2 r q) + evenSum l w s r q (⟨q.val / 8, by omega⟩ : Fin 448) := by
  pointwise [k0_pay20, k0_pay14, k0_pay8, k0_pay9, k0_pay10, k0_pay11, k0_pay12, k0_pay13, k0_pay7, k0_pay6]
  rfl

theorem even1 (r : Fin 1792) (q : Fin 3584) :
    (k0_pay42 acc l (k0_pay35 (F := Ideal) (k0_pay29 s) (k0_pay30 (F := Ideal) w) (k0_pay31 (F := Ideal) w) (k0_pay32 (F := Ideal) w) (k0_pay33 (F := Ideal) w) k0_pay34) (ix2 r q) : EReal) = acc (ix2 r q) + evenSum l w s r q (⟨q.val / 8, by omega⟩ : Fin 448) := by
  pointwise [k0_pay42, k0_pay35, k0_pay29, k0_pay30, k0_pay31, k0_pay32, k0_pay33, k0_pay34, k0_pay28, k0_pay27]
  rfl

theorem even2 (r : Fin 1792) (q : Fin 3584) :
    (k0_pay63 acc l (k0_pay56 (F := Ideal) (k0_pay50 s) (k0_pay51 (F := Ideal) w) (k0_pay52 (F := Ideal) w) (k0_pay53 (F := Ideal) w) (k0_pay54 (F := Ideal) w) (k0_pay55 (F := Ideal) w)) (ix2 r q) : EReal) = acc (ix2 r q) + evenSum l w s r q (⟨q.val / 8, by omega⟩ : Fin 448) := by
  pointwise [k0_pay63, k0_pay56, k0_pay50, k0_pay51, k0_pay52, k0_pay53, k0_pay54, k0_pay55, k0_pay49, k0_pay48]
  rfl

theorem odd0 (r : Fin 1792) (q : Fin 3584) :
    (k0_pay21 (F := Ideal) acc l (k0_pay15 (k0_pay6 (F := Ideal) w)) (k0_pay16 s) (k0_pay17 (k0_pay6 (F := Ideal) w)) (k0_pay18 (k0_pay6 (F := Ideal) w)) (k0_pay19 (k0_pay6 (F := Ideal) w)) (ix2 r q) : EReal) = acc (ix2 r q) + oddSum l w s r q (⟨q.val / 8, by omega⟩ : Fin 448) := by
  pointwise [k0_pay21, k0_pay15, k0_pay16, k0_pay17, k0_pay18, k0_pay19, k0_pay6]
  rfl

theorem odd1 (r : Fin 1792) (q : Fin 3584) :
    (k0_pay43 (F := Ideal) acc l (k0_pay37 s) (k0_pay38 (k0_pay27 (F := Ideal) w)) (k0_pay39 (k0_pay27 (F := Ideal) w)) (k0_pay40 (k0_pay27 (F := Ideal) w)) (k0_pay41 (k0_pay27 (F := Ideal) w)) (ix2 r q) : EReal) = acc (ix2 r q) + oddSum l w s r q (⟨q.val / 8, by omega⟩ : Fin 448) := by
  pointwise [k0_pay43, k0_pay36, k0_pay37, k0_pay38, k0_pay39, k0_pay40, k0_pay41, k0_pay27]
  rfl

theorem odd2 (r : Fin 1792) (q : Fin 3584) :
    (k0_pay64 (F := Ideal) acc l (k0_pay58 s) (k0_pay59 (k0_pay48 (F := Ideal) w)) (k0_pay60 (k0_pay48 (F := Ideal) w)) (k0_pay61 (k0_pay48 (F := Ideal) w)) (k0_pay62 (k0_pay48 (F := Ideal) w)) (ix2 r q) : EReal) = acc (ix2 r q) + oddSum l w s r q (⟨q.val / 8, by omega⟩ : Fin 448) := by
  pointwise [k0_pay64, k0_pay57, k0_pay58, k0_pay59, k0_pay60, k0_pay61, k0_pay62, k0_pay48]
  rfl

theorem even3 (r : Fin 1792) (q : Fin 3584) :
    (k0_pay63 acc l (k0_pay77 (F := Ideal) (k0_pay70 s) (k0_pay71 (F := Ideal) w) (k0_pay72 (F := Ideal) w) (k0_pay73 (F := Ideal) w) (k0_pay74 (F := Ideal) w) (k0_pay75 (F := Ideal) w) k0_pay76 kernelRun0_A.sl.cst_192) (ix2 r q) : EReal)
      = acc (ix2 r q) + evenSum l w s r q (⟨q.val / 8, by omega⟩ : Fin 448) := by
  pointwise [k0_pay63, k0_pay77, k0_pay70, k0_pay71, k0_pay72, k0_pay73, k0_pay74, k0_pay75, k0_pay76, k0_pay69, k0_pay68, kernelRun0_A.sl.cst_192]
  rfl

theorem odd3 (r : Fin 1792) (q : Fin 3584) :
    (k0_pay64 (F := Ideal) acc l (k0_pay79 s) (k0_pay80 (k0_pay68 (F := Ideal) w)) (k0_pay81 (k0_pay68 (F := Ideal) w)) (k0_pay82 (k0_pay68 (F := Ideal) w)) (k0_pay83 (k0_pay68 (F := Ideal) w)) (ix2 r q) : EReal)
      = acc (ix2 r q) + oddSum l w s r q (⟨q.val / 8, by omega⟩ : Fin 448) := by
  pointwise [k0_pay64, k0_pay78, k0_pay79, k0_pay80, k0_pay81, k0_pay82, k0_pay83, k0_pay68]
  rfl

/-- Two arrays' columns, alternating. -/
def inter (a b : FVec Ideal S1792x3584 .f32) : FVec Ideal S1792x7168 .f32 :=
  shapeCast S1792x7168 (concatenate S1792x3584x2 2 [⟨S1792x3584x1, shapeCast S1792x3584x1 a shapeCasts_S1792x3584_S1792x3584x1⟩, ⟨S1792x3584x1, shapeCast S1792x3584x1 b shapeCasts_S1792x3584_S1792x3584x1⟩] concatenates_S1792x3584x1_S1792x3584x1_S1792x3584x2_d2) shapeCasts_S1792x3584x2_S1792x7168

theorem inter_apply (a b : FVec Ideal S1792x3584 .f32) (r : Fin 1792) (q : Fin 7168) :
    (inter a b (ix2 r q) : EReal) = if q.val % 2 = 0 then a (ix2 r (⟨q.val / 2, by omega⟩ : Fin 3584)) else b (ix2 r (⟨q.val / 2, by omega⟩ : Fin 3584)) := by
  pointwise [inter]
  by_cases hp : q.val % 2 = 0
  · simp [hp]
  · have hq : q.val % 2 = 1 := by omega
    simp [hq]

/-- The reference's last step is the last group's two products, their columns alternating. -/
theorem last (we : FVec Ideal S4096x3584 .bf16) (v : FVec Ideal S256x448 .fp8e4m3) (b0 b1 b2 b3 : IVec S4096x3584 1) :
    k0_pay85 acc acc' l we v b0 b1 b2 b3 k0_pay84 kernelRun0_A.sl.cst_211 = inter (k0_pay63 acc l we) (k0_pay64 acc' l v b0 b1 b2 b3) := rfl

/-- The rows that are a group's, as the reference computes it from the row the group starts at and the row it ends at. -/
def maskW (a b : BitVec 32) (r : Nat) : BitVec 1 :=
  IntOp.andi (IntOp.cmpi .sle a (BitVec.ofNat 32 r)) (IntOp.cmpi .slt (BitVec.ofNat 32 r) b)

/-- A tensor scale: a maximum of zero gives one. -/
def tscale (a : EReal) : EReal := if a = 0 then 1 else Ideal.div a (Ideal.ofBits .f32 0x45280000#32)

theorem mask1 (a b : BitVec 32) (r : Fin 1792) : k0_pay25 (F := Ideal) kernelRun0_A.sl.v0 a b (ix2 r 0) = maskW a (Scalar.addi a b) r.val := by
  pointwise [k0_pay25, kernelRun0_A.sl.v0]
  rfl
theorem mask2 (a b : BitVec 32) (r : Fin 1792) : k0_pay46 (F := Ideal) kernelRun0_A.sl.v0 a b (ix2 r 0) = maskW a (Scalar.addi a b) r.val := by
  pointwise [k0_pay46, kernelRun0_A.sl.v0]
  rfl
theorem mask3 (a b : BitVec 32) (r : Fin 1792) : k0_pay66 (F := Ideal) kernelRun0_A.sl.v0 a b (ix2 r 0) = maskW a (Scalar.addi a b) r.val := by
  pointwise [k0_pay66, kernelRun0_A.sl.v0]
  rfl

end Cert.DxRefIdeal.Hand

end
-- ==== Proof.DxR.Rows.lean ====
/- The reference's loads, the rows of a group as its masks say them, and its masked sums. -/
module

public import proofs.«01_k».proof.Proof.DxR.Terms
public import proofs.«01_k».proof.Proof.DxI.Cell
public import proofs.«01_k».proof.Proof.Grp.Words

@[expose] public section

set_option maxRecDepth 16384

noncomputable section

namespace Cert.DxRefIdeal.Hand

open Cert.DxRefIdeal Cert.DxRefIdeal.Gen
open Idealize.ShloMosaic Idealize.ShloMosaic.TcCoe Idealize.ShloMosaic.Tactic

/-- A load of one word reads the array's word at its offset. -/
theorem wd_eq {e : EltTy} (M : Memref sig .tc .smem S4 e) (h : M.IsWhole) (x0 : Vec Ideal S4 e) (off : Fin 1 → Nat) (inb : ∀ a, off a + S1.size a ≤ S4.size a) (hn : 0 < S1.numel) (j : Fin 4) (hj : off 0 = j.val) :
    View.readAt (Elt Ideal) M.view (Rect.unit (s := S4) off S1.size inb).toLoadRect (h.unread x0) (Shape.Idx.first hn) = x0 (ix1 j) := by
  rw [View.readAt_apply, h.read_unread]
  congr 1
  funext a
  match a with
  | ⟨0, _⟩ => exact Fin.ext (by show off 0 + 1 * 0 = j.val; omega)

/-- A load of a group's codes. -/
theorem codes_eq (M : Memref sig .tc .vmem S4x4096x3584 .i8) (h : M.IsWhole) (x : Vec Ideal S4x4096x3584 .i8) (off : Fin 3 → Nat) (inb : ∀ a, off a + S1x4096x3584.size a ≤ S4x4096x3584.size a) (e : Fin 4)
    (h0 : off 0 = e.val) (h1 : off 1 = 0) (h2 : off 2 = 0) (j : Fin 4096) (q : Fin 3584) :
    View.readAt (Elt Ideal) M.view (Rect.unit (s := S4x4096x3584) off S1x4096x3584.size inb).toLoadRect (h.unread x) (ix3 (0 : Fin 1) j q) = x (ix3 e j q) := by
  rw [View.readAt_apply, h.read_unread]
  congr 1
  funext a
  match a with
  | ⟨0, _⟩ => exact Fin.ext (by show off 0 + 1 * 0 = e.val; omega)
  | ⟨1, _⟩ => exact Fin.ext (by show off 1 + 1 * j.val = j.val; omega)
  | ⟨2, _⟩ => exact Fin.ext (by show off 2 + 1 * q.val = q.val; omega)

/-- A load of a group's scales. -/
theorem scales_eq (M : Memref sig .tc .vmem S4x256x448 .fp8e4m3) (h : M.IsWhole) (x : Vec Ideal S4x256x448 .fp8e4m3) (off : Fin 3 → Nat) (inb : ∀ a, off a + S1x256x448.size a ≤ S4x256x448.size a) (e : Fin 4)
    (h0 : off 0 = e.val) (h1 : off 1 = 0) (h2 : off 2 = 0) (p : Fin 256) (q : Fin 448) :
    View.readAt (Elt Ideal) M.view (Rect.unit (s := S4x256x448) off S1x256x448.size inb).toLoadRect (h.unread x) (ix3 (0 : Fin 1) p q) = x (ix3 e p q) := by
  rw [View.readAt_apply, h.read_unread]
  congr 1
  funext a
  match a with
  | ⟨0, _⟩ => exact Fin.ext (by show off 0 + 1 * 0 = e.val; omega)
  | ⟨1, _⟩ => exact Fin.ext (by show off 1 + 1 * p.val = p.val; omega)
  | ⟨2, _⟩ => exact Fin.ext (by show off 2 + 1 * q.val = q.val; omega)

/-- A load of all the rows. -/
theorem rows_eq (M : Memref sig .tc .vmem S1792x4096 .bf16) (h : M.IsWhole) (x : Vec Ideal S1792x4096 .bf16) (off : Fin 2 → Nat) (inb : ∀ a, off a + S1792x4096.size a ≤ S1792x4096.size a)
    (h0 : off 0 = 0) (h1 : off 1 = 0) :
    View.readAt (Elt Ideal) M.view (Rect.unit (s := S1792x4096) off S1792x4096.size inb).toLoadRect (h.unread x) = x := by
  funext y
  rw [View.readAt_apply, h.read_unread]
  congr 1
  funext a
  match a with
  | ⟨0, _⟩ => exact Fin.ext (by show off 0 + 1 * (y 0).val = (y 0).val; omega)
  | ⟨1, _⟩ => exact Fin.ext (by show off 1 + 1 * (y 1).val = (y 1).val; omega)

/-- A mask says whether the row lies between its two words. -/
theorem maskW_iff (a b : BitVec 32) (r : Nat) (ha : a.toNat ≤ 1792) (hb : b.toNat ≤ 1792) (hr : r < 1792) : maskW a b r = 1#1 ↔ a.toNat ≤ r ∧ r < b.toNat := by
  have h : (BitVec.ofNat 32 r).toNat = r := by rw [BitVec.toNat_ofNat]; omega
  have e1 : IntOp.cmpi .sle a (BitVec.ofNat 32 r) = BitVec.ofBool (decide (a.toNat ≤ r)) := by
    simp only [IntOp.cmpi, BitVec.sle]
    rw [BitVec.toInt_eq_toNat_of_lt (by omega), BitVec.toInt_eq_toNat_of_lt (by omega), h]
    simp
  have e2 : IntOp.cmpi .slt (BitVec.ofNat 32 r) b = BitVec.ofBool (decide (r < b.toNat)) := by
    simp only [IntOp.cmpi, BitVec.slt]
    rw [BitVec.toInt_eq_toNat_of_lt (by omega), BitVec.toInt_eq_toNat_of_lt (by omega), h]
    simp
  unfold maskW
  rw [e1, e2, IntOp.andi_eq_one]
  by_cases p : a.toNat ≤ r <;> by_cases q : r < b.toNat <;> simp [p, q]

theorem bit_cases (m : BitVec 1) : m = 1#1 ∨ m = 0#1 := by revert m; decide

/-- Rows masked to zero give a sum of zero. -/
theorem evenSum_mask (l x3 : Vec Ideal S1792x4096 .bf16) (w : Vec Ideal S1x4096x3584 .i8) (s : Vec Ideal S1x256x448 .fp8e4m3) (r : Fin 1792) (q : Fin 3584) (k : Fin 448) (m : BitVec 1)
    (hl : ∀ j : Fin 4096, (l (ix2 r j) : EReal) = Scalar.select m (x3 (ix2 r j) : EReal) 0) : evenSum l w s r q k = Scalar.select m (evenSum x3 w s r q k) 0 := by
  unfold evenSum
  simp only [hl]
  rcases bit_cases m with rfl | rfl
  · rfl
  · exact Finset.sum_eq_zero fun j _ => zero_mul _

theorem oddSum_mask (l x3 : Vec Ideal S1792x4096 .bf16) (w : Vec Ideal S1x4096x3584 .i8) (s : Vec Ideal S1x256x448 .fp8e4m3) (r : Fin 1792) (q : Fin 3584) (k : Fin 448) (m : BitVec 1)
    (hl : ∀ j : Fin 4096, (l (ix2 r j) : EReal) = Scalar.select m (x3 (ix2 r j) : EReal) 0) : oddSum l w s r q k = Scalar.select m (oddSum x3 w s r q k) 0 := by
  unfold oddSum
  simp only [hl]
  rcases bit_cases m with rfl | rfl
  · rfl
  · exact Finset.sum_eq_zero fun j _ => zero_mul _

/-- The rows times a column of a group's decoded weights. -/
def prod (x3 : Vec Ideal S1792x4096 .bf16) (x4 : Vec Ideal S4x4096x3584 .i8) (x5 : Vec Ideal S4x256x448 .fp8e4m3) (e : Fin 4) (r : Fin 1792) (n : Fin 7168) : EReal :=
  ∑ j : Fin 4096, (x3 (ix2 r j) : EReal) * Cert.DxIdeal.Hand.weight x4 x5 e j n

theorem evenSum_prod (x3 : Vec Ideal S1792x4096 .bf16) (x4 : Vec Ideal S4x4096x3584 .i8) (x5 : Vec Ideal S4x256x448 .fp8e4m3) (e : Fin 4) (w : Vec Ideal S1x4096x3584 .i8) (s : Vec Ideal S1x256x448 .fp8e4m3)
    (hw : ∀ j q, w (ix3 (0 : Fin 1) j q) = x4 (ix3 e j q)) (hs : ∀ p q, s (ix3 (0 : Fin 1) p q) = x5 (ix3 e p q)) (r : Fin 1792) (n : Fin 7168) (hn : n.val % 2 = 0) :
    evenSum x3 w s r (⟨n.val / 2, by omega⟩ : Fin 3584) (⟨n.val / 2 / 8, by omega⟩ : Fin 448) = prod x3 x4 x5 e r n := by
  unfold evenSum prod Cert.DxIdeal.Hand.weight
  refine Finset.sum_congr rfl fun j _ => congrArg (fun z : EReal => x3 (ix2 r j) * z) ?_
  rw [hw, hs, if_pos hn]
  have e8 : (⟨n.val / 2 / 8, by omega⟩ : Fin 448) = ⟨n.val / 16, by omega⟩ := Fin.ext (by show n.val / 2 / 8 = n.val / 16; omega)
  rw [e8]
  refine congrArg (fun z : EReal => z * _) ?_
  exact (congrArg Nibble.decode (Nibble.low_word _)).trans (Nibble.decode_val _)

theorem oddSum_prod (x3 : Vec Ideal S1792x4096 .bf16) (x4 : Vec Ideal S4x4096x3584 .i8) (x5 : Vec Ideal S4x256x448 .fp8e4m3) (e : Fin 4) (w : Vec Ideal S1x4096x3584 .i8) (s : Vec Ideal S1x256x448 .fp8e4m3)
    (hw : ∀ j q, w (ix3 (0 : Fin 1) j q) = x4 (ix3 e j q)) (hs : ∀ p q, s (ix3 (0 : Fin 1) p q) = x5 (ix3 e p q)) (r : Fin 1792) (n : Fin 7168) (hn : ¬ n.val % 2 = 0) :
    oddSum x3 w s r (⟨n.val / 2, by omega⟩ : Fin 3584) (⟨n.val / 2 / 8, by omega⟩ : Fin 448) = prod x3 x4 x5 e r n := by
  unfold oddSum prod Cert.DxIdeal.Hand.weight
  refine Finset.sum_congr rfl fun j _ => congrArg (fun z : EReal => x3 (ix2 r j) * z) ?_
  rw [hw, hs, if_neg hn]
  have e8 : (⟨n.val / 2 / 8, by omega⟩ : Fin 448) = ⟨n.val / 16, by omega⟩ := Fin.ext (by show n.val / 2 / 8 = n.val / 16; omega)
  rw [e8]
  refine congrArg (fun z : EReal => z * _) ?_
  exact (congrArg Nibble.decode (Nibble.high_word _)).trans (Nibble.decode_val _)

/-- The kernel's scale of a group is the product of its two tensor scales. -/
theorem scale_eq (a b : EReal) : Cert.DxIdeal.Hand.scale a b = tscale a * tscale b := by
  unfold Cert.DxIdeal.Hand.scale
  pointwise [Cert.DxIdeal.Gen.k0_pay1, Cert.DxIdeal.Gen.k0_pay96, Cert.DxIdeal.Gen.k0_pay97]
  rfl

end Cert.DxRefIdeal.Hand

end
-- ==== Proof.DxR.Sums.lean ====
/- The reference's result, element by element, from its masks. -/
module

public import proofs.«01_k».proof.Proof.DxR.Rows
public import proofs.«01_k».proof.Proof.DxI.Cell
public import proofs.«01_k».proof.Proof.Grp.Words

@[expose] public section

set_option maxRecDepth 16384

noncomputable section

namespace Cert.DxRefIdeal.Hand

open Cert.DxRefIdeal Cert.DxRefIdeal.Gen
open Idealize.ShloMosaic Idealize.ShloMosaic.TcCoe Idealize.ShloMosaic.Tactic

variable (c : Dev nD) (arg0 : Memref sig .tc .smem S4 .i32) (harg0 : arg0.IsWhole) (arg1 : Memref sig .tc .smem S4 .f32) (harg1 : arg1.IsWhole) (arg2 : Memref sig .tc .smem S4 .f32) (harg2 : arg2.IsWhole) (arg3 : Memref sig .tc .vmem S1792x4096 .bf16) (harg3 : arg3.IsWhole) (arg4 : Memref sig .tc .vmem S4x4096x3584 .i8) (harg4 : arg4.IsWhole) (arg5 : Memref sig .tc .vmem S4x256x448 .fp8e4m3) (harg5 : arg5.IsWhole) (arg6 : Memref sig .tc .vmem S1792x7168 .bf16) (harg6 : arg6.IsWhole)
    (x0 : Vec Ideal S4 .i32) (x1 : Vec Ideal S4 .f32) (x2 : Vec Ideal S4 .f32) (x3 : Vec Ideal S1792x4096 .bf16) (x4 : Vec Ideal S4x4096x3584 .i8) (x5 : Vec Ideal S4x256x448 .fp8e4m3)

/-- The row a group starts at and the row it ends at, as the reference's running sum of the sizes has them. -/
def edge (x0 : Vec Ideal S4 .i32) : Nat → BitVec 32
  | 0 => 0#32
  | 1 => Scalar.addi 0#32 (x0 (ix1 0))
  | 2 => Scalar.addi (Scalar.addi 0#32 (x0 (ix1 0))) (x0 (ix1 1))
  | 3 => Scalar.addi (Scalar.addi (Scalar.addi 0#32 (x0 (ix1 0))) (x0 (ix1 1))) (x0 (ix1 2))
  | _ => Scalar.addi (Scalar.addi (Scalar.addi (Scalar.addi 0#32 (x0 (ix1 0))) (x0 (ix1 1))) (x0 (ix1 2))) (x0 (ix1 3))

/-- The mask of group `e`. -/
def mk (x0 : Vec Ideal S4 .i32) (e r : Nat) : BitVec 1 := maskW (edge x0 e) (edge x0 (e + 1)) r

theorem size0 : (kernelRun0_A.sl.r (F := Ideal) c arg0 harg0 x0 : BitVec 32) = x0 (ix1 0) := by
  unfold kernelRun0_A.sl.r
  exact wd_eq arg0 harg0 x0 _ _ _ 0 rfl
theorem size1 : (kernelRun0_A.sl.r_21 (F := Ideal) c arg0 harg0 x0 : BitVec 32) = x0 (ix1 1) := by
  unfold kernelRun0_A.sl.r_21
  exact wd_eq arg0 harg0 x0 _ _ _ 1 rfl
theorem size2 : (kernelRun0_A.sl.r_42 (F := Ideal) c arg0 harg0 x0 : BitVec 32) = x0 (ix1 2) := by
  unfold kernelRun0_A.sl.r_42
  exact wd_eq arg0 harg0 x0 _ _ _ 2 rfl
theorem size3 : (kernelRun0_A.sl.r_61 (F := Ideal) c arg0 harg0 x0 : BitVec 32) = x0 (ix1 3) := by
  unfold kernelRun0_A.sl.r_61
  exact wd_eq arg0 harg0 x0 _ _ _ 3 rfl
theorem amax1_0 : ((kernelRun0_A.sl.r_15 (F := Ideal) c arg1 harg1 x1) : EReal) = x1 (ix1 0) := by
  unfold kernelRun0_A.sl.r_15
  exact wd_eq arg1 harg1 x1 _ _ _ 0 rfl
theorem amax1_1 : ((kernelRun0_A.sl.r_37 (F := Ideal) c arg1 harg1 x1) : EReal) = x1 (ix1 1) := by
  unfold kernelRun0_A.sl.r_37
  exact wd_eq arg1 harg1 x1 _ _ _ 1 rfl
theorem amax1_2 : ((kernelRun0_A.sl.r_59 (F := Ideal) c arg1 harg1 x1) : EReal) = x1 (ix1 2) := by
  unfold kernelRun0_A.sl.r_59
  exact wd_eq arg1 harg1 x1 _ _ _ 2 rfl
theorem amax1_3 : ((kernelRun0_A.sl.r_80 (F := Ideal) c arg1 harg1 x1) : EReal) = x1 (ix1 3) := by
  unfold kernelRun0_A.sl.r_80
  exact wd_eq arg1 harg1 x1 _ _ _ 3 rfl
theorem amax2_0 : ((kernelRun0_A.sl.r_16 (F := Ideal) c arg2 harg2 x2) : EReal) = x2 (ix1 0) := by
  unfold kernelRun0_A.sl.r_16
  exact wd_eq arg2 harg2 x2 _ _ _ 0 rfl
theorem amax2_1 : ((kernelRun0_A.sl.r_38 (F := Ideal) c arg2 harg2 x2) : EReal) = x2 (ix1 1) := by
  unfold kernelRun0_A.sl.r_38
  exact wd_eq arg2 harg2 x2 _ _ _ 1 rfl
theorem amax2_2 : ((kernelRun0_A.sl.r_60 (F := Ideal) c arg2 harg2 x2) : EReal) = x2 (ix1 2) := by
  unfold kernelRun0_A.sl.r_60
  exact wd_eq arg2 harg2 x2 _ _ _ 2 rfl
theorem amax2_3 : ((kernelRun0_A.sl.r_81 (F := Ideal) c arg2 harg2 x2) : EReal) = x2 (ix1 3) := by
  unfold kernelRun0_A.sl.r_81
  exact wd_eq arg2 harg2 x2 _ _ _ 3 rfl
theorem edge1 : (kernelRun0_A.sl.v4 (F := Ideal) c arg0 harg0 x0 : BitVec 32) = edge x0 1 := by
  unfold kernelRun0_A.sl.v4
  rw [size0]
  rfl
theorem edge2 : (kernelRun0_A.sl.v122 (F := Ideal) c arg0 harg0 x0 : BitVec 32) = edge x0 2 := by
  unfold kernelRun0_A.sl.v122
  rw [edge1, size1]
  rfl
theorem edge3 : (kernelRun0_A.sl.v240 (F := Ideal) c arg0 harg0 x0 : BitVec 32) = edge x0 3 := by
  unfold kernelRun0_A.sl.v240
  rw [edge2, size2]
  rfl

theorem m0 (r : Fin 1792) : (kernelRun0_A.sl.r_1 (F := Ideal) c arg0 harg0 x0) (ix2 r 0) = mk x0 0 r.val := by
  unfold kernelRun0_A.sl.r_1
  rw [size0]
  pointwise [k0_pay4]
  rfl
theorem m1 (r : Fin 1792) : (kernelRun0_A.sl.r_23 (F := Ideal) c arg0 harg0 x0) (ix2 r 0) = mk x0 1 r.val := by
  unfold kernelRun0_A.sl.r_23
  rw [edge1, size1]
  exact mask1 _ _ r
theorem m2 (r : Fin 1792) : (kernelRun0_A.sl.r_44 (F := Ideal) c arg0 harg0 x0) (ix2 r 0) = mk x0 2 r.val := by
  unfold kernelRun0_A.sl.r_44
  rw [edge2, size2]
  exact mask2 _ _ r
theorem m3 (r : Fin 1792) : (kernelRun0_A.sl.r_65 (F := Ideal) c arg0 harg0 x0) (ix2 r 0) = mk x0 3 r.val := by
  unfold kernelRun0_A.sl.r_65
  rw [edge3, size3]
  exact mask3 _ _ r

theorem l0 (r : Fin 1792) (j : Fin 4096) : ((kernelRun0_A.sl.r_2 (F := Ideal) c arg0 harg0 arg3 harg3 x0 x3) (ix2 r j) : EReal) = Scalar.select (mk x0 0 r.val) (x3 (ix2 r j) : EReal) 0 := by
  unfold kernelRun0_A.sl.r_2
  rw [size0, rows_eq arg3 harg3 x3 _ _ rfl rfl]
  pointwise [k0_pay5, k0_pay4]
  rfl
theorem l1 (r : Fin 1792) (j : Fin 4096) : ((kernelRun0_A.sl.r_24 (F := Ideal) c arg0 harg0 arg3 harg3 x0 x3) (ix2 r j) : EReal) = Scalar.select (mk x0 1 r.val) (x3 (ix2 r j) : EReal) 0 := by
  unfold kernelRun0_A.sl.r_24
  rw [edge1, size1, rows_eq arg3 harg3 x3 _ _ rfl rfl]
  pointwise [k0_pay26, k0_pay25, kernelRun0_A.sl.v0]
  rfl
theorem l2 (r : Fin 1792) (j : Fin 4096) : ((kernelRun0_A.sl.r_45 (F := Ideal) c arg0 harg0 arg3 harg3 x0 x3) (ix2 r j) : EReal) = Scalar.select (mk x0 2 r.val) (x3 (ix2 r j) : EReal) 0 := by
  unfold kernelRun0_A.sl.r_45
  rw [edge2, size2, rows_eq arg3 harg3 x3 _ _ rfl rfl]
  pointwise [k0_pay47, k0_pay46, kernelRun0_A.sl.v0]
  rfl
theorem l3 (r : Fin 1792) (j : Fin 4096) : ((kernelRun0_A.sl.r_66 (F := Ideal) c arg0 harg0 arg3 harg3 x0 x3) (ix2 r j) : EReal) = Scalar.select (mk x0 3 r.val) (x3 (ix2 r j) : EReal) 0 := by
  unfold kernelRun0_A.sl.r_66
  rw [edge3, size3, rows_eq arg3 harg3 x3 _ _ rfl rfl]
  pointwise [k0_pay67, k0_pay66, kernelRun0_A.sl.v0]
  rfl

theorem evenAcc0 (r : Fin 1792) (n : Fin 7168) (hn : n.val % 2 = 0) :
    ((kernelRun0_A.sl.r_17 (F := Ideal) c arg0 harg0 arg3 harg3 arg4 harg4 arg5 harg5 x0 x3 x4 x5) (ix2 r (⟨n.val / 2, by omega⟩ : Fin 3584)) : EReal) = 0 + Scalar.select (mk x0 0 r.val) (prod x3 x4 x5 0 r n) 0 := by
  unfold kernelRun0_A.sl.r_17 kernelRun0_A.sl.r_9 kernelRun0_A.sl.r_4 kernelRun0_A.sl.r_5 kernelRun0_A.sl.r_6 kernelRun0_A.sl.r_7 kernelRun0_A.sl.r_8
  rw [even0]
  rw [show (k0_pay2 (F := Ideal) (ix2 r (⟨n.val / 2, by omega⟩ : Fin 3584)) : EReal) = 0 from by pointwise [k0_pay2]]
  rw [evenSum_mask _ x3 _ _ r _ _ (mk x0 0 r.val) (fun j => l0 c arg0 harg0 arg3 harg3 x0 x3 r j)]
  refine congrArg (fun z : EReal => _ + Scalar.select _ z 0) ?_
  exact evenSum_prod x3 x4 x5 0 _ _ (fun j q => codes_eq arg4 harg4 x4 _ _ 0 rfl rfl rfl j q) (fun p q => scales_eq arg5 harg5 x5 _ _ 0 rfl rfl rfl p q) r n hn

theorem evenAcc1 (r : Fin 1792) (n : Fin 7168) (hn : n.val % 2 = 0) :
    ((kernelRun0_A.sl.r_39 (F := Ideal) c arg0 harg0 arg3 harg3 arg4 harg4 arg5 harg5 x0 x3 x4 x5) (ix2 r (⟨n.val / 2, by omega⟩ : Fin 3584)) : EReal) = ((kernelRun0_A.sl.r_17 (F := Ideal) c arg0 harg0 arg3 harg3 arg4 harg4 arg5 harg5 x0 x3 x4 x5) (ix2 r (⟨n.val / 2, by omega⟩ : Fin 3584)) : EReal) + Scalar.select (mk x0 1 r.val) (prod x3 x4 x5 1 r n) 0 := by
  unfold kernelRun0_A.sl.r_39 kernelRun0_A.sl.r_31 kernelRun0_A.sl.r_26 kernelRun0_A.sl.r_27 kernelRun0_A.sl.r_28 kernelRun0_A.sl.r_29 kernelRun0_A.sl.r_30
  rw [even1]
  rw [evenSum_mask _ x3 _ _ r _ _ (mk x0 1 r.val) (fun j => l1 c arg0 harg0 arg3 harg3 x0 x3 r j)]
  refine congrArg (fun z : EReal => _ + Scalar.select _ z 0) ?_
  exact evenSum_prod x3 x4 x5 1 _ _ (fun j q => codes_eq arg4 harg4 x4 _ _ 1 rfl rfl rfl j q) (fun p q => scales_eq arg5 harg5 x5 _ _ 1 rfl rfl rfl p q) r n hn

theorem evenAcc2 (r : Fin 1792) (n : Fin 7168) (hn : n.val % 2 = 0) :
    ((kernelRun0_A.sl.r_62 (F := Ideal) c arg0 harg0 arg3 harg3 arg4 harg4 arg5 harg5 x0 x3 x4 x5) (ix2 r (⟨n.val / 2, by omega⟩ : Fin 3584)) : EReal) = ((kernelRun0_A.sl.r_39 (F := Ideal) c arg0 harg0 arg3 harg3 arg4 harg4 arg5 harg5 x0 x3 x4 x5) (ix2 r (⟨n.val / 2, by omega⟩ : Fin 3584)) : EReal) + Scalar.select (mk x0 2 r.val) (prod x3 x4 x5 2 r n) 0 := by
  unfold kernelRun0_A.sl.r_62 kernelRun0_A.sl.r_53 kernelRun0_A.sl.r_47 kernelRun0_A.sl.r_48 kernelRun0_A.sl.r_49 kernelRun0_A.sl.r_50 kernelRun0_A.sl.r_51 kernelRun0_A.sl.r_52
  rw [even2]
  rw [evenSum_mask _ x3 _ _ r _ _ (mk x0 2 r.val) (fun j => l2 c arg0 harg0 arg3 harg3 x0 x3 r j)]
  refine congrArg (fun z : EReal => _ + Scalar.select _ z 0) ?_
  exact evenSum_prod x3 x4 x5 2 _ _ (fun j q => codes_eq arg4 harg4 x4 _ _ 2 rfl rfl rfl j q) (fun p q => scales_eq arg5 harg5 x5 _ _ 2 rfl rfl rfl p q) r n hn

theorem oddAcc0 (r : Fin 1792) (n : Fin 7168) (hn : ¬ n.val % 2 = 0) :
    ((kernelRun0_A.sl.r_18 (F := Ideal) c arg0 harg0 arg3 harg3 arg4 harg4 arg5 harg5 x0 x3 x4 x5) (ix2 r (⟨n.val / 2, by omega⟩ : Fin 3584)) : EReal) = 0 + Scalar.select (mk x0 0 r.val) (prod x3 x4 x5 0 r n) 0 := by
  unfold kernelRun0_A.sl.r_18 kernelRun0_A.sl.r_10 kernelRun0_A.sl.r_11 kernelRun0_A.sl.r_12 kernelRun0_A.sl.r_13 kernelRun0_A.sl.r_14 kernelRun0_A.sl.r_3
  rw [odd0]
  rw [show (k0_pay2 (F := Ideal) (ix2 r (⟨n.val / 2, by omega⟩ : Fin 3584)) : EReal) = 0 from by pointwise [k0_pay2]]
  rw [oddSum_mask _ x3 _ _ r _ _ (mk x0 0 r.val) (fun j => l0 c arg0 harg0 arg3 harg3 x0 x3 r j)]
  refine congrArg (fun z : EReal => _ + Scalar.select _ z 0) ?_
  exact oddSum_prod x3 x4 x5 0 _ _ (fun j q => codes_eq arg4 harg4 x4 _ _ 0 rfl rfl rfl j q) (fun p q => scales_eq arg5 harg5 x5 _ _ 0 rfl rfl rfl p q) r n hn

theorem oddAcc1 (r : Fin 1792) (n : Fin 7168) (hn : ¬ n.val % 2 = 0) :
    ((kernelRun0_A.sl.r_40 (F := Ideal) c arg0 harg0 arg3 harg3 arg4 harg4 arg5 harg5 x0 x3 x4 x5) (ix2 r (⟨n.val / 2, by omega⟩ : Fin 3584)) : EReal) = ((kernelRun0_A.sl.r_18 (F := Ideal) c arg0 harg0 arg3 harg3 arg4 harg4 arg5 harg5 x0 x3 x4 x5) (ix2 r (⟨n.val / 2, by omega⟩ : Fin 3584)) : EReal) + Scalar.select (mk x0 1 r.val) (prod x3 x4 x5 1 r n) 0 := by
  unfold kernelRun0_A.sl.r_40 kernelRun0_A.sl.r_32 kernelRun0_A.sl.r_33 kernelRun0_A.sl.r_34 kernelRun0_A.sl.r_35 kernelRun0_A.sl.r_36 kernelRun0_A.sl.r_25
  rw [odd1]
  rw [oddSum_mask _ x3 _ _ r _ _ (mk x0 1 r.val) (fun j => l1 c arg0 harg0 arg3 harg3 x0 x3 r j)]
  refine congrArg (fun z : EReal => _ + Scalar.select _ z 0) ?_
  exact oddSum_prod x3 x4 x5 1 _ _ (fun j q => codes_eq arg4 harg4 x4 _ _ 1 rfl rfl rfl j q) (fun p q => scales_eq arg5 harg5 x5 _ _ 1 rfl rfl rfl p q) r n hn

theorem oddAcc2 (r : Fin 1792) (n : Fin 7168) (hn : ¬ n.val % 2 = 0) :
    ((kernelRun0_A.sl.r_63 (F := Ideal) c arg0 harg0 arg3 harg3 arg4 harg4 arg5 harg5 x0 x3 x4 x5) (ix2 r (⟨n.val / 2, by omega⟩ : Fin 3584)) : EReal) = ((kernelRun0_A.sl.r_40 (F := Ideal) c arg0 harg0 arg3 harg3 arg4 harg4 arg5 harg5 x0 x3 x4 x5) (ix2 r (⟨n.val / 2, by omega⟩ : Fin 3584)) : EReal) + Scalar.select (mk x0 2 r.val) (prod x3 x4 x5 2 r n) 0 := by
  unfold kernelRun0_A.sl.r_63 kernelRun0_A.sl.r_54 kernelRun0_A.sl.r_55 kernelRun0_A.sl.r_56 kernelRun0_A.sl.r_57 kernelRun0_A.sl.r_58 kernelRun0_A.sl.r_46
  rw [odd2]
  rw [oddSum_mask _ x3 _ _ r _ _ (mk x0 2 r.val) (fun j => l2 c arg0 harg0 arg3 harg3 x0 x3 r j)]
  refine congrArg (fun z : EReal => _ + Scalar.select _ z 0) ?_
  exact oddSum_prod x3 x4 x5 2 _ _ (fun j q => codes_eq arg4 harg4 x4 _ _ 2 rfl rfl rfl j q) (fun p q => scales_eq arg5 harg5 x5 _ _ 2 rfl rfl rfl p q) r n hn

end Cert.DxRefIdeal.Hand

end
-- ==== Proof.DxR.Total.lean ====
/- The reference's result at an index: the product of the row with its group's decoded weights, times the group's two scales. -/
module

public import proofs.«01_k».proof.Proof.DxR.Sums
public import proofs.«01_k».proof.Proof.DxI.Cell
public import proofs.«01_k».proof.Proof.Grp.Words

@[expose] public section

set_option maxRecDepth 16384

noncomputable section

namespace Cert.DxRefIdeal.Hand

open Cert.DxRefIdeal Cert.DxRefIdeal.Gen
open Idealize.ShloMosaic Idealize.ShloMosaic.TcCoe Idealize.ShloMosaic.Tactic

variable (c : Dev nD) (arg0 : Memref sig .tc .smem S4 .i32) (harg0 : arg0.IsWhole) (arg1 : Memref sig .tc .smem S4 .f32) (harg1 : arg1.IsWhole) (arg2 : Memref sig .tc .smem S4 .f32) (harg2 : arg2.IsWhole) (arg3 : Memref sig .tc .vmem S1792x4096 .bf16) (harg3 : arg3.IsWhole) (arg4 : Memref sig .tc .vmem S4x4096x3584 .i8) (harg4 : arg4.IsWhole) (arg5 : Memref sig .tc .vmem S4x256x448 .fp8e4m3) (harg5 : arg5.IsWhole) (arg6 : Memref sig .tc .vmem S1792x7168 .bf16) (harg6 : arg6.IsWhole)
    (x0 : Vec Ideal S4 .i32) (x1 : Vec Ideal S4 .f32) (x2 : Vec Ideal S4 .f32) (x3 : Vec Ideal S1792x4096 .bf16) (x4 : Vec Ideal S4x4096x3584 .i8) (x5 : Vec Ideal S4x256x448 .fp8e4m3)

theorem edge_toNat {x0 : Vec Ideal S4 .i32} (hs : Groups.Fits fun j => x0 (ix1 j)) (e : Fin 4) :
    (edge x0 e.val).toNat = Groups.startN (fun j => x0 (ix1 j)) e ∧ (edge x0 (e.val + 1)).toNat = Groups.startN (fun j => x0 (ix1 j)) e + (x0 (ix1 e)).toNat := by
  have h : (x0 (ix1 0)).toNat + (x0 (ix1 1)).toNat + (x0 (ix1 2)).toNat + (x0 (ix1 3)).toNat ≤ 1792 := hs.sum
  fin_cases e <;> simp [edge, Groups.startN, Scalar.addi, IntOp.addi, BitVec.toNat_add] <;> omega

/-- The mask of a group is set at the rows that are the group's. -/
theorem mk_iff {x0 : Vec Ideal S4 .i32} (hs : Groups.Fits fun j => x0 (ix1 j)) (e : Fin 4) (r : Fin 1792) :
    mk x0 e.val r.val = 1#1 ↔ Groups.startN (fun j => x0 (ix1 j)) e ≤ r.val ∧ r.val < Groups.startN (fun j => x0 (ix1 j)) e + (x0 (ix1 e)).toNat := by
  obtain ⟨h1, h2⟩ := edge_toNat hs e
  have hle : Groups.startN (fun j => x0 (ix1 j)) e + (x0 (ix1 e)).toNat ≤ 1792 := Groups.startN_add_le hs e
  unfold mk
  rw [maskW_iff _ _ _ (by omega) (by omega) r.isLt, h1, h2]

/-- A row is no other group's. -/
theorem mk_other {x0 : Vec Ideal S4 .i32} (hs : Groups.Fits fun j => x0 (ix1 j)) (e e' : Fin 4) (hne : e' ≠ e) (r : Fin 1792) (h : mk x0 e.val r.val = 1#1) : mk x0 e'.val r.val = 0#1 := by
  rcases bit_cases (mk x0 e'.val r.val) with h' | h'
  · exfalso
    rw [mk_iff hs] at h h'
    fin_cases e <;> fin_cases e' <;> simp [Groups.startN] at h h' hne <;> omega
  · exact h'

theorem evenAcc3 (r : Fin 1792) (n : Fin 7168) (hn : n.val % 2 = 0) :
    (k0_pay63 (kernelRun0_A.sl.r_62 (F := Ideal) c arg0 harg0 arg3 harg3 arg4 harg4 arg5 harg5 x0 x3 x4 x5) (kernelRun0_A.sl.r_66 (F := Ideal) c arg0 harg0 arg3 harg3 x0 x3) (kernelRun0_A.sl.r_74 (F := Ideal) c arg4 harg4 arg5 harg5 x4 x5) (ix2 r (⟨n.val / 2, by omega⟩ : Fin 3584)) : EReal) = ((kernelRun0_A.sl.r_62 (F := Ideal) c arg0 harg0 arg3 harg3 arg4 harg4 arg5 harg5 x0 x3 x4 x5) (ix2 r (⟨n.val / 2, by omega⟩ : Fin 3584)) : EReal) + Scalar.select (mk x0 3 r.val) (prod x3 x4 x5 3 r n) 0 := by
  unfold kernelRun0_A.sl.r_74 kernelRun0_A.sl.r_68 kernelRun0_A.sl.r_69 kernelRun0_A.sl.r_70 kernelRun0_A.sl.r_71 kernelRun0_A.sl.r_72 kernelRun0_A.sl.r_73
  rw [even3]
  rw [evenSum_mask _ x3 _ _ r _ _ (mk x0 3 r.val) (fun j => l3 c arg0 harg0 arg3 harg3 x0 x3 r j)]
  refine congrArg (fun z : EReal => _ + Scalar.select _ z 0) ?_
  exact evenSum_prod x3 x4 x5 3 _ _ (fun j q => codes_eq arg4 harg4 x4 _ _ 3 rfl rfl rfl j q) (fun p q => scales_eq arg5 harg5 x5 _ _ 3 rfl rfl rfl p q) r n hn

theorem oddAcc3 (r : Fin 1792) (n : Fin 7168) (hn : ¬ n.val % 2 = 0) :
    (k0_pay64 (kernelRun0_A.sl.r_63 (F := Ideal) c arg0 harg0 arg3 harg3 arg4 harg4 arg5 harg5 x0 x3 x4 x5) (kernelRun0_A.sl.r_66 (F := Ideal) c arg0 harg0 arg3 harg3 x0 x3) (kernelRun0_A.sl.r_75 (F := Ideal) c arg5 harg5 x5) (kernelRun0_A.sl.r_76 (F := Ideal) c arg4 harg4 x4) (kernelRun0_A.sl.r_77 (F := Ideal) c arg4 harg4 x4) (kernelRun0_A.sl.r_78 (F := Ideal) c arg4 harg4 x4) (kernelRun0_A.sl.r_79 (F := Ideal) c arg4 harg4 x4) (ix2 r (⟨n.val / 2, by omega⟩ : Fin 3584)) : EReal) = ((kernelRun0_A.sl.r_63 (F := Ideal) c arg0 harg0 arg3 harg3 arg4 harg4 arg5 harg5 x0 x3 x4 x5) (ix2 r (⟨n.val / 2, by omega⟩ : Fin 3584)) : EReal) + Scalar.select (mk x0 3 r.val) (prod x3 x4 x5 3 r n) 0 := by
  unfold kernelRun0_A.sl.r_75 kernelRun0_A.sl.r_76 kernelRun0_A.sl.r_77 kernelRun0_A.sl.r_78 kernelRun0_A.sl.r_79 kernelRun0_A.sl.r_67
  rw [odd3]
  rw [oddSum_mask _ x3 _ _ r _ _ (mk x0 3 r.val) (fun j => l3 c arg0 harg0 arg3 harg3 x0 x3 r j)]
  refine congrArg (fun z : EReal => _ + Scalar.select _ z 0) ?_
  exact oddSum_prod x3 x4 x5 3 _ _ (fun j q => codes_eq arg4 harg4 x4 _ _ 3 rfl rfl rfl j q) (fun p q => scales_eq arg5 harg5 x5 _ _ 3 rfl rfl rfl p q) r n hn

/-- The reference's sum over the groups. -/
theorem total (r : Fin 1792) (n : Fin 7168) :
    ((kernelRun0_A.sl.r_82 (F := Ideal) c arg0 harg0 arg3 harg3 arg4 harg4 arg5 harg5 x0 x3 x4 x5) (ix2 r n) : EReal) = (((0 + Scalar.select (mk x0 0 r.val) (prod x3 x4 x5 0 r n) 0) + Scalar.select (mk x0 1 r.val) (prod x3 x4 x5 1 r n) 0) + Scalar.select (mk x0 2 r.val) (prod x3 x4 x5 2 r n) 0) + Scalar.select (mk x0 3 r.val) (prod x3 x4 x5 3 r n) 0 := by
  unfold kernelRun0_A.sl.r_82
  rw [last, inter_apply]
  by_cases h : n.val % 2 = 0
  · rw [if_pos h, evenAcc3 c arg0 harg0 arg3 harg3 arg4 harg4 arg5 harg5 x0 x3 x4 x5 r n h, evenAcc2 c arg0 harg0 arg3 harg3 arg4 harg4 arg5 harg5 x0 x3 x4 x5 r n h, evenAcc1 c arg0 harg0 arg3 harg3 arg4 harg4 arg5 harg5 x0 x3 x4 x5 r n h, evenAcc0 c arg0 harg0 arg3 harg3 arg4 harg4 arg5 harg5 x0 x3 x4 x5 r n h]
  · rw [if_neg h, oddAcc3 c arg0 harg0 arg3 harg3 arg4 harg4 arg5 harg5 x0 x3 x4 x5 r n h, oddAcc2 c arg0 harg0 arg3 harg3 arg4 harg4 arg5 harg5 x0 x3 x4 x5 r n h, oddAcc1 c arg0 harg0 arg3 harg3 arg4 harg4 arg5 harg5 x0 x3 x4 x5 r n h, oddAcc0 c arg0 harg0 arg3 harg3 arg4 harg4 arg5 harg5 x0 x3 x4 x5 r n h]

theorem sc0 (r : Fin 1792) : ((kernelRun0_A.sl.r_22 (F := Ideal) c arg0 harg0 arg1 harg1 arg2 harg2 x0 x1 x2) (ix2 r 0) : EReal) = Scalar.select (mk x0 0 r.val) (tscale (x1 (ix1 0)) * tscale (x2 (ix1 0))) 0 := by
  rw [← m0 c arg0 harg0 x0 r, ← amax1_0 c arg1 harg1 x1, ← amax2_0 c arg2 harg2 x2]
  unfold kernelRun0_A.sl.r_22 kernelRun0_A.sl.r_19 kernelRun0_A.sl.r_20 kernelRun0_A.sl.v115 kernelRun0_A.sl.cst_54 kernelRun0_A.sl.cst_52 kernelRun0_A.sl.r_16
  pointwise [k0_pay24, k0_pay22, k0_pay23, k0_pay3]
  rfl

theorem sc1 (r : Fin 1792) : ((kernelRun0_A.sl.r_43 (F := Ideal) c arg0 harg0 arg1 harg1 arg2 harg2 x0 x1 x2) (ix2 r 0) : EReal) = Scalar.select (mk x0 1 r.val) (tscale (x1 (ix1 1)) * tscale (x2 (ix1 1))) ((kernelRun0_A.sl.r_22 (F := Ideal) c arg0 harg0 arg1 harg1 arg2 harg2 x0 x1 x2) (ix2 r 0) : EReal) := by
  rw [← m1 c arg0 harg0 x0 r, ← amax1_1 c arg1 harg1 x1, ← amax2_1 c arg2 harg2 x2]
  unfold kernelRun0_A.sl.r_43 kernelRun0_A.sl.r_41
  pointwise [k0_pay45, k0_pay44]
  rfl

theorem sc2 (r : Fin 1792) : ((kernelRun0_A.sl.r_64 (F := Ideal) c arg0 harg0 arg1 harg1 arg2 harg2 x0 x1 x2) (ix2 r 0) : EReal) = Scalar.select (mk x0 2 r.val) (tscale (x1 (ix1 2)) * tscale (x2 (ix1 2))) ((kernelRun0_A.sl.r_43 (F := Ideal) c arg0 harg0 arg1 harg1 arg2 harg2 x0 x1 x2) (ix2 r 0) : EReal) := by
  rw [← m2 c arg0 harg0 x0 r, ← amax1_2 c arg1 harg1 x1, ← amax2_2 c arg2 harg2 x2]
  unfold kernelRun0_A.sl.r_64
  pointwise [k0_pay65]
  rfl

theorem sc3 (r : Fin 1792) (n : Fin 7168) : ((kernelRun0_A.sl.r_83 (F := Ideal) c arg0 harg0 arg1 harg1 arg2 harg2 x0 x1 x2) (ix2 r n) : EReal) = Scalar.select (mk x0 3 r.val) (tscale (x1 (ix1 3)) * tscale (x2 (ix1 3))) ((kernelRun0_A.sl.r_64 (F := Ideal) c arg0 harg0 arg1 harg1 arg2 harg2 x0 x1 x2) (ix2 r 0) : EReal) := by
  rw [← m3 c arg0 harg0 x0 r, ← amax1_3 c arg1 harg1 x1, ← amax2_3 c arg2 harg2 x2]
  unfold kernelRun0_A.sl.r_83
  pointwise [k0_pay86]
  rfl

/-- The reference's result at an index of group `e`. -/
theorem value (hs : Groups.Fits fun j => x0 (ix1 j)) (e : Fin 4) (r : Fin 1792) (n : Fin 7168)
    (hr : Groups.startN (fun j => x0 (ix1 j)) e ≤ r.val ∧ r.val < Groups.startN (fun j => x0 (ix1 j)) e + (x0 (ix1 e)).toNat) :
    (k0_pay1 (kernelRun0_A.sl.r_82 (F := Ideal) c arg0 harg0 arg3 harg3 arg4 harg4 arg5 harg5 x0 x3 x4 x5) (kernelRun0_A.sl.r_83 (F := Ideal) c arg0 harg0 arg1 harg1 arg2 harg2 x0 x1 x2) (ix2 r n) : EReal) = Cert.DxIdeal.Hand.cell x1 x2 x3 x4 x5 e r n := by
  have hm := (mk_iff hs e r).2 hr
  have ho := fun e' (h : e' ≠ e) => mk_other hs e e' h r hm
  have hp : (k0_pay1 (kernelRun0_A.sl.r_82 (F := Ideal) c arg0 harg0 arg3 harg3 arg4 harg4 arg5 harg5 x0 x3 x4 x5) (kernelRun0_A.sl.r_83 (F := Ideal) c arg0 harg0 arg1 harg1 arg2 harg2 x0 x1 x2) (ix2 r n) : EReal) = ((kernelRun0_A.sl.r_82 (F := Ideal) c arg0 harg0 arg3 harg3 arg4 harg4 arg5 harg5 x0 x3 x4 x5) (ix2 r n) : EReal) * ((kernelRun0_A.sl.r_83 (F := Ideal) c arg0 harg0 arg1 harg1 arg2 harg2 x0 x1 x2) (ix2 r n) : EReal) := by
    pointwise [k0_pay1]
  rw [hp, total, sc3, sc2, sc1, sc0]
  unfold Cert.DxIdeal.Hand.cell
  rw [scale_eq]
  have hz : ∀ a b : EReal, Scalar.select 0#1 a b = b := fun _ _ => rfl
  have ho1 : ∀ a b : EReal, Scalar.select 1#1 a b = a := fun _ _ => rfl
  fin_cases e
  · have a1 := ho 1 (by decide); have a2 := ho 2 (by decide); have a3 := ho 3 (by decide)
    simp only [Fin.val_zero, Fin.val_one, Fin.val_two, show (3 : Fin 4).val = 3 from rfl] at hm a1 a2 a3
    rw [show mk x0 0 r.val = 1#1 from hm, a1, a2, a3]
    simp only [hz, ho1, zero_add, add_zero]
    rfl
  · have a0 := ho 0 (by decide); have a2 := ho 2 (by decide); have a3 := ho 3 (by decide)
    simp only [Fin.val_zero, Fin.val_one, Fin.val_two, show (3 : Fin 4).val = 3 from rfl] at hm a0 a2 a3
    rw [show mk x0 1 r.val = 1#1 from hm, a0, a2, a3]
    simp only [hz, ho1, zero_add, add_zero]
    rfl
  · have a0 := ho 0 (by decide); have a1 := ho 1 (by decide); have a3 := ho 3 (by decide)
    simp only [Fin.val_zero, Fin.val_one, Fin.val_two, show (3 : Fin 4).val = 3 from rfl] at hm a0 a1 a3
    rw [show mk x0 2 r.val = 1#1 from hm, a0, a1, a3]
    simp only [hz, ho1, zero_add, add_zero]
    rfl
  · have a0 := ho 0 (by decide); have a1 := ho 1 (by decide); have a2 := ho 2 (by decide)
    simp only [Fin.val_zero, Fin.val_one, Fin.val_two, show (3 : Fin 4).val = 3 from rfl] at hm a0 a1 a2
    rw [show mk x0 3 r.val = 1#1 from hm, a0, a1, a2]
    simp only [hz, ho1, zero_add, add_zero]
    rfl

end Cert.DxRefIdeal.Hand

end
-- ==== Proof.DxR.Value.lean ====
/- The reference's run: its result array as the same function of the argument arrays as the kernel's. -/
module

public import proofs.«01_k».proof.Proof.DxR.Total
public import proofs.«01_k».proof.Proof.DxI.Array
public import Idealize.ShloMosaic.Lib.Pipeline.ValueKit
public import Idealize.ShloMosaic.Lib.Exec.Geometry

@[expose] public section

set_option maxRecDepth 16384

noncomputable section

namespace Cert.DxRefIdeal.Hand

open Cert.DxRefIdeal Cert.DxRefIdeal.Gen
open Idealize.ShloMosaic Idealize.ShloMosaic.TcCoe Idealize.SL.Sem
open Idealize.ShloMosaic.Pipeline (Dat)

/-- What the reference's body leaves in its block, at an index. -/
theorem out_apply (c : Dev nD) (arg0 : Memref sig .tc .smem S4 .i32) (harg0 : arg0.IsWhole) (arg1 : Memref sig .tc .smem S4 .f32) (harg1 : arg1.IsWhole) (arg2 : Memref sig .tc .smem S4 .f32) (harg2 : arg2.IsWhole) (arg3 : Memref sig .tc .vmem S1792x4096 .bf16) (harg3 : arg3.IsWhole) (arg4 : Memref sig .tc .vmem S4x4096x3584 .i8) (harg4 : arg4.IsWhole) (arg5 : Memref sig .tc .vmem S4x256x448 .fp8e4m3) (harg5 : arg5.IsWhole) (arg6 : Memref sig .tc .vmem S1792x7168 .bf16) (harg6 : arg6.IsWhole)
    (x0 : Vec Ideal S4 .i32) (x1 : Vec Ideal S4 .f32) (x2 : Vec Ideal S4 .f32) (x3 : Vec Ideal S1792x4096 .bf16) (x4 : Vec Ideal S4x4096x3584 .i8) (x5 : Vec Ideal S4x256x448 .fp8e4m3)
    (hF : Groups.Fills fun j => x0 (ix1 j)) :
    out0_A_6 c arg0 harg0 arg1 harg1 arg2 harg2 arg3 harg3 arg4 harg4 arg5 harg5 arg6 harg6 x0 x1 x2 x3 x4 x5 = Cert.DxIdeal.Hand.target x0 x1 x2 x3 x4 x5 := by
  funext y
  unfold out0_A_6 kernelRun0_A
  dsimp only
  refine View.read_writes_apply_of_pieces _ _ (Cert.DxIdeal.Hand.target x0 x1 x2 x3 x4 x5) _ ?_ y ⟨_, List.mem_singleton_self _, ?_⟩
  · intro p hp x
    obtain rfl := List.mem_singleton.mp hp
    have hx : (Rect.unit ![0, 0] ![1792, 7168] inb_S1792x7168_S1792x7168_0_0).emb x = ix2 (x 0) (x 1) := by
      funext a
      match a with
      | ⟨0, _⟩ => exact Fin.ext (show 0 + 1 * (x 0).val = (x 0).val by omega)
      | ⟨1, _⟩ => exact Fin.ext (show 0 + 1 * (x 1).val = (x 1).val by omega)
    have hxx : x = ix2 (x 0) (x 1) := funext fun a => match a with | ⟨0, _⟩ => rfl | ⟨1, _⟩ => rfl
    have hg := Cert.DxIdeal.Hand.grp_spec hF (x 0).val (x 0).isLt
    refine (congrArg _ hxx).trans ((value c arg0 harg0 arg1 harg1 arg2 harg2 arg3 harg3 arg4 harg4 arg5 harg5 x0 x1 x2 x3 x4 x5 hF.toFits _ (x 0) (x 1) hg).trans ?_)
    exact (congrArg (Cert.DxIdeal.Hand.target x0 x1 x2 x3 x4 x5) hx).symm
  · refine (Rect.mem_set_unit (inb := inb_S1792x7168_S1792x7168_0_0)).mpr fun a => match a with
      | ⟨0, _⟩ => ⟨Nat.zero_le _, by show (y 0).val < 0 + 1792; have : (y 0).val < 1792 := (y 0).isLt; omega⟩
      | ⟨1, _⟩ => ⟨Nat.zero_le _, by show (y 1).val < 0 + 7168; have : (y 1).val < 7168 := (y 1).isLt; omega⟩

variable (m : (ℓ : Loc nD τ sig) → Buf (Elt Ideal) ℓ) (ρ : Dev nD → PrngReg)

theorem iblk0_eq (c : Dev nD) (t : Fin cfg0.N) : (iblk m c 0 t : Vec Ideal S4 .i32) = (m ((c : Thread nD τ).loc main_arg0) : Vec Ideal S4 .i32) := by
  funext y
  unfold iblk
  rw [View.read_apply, cast_eq]
  show m ((c : Thread nD τ).loc main_arg0) _ = _
  congr 1
  funext a
  match a with
  | ⟨0, _⟩ => exact Fin.ext (show 0 * 4 + 1 * (y 0).val = (y 0).val by omega)

theorem iblk1_eq (c : Dev nD) (t : Fin cfg0.N) : (iblk m c 1 t : Vec Ideal S4 .f32) = (m ((c : Thread nD τ).loc main_arg1) : Vec Ideal S4 .f32) := by
  funext y
  unfold iblk
  rw [View.read_apply, cast_eq]
  show m ((c : Thread nD τ).loc main_arg1) _ = _
  congr 1
  funext a
  match a with
  | ⟨0, _⟩ => exact Fin.ext (show 0 * 4 + 1 * (y 0).val = (y 0).val by omega)

theorem iblk2_eq (c : Dev nD) (t : Fin cfg0.N) : (iblk m c 2 t : Vec Ideal S4 .f32) = (m ((c : Thread nD τ).loc main_arg2) : Vec Ideal S4 .f32) := by
  funext y
  unfold iblk
  rw [View.read_apply, cast_eq]
  show m ((c : Thread nD τ).loc main_arg2) _ = _
  congr 1
  funext a
  match a with
  | ⟨0, _⟩ => exact Fin.ext (show 0 * 4 + 1 * (y 0).val = (y 0).val by omega)

theorem iblk3_eq (c : Dev nD) (t : Fin cfg0.N) : (iblk m c 3 t : Vec Ideal S1792x4096 .bf16) = (m ((c : Thread nD τ).loc main_arg3) : Vec Ideal S1792x4096 .bf16) := by
  funext y
  unfold iblk
  rw [View.read_apply, cast_eq]
  show m ((c : Thread nD τ).loc main_arg3) _ = _
  congr 1
  funext a
  match a with
  | ⟨0, _⟩ => exact Fin.ext (show 0 * 1792 + 1 * (y 0).val = (y 0).val by omega)
  | ⟨1, _⟩ => exact Fin.ext (show 0 * 4096 + 1 * (y 1).val = (y 1).val by omega)

theorem iblk4_eq (c : Dev nD) (t : Fin cfg0.N) : (iblk m c 4 t : Vec Ideal S4x4096x3584 .i8) = (m ((c : Thread nD τ).loc main_arg4) : Vec Ideal S4x4096x3584 .i8) := by
  funext y
  unfold iblk
  rw [View.read_apply, cast_eq]
  show m ((c : Thread nD τ).loc main_arg4) _ = _
  congr 1
  funext a
  match a with
  | ⟨0, _⟩ => exact Fin.ext (show 0 * 4 + 1 * (y 0).val = (y 0).val by omega)
  | ⟨1, _⟩ => exact Fin.ext (show 0 * 4096 + 1 * (y 1).val = (y 1).val by omega)
  | ⟨2, _⟩ => exact Fin.ext (show 0 * 3584 + 1 * (y 2).val = (y 2).val by omega)

theorem iblk5_eq (c : Dev nD) (t : Fin cfg0.N) : (iblk m c 5 t : Vec Ideal S4x256x448 .fp8e4m3) = (m ((c : Thread nD τ).loc main_arg5) : Vec Ideal S4x256x448 .fp8e4m3) := by
  funext y
  unfold iblk
  rw [View.read_apply, cast_eq]
  show m ((c : Thread nD τ).loc main_arg5) _ = _
  congr 1
  funext a
  match a with
  | ⟨0, _⟩ => exact Fin.ext (show 0 * 4 + 1 * (y 0).val = (y 0).val by omega)
  | ⟨1, _⟩ => exact Fin.ext (show 0 * 256 + 1 * (y 1).val = (y 1).val by omega)
  | ⟨2, _⟩ => exact Fin.ext (show 0 * 448 + 1 * (y 2).val = (y 2).val by omega)

/-- The reference's result array after its run. -/
theorem final (c : Dev nD) (hF : Groups.Fills fun j => (m ((c : Thread nD τ).loc main_arg0) : Vec Ideal S4 .i32) (ix1 j)) :
    (dats m 0 c).arrAt 6 cfg0.N = Cert.DxIdeal.Hand.target (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  rw [cast_eq, after0_6]
  simp only [outsAt0]
  rw [out_apply c _ _ _ _ _ _ _ _ _ _ _ _ _ _ _ _ _ _ _ _ (by rw [iblk0_eq]; exact hF), iblk0_eq, iblk1_eq, iblk2_eq, iblk3_eq, iblk4_eq, iblk5_eq]
  refine congrArg (Cert.DxIdeal.Hand.target _ _ _ _ _ _) ?_
  funext a
  match a with
  | ⟨0, _⟩ => exact Fin.ext (show (y 0).val = 0 * 1792 + 1 * (y 0).val by omega)
  | ⟨1, _⟩ => exact Fin.ext (show (y 1).val = 0 * 7168 + 1 * (y 1).val by omega)

end Cert.DxRefIdeal.Hand
-- ==== Proof.Grp.FitX.lean ====
/- The precondition of the input-gradient kernel that the groups fit the rows, decoded. -/
module

public import proofs.«01_k».proof.Proof.Gen.Pre_dx_groups_fit
public import Idealize.ShloMosaic.Lib.Affine
public import Idealize.ShloMosaic.Lib.WordCmp
public import Idealize.ShloMosaic.Lib.StableHlo.Predicate
public import Idealize.ShloMosaic.Lib.Pointwise

public import proofs.«01_k».proof.Proof.Grp.Words

@[expose] public section

noncomputable section

namespace Cert.Groups

open Idealize.ShloMosaic

open Cert.Pre_dx_groups_fit Cert.Pre_dx_groups_fit.Gen

private theorem andi_ofBool (a b : Bool) : IntOp.andi (BitVec.ofBool a) (BitVec.ofBool b) = BitVec.ofBool (a && b) := by
  cases a <;> cases b <;> rfl
private theorem ofBool_eq_one (a : Bool) : BitVec.ofBool a = 1#1 ↔ a = true := by cases a <;> decide

/-- The kernel's remainder by sixteen of a word between 0 and 1792 is zero only at a multiple of 16. -/
theorem dvd_of_rem_fitX {F : FTy → Type} [FloatOps F] (s : IVec S4 32) (y : S4.Idx) (h : (s y).toNat ≤ 1792)
    (e : fn_remainder (F := F) s (constantI S_ 32 16#32) y = 0#32) : 16 ∣ (s y).toNat := by
  have hr : (IntOp.remsi .host (s y) 16#32).toNat = (s y).toNat % 16 :=
    IntOp.toNat_remsi .host (by omega) 16 (by decide) (by decide)
  have hsl : IntOp.cmpi .slt (IntOp.remsi .host (s y) 16#32) 0#32 = 0#1 := by
    simp only [IntOp.cmpi, BitVec.slt]
    rw [BitVec.toInt_eq_toNat_of_lt (by omega), hr]
    have : ¬ (((s y).toNat % 16 : Nat) : Int) < 0 := by omega
    rw [show (0#32 : BitVec 32).toInt = 0 from by decide, decide_eq_false this]; rfl
  have e' : ∀ D : BitVec 32, (if IntOp.cmpi .eq 16#32 0#32 = 1 then 1#32 else 16#32) = D →
      (if IntOp.andi (IntOp.cmpi .ne (IntOp.cmpi .slt (IntOp.remsi .host (s y) D) 0#32) (IntOp.cmpi .slt D 0#32)) (IntOp.cmpi .ne (IntOp.remsi .host (s y) D) 0#32) = 1
      then IntOp.addi (IntOp.remsi .host (s y) D) D else IntOp.remsi .host (s y) D) = 0#32 := fun D hD => by subst hD; exact e
  replace e' := e' 16#32 (by decide)
  rw [hsl, show IntOp.cmpi .slt (16#32) (0#32) = 0#1 from by decide, show IntOp.cmpi .ne (0#1) (0#1) = 0#1 from by decide, show ∀ b : BitVec 1, IntOp.andi 0#1 b = 0#1 from by decide, if_neg (by decide)] at e'
  exact (IntOp.remsi_eq_zero_iff .host (by omega) 16 (by decide) (by decide)).1 e'

/-- The sum of the four sizes as the precondition forms it. -/
theorem sum_words_fitX (s : IVec S4 32) (hs : ∀ j : Fin 4, (s (ix1 j)).toNat ≤ 1792) (j : S_.Idx) :
    (Host.reduce IntOp.addi s (constantI S_ 32 0#32) reducesTo_S4_S_d0 h_S_ j).toNat = ∑ k : Fin 4, (s (ix1 k)).toNat := by
  rw [Host.reduce_eq_fold]
  have hu : (Finset.univ.filter fun i : S4.Idx => reducesTo_S4_S_d0.drop i = j) = Finset.univ :=
    Finset.filter_true_of_mem fun i _ => funext fun a => a.elim0
  rw [hu]
  have hsum : ∑ i : S4.Idx, (s i).toNat = ∑ k : Fin 4, (s (ix1 k)).toNat := sum_idx1 (n0 := 4) fun i => (s i).toNat
  refine (StableHlo.Predicate.toNat_fold_addi _ _ ?_).trans hsum
  rw [hsum, Fin.sum_univ_four]
  have := hs 0; have := hs 1; have := hs 2; have := hs 3
  omega

/-- The precondition, decoded. -/
theorem fits_of_pre_dx {F : FTy → Type} [FloatOps F] (s : IVec S4 32) (a b : FVec F S4 .f32) (p : FVec F S1792x4096 .bf16) (w : IVec S4x4096x3584 8) (q : FVec F S4x256x448 .fp8e4m3)
    (h : fn s a b p w q = fun _ => 1#1) : Fits fun j => s (ix1 j) := by
  have key : ∀ y : S4.Idx, ((s y).toNat ≤ 1792 ∧ fn_remainder (F := F) s (constantI S_ 32 16#32) y = 0#32)
      ∧ IntOp.cmpi .sle (Host.reduce IntOp.addi s (constantI S_ 32 0#32) reducesTo_S4_S_d0 h_S_ (fun a => a.elim0)) 1792#32 = 1#1 := by
    intro y
    have e : IntOp.andi (IntOp.andi (IntOp.andi (IntOp.cmpi .sge (s y) 0#32) (IntOp.cmpi .sle (s y) 1792#32))
        (IntOp.cmpi .eq (fn_remainder (F := F) s (constantI S_ 32 16#32) y) 0#32))
        (broadcastInDim S4 ![] bcast_S_S4 (fun j => IntOp.cmpi .sle (Host.reduce IntOp.addi s (constantI S_ 32 0#32) reducesTo_S4_S_d0 h_S_ j) 1792#32) y) = 1#1 := congrFun h y
    have hb : ∀ (f : S_.Idx → BitVec 1), broadcastInDim S4 ![] bcast_S_S4 f y = f (fun a => a.elim0) := fun f =>
      congrArg f (funext fun a => a.elim0)
    rw [hb] at e
    rw [IntOp.andi_eq_one, IntOp.andi_eq_one, IntOp.andi_eq_one, IntOp.cmpi_sge] at e
    obtain ⟨⟨⟨h0, h1⟩, h2⟩, h3⟩ := e
    refine ⟨⟨?_, ?_⟩, h3⟩
    · rw [IntOp.cmpi, ofBool_eq_one, BitVec.sle_iff_toInt_le] at h1
      have : (0#32 : BitVec 32).toInt = 0 := by decide
      have : (1792#32 : BitVec 32).toInt = 1792 := by decide
      have := BitVec.toInt_eq_toNat_cond (s y)
      split at this <;> omega
    · rw [IntOp.cmpi, ofBool_eq_one] at h2; simpa using h2
  have hle : ∀ j : Fin 4, (s (ix1 j)).toNat ≤ 1792 := fun j => (key (ix1 j)).1.1
  refine ⟨hle, fun j => dvd_of_rem_fitX s _ (hle j) (key (ix1 j)).1.2, ?_⟩
  have h3 := (key (ix1 0)).2
  have hs := sum_words_fitX s hle (fun a => a.elim0)
  rw [IntOp.cmpi, ofBool_eq_one, BitVec.sle_iff_toInt_le] at h3
  rw [Fin.sum_univ_four] at hs
  have := hle 0; have := hle 1; have := hle 2; have := hle 3
  rw [BitVec.toInt_eq_toNat_of_lt (by omega), hs, show (1792#32 : BitVec 32).toInt = 1792 from by decide] at h3
  omega

end Cert.Groups

end
-- ==== Proof.lean ====
/- The certificate of the two gradient kernels: each one's runs and its idealization's runs end, the idealization's rewrites hold, and its result is its reference's. -/
module

public import proofs.«01_k».proof.Defs
public import proofs.«01_k».proof.Proof.Gen.Dw
public import proofs.«01_k».proof.Proof.Gen.DwIdeal
public import proofs.«01_k».proof.Proof.Gen.DwRefIdeal
public import proofs.«01_k».proof.Proof.Gen.Pre_groups_fit
public import proofs.«01_k».proof.Proof.Gen.Dx
public import proofs.«01_k».proof.Proof.Gen.Dx.Frame
public import proofs.«01_k».proof.Proof.Gen.Dx.Loops
public import proofs.«01_k».proof.Proof.Gen.DxIdeal
public import proofs.«01_k».proof.Proof.Gen.DxIdeal.Frame
public import proofs.«01_k».proof.Proof.Gen.DxIdeal.Loops
public import proofs.«01_k».proof.Proof.Gen.DxRefIdeal
public import proofs.«01_k».proof.Proof.Gen.DxRefIdeal.Frame
public import proofs.«01_k».proof.Proof.Gen.DxRefIdeal.Value
public import proofs.«01_k».proof.Proof.Gen.Pre_groups_fill
public import proofs.«01_k».proof.Proof.Gen.Pre_dx_groups_fit
public import proofs.«01_k».proof.Proof.DwB.Frame
public import proofs.«01_k».proof.Proof.DwI.Frame
public import proofs.«01_k».proof.Proof.DwI.Array
public import proofs.«01_k».proof.Proof.DwR.Value
public import proofs.«01_k».proof.Proof.DxB.Frame
public import proofs.«01_k».proof.Proof.DxI.Array
public import proofs.«01_k».proof.Proof.DxR.Value
public import proofs.«01_k».proof.Proof.Grp.Fill
public import proofs.«01_k».proof.Proof.Grp.FitX
public import proofs.«01_k».proof.Proof.Gen.DwRefIdeal.Run
public import proofs.«01_k».proof.Proof.Gen.DwRefIdeal.Read
public import Idealize.ShloMosaic.Lib.Bf16Pair
public import Idealize.ShloMosaic.Lib.Bf16PairInverse

@[expose] public section

set_option maxRecDepth 16384

namespace Cert.Proof

open Idealize.ShloMosaic Idealize.ShloMosaic.TcCoe Idealize.SL.Sem

/-- The kernel at bit patterns runs, leaves its arguments and ends quiescent. -/
theorem quiescent_dw : quiescent_Dw := fun m ρ h => Cert.Dw.Hand.frame m ρ fun c => Groups.fits_of_pre _ _ _ _ _ (h c)

/-- Its idealization runs, leaves its arguments and ends quiescent. -/
theorem quiescent_dwIdeal : quiescent_DwIdeal := fun m ρ h => Cert.DwIdeal.Hand.frame m ρ fun c => Groups.fits_of_pre _ _ _ _ _ (h c)

/-- The reference runs, leaves its arguments and ends quiescent: it has no semaphores. -/
theorem quiescent_dwRefIdeal : quiescent_DwRefIdeal := fun m ρ _ =>
  (θ_run Cert.DwRefIdeal.defs _ _).mono (fun r h => ⟨fun c => (h c).2, Idealize.ShloMosaic.sem_eq_zero_of_no_sems (by decide) r.2⟩)
    (Cert.DwRefIdeal.Value.run (F := Ideal) m ρ)

/-- So it does of sizes that fit. -/
theorem quiescent_dwRefIdeal_fit : quiescent_DwRefIdeal_pre_groups_fit := fun m ρ _ =>
  (θ_run Cert.DwRefIdeal.defs _ _).mono (fun r h => ⟨fun c => (h c).2, Idealize.ShloMosaic.sem_eq_zero_of_no_sems (by decide) r.2⟩)
    (Cert.DwRefIdeal.Value.run (F := Ideal) m ρ)

/-- Each rewrite of the idealization is its rule's statement. -/
theorem preserves_dw : preserves_Dw_DwIdeal :=
  ⟨IdealRules.bf16_pair.statement _ _, IdealRules.bf16_pair.selectZeroStatement _, IdealRules.bf16_pair.statement _ _, IdealRules.bf16_pair.selectZeroStatement _,
   IdealRules.bf16_pair.statement _ _, IdealRules.bf16_pair.selectZeroStatement _, IdealRules.bf16_pair.statement _ _, IdealRules.bf16_pair.selectZeroStatement _,
   IdealRules.bf16_pair.statement _ _, IdealRules.bf16_pair.selectZeroStatement _, IdealRules.bf16_pair.statement _ _, IdealRules.bf16_pair.selectZeroStatement _,
   IdealRules.bf16_pair.statement _ _, IdealRules.bf16_pair.selectZeroStatement _⟩

/-- The idealized kernel's result is the reference's. -/
theorem algebraic_dw : algebraic_DwIdeal_DwRefIdeal := by
  intro m g m' g' hpre hm
  have hH : Cert.DwIdeal.Hand.SizesFit m := fun c => Groups.fits_of_pre _ _ _ _ _ (hpre c)
  refine ⟨fun c => Cert.DwIdeal.Hand.target (m ((c.tc : Thread Cert.DwIdeal.nD Cert.DwIdeal.τ).loc Cert.DwIdeal.main_arg0)) (m ((c.tc : Thread Cert.DwIdeal.nD Cert.DwIdeal.τ).loc Cert.DwIdeal.main_arg1))
      (m ((c.tc : Thread Cert.DwIdeal.nD Cert.DwIdeal.τ).loc Cert.DwIdeal.main_arg2)) (m ((c.tc : Thread Cert.DwIdeal.nD Cert.DwIdeal.τ).loc Cert.DwIdeal.main_arg3)) (m ((c.tc : Thread Cert.DwIdeal.nD Cert.DwIdeal.τ).loc Cert.DwIdeal.main_arg4)), ?_, ?_⟩
  · have h := Cert.DwIdeal.Hand.run_main m g hH
    exact (θ_run Cert.DwIdeal.defs _ _).mono (fun r h c => ⟨((h.1 c).1 5).trans (Cert.DwIdeal.Hand.final hH c), h.2 c⟩)
      (θ_run_and h (Cert.DwIdeal.Hand.unchanged m g hH))
  · refine (θ_run Cert.DwRefIdeal.defs _ _).mono (fun r h c => ⟨(h c).1.trans ?_, (h c).2⟩) (Cert.DwRefIdeal.Value.run (F := Ideal) m' g')
    obtain ⟨e0, e1, e2, e3, e4⟩ := hm c
    rw [Cert.DwRefIdeal.Read.val_main_v34_eq]
    rw [show m' ((c.tc : Thread Cert.DwRefIdeal.nD Cert.DwRefIdeal.τ).loc Cert.DwRefIdeal.main_arg0) = _ from e0, show m' ((c.tc : Thread Cert.DwRefIdeal.nD Cert.DwRefIdeal.τ).loc Cert.DwRefIdeal.main_arg1) = _ from e1,
      show m' ((c.tc : Thread Cert.DwRefIdeal.nD Cert.DwRefIdeal.τ).loc Cert.DwRefIdeal.main_arg2) = _ from e2, show m' ((c.tc : Thread Cert.DwRefIdeal.nD Cert.DwRefIdeal.τ).loc Cert.DwRefIdeal.main_arg3) = _ from e3,
      show m' ((c.tc : Thread Cert.DwRefIdeal.nD Cert.DwRefIdeal.τ).loc Cert.DwRefIdeal.main_arg4) = _ from e4]
    exact Cert.DwRefIdeal.Hand.value (hH c) _ _ _ _

/-- The input-gradient kernel at bit patterns runs, leaves its arguments and ends quiescent. -/
theorem quiescent_dx : quiescent_Dx := fun m ρ h => Cert.Dx.Hand.frame m ρ fun c => Groups.fits_of_pre_dx _ _ _ _ _ _ (h c)

/-- Its idealization runs, leaves its arguments and ends quiescent. -/
theorem quiescent_dxIdeal : quiescent_DxIdeal := fun m ρ h => Cert.DxIdeal.Hand.frame m ρ fun c => Groups.fits_of_pre_dx _ _ _ _ _ _ (h c)

/-- So it does of sizes that fill the rows. -/
theorem quiescent_dxIdeal_fill : quiescent_DxIdeal_pre_groups_fill := fun m ρ h => Cert.DxIdeal.Hand.frame m ρ fun c => (Groups.fills_of_pre _ _ _ _ _ _ (h c)).toFits

/-- Its reference runs, leaves its arguments and ends quiescent. -/
theorem quiescent_dxRefIdeal : quiescent_DxRefIdeal := fun m ρ _ => Cert.DxRefIdeal.Gen.frame (F := Ideal) m ρ

/-- So it does of sizes that fill the rows. -/
theorem quiescent_dxRefIdeal_fill : quiescent_DxRefIdeal_pre_groups_fill := fun m ρ _ => Cert.DxRefIdeal.Gen.frame (F := Ideal) m ρ

/-- Each rewrite of the idealization is its rule's statement. -/
theorem preserves_dx : preserves_Dx_DxIdeal :=
  ⟨IdealRules.bf16_pair.bufferStatement _ _, IdealRules.bf16_pair.packStatement _, IdealRules.bf16_pair.statement _ _, IdealRules.bf16_pair.statement _ _,
   IdealRules.bf16_pair.statement _ _, IdealRules.bf16_pair.statement _ _⟩

/-- The idealized kernel's result is the reference's. -/
theorem algebraic_dx : algebraic_DxIdeal_DxRefIdeal_pre_groups_fill := by
  intro m g m' g' hpre hm
  have hF : ∀ c : Dev Cert.DxIdeal.nD, Groups.Fills (Cert.DxIdeal.Hand.sizes m c) := fun c => Groups.fills_of_pre _ _ _ _ _ _ (hpre c)
  have hH : Cert.DxIdeal.Hand.SizesFit m := fun c => (hF c).toFits
  refine ⟨fun c => Cert.DxIdeal.Hand.target (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)), ?_, ?_⟩
  · exact (θ_run Cert.DxIdeal.defs _ _).mono (fun r h c => ⟨Cert.DxIdeal.Hand.final hF h c, Cert.DxIdeal.Hand.unchanged_of m h c⟩) (Cert.DxIdeal.Hand.run_main m g hH)
  · refine (θ_run Cert.DxRefIdeal.defs _ _).mono (fun r h c => ⟨(h c).1.trans ?_, (h c).2⟩) (Cert.DxRefIdeal.Value.run_blocks (F := Ideal) m' g')
    obtain ⟨e0, e1, e2, e3, e4, e5⟩ := hm c
    refine (Cert.DxRefIdeal.Hand.final m' c ?_).trans ?_
    · rw [show m' ((c.tc : Thread Cert.DxRefIdeal.nD Cert.DxRefIdeal.τ).loc Cert.DxRefIdeal.main_arg0) = _ from e0]
      exact hF c
    · rw [show m' ((c.tc : Thread Cert.DxRefIdeal.nD Cert.DxRefIdeal.τ).loc Cert.DxRefIdeal.main_arg0) = _ from e0, show m' ((c.tc : Thread Cert.DxRefIdeal.nD Cert.DxRefIdeal.τ).loc Cert.DxRefIdeal.main_arg1) = _ from e1, show m' ((c.tc : Thread Cert.DxRefIdeal.nD Cert.DxRefIdeal.τ).loc Cert.DxRefIdeal.main_arg2) = _ from e2, show m' ((c.tc : Thread Cert.DxRefIdeal.nD Cert.DxRefIdeal.τ).loc Cert.DxRefIdeal.main_arg3) = _ from e3, show m' ((c.tc : Thread Cert.DxRefIdeal.nD Cert.DxRefIdeal.τ).loc Cert.DxRefIdeal.main_arg4) = _ from e4, show m' ((c.tc : Thread Cert.DxRefIdeal.nD Cert.DxRefIdeal.τ).loc Cert.DxRefIdeal.main_arg5) = _ from e5]

/-- The certificate. -/
theorem claim : Cert.Claim :=
  ⟨Cert.Dw.Gen.facts, Cert.DwIdeal.Gen.facts, Cert.DwRefIdeal.Gen.facts, Cert.Dx.Gen.facts, Cert.DxIdeal.Gen.facts, Cert.DxRefIdeal.Gen.facts,
   Cert.Pre_groups_fit.Gen.facts, Cert.Pre_dx_groups_fit.Gen.facts, Cert.Pre_groups_fill.Gen.facts,
   quiescent_dw, quiescent_dwIdeal, quiescent_dwRefIdeal, quiescent_dwRefIdeal_fit, quiescent_dx, quiescent_dxIdeal, quiescent_dxIdeal_fill,
   quiescent_dxRefIdeal, quiescent_dxRefIdeal_fill, preserves_dw, algebraic_dw, preserves_dx, algebraic_dx⟩

end Cert.Proof
